-- ==== Defs.lean ====
def Pre_Kernel [hPre_pages_in_range : Cert.Pre_pages_in_range.Facts] (m : (ℓ : Loc Cert.Kernel.nD Cert.Kernel.τ Cert.Kernel.sig) → Buf (Elt Bits) ℓ) : Prop :=
  ∀ c : Dev Cert.Kernel.nD,
    (Cert.Pre_pages_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_pages_in_range : Cert.Pre_pages_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_pages_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pages_in_range [hPre_pages_in_range : Cert.Pre_pages_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pages_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_states_finite [hPre_states_finite : Cert.Pre_states_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_states_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_states_finite [hPre_states_finite : Cert.Pre_states_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_states_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_pages_in_range : Cert.Pre_pages_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_pages_in_range : Cert.Pre_pages_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_pages_in_range [hReferenceIdeal : Cert.ReferenceIdeal.Facts] [hPre_pages_in_range : Cert.Pre_pages_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pages_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ r.2.sem = fun _ => 0)

def quiescent_Kernel2Ideal_pre_states_finite [hKernel2Ideal : Cert.Kernel2Ideal.Facts] [hPre_states_finite : Cert.Pre_states_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_states_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17))
      ∧ r.2.sem = fun _ => 0)

def quiescent_Reference2Ideal_pre_states_finite [hReference2Ideal : Cert.Reference2Ideal.Facts] [hPre_states_finite : Cert.Pre_states_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_states_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pages_in_range : Cert.Pre_pages_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_states_finite [hKernel2Ideal : Cert.Kernel2Ideal.Facts] [hReference2Ideal : Cert.Reference2Ideal.Facts] [hPre_states_finite : Cert.Pre_states_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_states_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v103) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)) →
    ∃ (v0 : (c : Dev Cert.Kernel4Ideal.nD) → Buf (Elt Ideal) ((c.tc : Thread Cert.Kernel4Ideal.nD Cert.Kernel4Ideal.τ).loc Cert.Kernel4Ideal.main_v46_0)) (v1 : (c : Dev Cert.Kernel4Ideal.nD) → Buf (Elt Ideal) ((c.tc : Thread Cert.Kernel4Ideal.nD Cert.Kernel4Ideal.τ).loc Cert.Kernel4Ideal.main_v46_1)) (v2 : (c : Dev Cert.Kernel4Ideal.nD) → Buf (Elt Ideal) ((c.tc : Thread Cert.Kernel4Ideal.nD Cert.Kernel4Ideal.τ).loc Cert.Kernel4Ideal.main_v46_2)) (v3 : (c : Dev Cert.Kernel4Ideal.nD) → Buf (Elt Ideal) ((c.tc : Thread Cert.Kernel4Ideal.nD Cert.Kernel4Ideal.τ).loc Cert.Kernel4Ideal.main_v46_3)) (v4 : (c : Dev Cert.Kernel4Ideal.nD) → Buf (Elt Ideal) ((c.tc : Thread Cert.Kernel4Ideal.nD Cert.Kernel4Ideal.τ).loc Cert.Kernel4Ideal.main_v46_12)) (v5 : (c : Dev Cert.Kernel4Ideal.nD) → Buf (Elt Ideal) ((c.tc : Thread Cert.Kernel4Ideal.nD Cert.Kernel4Ideal.τ).loc Cert.Kernel4Ideal.main_v46_13)) (v6 : (c : Dev Cert.Kernel4Ideal.nD) → Buf (Elt Ideal) ((c.tc : Thread Cert.Kernel4Ideal.nD Cert.Kernel4Ideal.τ).loc Cert.Kernel4Ideal.main_v46_14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v46_0) = v0 c
          ∧ r.2.mem ((c.tc : Thread Cert.Kernel4Ideal.nD Cert.Kernel4Ideal.τ).loc Cert.Kernel4Ideal.main_v46_1) = v1 c
          ∧ r.2.mem ((c.tc : Thread Cert.Kernel4Ideal.nD Cert.Kernel4Ideal.τ).loc Cert.Kernel4Ideal.main_v46_2) = v2 c
          ∧ r.2.mem ((c.tc : Thread Cert.Kernel4Ideal.nD Cert.Kernel4Ideal.τ).loc Cert.Kernel4Ideal.main_v46_3) = v3 c
          ∧ r.2.mem ((c.tc : Thread Cert.Kernel4Ideal.nD Cert.Kernel4Ideal.τ).loc Cert.Kernel4Ideal.main_v46_12) = v4 c
          ∧ r.2.mem ((c.tc : Thread Cert.Kernel4Ideal.nD Cert.Kernel4Ideal.τ).loc Cert.Kernel4Ideal.main_v46_13) = v5 c
          ∧ r.2.mem ((c.tc : Thread Cert.Kernel4Ideal.nD Cert.Kernel4Ideal.τ).loc Cert.Kernel4Ideal.main_v46_14) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_v55) = v2 c
          ∧ r.2.mem ((c.tc : Thread Cert.Reference4Ideal.nD Cert.Reference4Ideal.τ).loc Cert.Reference4Ideal.main_v60) = v3 c
          ∧ r.2.mem ((c.tc : Thread Cert.Reference4Ideal.nD Cert.Reference4Ideal.τ).loc Cert.Reference4Ideal.main_v66) = v4 c
          ∧ r.2.mem ((c.tc : Thread Cert.Reference4Ideal.nD Cert.Reference4Ideal.τ).loc Cert.Reference4Ideal.main_v67) = v5 c
          ∧ r.2.mem ((c.tc : Thread Cert.Reference4Ideal.nD Cert.Reference4Ideal.τ).loc Cert.Reference4Ideal.main_v70) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_pages_in_range : Cert.Pre_pages_in_range.Facts) (hPre_states_finite : Cert.Pre_states_finite.Facts),
    quiescent_Kernel (hKernel := hKernel) (hPre_pages_in_range := hPre_pages_in_range)
    ∧ quiescent_KernelIdeal (hKernelIdeal := hKernelIdeal) (hPre_pages_in_range := hPre_pages_in_range)
    ∧ quiescent_ReferenceIdeal (hReferenceIdeal := hReferenceIdeal)
    ∧ quiescent_ReferenceIdeal_pre_pages_in_range (hReferenceIdeal := hReferenceIdeal) (hPre_pages_in_range := hPre_pages_in_range)
    ∧ quiescent_Kernel2 (hKernel2 := hKernel2)
    ∧ quiescent_Kernel2Ideal (hKernel2Ideal := hKernel2Ideal)
    ∧ quiescent_Kernel2Ideal_pre_states_finite (hKernel2Ideal := hKernel2Ideal) (hPre_states_finite := hPre_states_finite)
    ∧ quiescent_Reference2Ideal (hReference2Ideal := hReference2Ideal)
    ∧ quiescent_Reference2Ideal_pre_states_finite (hReference2Ideal := hReference2Ideal) (hPre_states_finite := hPre_states_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_pages_in_range := hPre_pages_in_range)
    ∧ preserves_Kernel2_Kernel2Ideal
    ∧ algebraic_Kernel2Ideal_Reference2Ideal_pre_states_finite (hKernel2Ideal := hKernel2Ideal) (hReference2Ideal := hReference2Ideal) (hPre_states_finite := hPre_states_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_pages_in_range.lean ====
abbrev S1024x512 : Shape := ⟨2, ![1024, 512]⟩
abbrev S2x2560x128x8x64 : Shape := ⟨5, ![2, 2560, 128, 8, 64]⟩
abbrev S128x16 : Shape := ⟨2, ![128, 16]⟩
abbrev S8 : Shape := ⟨1, ![8]⟩
abbrev S_ : Shape := ⟨0, ![]⟩

class Facts : Prop where
  bcast_S_S128x16 : S_.BroadcastsInDim S128x16 (![] : Fin 0 → Fin S128x16.rank)

variable [Facts]

def fn {F : FTy → Type} [FloatOps F] (main_arg0 : FVec F S1024x512 .f32) (main_arg1 : FVec F S1024x512 .f32) (main_arg2 : FVec F S1024x512 .f32) (main_arg3 : FVec F S2x2560x128x8x64 .f32) (main_arg4 : FVec F S2x2560x128x8x64 .f32) (main_arg5 : IVec S128x16 32) (main_arg6 : FVec F S8 .f32) : IVec S128x16 1 :=
  let main_c : IVec S_ 32 := constantI S_ 32 0#32
  let main_v0 : IVec S128x16 32 := broadcastInDim S128x16 ![] bcast_S_S128x16 main_c
  let main_v1 : IVec S128x16 1 := cmpi .sge main_arg5 main_v0
  let main_c_0 : IVec S_ 32 := constantI S_ 32 2560#32
  let main_v2 : IVec S128x16 32 := broadcastInDim S128x16 ![] bcast_S_S128x16 main_c_0
  let main_v3 : IVec S128x16 1 := cmpi .slt main_arg5 main_v2
  let main_v4 : IVec S128x16 1 := andi main_v1 main_v3
  main_v4
-- ==== Pre_states_finite.lean ====
abbrev S16384x1024 : Shape := ⟨2, ![16384, 1024]⟩
abbrev S16384x256 : Shape := ⟨2, ![16384, 256]⟩
abbrev S16384x768 : Shape := ⟨2, ![16384, 768]⟩
abbrev S4x2x256 : Shape := ⟨3, ![4, 2, 256]⟩
abbrev S4x16x512x256 : Shape := ⟨4, ![4, 16, 512, 256]⟩
abbrev S2x16384x256 : Shape := ⟨3, ![2, 16384, 256]⟩
abbrev S256 : Shape := ⟨1, ![256]⟩
abbrev S3x256 : Shape := ⟨2, ![3, 256]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S256x1024 : Shape := ⟨2, ![256, 1024]⟩
abbrev S_ : Shape := ⟨0, ![]⟩

class Facts : Prop where
  bcast_S_S16384x256 : S_.BroadcastsInDim S16384x256 (![] : Fin 0 → Fin S16384x256.rank)

variable [Facts]

def fn {F : FTy → Type} [FloatOps F] (main_arg0 : FVec F S16384x1024 .f32) (main_arg1 : FVec F S16384x256 .f32) (main_arg2 : FVec F S16384x256 .f32) (main_arg3 : FVec F S16384x256 .f32) (main_arg4 : FVec F S16384x768 .f32) (main_arg5 : FVec F S4x2x256 .f32) (main_arg6 : FVec F S4x16x512x256 .f32) (main_arg7 : FVec F S2x16384x256 .f32) (main_arg8 : FVec F S256 .f32) (main_arg9 : FVec F S256 .f32) (main_arg10 : FVec F S3x256 .f32) (main_arg11 : FVec F S1024 .f32) (main_arg12 : FVec F S1024 .f32) (main_arg13 : FVec F S1024x1024 .f32) (main_arg14 : FVec F S1024x4096 .f32) (main_arg15 : FVec F S4096x1024 .f32) (main_arg16 : FVec F S1024x1024 .f32) (main_arg17 : FVec F S256x1024 .f32) : IVec S16384x256 1 :=
  let main_v0 : FVec F S16384x256 .f32 := Host.absf main_arg1
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  main_v2
-- ==== Kernel.lean ====
abbrev S1024x512 : Shape := ⟨2, ![1024, 512]⟩
abbrev S2x2560x128x8x64 : Shape := ⟨5, ![2, 2560, 128, 8, 64]⟩
abbrev S128x16 : Shape := ⟨2, ![128, 16]⟩
abbrev S8 : Shape := ⟨1, ![8]⟩
abbrev S2x2560x8x64x128 : Shape := ⟨5, ![2, 2560, 8, 64, 128]⟩
abbrev S2x2560x512x128 : Shape := ⟨4, ![2, 2560, 512, 128]⟩
abbrev S8x8 : Shape := ⟨2, ![8, 8]⟩
abbrev S64 : Shape := ⟨1, ![64]⟩
abbrev S64x1 : Shape := ⟨2, ![64, 1]⟩
abbrev S64x128 : Shape := ⟨2, ![64, 128]⟩
abbrev S128x8x512 : Shape := ⟨3, ![128, 8, 512]⟩
abbrev S2x8x512 : Shape := ⟨3, ![2, 8, 512]⟩
abbrev S1x1x512x128 : Shape := ⟨4, ![1, 1, 512, 128]⟩
abbrev S1x1 : Shape := ⟨2, ![1, 1]⟩
abbrev S64x512 : Shape := ⟨2, ![64, 512]⟩
abbrev S1x8x512 : Shape := ⟨3, ![1, 8, 512]⟩
abbrev S8x512 : Shape := ⟨2, ![8, 512]⟩
abbrev S128x256 : Shape := ⟨2, ![128, 256]⟩
abbrev S120x512 : Shape := ⟨2, ![120, 512]⟩
abbrev S128x512 : Shape := ⟨2, ![128, 512]⟩
abbrev S512x128 : Shape := ⟨2, ![512, 128]⟩
abbrev S64x256 : Shape := ⟨2, ![64, 256]⟩

abbrev nBuf : Space → Nat
  | .hbm => 19
  | .vmem => 137
  | .smem => 1
  | _ => 0

abbrev vmemTy0_0 (i : Nat) : BufTy := match i % 128 with
  | 0 => ⟨S2x8x512, .f32⟩
  | 1 => ⟨S2x8x512, .f32⟩
  | 2 => ⟨S64x128, .f32⟩
  | 3 => ⟨S2x8x512, .f32⟩
  | 4 => ⟨S2x8x512, .f32⟩
  | 5 => ⟨S2x8x512, .f32⟩
  | 6 => ⟨S2x8x512, .f32⟩
  | 7 => ⟨S1x1x512x128, .f32⟩
  | 8 => ⟨S1x1x512x128, .f32⟩
  | 9 => ⟨S1x1x512x128, .f32⟩
  | 10 => ⟨S1x1x512x128, .f32⟩
  | 11 => ⟨S1x1x512x128, .f32⟩
  | 12 => ⟨S1x1x512x128, .f32⟩
  | 13 => ⟨S1x1x512x128, .f32⟩
  | 14 => ⟨S1x1x512x128, .f32⟩
  | 15 => ⟨S1x1x512x128, .f32⟩
  | 16 => ⟨S1x1x512x128, .f32⟩
  | 17 => ⟨S1x1x512x128, .f32⟩
  | 18 => ⟨S1x1x512x128, .f32⟩
  | 19 => ⟨S1x1x512x128, .f32⟩
  | 20 => ⟨S1x1x512x128, .f32⟩
  | 21 => ⟨S1x1x512x128, .f32⟩
  | 22 => ⟨S1x1x512x128, .f32⟩
  | 23 => ⟨S1x1x512x128, .f32⟩
  | 24 => ⟨S1x1x512x128, .f32⟩
  | 25 => ⟨S1x1x512x128, .f32⟩
  | 26 => ⟨S1x1x512x128, .f32⟩
  | 27 => ⟨S1x1x512x128, .f32⟩
  | 28 => ⟨S1x1x512x128, .f32⟩
  | 29 => ⟨S1x1x512x128, .f32⟩
  | 30 => ⟨S1x1x512x128, .f32⟩
  | 31 => ⟨S1x1x512x128, .f32⟩
  | 32 => ⟨S1x1x512x128, .f32⟩
  | 33 => ⟨S1x1x512x128, .f32⟩
  | 34 => ⟨S1x1x512x128, .f32⟩
  | 35 => ⟨S1x1x512x128, .f32⟩
  | 36 => ⟨S1x1x512x128, .f32⟩
  | 37 => ⟨S1x1x512x128, .f32⟩
  | 38 => ⟨S1x1x512x128, .f32⟩
  | 39 => ⟨S1x1x512x128, .f32⟩
  | 40 => ⟨S1x1x512x128, .f32⟩
  | 41 => ⟨S1x1x512x128, .f32⟩
  | 42 => ⟨S1x1x512x128, .f32⟩
  | 43 => ⟨S1x1x512x128, .f32⟩
  | 44 => ⟨S1x1x512x128, .f32⟩
  | 45 => ⟨S1x1x512x128, .f32⟩
  | 46 => ⟨S1x1x512x128, .f32⟩
  | 47 => ⟨S1x1x512x128, .f32⟩
  | 48 => ⟨S1x1x512x128, .f32⟩
  | 49 => ⟨S1x1x512x128, .f32⟩
  | 50 => ⟨S1x1x512x128, .f32⟩
  | 51 => ⟨S1x1x512x128, .f32⟩
  | 52 => ⟨S1x1x512x128, .f32⟩
  | 53 => ⟨S1x1x512x128, .f32⟩
  | 54 => ⟨S1x1x512x128, .f32⟩
  | 55 => ⟨S1x1x512x128, .f32⟩
  | 56 => ⟨S1x1x512x128, .f32⟩
  | 57 => ⟨S1x1x512x128, .f32⟩
  | 58 => ⟨S1x1x512x128, .f32⟩
  | 59 => ⟨S1x1x512x128, .f32⟩
  | 60 => ⟨S1x1x512x128, .f32⟩
  | 61 => ⟨S1x1x512x128, .f32⟩
  | 62 => ⟨S1x1x512x128, .f32⟩
  | 63 => ⟨S1x1x512x128, .f32⟩
  | 64 => ⟨S1x1x512x128, .f32⟩
  | 65 => ⟨S1x1x512x128, .f32⟩
  | 66 => ⟨S1x1x512x128, .f32⟩
  | 67 => ⟨S1x1x512x128, .f32⟩
  | 68 => ⟨S1x1x512x128, .f32⟩
  | 69 => ⟨S1x1x512x128, .f32⟩
  | 70 => ⟨S1x1x512x128, .f32⟩
  | 71 => ⟨S1x1x512x128, .f32⟩
  | 72 => ⟨S1x1x512x128, .f32⟩
  | 73 => ⟨S1x1x512x128, .f32⟩
  | 74 => ⟨S1x1x512x128, .f32⟩
  | 75 => ⟨S1x1x512x128, .f32⟩
  | 76 => ⟨S1x1x512x128, .f32⟩
  | 77 => ⟨S1x1x512x128, .f32⟩
  | 78 => ⟨S1x1x512x128, .f32⟩
  | 79 => ⟨S1x1x512x128, .f32⟩
  | 80 => ⟨S1x1x512x128, .f32⟩
  | 81 => ⟨S1x1x512x128, .f32⟩
  | 82 => ⟨S1x1x512x128, .f32⟩
  | 83 => ⟨S1x1x512x128, .f32⟩
  | 84 => ⟨S1x1x512x128, .f32⟩
  | 85 => ⟨S1x1x512x128, .f32⟩
  | 86 => ⟨S1x1x512x128, .f32⟩
  | 87 => ⟨S1x1x512x128, .f32⟩
  | 88 => ⟨S1x1x512x128, .f32⟩
  | 89 => ⟨S1x1x512x128, .f32⟩
  | 90 => ⟨S1x1x512x128, .f32⟩
  | 91 => ⟨S1x1x512x128, .f32⟩
  | 92 => ⟨S1x1x512x128, .f32⟩
  | 93 => ⟨S1x1x512x128, .f32⟩
  | 94 => ⟨S1x1x512x128, .f32⟩
  | 95 => ⟨S1x1x512x128, .f32⟩
  | 96 => ⟨S1x1x512x128, .f32⟩
  | 97 => ⟨S1x1x512x128, .f32⟩
  | 98 => ⟨S1x1x512x128, .f32⟩
  | 99 => ⟨S1x1x512x128, .f32⟩
  | 100 => ⟨S1x1x512x128, .f32⟩
  | 101 => ⟨S1x1x512x128, .f32⟩
  | 102 => ⟨S1x1x512x128, .f32⟩
  | 103 => ⟨S1x1x512x128, .f32⟩
  | 104 => ⟨S1x1x512x128, .f32⟩
  | 105 => ⟨S1x1x512x128, .f32⟩
  | 106 => ⟨S1x1x512x128, .f32⟩
  | 107 => ⟨S1x1x512x128, .f32⟩
  | 108 => ⟨S1x1x512x128, .f32⟩
  | 109 => ⟨S1x1x512x128, .f32⟩
  | 110 => ⟨S1x1x512x128, .f32⟩
  | 111 => ⟨S1x1x512x128, .f32⟩
  | 112 => ⟨S1x1x512x128, .f32⟩
  | 113 => ⟨S1x1x512x128, .f32⟩
  | 114 => ⟨S1x1x512x128, .f32⟩
  | 115 => ⟨S1x1x512x128, .f32⟩
  | 116 => ⟨S1x1x512x128, .f32⟩
  | 117 => ⟨S1x1x512x128, .f32⟩
  | 118 => ⟨S1x1x512x128, .f32⟩
  | 119 => ⟨S1x1x512x128, .f32⟩
  | 120 => ⟨S1x1x512x128, .f32⟩
  | 121 => ⟨S1x1x512x128, .f32⟩
  | 122 => ⟨S1x1x512x128, .f32⟩
  | 123 => ⟨S1x1x512x128, .f32⟩
  | 124 => ⟨S1x1x512x128, .f32⟩
  | 125 => ⟨S1x1x512x128, .f32⟩
  | 126 => ⟨S1x1x512x128, .f32⟩
  | 127 => ⟨S1x1x512x128, .f32⟩
  | _ => ⟨S1024x512, .f32⟩

abbrev vmemTy0_1 (i : Nat) : BufTy := match i % 128 with
  | 0 => ⟨S1x1x512x128, .f32⟩
  | 1 => ⟨S1x1x512x128, .f32⟩
  | 2 => ⟨S1x1x512x128, .f32⟩
  | 3 => ⟨S1x1x512x128, .f32⟩
  | 4 => ⟨S1x1x512x128, .f32⟩
  | 5 => ⟨S1x1x512x128, .f32⟩
  | 6 => ⟨S1x1x512x128, .f32⟩
  | 7 => ⟨S2x8x512, .f32⟩
  | 8 => ⟨S2x8x512, .f32⟩
  | _ => ⟨S1024x512, .f32⟩

abbrev vmemTy (i : Nat) : BufTy := match i / 128 with
  | 0 => vmemTy0_0 i
  | 1 => vmemTy0_1 i
  | _ => ⟨S1024x512, .f32⟩

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S2x2560x128x8x64, .f32⟩
  | .hbm, ⟨4, _⟩ => ⟨S2x2560x128x8x64, .f32⟩
  | .hbm, ⟨5, _⟩ => ⟨S8, .f32⟩
  | .hbm, ⟨6, _⟩ => ⟨S2x2560x8x64x128, .f32⟩
  | .hbm, ⟨7, _⟩ => ⟨S2x2560x512x128, .f32⟩
  | .hbm, ⟨8, _⟩ => ⟨S2x2560x8x64x128, .f32⟩
  | .hbm, ⟨9, _⟩ => ⟨S2x2560x512x128, .f32⟩
  | .hbm, ⟨10, _⟩ => ⟨S8x8, .f32⟩
  | .hbm, ⟨11, _⟩ => ⟨S64, .f32⟩
  | .hbm, ⟨12, _⟩ => ⟨S64x1, .f32⟩
  | .hbm, ⟨13, _⟩ => ⟨S64x128, .f32⟩
  | .hbm, ⟨14, _⟩ => ⟨S128x8x512, .f32⟩
  | .hbm, ⟨15, _⟩ => ⟨S128x8x512, .f32⟩
  | .hbm, ⟨16, _⟩ => ⟨S128x8x512, .f32⟩
  | .hbm, ⟨17, _⟩ => ⟨S128x8x512, .f32⟩
  | .hbm, ⟨18, _⟩ => ⟨S1024x512, .f32⟩
  | .local _ .vmem, ⟨i, _⟩ => vmemTy i
  | .local _ .smem, ⟨0, _⟩ => ⟨S128x16, .i32⟩
  | _, _ => ⟨S1024x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 137 → Bool
  | ⟨i, _⟩ => dmaSemScopedAt i

abbrev sig : RefSig :=
  ofTc nBuf bufTy 0 137 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_stg21_0 : Ref sig .tc := ⟨.vmem, 41, rfl⟩
abbrev cc0_stg21_1 : Ref sig .tc := ⟨.vmem, 42, rfl⟩
abbrev cc0_stg22_0 : Ref sig .tc := ⟨.vmem, 43, rfl⟩
abbrev cc0_stg22_1 : Ref sig .tc := ⟨.vmem, 44, rfl⟩
abbrev cc0_stg23_0 : Ref sig .tc := ⟨.vmem, 45, rfl⟩
abbrev cc0_stg23_1 : Ref sig .tc := ⟨.vmem, 46, rfl⟩
abbrev cc0_stg24_0 : Ref sig .tc := ⟨.vmem, 47, rfl⟩
abbrev cc0_stg24_1 : Ref sig .tc := ⟨.vmem, 48, rfl⟩
abbrev cc0_stg25_0 : Ref sig .tc := ⟨.vmem, 49, rfl⟩
abbrev cc0_stg25_1 : Ref sig .tc := ⟨.vmem, 50, rfl⟩
abbrev cc0_stg26_0 : Ref sig .tc := ⟨.vmem, 51, rfl⟩
abbrev cc0_stg26_1 : Ref sig .tc := ⟨.vmem, 52, rfl⟩
abbrev cc0_stg27_0 : Ref sig .tc := ⟨.vmem, 53, rfl⟩
abbrev cc0_stg27_1 : Ref sig .tc := ⟨.vmem, 54, rfl⟩
abbrev cc0_stg28_0 : Ref sig .tc := ⟨.vmem, 55, rfl⟩
abbrev cc0_stg28_1 : Ref sig .tc := ⟨.vmem, 56, rfl⟩
abbrev cc0_stg29_0 : Ref sig .tc := ⟨.vmem, 57, rfl⟩
abbrev cc0_stg29_1 : Ref sig .tc := ⟨.vmem, 58, rfl⟩
abbrev cc0_stg30_0 : Ref sig .tc := ⟨.vmem, 59, rfl⟩
abbrev cc0_stg30_1 : Ref sig .tc := ⟨.vmem, 60, rfl⟩
abbrev cc0_stg31_0 : Ref sig .tc := ⟨.vmem, 61, rfl⟩
abbrev cc0_stg31_1 : Ref sig .tc := ⟨.vmem, 62, rfl⟩
abbrev cc0_stg32_0 : Ref sig .tc := ⟨.vmem, 63, rfl⟩
abbrev cc0_stg32_1 : Ref sig .tc := ⟨.vmem, 64, rfl⟩
abbrev cc0_stg33_0 : Ref sig .tc := ⟨.vmem, 65, rfl⟩
abbrev cc0_stg33_1 : Ref sig .tc := ⟨.vmem, 66, rfl⟩
abbrev cc0_stg34_0 : Ref sig .tc := ⟨.vmem, 67, rfl⟩
abbrev cc0_stg34_1 : Ref sig .tc := ⟨.vmem, 68, rfl⟩
abbrev cc0_stg35_0 : Ref sig .tc := ⟨.vmem, 69, rfl⟩
abbrev cc0_stg35_1 : Ref sig .tc := ⟨.vmem, 70, rfl⟩
abbrev cc0_stg36_0 : Ref sig .tc := ⟨.vmem, 71, rfl⟩
abbrev cc0_stg36_1 : Ref sig .tc := ⟨.vmem, 72, rfl⟩
abbrev cc0_stg37_0 : Ref sig .tc := ⟨.vmem, 73, rfl⟩
abbrev cc0_stg37_1 : Ref sig .tc := ⟨.vmem, 74, rfl⟩
abbrev cc0_stg38_0 : Ref sig .tc := ⟨.vmem, 75, rfl⟩
abbrev cc0_stg38_1 : Ref sig .tc := ⟨.vmem, 76, rfl⟩
abbrev cc0_stg39_0 : Ref sig .tc := ⟨.vmem, 77, rfl⟩
abbrev cc0_stg39_1 : Ref sig .tc := ⟨.vmem, 78, rfl⟩
abbrev cc0_stg40_0 : Ref sig .tc := ⟨.vmem, 79, rfl⟩
abbrev cc0_stg40_1 : Ref sig .tc := ⟨.vmem, 80, rfl⟩
abbrev cc0_stg41_0 : Ref sig .tc := ⟨.vmem, 81, rfl⟩
abbrev cc0_stg41_1 : Ref sig .tc := ⟨.vmem, 82, rfl⟩
abbrev cc0_stg42_0 : Ref sig .tc := ⟨.vmem, 83, rfl⟩
abbrev cc0_stg42_1 : Ref sig .tc := ⟨.vmem, 84, rfl⟩
abbrev cc0_stg43_0 : Ref sig .tc := ⟨.vmem, 85, rfl⟩
abbrev cc0_stg43_1 : Ref sig .tc := ⟨.vmem, 86, rfl⟩
abbrev cc0_stg44_0 : Ref sig .tc := ⟨.vmem, 87, rfl⟩
abbrev cc0_stg44_1 : Ref sig .tc := ⟨.vmem, 88, rfl⟩
abbrev cc0_stg45_0 : Ref sig .tc := ⟨.vmem, 89, rfl⟩
abbrev cc0_stg45_1 : Ref sig .tc := ⟨.vmem, 90, rfl⟩
abbrev cc0_stg46_0 : Ref sig .tc := ⟨.vmem, 91, rfl⟩
abbrev cc0_stg46_1 : Ref sig .tc := ⟨.vmem, 92, rfl⟩
abbrev cc0_stg47_0 : Ref sig .tc := ⟨.vmem, 93, rfl⟩
abbrev cc0_stg47_1 : Ref sig .tc := ⟨.vmem, 94, rfl⟩
abbrev cc0_stg48_0 : Ref sig .tc := ⟨.vmem, 95, rfl⟩
abbrev cc0_stg48_1 : Ref sig .tc := ⟨.vmem, 96, rfl⟩
abbrev cc0_stg49_0 : Ref sig .tc := ⟨.vmem, 97, rfl⟩
abbrev cc0_stg49_1 : Ref sig .tc := ⟨.vmem, 98, rfl⟩
abbrev cc0_stg50_0 : Ref sig .tc := ⟨.vmem, 99, rfl⟩
abbrev cc0_stg50_1 : Ref sig .tc := ⟨.vmem, 100, rfl⟩
abbrev cc0_stg51_0 : Ref sig .tc := ⟨.vmem, 101, rfl⟩
abbrev cc0_stg51_1 : Ref sig .tc := ⟨.vmem, 102, rfl⟩
abbrev cc0_stg52_0 : Ref sig .tc := ⟨.vmem, 103, rfl⟩
abbrev cc0_stg52_1 : Ref sig .tc := ⟨.vmem, 104, rfl⟩
abbrev cc0_stg53_0 : Ref sig .tc := ⟨.vmem, 105, rfl⟩
abbrev cc0_stg53_1 : Ref sig .tc := ⟨.vmem, 106, rfl⟩
abbrev cc0_stg54_0 : Ref sig .tc := ⟨.vmem, 107, rfl⟩
abbrev cc0_stg54_1 : Ref sig .tc := ⟨.vmem, 108, rfl⟩
abbrev cc0_stg55_0 : Ref sig .tc := ⟨.vmem, 109, rfl⟩
abbrev cc0_stg55_1 : Ref sig .tc := ⟨.vmem, 110, rfl⟩
abbrev cc0_stg56_0 : Ref sig .tc := ⟨.vmem, 111, rfl⟩
abbrev cc0_stg56_1 : Ref sig .tc := ⟨.vmem, 112, rfl⟩
abbrev cc0_stg57_0 : Ref sig .tc := ⟨.vmem, 113, rfl⟩
abbrev cc0_stg57_1 : Ref sig .tc := ⟨.vmem, 114, rfl⟩
abbrev cc0_stg58_0 : Ref sig .tc := ⟨.vmem, 115, rfl⟩
abbrev cc0_stg58_1 : Ref sig .tc := ⟨.vmem, 116, rfl⟩
abbrev cc0_stg59_0 : Ref sig .tc := ⟨.vmem, 117, rfl⟩
abbrev cc0_stg59_1 : Ref sig .tc := ⟨.vmem, 118, rfl⟩
abbrev cc0_stg60_0 : Ref sig .tc := ⟨.vmem, 119, rfl⟩
abbrev cc0_stg60_1 : Ref sig .tc := ⟨.vmem, 120, rfl⟩
abbrev cc0_stg61_0 : Ref sig .tc := ⟨.vmem, 121, rfl⟩
abbrev cc0_stg61_1 : Ref sig .tc := ⟨.vmem, 122, rfl⟩
abbrev cc0_stg62_0 : Ref sig .tc := ⟨.vmem, 123, rfl⟩
abbrev cc0_stg62_1 : Ref sig .tc := ⟨.vmem, 124, rfl⟩
abbrev cc0_stg63_0 : Ref sig .tc := ⟨.vmem, 125, rfl⟩
abbrev cc0_stg63_1 : Ref sig .tc := ⟨.vmem, 126, rfl⟩
abbrev cc0_stg64_0 : Ref sig .tc := ⟨.vmem, 127, rfl⟩
abbrev cc0_stg64_1 : Ref sig .tc := ⟨.vmem, 128, rfl⟩
abbrev cc0_stg65_0 : Ref sig .tc := ⟨.vmem, 129, rfl⟩
abbrev cc0_stg65_1 : Ref sig .tc := ⟨.vmem, 130, rfl⟩
abbrev cc0_stg66_0 : Ref sig .tc := ⟨.vmem, 131, rfl⟩
abbrev cc0_stg66_1 : Ref sig .tc := ⟨.vmem, 132, rfl⟩
abbrev cc0_stg67_0 : Ref sig .tc := ⟨.vmem, 133, rfl⟩
abbrev cc0_stg67_1 : Ref sig .tc := ⟨.vmem, 134, rfl⟩
abbrev cc0_stg68_0 : Ref sig .tc := ⟨.vmem, 135, rfl⟩
abbrev cc0_stg68_1 : Ref sig .tc := ⟨.vmem, 136, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40
abbrev cc0_sem21_0 : DmaSem sig := 41
abbrev cc0_sem21_1 : DmaSem sig := 42
abbrev cc0_sem22_0 : DmaSem sig := 43
abbrev cc0_sem22_1 : DmaSem sig := 44
abbrev cc0_sem23_0 : DmaSem sig := 45
abbrev cc0_sem23_1 : DmaSem sig := 46
abbrev cc0_sem24_0 : DmaSem sig := 47
abbrev cc0_sem24_1 : DmaSem sig := 48
abbrev cc0_sem25_0 : DmaSem sig := 49
abbrev cc0_sem25_1 : DmaSem sig := 50
abbrev cc0_sem26_0 : DmaSem sig := 51
abbrev cc0_sem26_1 : DmaSem sig := 52
abbrev cc0_sem27_0 : DmaSem sig := 53
abbrev cc0_sem27_1 : DmaSem sig := 54
abbrev cc0_sem28_0 : DmaSem sig := 55
abbrev cc0_sem28_1 : DmaSem sig := 56
abbrev cc0_sem29_0 : DmaSem sig := 57
abbrev cc0_sem29_1 : DmaSem sig := 58
abbrev cc0_sem30_0 : DmaSem sig := 59
abbrev cc0_sem30_1 : DmaSem sig := 60
abbrev cc0_sem31_0 : DmaSem sig := 61
abbrev cc0_sem31_1 : DmaSem sig := 62
abbrev cc0_sem32_0 : DmaSem sig := 63
abbrev cc0_sem32_1 : DmaSem sig := 64
abbrev cc0_sem33_0 : DmaSem sig := 65
abbrev cc0_sem33_1 : DmaSem sig := 66
abbrev cc0_sem34_0 : DmaSem sig := 67
abbrev cc0_sem34_1 : DmaSem sig := 68
abbrev cc0_sem35_0 : DmaSem sig := 69
abbrev cc0_sem35_1 : DmaSem sig := 70
abbrev cc0_sem36_0 : DmaSem sig := 71
abbrev cc0_sem36_1 : DmaSem sig := 72
abbrev cc0_sem37_0 : DmaSem sig := 73
abbrev cc0_sem37_1 : DmaSem sig := 74
abbrev cc0_sem38_0 : DmaSem sig := 75
abbrev cc0_sem38_1 : DmaSem sig := 76
abbrev cc0_sem39_0 : DmaSem sig := 77
abbrev cc0_sem39_1 : DmaSem sig := 78
abbrev cc0_sem40_0 : DmaSem sig := 79
abbrev cc0_sem40_1 : DmaSem sig := 80
abbrev cc0_sem41_0 : DmaSem sig := 81
abbrev cc0_sem41_1 : DmaSem sig := 82
abbrev cc0_sem42_0 : DmaSem sig := 83
abbrev cc0_sem42_1 : DmaSem sig := 84
abbrev cc0_sem43_0 : DmaSem sig := 85
abbrev cc0_sem43_1 : DmaSem sig := 86
abbrev cc0_sem44_0 : DmaSem sig := 87
abbrev cc0_sem44_1 : DmaSem sig := 88
abbrev cc0_sem45_0 : DmaSem sig := 89
abbrev cc0_sem45_1 : DmaSem sig := 90
abbrev cc0_sem46_0 : DmaSem sig := 91
abbrev cc0_sem46_1 : DmaSem sig := 92
abbrev cc0_sem47_0 : DmaSem sig := 93
abbrev cc0_sem47_1 : DmaSem sig := 94
abbrev cc0_sem48_0 : DmaSem sig := 95
abbrev cc0_sem48_1 : DmaSem sig := 96
abbrev cc0_sem49_0 : DmaSem sig := 97
abbrev cc0_sem49_1 : DmaSem sig := 98
abbrev cc0_sem50_0 : DmaSem sig := 99
abbrev cc0_sem50_1 : DmaSem sig := 100
abbrev cc0_sem51_0 : DmaSem sig := 101
abbrev cc0_sem51_1 : DmaSem sig := 102
abbrev cc0_sem52_0 : DmaSem sig := 103
abbrev cc0_sem52_1 : DmaSem sig := 104
abbrev cc0_sem53_0 : DmaSem sig := 105
abbrev cc0_sem53_1 : DmaSem sig := 106
abbrev cc0_sem54_0 : DmaSem sig := 107
abbrev cc0_sem54_1 : DmaSem sig := 108
abbrev cc0_sem55_0 : DmaSem sig := 109
abbrev cc0_sem55_1 : DmaSem sig := 110
abbrev cc0_sem56_0 : DmaSem sig := 111
abbrev cc0_sem56_1 : DmaSem sig := 112
abbrev cc0_sem57_0 : DmaSem sig := 113
abbrev cc0_sem57_1 : DmaSem sig := 114
abbrev cc0_sem58_0 : DmaSem sig := 115
abbrev cc0_sem58_1 : DmaSem sig := 116
abbrev cc0_sem59_0 : DmaSem sig := 117
abbrev cc0_sem59_1 : DmaSem sig := 118
abbrev cc0_sem60_0 : DmaSem sig := 119
abbrev cc0_sem60_1 : DmaSem sig := 120
abbrev cc0_sem61_0 : DmaSem sig := 121
abbrev cc0_sem61_1 : DmaSem sig := 122
abbrev cc0_sem62_0 : DmaSem sig := 123
abbrev cc0_sem62_1 : DmaSem sig := 124
abbrev cc0_sem63_0 : DmaSem sig := 125
abbrev cc0_sem63_1 : DmaSem sig := 126
abbrev cc0_sem64_0 : DmaSem sig := 127
abbrev cc0_sem64_1 : DmaSem sig := 128
abbrev cc0_sem65_0 : DmaSem sig := 129
abbrev cc0_sem65_1 : DmaSem sig := 130
abbrev cc0_sem66_0 : DmaSem sig := 131
abbrev cc0_sem66_1 : DmaSem sig := 132
abbrev cc0_sem67_0 : DmaSem sig := 133
abbrev cc0_sem67_1 : DmaSem sig := 134
abbrev cc0_sem68_0 : DmaSem sig := 135
abbrev cc0_sem68_1 : DmaSem sig := 136

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  let c0 : Index := 0#32
  ![v2.toNat, 0]
def k0_off2 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  let c1 : Index := 1#32
  ![v2.toNat, 1]
def k0_off3 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  let c2 : Index := 2#32
  ![v2.toNat, 2]
def k0_off4 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  let c3 : Index := 3#32
  ![v2.toNat, 3]
def k0_off5 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  let c4 : Index := 4#32
  ![v2.toNat, 4]
def k0_off6 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  let c5 : Index := 5#32
  ![v2.toNat, 5]
def k0_off7 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  let c6 : Index := 6#32
  ![v2.toNat, 6]
def k0_off8 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  let c7 : Index := 7#32
  ![v2.toNat, 7]
def k0_off9 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  let c8 : Index := 8#32
  ![v2.toNat, 8]
def k0_off10 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  let c9 : Index := 9#32
  ![v2.toNat, 9]
def k0_off11 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  let c10 : Index := 10#32
  ![v2.toNat, 10]
def k0_off12 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  let c11 : Index := 11#32
  ![v2.toNat, 11]
def k0_off13 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  let c12 : Index := 12#32
  ![v2.toNat, 12]
def k0_off14 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  let c13 : Index := 13#32
  ![v2.toNat, 13]
def k0_off15 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  let c14 : Index := 14#32
  ![v2.toNat, 14]
def k0_off16 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  let c15 : Index := 15#32
  ![v2.toNat, 15]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (k0_off1_inb : ∀ i : grid0.Coords, ∀ (r : Fin 2), ∀ a, (k0_off1 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c0 : Index := 0#32
  let v3 : BitVec 32 := pf.at 0 (Rect.unit (s := S128x16) ![v2.toNat, 0] S1x1.size (k0_off1_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_5 (k0_off2_inb : ∀ i : grid0.Coords, ∀ (r : Fin 2), ∀ a, (k0_off2 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c1 : Index := 1#32
  let v3 : BitVec 32 := pf.at 0 (Rect.unit (s := S128x16) ![v2.toNat, 1] S1x1.size (k0_off2_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_6 (k0_off3_inb : ∀ i : grid0.Coords, ∀ (r : Fin 2), ∀ a, (k0_off3 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c2 : Index := 2#32
  let v3 : BitVec 32 := pf.at 0 (Rect.unit (s := S128x16) ![v2.toNat, 2] S1x1.size (k0_off3_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_7 (k0_off4_inb : ∀ i : grid0.Coords, ∀ (r : Fin 2), ∀ a, (k0_off4 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c3 : Index := 3#32
  let v3 : BitVec 32 := pf.at 0 (Rect.unit (s := S128x16) ![v2.toNat, 3] S1x1.size (k0_off4_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_8 (k0_off5_inb : ∀ i : grid0.Coords, ∀ (r : Fin 2), ∀ a, (k0_off5 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c4 : Index := 4#32
  let v3 : BitVec 32 := pf.at 0 (Rect.unit (s := S128x16) ![v2.toNat, 4] S1x1.size (k0_off5_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_9 (k0_off6_inb : ∀ i : grid0.Coords, ∀ (r : Fin 2), ∀ a, (k0_off6 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c5 : Index := 5#32
  let v3 : BitVec 32 := pf.at 0 (Rect.unit (s := S128x16) ![v2.toNat, 5] S1x1.size (k0_off6_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_10 (k0_off7_inb : ∀ i : grid0.Coords, ∀ (r : Fin 2), ∀ a, (k0_off7 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c6 : Index := 6#32
  let v3 : BitVec 32 := pf.at 0 (Rect.unit (s := S128x16) ![v2.toNat, 6] S1x1.size (k0_off7_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_11 (k0_off8_inb : ∀ i : grid0.Coords, ∀ (r : Fin 2), ∀ a, (k0_off8 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c7 : Index := 7#32
  let v3 : BitVec 32 := pf.at 0 (Rect.unit (s := S128x16) ![v2.toNat, 7] S1x1.size (k0_off8_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_12 (k0_off9_inb : ∀ i : grid0.Coords, ∀ (r : Fin 2), ∀ a, (k0_off9 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c8 : Index := 8#32
  let v3 : BitVec 32 := pf.at 0 (Rect.unit (s := S128x16) ![v2.toNat, 8] S1x1.size (k0_off9_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_13 (k0_off10_inb : ∀ i : grid0.Coords, ∀ (r : Fin 2), ∀ a, (k0_off10 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c9 : Index := 9#32
  let v3 : BitVec 32 := pf.at 0 (Rect.unit (s := S128x16) ![v2.toNat, 9] S1x1.size (k0_off10_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_14 (k0_off11_inb : ∀ i : grid0.Coords, ∀ (r : Fin 2), ∀ a, (k0_off11 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c10 : Index := 10#32
  let v3 : BitVec 32 := pf.at 0 (Rect.unit (s := S128x16) ![v2.toNat, 10] S1x1.size (k0_off11_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_15 (k0_off12_inb : ∀ i : grid0.Coords, ∀ (r : Fin 2), ∀ a, (k0_off12 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c11 : Index := 11#32
  let v3 : BitVec 32 := pf.at 0 (Rect.unit (s := S128x16) ![v2.toNat, 11] S1x1.size (k0_off12_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_16 (k0_off13_inb : ∀ i : grid0.Coords, ∀ (r : Fin 2), ∀ a, (k0_off13 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c12 : Index := 12#32
  let v3 : BitVec 32 := pf.at 0 (Rect.unit (s := S128x16) ![v2.toNat, 12] S1x1.size (k0_off13_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_17 (k0_off14_inb : ∀ i : grid0.Coords, ∀ (r : Fin 2), ∀ a, (k0_off14 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c13 : Index := 13#32
  let v3 : BitVec 32 := pf.at 0 (Rect.unit (s := S128x16) ![v2.toNat, 13] S1x1.size (k0_off14_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_18 (k0_off15_inb : ∀ i : grid0.Coords, ∀ (r : Fin 2), ∀ a, (k0_off15 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c14 : Index := 14#32
  let v3 : BitVec 32 := pf.at 0 (Rect.unit (s := S128x16) ![v2.toNat, 14] S1x1.size (k0_off15_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_19 (k0_off16_inb : ∀ i : grid0.Coords, ∀ (r : Fin 2), ∀ a, (k0_off16 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c15 : Index := 15#32
  let v3 : BitVec 32 := pf.at 0 (Rect.unit (s := S128x16) ![v2.toNat, 15] S1x1.size (k0_off16_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_20 (k0_off1_inb : ∀ i : grid0.Coords, ∀ (r : Fin 2), ∀ a, (k0_off1 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c0 : Index := 0#32
  let v3 : BitVec 32 := pf.at 0 (Rect.unit (s := S128x16) ![v2.toNat, 0] S1x1.size (k0_off1_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_21 (k0_off2_inb : ∀ i : grid0.Coords, ∀ (r : Fin 2), ∀ a, (k0_off2 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c1 : Index := 1#32
  let v3 : BitVec 32 := pf.at 0 (Rect.unit (s := S128x16) ![v2.toNat, 1] S1x1.size (k0_off2_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_22 (k0_off3_inb : ∀ i : grid0.Coords, ∀ (r : Fin 2), ∀ a, (k0_off3 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c2 : Index := 2#32
  let v3 : BitVec 32 := pf.at 0 (Rect.unit (s := S128x16) ![v2.toNat, 2] S1x1.size (k0_off3_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_23 (k0_off4_inb : ∀ i : grid0.Coords, ∀ (r : Fin 2), ∀ a, (k0_off4 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c3 : Index := 3#32
  let v3 : BitVec 32 := pf.at 0 (Rect.unit (s := S128x16) ![v2.toNat, 3] S1x1.size (k0_off4_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_24 (k0_off5_inb : ∀ i : grid0.Coords, ∀ (r : Fin 2), ∀ a, (k0_off5 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c4 : Index := 4#32
  let v3 : BitVec 32 := pf.at 0 (Rect.unit (s := S128x16) ![v2.toNat, 4] S1x1.size (k0_off5_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_25 (k0_off6_inb : ∀ i : grid0.Coords, ∀ (r : Fin 2), ∀ a, (k0_off6 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c5 : Index := 5#32
  let v3 : BitVec 32 := pf.at 0 (Rect.unit (s := S128x16) ![v2.toNat, 5] S1x1.size (k0_off6_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_26 (k0_off7_inb : ∀ i : grid0.Coords, ∀ (r : Fin 2), ∀ a, (k0_off7 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c6 : Index := 6#32
  let v3 : BitVec 32 := pf.at 0 (Rect.unit (s := S128x16) ![v2.toNat, 6] S1x1.size (k0_off7_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_27 (k0_off8_inb : ∀ i : grid0.Coords, ∀ (r : Fin 2), ∀ a, (k0_off8 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c7 : Index := 7#32
  let v3 : BitVec 32 := pf.at 0 (Rect.unit (s := S128x16) ![v2.toNat, 7] S1x1.size (k0_off8_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_28 (k0_off9_inb : ∀ i : grid0.Coords, ∀ (r : Fin 2), ∀ a, (k0_off9 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c8 : Index := 8#32
  let v3 : BitVec 32 := pf.at 0 (Rect.unit (s := S128x16) ![v2.toNat, 8] S1x1.size (k0_off9_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_29 (k0_off10_inb : ∀ i : grid0.Coords, ∀ (r : Fin 2), ∀ a, (k0_off10 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c9 : Index := 9#32
  let v3 : BitVec 32 := pf.at 0 (Rect.unit (s := S128x16) ![v2.toNat, 9] S1x1.size (k0_off10_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_30 (k0_off11_inb : ∀ i : grid0.Coords, ∀ (r : Fin 2), ∀ a, (k0_off11 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c10 : Index := 10#32
  let v3 : BitVec 32 := pf.at 0 (Rect.unit (s := S128x16) ![v2.toNat, 10] S1x1.size (k0_off11_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_31 (k0_off12_inb : ∀ i : grid0.Coords, ∀ (r : Fin 2), ∀ a, (k0_off12 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c11 : Index := 11#32
  let v3 : BitVec 32 := pf.at 0 (Rect.unit (s := S128x16) ![v2.toNat, 11] S1x1.size (k0_off12_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_32 (k0_off13_inb : ∀ i : grid0.Coords, ∀ (r : Fin 2), ∀ a, (k0_off13 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c12 : Index := 12#32
  let v3 : BitVec 32 := pf.at 0 (Rect.unit (s := S128x16) ![v2.toNat, 12] S1x1.size (k0_off13_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_33 (k0_off14_inb : ∀ i : grid0.Coords, ∀ (r : Fin 2), ∀ a, (k0_off14 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c13 : Index := 13#32
  let v3 : BitVec 32 := pf.at 0 (Rect.unit (s := S128x16) ![v2.toNat, 13] S1x1.size (k0_off14_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_34 (k0_off15_inb : ∀ i : grid0.Coords, ∀ (r : Fin 2), ∀ a, (k0_off15 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c14 : Index := 14#32
  let v3 : BitVec 32 := pf.at 0 (Rect.unit (s := S128x16) ![v2.toNat, 14] S1x1.size (k0_off15_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_35 (k0_off16_inb : ∀ i : grid0.Coords, ∀ (r : Fin 2), ∀ a, (k0_off16 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c15 : Index := 15#32
  let v3 : BitVec 32 := pf.at 0 (Rect.unit (s := S128x16) ![v2.toNat, 15] S1x1.size (k0_off16_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_36 (k0_off1_inb : ∀ i : grid0.Coords, ∀ (r : Fin 2), ∀ a, (k0_off1 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c0 : Index := 0#32
  let v3 : BitVec 32 := pf.at 0 (Rect.unit (s := S128x16) ![v2.toNat, 0] S1x1.size (k0_off1_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_37 (k0_off2_inb : ∀ i : grid0.Coords, ∀ (r : Fin 2), ∀ a, (k0_off2 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c1 : Index := 1#32
  let v3 : BitVec 32 := pf.at 0 (Rect.unit (s := S128x16) ![v2.toNat, 1] S1x1.size (k0_off2_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_38 (k0_off3_inb : ∀ i : grid0.Coords, ∀ (r : Fin 2), ∀ a, (k0_off3 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c2 : Index := 2#32
  let v3 : BitVec 32 := pf.at 0 (Rect.unit (s := S128x16) ![v2.toNat, 2] S1x1.size (k0_off3_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_39 (k0_off4_inb : ∀ i : grid0.Coords, ∀ (r : Fin 2), ∀ a, (k0_off4 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c3 : Index := 3#32
  let v3 : BitVec 32 := pf.at 0 (Rect.unit (s := S128x16) ![v2.toNat, 3] S1x1.size (k0_off4_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_40 (k0_off5_inb : ∀ i : grid0.Coords, ∀ (r : Fin 2), ∀ a, (k0_off5 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c4 : Index := 4#32
  let v3 : BitVec 32 := pf.at 0 (Rect.unit (s := S128x16) ![v2.toNat, 4] S1x1.size (k0_off5_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_41 (k0_off6_inb : ∀ i : grid0.Coords, ∀ (r : Fin 2), ∀ a, (k0_off6 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c5 : Index := 5#32
  let v3 : BitVec 32 := pf.at 0 (Rect.unit (s := S128x16) ![v2.toNat, 5] S1x1.size (k0_off6_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_42 (k0_off7_inb : ∀ i : grid0.Coords, ∀ (r : Fin 2), ∀ a, (k0_off7 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c6 : Index := 6#32
  let v3 : BitVec 32 := pf.at 0 (Rect.unit (s := S128x16) ![v2.toNat, 6] S1x1.size (k0_off7_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_43 (k0_off8_inb : ∀ i : grid0.Coords, ∀ (r : Fin 2), ∀ a, (k0_off8 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c7 : Index := 7#32
  let v3 : BitVec 32 := pf.at 0 (Rect.unit (s := S128x16) ![v2.toNat, 7] S1x1.size (k0_off8_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_44 (k0_off9_inb : ∀ i : grid0.Coords, ∀ (r : Fin 2), ∀ a, (k0_off9 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c8 : Index := 8#32
  let v3 : BitVec 32 := pf.at 0 (Rect.unit (s := S128x16) ![v2.toNat, 8] S1x1.size (k0_off9_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_45 (k0_off10_inb : ∀ i : grid0.Coords, ∀ (r : Fin 2), ∀ a, (k0_off10 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c9 : Index := 9#32
  let v3 : BitVec 32 := pf.at 0 (Rect.unit (s := S128x16) ![v2.toNat, 9] S1x1.size (k0_off10_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_46 (k0_off11_inb : ∀ i : grid0.Coords, ∀ (r : Fin 2), ∀ a, (k0_off11 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c10 : Index := 10#32
  let v3 : BitVec 32 := pf.at 0 (Rect.unit (s := S128x16) ![v2.toNat, 10] S1x1.size (k0_off11_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_47 (k0_off12_inb : ∀ i : grid0.Coords, ∀ (r : Fin 2), ∀ a, (k0_off12 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c11 : Index := 11#32
  let v3 : BitVec 32 := pf.at 0 (Rect.unit (s := S128x16) ![v2.toNat, 11] S1x1.size (k0_off12_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_48 (k0_off13_inb : ∀ i : grid0.Coords, ∀ (r : Fin 2), ∀ a, (k0_off13 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c12 : Index := 12#32
  let v3 : BitVec 32 := pf.at 0 (Rect.unit (s := S128x16) ![v2.toNat, 12] S1x1.size (k0_off13_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_49 (k0_off14_inb : ∀ i : grid0.Coords, ∀ (r : Fin 2), ∀ a, (k0_off14 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c13 : Index := 13#32
  let v3 : BitVec 32 := pf.at 0 (Rect.unit (s := S128x16) ![v2.toNat, 13] S1x1.size (k0_off14_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_50 (k0_off15_inb : ∀ i : grid0.Coords, ∀ (r : Fin 2), ∀ a, (k0_off15 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c14 : Index := 14#32
  let v3 : BitVec 32 := pf.at 0 (Rect.unit (s := S128x16) ![v2.toNat, 14] S1x1.size (k0_off15_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_51 (k0_off16_inb : ∀ i : grid0.Coords, ∀ (r : Fin 2), ∀ a, (k0_off16 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c15 : Index := 15#32
  let v3 : BitVec 32 := pf.at 0 (Rect.unit (s := S128x16) ![v2.toNat, 15] S1x1.size (k0_off16_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_52 (k0_off1_inb : ∀ i : grid0.Coords, ∀ (r : Fin 2), ∀ a, (k0_off1 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c0 : Index := 0#32
  let v3 : BitVec 32 := pf.at 0 (Rect.unit (s := S128x16) ![v2.toNat, 0] S1x1.size (k0_off1_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_53 (k0_off2_inb : ∀ i : grid0.Coords, ∀ (r : Fin 2), ∀ a, (k0_off2 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c1 : Index := 1#32
  let v3 : BitVec 32 := pf.at 0 (Rect.unit (s := S128x16) ![v2.toNat, 1] S1x1.size (k0_off2_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_54 (k0_off3_inb : ∀ i : grid0.Coords, ∀ (r : Fin 2), ∀ a, (k0_off3 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c2 : Index := 2#32
  let v3 : BitVec 32 := pf.at 0 (Rect.unit (s := S128x16) ![v2.toNat, 2] S1x1.size (k0_off3_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_55 (k0_off4_inb : ∀ i : grid0.Coords, ∀ (r : Fin 2), ∀ a, (k0_off4 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c3 : Index := 3#32
  let v3 : BitVec 32 := pf.at 0 (Rect.unit (s := S128x16) ![v2.toNat, 3] S1x1.size (k0_off4_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_56 (k0_off5_inb : ∀ i : grid0.Coords, ∀ (r : Fin 2), ∀ a, (k0_off5 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c4 : Index := 4#32
  let v3 : BitVec 32 := pf.at 0 (Rect.unit (s := S128x16) ![v2.toNat, 4] S1x1.size (k0_off5_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_57 (k0_off6_inb : ∀ i : grid0.Coords, ∀ (r : Fin 2), ∀ a, (k0_off6 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c5 : Index := 5#32
  let v3 : BitVec 32 := pf.at 0 (Rect.unit (s := S128x16) ![v2.toNat, 5] S1x1.size (k0_off6_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_58 (k0_off7_inb : ∀ i : grid0.Coords, ∀ (r : Fin 2), ∀ a, (k0_off7 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c6 : Index := 6#32
  let v3 : BitVec 32 := pf.at 0 (Rect.unit (s := S128x16) ![v2.toNat, 6] S1x1.size (k0_off7_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_59 (k0_off8_inb : ∀ i : grid0.Coords, ∀ (r : Fin 2), ∀ a, (k0_off8 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c7 : Index := 7#32
  let v3 : BitVec 32 := pf.at 0 (Rect.unit (s := S128x16) ![v2.toNat, 7] S1x1.size (k0_off8_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_60 (k0_off9_inb : ∀ i : grid0.Coords, ∀ (r : Fin 2), ∀ a, (k0_off9 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c8 : Index := 8#32
  let v3 : BitVec 32 := pf.at 0 (Rect.unit (s := S128x16) ![v2.toNat, 8] S1x1.size (k0_off9_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_61 (k0_off10_inb : ∀ i : grid0.Coords, ∀ (r : Fin 2), ∀ a, (k0_off10 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c9 : Index := 9#32
  let v3 : BitVec 32 := pf.at 0 (Rect.unit (s := S128x16) ![v2.toNat, 9] S1x1.size (k0_off10_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_62 (k0_off11_inb : ∀ i : grid0.Coords, ∀ (r : Fin 2), ∀ a, (k0_off11 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c10 : Index := 10#32
  let v3 : BitVec 32 := pf.at 0 (Rect.unit (s := S128x16) ![v2.toNat, 10] S1x1.size (k0_off11_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_63 (k0_off12_inb : ∀ i : grid0.Coords, ∀ (r : Fin 2), ∀ a, (k0_off12 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c11 : Index := 11#32
  let v3 : BitVec 32 := pf.at 0 (Rect.unit (s := S128x16) ![v2.toNat, 11] S1x1.size (k0_off12_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_64 (k0_off13_inb : ∀ i : grid0.Coords, ∀ (r : Fin 2), ∀ a, (k0_off13 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c12 : Index := 12#32
  let v3 : BitVec 32 := pf.at 0 (Rect.unit (s := S128x16) ![v2.toNat, 12] S1x1.size (k0_off13_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_65 (k0_off14_inb : ∀ i : grid0.Coords, ∀ (r : Fin 2), ∀ a, (k0_off14 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c13 : Index := 13#32
  let v3 : BitVec 32 := pf.at 0 (Rect.unit (s := S128x16) ![v2.toNat, 13] S1x1.size (k0_off14_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_66 (k0_off15_inb : ∀ i : grid0.Coords, ∀ (r : Fin 2), ∀ a, (k0_off15 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c14 : Index := 14#32
  let v3 : BitVec 32 := pf.at 0 (Rect.unit (s := S128x16) ![v2.toNat, 14] S1x1.size (k0_off15_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_67 (k0_off16_inb : ∀ i : grid0.Coords, ∀ (r : Fin 2), ∀ a, (k0_off16 i (BitVec.ofNat 32 r.val)) a + S1x1.size a ≤ S128x16.size a) (numel1_S1x1 : S1x1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let c15 : Index := 15#32
  let v3 : BitVec 32 := pf.at 0 (Rect.unit (s := S128x16) ![v2.toNat, 15] S1x1.size (k0_off16_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_68 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x1x512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x512x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x1x512x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x1x512x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x1x512x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x1x512x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x1x512x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x1x512x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x1x512x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x1x512x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x1x512x128 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x1x512x128 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S1x1x512x128 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1x1x512x128 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1x1x512x128 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S1x1x512x128 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S1x1x512x128 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S1x1x512x128 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S1x1x512x128 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S1x1x512x128 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev stage0_41 : Fin 2 → Memref sig .tc .vmem S1x1x512x128 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

abbrev stage0_42 : Fin 2 → Memref sig .tc .vmem S1x1x512x128 .f32 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true]

abbrev stage0_43 : Fin 2 → Memref sig .tc .vmem S1x1x512x128 .f32 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true]

abbrev stage0_44 : Fin 2 → Memref sig .tc .vmem S1x1x512x128 .f32 := fun | 0 => Memref.whole cc0_stg44_0 | 1 => Memref.whole cc0_stg44_1 | ⟨_ + 2, h⟩ => absurd h (Nat.not_lt.2 (Nat.le_add_left _ _))
abbrev sem0_44 : Fin 2 → DmaSem sig := fun | 0 => cc0_sem44_0 | 1 => cc0_sem44_1 | ⟨_ + 2, h⟩ => absurd h (Nat.not_lt.2 (Nat.le_add_left _ _))
abbrev reads0_44 : Fin grid0.rank → Bool := ![true]

abbrev stage0_45 : Fin 2 → Memref sig .tc .vmem S1x1x512x128 .f32 := fun | 0 => Memref.whole cc0_stg45_0 | 1 => Memref.whole cc0_stg45_1 | ⟨_ + 2, h⟩ => absurd h (Nat.not_lt.2 (Nat.le_add_left _ _))
abbrev sem0_45 : Fin 2 → DmaSem sig := fun | 0 => cc0_sem45_0 | 1 => cc0_sem45_1 | ⟨_ + 2, h⟩ => absurd h (Nat.not_lt.2 (Nat.le_add_left _ _))
abbrev reads0_45 : Fin grid0.rank → Bool := ![true]

abbrev stage0_46 : Fin 2 → Memref sig .tc .vmem S1x1x512x128 .f32 := fun | 0 => Memref.whole cc0_stg46_0 | 1 => Memref.whole cc0_stg46_1 | ⟨_ + 2, h⟩ => absurd h (Nat.not_lt.2 (Nat.le_add_left _ _))
abbrev sem0_46 : Fin 2 → DmaSem sig := fun | 0 => cc0_sem46_0 | 1 => cc0_sem46_1 | ⟨_ + 2, h⟩ => absurd h (Nat.not_lt.2 (Nat.le_add_left _ _))
abbrev reads0_46 : Fin grid0.rank → Bool := ![true]

abbrev stage0_47 : Fin 2 → Memref sig .tc .vmem S1x1x512x128 .f32 := fun | 0 => Memref.whole cc0_stg47_0 | 1 => Memref.whole cc0_stg47_1 | ⟨_ + 2, h⟩ => absurd h (Nat.not_lt.2 (Nat.le_add_left _ _))
abbrev sem0_47 : Fin 2 → DmaSem sig := fun | 0 => cc0_sem47_0 | 1 => cc0_sem47_1 | ⟨_ + 2, h⟩ => absurd h (Nat.not_lt.2 (Nat.le_add_left _ _))
abbrev reads0_47 : Fin grid0.rank → Bool := ![true]

abbrev stage0_48 : Fin 2 → Memref sig .tc .vmem S1x1x512x128 .f32 := fun | 0 => Memref.whole cc0_stg48_0 | 1 => Memref.whole cc0_stg48_1 | ⟨_ + 2, h⟩ => absurd h (Nat.not_lt.2 (Nat.le_add_left _ _))
abbrev sem0_48 : Fin 2 → DmaSem sig := fun | 0 => cc0_sem48_0 | 1 => cc0_sem48_1 | ⟨_ + 2, h⟩ => absurd h (Nat.not_lt.2 (Nat.le_add_left _ _))
abbrev reads0_48 : Fin grid0.rank → Bool := ![true]

abbrev stage0_49 : Fin 2 → Memref sig .tc .vmem S1x1x512x128 .f32 := fun | 0 => Memref.whole cc0_stg49_0 | 1 => Memref.whole cc0_stg49_1 | ⟨_ + 2, h⟩ => absurd h (Nat.not_lt.2 (Nat.le_add_left _ _))
abbrev sem0_49 : Fin 2 → DmaSem sig := fun | 0 => cc0_sem49_0 | 1 => cc0_sem49_1 | ⟨_ + 2, h⟩ => absurd h (Nat.not_lt.2 (Nat.le_add_left _ _))
abbrev reads0_49 : Fin grid0.rank → Bool := ![true]

abbrev stage0_50 : Fin 2 → Memref sig .tc .vmem S1x1x512x128 .f32 := fun | 0 => Memref.whole cc0_stg50_0 | 1 => Memref.whole cc0_stg50_1 | ⟨_ + 2, h⟩ => absurd h (Nat.not_lt.2 (Nat.le_add_left _ _))
abbrev sem0_50 : Fin 2 → DmaSem sig := fun | 0 => cc0_sem50_0 | 1 => cc0_sem50_1 | ⟨_ + 2, h⟩ => absurd h (Nat.not_lt.2 (Nat.le_add_left _ _))
abbrev reads0_50 : Fin grid0.rank → Bool := ![true]

abbrev stage0_51 : Fin 2 → Memref sig .tc .vmem S1x1x512x128 .f32 := fun | 0 => Memref.whole cc0_stg51_0 | 1 => Memref.whole cc0_stg51_1 | ⟨_ + 2, h⟩ => absurd h (Nat.not_lt.2 (Nat.le_add_left _ _))
abbrev sem0_51 : Fin 2 → DmaSem sig := fun | 0 => cc0_sem51_0 | 1 => cc0_sem51_1 | ⟨_ + 2, h⟩ => absurd h (Nat.not_lt.2 (Nat.le_add_left _ _))
abbrev reads0_51 : Fin grid0.rank → Bool := ![true]

abbrev stage0_52 : Fin 2 → Memref sig .tc .vmem S1x1x512x128 .f32 := fun | 0 => Memref.whole cc0_stg52_0 | 1 => Memref.whole cc0_stg52_1 | ⟨_ + 2, h⟩ => absurd h (Nat.not_lt.2 (Nat.le_add_left _ _))
abbrev sem0_52 : Fin 2 → DmaSem sig := fun | 0 => cc0_sem52_0 | 1 => cc0_sem52_1 | ⟨_ + 2, h⟩ => absurd h (Nat.not_lt.2 (Nat.le_add_left _ _))
abbrev reads0_52 : Fin grid0.rank → Bool := ![true]

abbrev stage0_53 : Fin 2 → Memref sig .tc .vmem S1x1x512x128 .f32 := fun | 0 => Memref.whole cc0_stg53_0 | 1 => Memref.whole cc0_stg53_1 | ⟨_ + 2, h⟩ => absurd h (Nat.not_lt.2 (Nat.le_add_left _ _))
abbrev sem0_53 : Fin 2 → DmaSem sig := fun | 0 => cc0_sem53_0 | 1 => cc0_sem53_1 | ⟨_ + 2, h⟩ => absurd h (Nat.not_lt.2 (Nat.le_add_left _ _))
abbrev reads0_53 : Fin grid0.rank → Bool := ![true]

abbrev stage0_54 : Fin 2 → Memref sig .tc .vmem S1x1x512x128 .f32 := fun | 0 => Memref.whole cc0_stg54_0 | 1 => Memref.whole cc0_stg54_1 | ⟨_ + 2, h⟩ => absurd h (Nat.not_lt.2 (Nat.le_add_left _ _))
abbrev sem0_54 : Fin 2 → DmaSem sig := fun | 0 => cc0_sem54_0 | 1 => cc0_sem54_1 | ⟨_ + 2, h⟩ => absurd h (Nat.not_lt.2 (Nat.le_add_left _ _))
abbrev reads0_54 : Fin grid0.rank → Bool := ![true]

abbrev stage0_55 : Fin 2 → Memref sig .tc .vmem S1x1x512x128 .f32 := fun | 0 => Memref.whole cc0_stg55_0 | 1 => Memref.whole cc0_stg55_1 | ⟨_ + 2, h⟩ => absurd h (Nat.not_lt.2 (Nat.le_add_left _ _))
abbrev sem0_55 : Fin 2 → DmaSem sig := fun | 0 => cc0_sem55_0 | 1 => cc0_sem55_1 | ⟨_ + 2, h⟩ => absurd h (Nat.not_lt.2 (Nat.le_add_left _ _))
abbrev reads0_55 : Fin grid0.rank → Bool := ![true]

abbrev stage0_56 : Fin 2 → Memref sig .tc .vmem S1x1x512x128 .f32 := fun | 0 => Memref.whole cc0_stg56_0 | 1 => Memref.whole cc0_stg56_1 | ⟨_ + 2, h⟩ => absurd h (Nat.not_lt.2 (Nat.le_add_left _ _))
abbrev sem0_56 : Fin 2 → DmaSem sig := fun | 0 => cc0_sem56_0 | 1 => cc0_sem56_1 | ⟨_ + 2, h⟩ => absurd h (Nat.not_lt.2 (Nat.le_add_left _ _))
abbrev reads0_56 : Fin grid0.rank → Bool := ![true]

abbrev stage0_57 : Fin 2 → Memref sig .tc .vmem S1x1x512x128 .f32 := fun | 0 => Memref.whole cc0_stg57_0 | 1 => Memref.whole cc0_stg57_1 | ⟨_ + 2, h⟩ => absurd h (Nat.not_lt.2 (Nat.le_add_left _ _))
abbrev sem0_57 : Fin 2 → DmaSem sig := fun | 0 => cc0_sem57_0 | 1 => cc0_sem57_1 | ⟨_ + 2, h⟩ => absurd h (Nat.not_lt.2 (Nat.le_add_left _ _))
abbrev reads0_57 : Fin grid0.rank → Bool := ![true]

abbrev stage0_58 : Fin 2 → Memref sig .tc .vmem S1x1x512x128 .f32 := fun | 0 => Memref.whole cc0_stg58_0 | 1 => Memref.whole cc0_stg58_1 | ⟨_ + 2, h⟩ => absurd h (Nat.not_lt.2 (Nat.le_add_left _ _))
abbrev sem0_58 : Fin 2 → DmaSem sig := fun | 0 => cc0_sem58_0 | 1 => cc0_sem58_1 | ⟨_ + 2, h⟩ => absurd h (Nat.not_lt.2 (Nat.le_add_left _ _))
abbrev reads0_58 : Fin grid0.rank → Bool := ![true]

abbrev stage0_59 : Fin 2 → Memref sig .tc .vmem S1x1x512x128 .f32 := fun | 0 => Memref.whole cc0_stg59_0 | 1 => Memref.whole cc0_stg59_1 | ⟨_ + 2, h⟩ => absurd h (Nat.not_lt.2 (Nat.le_add_left _ _))
abbrev sem0_59 : Fin 2 → DmaSem sig := fun | 0 => cc0_sem59_0 | 1 => cc0_sem59_1 | ⟨_ + 2, h⟩ => absurd h (Nat.not_lt.2 (Nat.le_add_left _ _))
abbrev reads0_59 : Fin grid0.rank → Bool := ![true]

abbrev stage0_60 : Fin 2 → Memref sig .tc .vmem S1x1x512x128 .f32 := fun | 0 => Memref.whole cc0_stg60_0 | 1 => Memref.whole cc0_stg60_1 | ⟨_ + 2, h⟩ => absurd h (Nat.not_lt.2 (Nat.le_add_left _ _))
abbrev sem0_60 : Fin 2 → DmaSem sig := fun | 0 => cc0_sem60_0 | 1 => cc0_sem60_1 | ⟨_ + 2, h⟩ => absurd h (Nat.not_lt.2 (Nat.le_add_left _ _))
abbrev reads0_60 : Fin grid0.rank → Bool := ![true]

abbrev stage0_61 : Fin 2 → Memref sig .tc .vmem S1x1x512x128 .f32 := fun | 0 => Memref.whole cc0_stg61_0 | 1 => Memref.whole cc0_stg61_1 | ⟨_ + 2, h⟩ => absurd h (Nat.not_lt.2 (Nat.le_add_left _ _))
abbrev sem0_61 : Fin 2 → DmaSem sig := fun | 0 => cc0_sem61_0 | 1 => cc0_sem61_1 | ⟨_ + 2, h⟩ => absurd h (Nat.not_lt.2 (Nat.le_add_left _ _))
abbrev reads0_61 : Fin grid0.rank → Bool := ![true]

abbrev stage0_62 : Fin 2 → Memref sig .tc .vmem S1x1x512x128 .f32 := fun | 0 => Memref.whole cc0_stg62_0 | 1 => Memref.whole cc0_stg62_1 | ⟨_ + 2, h⟩ => absurd h (Nat.not_lt.2 (Nat.le_add_left _ _))
abbrev sem0_62 : Fin 2 → DmaSem sig := fun | 0 => cc0_sem62_0 | 1 => cc0_sem62_1 | ⟨_ + 2, h⟩ => absurd h (Nat.not_lt.2 (Nat.le_add_left _ _))
abbrev reads0_62 : Fin grid0.rank → Bool := ![true]

abbrev stage0_63 : Fin 2 → Memref sig .tc .vmem S1x1x512x128 .f32 := fun | 0 => Memref.whole cc0_stg63_0 | 1 => Memref.whole cc0_stg63_1 | ⟨_ + 2, h⟩ => absurd h (Nat.not_lt.2 (Nat.le_add_left _ _))
abbrev sem0_63 : Fin 2 → DmaSem sig := fun | 0 => cc0_sem63_0 | 1 => cc0_sem63_1 | ⟨_ + 2, h⟩ => absurd h (Nat.not_lt.2 (Nat.le_add_left _ _))
abbrev reads0_63 : Fin grid0.rank → Bool := ![true]

abbrev stage0_64 : Fin 2 → Memref sig .tc .vmem S1x1x512x128 .f32 := fun | 0 => Memref.whole cc0_stg64_0 | 1 => Memref.whole cc0_stg64_1 | ⟨_ + 2, h⟩ => absurd h (Nat.not_lt.2 (Nat.le_add_left _ _))
abbrev sem0_64 : Fin 2 → DmaSem sig := fun | 0 => cc0_sem64_0 | 1 => cc0_sem64_1 | ⟨_ + 2, h⟩ => absurd h (Nat.not_lt.2 (Nat.le_add_left _ _))
abbrev reads0_64 : Fin grid0.rank → Bool := ![true]

abbrev stage0_65 : Fin 2 → Memref sig .tc .vmem S1x1x512x128 .f32 := fun | 0 => Memref.whole cc0_stg65_0 | 1 => Memref.whole cc0_stg65_1 | ⟨_ + 2, h⟩ => absurd h (Nat.not_lt.2 (Nat.le_add_left _ _))
abbrev sem0_65 : Fin 2 → DmaSem sig := fun | 0 => cc0_sem65_0 | 1 => cc0_sem65_1 | ⟨_ + 2, h⟩ => absurd h (Nat.not_lt.2 (Nat.le_add_left _ _))
abbrev reads0_65 : Fin grid0.rank → Bool := ![true]

abbrev stage0_66 : Fin 2 → Memref sig .tc .vmem S1x1x512x128 .f32 := fun | 0 => Memref.whole cc0_stg66_0 | 1 => Memref.whole cc0_stg66_1 | ⟨_ + 2, h⟩ => absurd h (Nat.not_lt.2 (Nat.le_add_left _ _))
abbrev sem0_66 : Fin 2 → DmaSem sig := fun | 0 => cc0_sem66_0 | 1 => cc0_sem66_1 | ⟨_ + 2, h⟩ => absurd h (Nat.not_lt.2 (Nat.le_add_left _ _))
abbrev reads0_66 : Fin grid0.rank → Bool := ![true]

abbrev stage0_67 : Fin 2 → Memref sig .tc .vmem S1x1x512x128 .f32 := fun | 0 => Memref.whole cc0_stg67_0 | 1 => Memref.whole cc0_stg67_1 | ⟨_ + 2, h⟩ => absurd h (Nat.not_lt.2 (Nat.le_add_left _ _))
abbrev sem0_67 : Fin 2 → DmaSem sig := fun | 0 => cc0_sem67_0 | 1 => cc0_sem67_1 | ⟨_ + 2, h⟩ => absurd h (Nat.not_lt.2 (Nat.le_add_left _ _))
abbrev reads0_67 : Fin grid0.rank → Bool := ![true]

abbrev stage0_68 : Fin 2 → Memref sig .tc .vmem S2x8x512 .f32 := fun | 0 => Memref.whole cc0_stg68_0 | 1 => Memref.whole cc0_stg68_1 | ⟨_ + 2, h⟩ => absurd h (Nat.not_lt.2 (Nat.le_add_left _ _))
abbrev sem0_68 : Fin 2 → DmaSem sig := fun | 0 => cc0_sem68_0 | 1 => cc0_sem68_1 | ⟨_ + 2, h⟩ => absurd h (Nat.not_lt.2 (Nat.le_add_left _ _))
abbrev reads0_68 : Fin grid0.rank → Bool := ![true]
-- ==== ReferenceIdeal.lean ====
abbrev S1024x512 : Shape := ⟨2, ![1024, 512]⟩
abbrev S2x2560x128x8x64 : Shape := ⟨5, ![2, 2560, 128, 8, 64]⟩
abbrev S128x16 : Shape := ⟨2, ![128, 16]⟩
abbrev S8 : Shape := ⟨1, ![8]⟩
abbrev S128x8x8x64 : Shape := ⟨4, ![128, 8, 8, 64]⟩
abbrev S1x2560x128x8x64 : Shape := ⟨5, ![1, 2560, 128, 8, 64]⟩
abbrev S2560x128x8x64 : Shape := ⟨4, ![2560, 128, 8, 64]⟩
abbrev S_ : Shape := ⟨0, ![]⟩
abbrev S128x16x1 : Shape := ⟨3, ![128, 16, 1]⟩
abbrev S128x16x128x8x64 : Shape := ⟨5, ![128, 16, 128, 8, 64]⟩
abbrev S128x2048x8x64 : Shape := ⟨4, ![128, 2048, 8, 64]⟩
abbrev S128x2056x8x64 : Shape := ⟨4, ![128, 2056, 8, 64]⟩
abbrev S128x8x8x2056 : Shape := ⟨4, ![128, 8, 8, 2056]⟩
abbrev S1x8x1x1 : Shape := ⟨4, ![1, 8, 1, 1]⟩
abbrev S2056 : Shape := ⟨1, ![2056]⟩
abbrev S1x2056 : Shape := ⟨2, ![1, 2056]⟩
abbrev S8x1 : Shape := ⟨2, ![8, 1]⟩
abbrev S8x2056 : Shape := ⟨2, ![8, 2056]⟩
abbrev S128x8x64x8 : Shape := ⟨4, ![128, 8, 64, 8]⟩

abbrev nBuf : Space → Nat
  | .hbm => 102
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S2x2560x128x8x64, .f32⟩
  | .hbm, ⟨4, _⟩ => ⟨S2x2560x128x8x64, .f32⟩
  | .hbm, ⟨5, _⟩ => ⟨S128x16, .i32⟩
  | .hbm, ⟨6, _⟩ => ⟨S8, .f32⟩
  | .hbm, ⟨7, _⟩ => ⟨S128x8x8x64, .f32⟩
  | .hbm, ⟨8, _⟩ => ⟨S1x2560x128x8x64, .f32⟩
  | .hbm, ⟨9, _⟩ => ⟨S2560x128x8x64, .f32⟩
  | .hbm, ⟨10, _⟩ => ⟨S_, .i32⟩
  | .hbm, ⟨11, _⟩ => ⟨S128x16, .i32⟩
  | .hbm, ⟨12, _⟩ => ⟨S128x16, .i1⟩
  | .hbm, ⟨13, _⟩ => ⟨S_, .i32⟩
  | .hbm, ⟨14, _⟩ => ⟨S128x16, .i32⟩
  | .hbm, ⟨15, _⟩ => ⟨S128x16, .i32⟩
  | .hbm, ⟨16, _⟩ => ⟨S128x16, .i32⟩
  | .hbm, ⟨17, _⟩ => ⟨S128x16x1, .i32⟩
  | .hbm, ⟨18, _⟩ => ⟨S128x16x128x8x64, .f32⟩
  | .hbm, ⟨19, _⟩ => ⟨S128x2048x8x64, .f32⟩
  | .hbm, ⟨20, _⟩ => ⟨S1x2560x128x8x64, .f32⟩
  | .hbm, ⟨21, _⟩ => ⟨S2560x128x8x64, .f32⟩
  | .hbm, ⟨22, _⟩ => ⟨S_, .i32⟩
  | .hbm, ⟨23, _⟩ => ⟨S128x16, .i32⟩
  | .hbm, ⟨24, _⟩ => ⟨S128x16, .i1⟩
  | .hbm, ⟨25, _⟩ => ⟨S_, .i32⟩
  | .hbm, ⟨26, _⟩ => ⟨S128x16, .i32⟩
  | .hbm, ⟨27, _⟩ => ⟨S128x16, .i32⟩
  | .hbm, ⟨28, _⟩ => ⟨S128x16, .i32⟩
  | .hbm, ⟨29, _⟩ => ⟨S128x16x1, .i32⟩
  | .hbm, ⟨30, _⟩ => ⟨S128x16x128x8x64, .f32⟩
  | .hbm, ⟨31, _⟩ => ⟨S128x2048x8x64, .f32⟩
  | .hbm, ⟨32, _⟩ => ⟨S128x8x8x64, .f32⟩
  | .hbm, ⟨33, _⟩ => ⟨S128x2056x8x64, .f32⟩
  | .hbm, ⟨34, _⟩ => ⟨S128x8x8x64, .f32⟩
  | .hbm, ⟨35, _⟩ => ⟨S128x2056x8x64, .f32⟩
  | .hbm, ⟨36, _⟩ => ⟨S128x8x8x2056, .f32⟩
  | .hbm, ⟨37, _⟩ => ⟨S1x8x1x1, .f32⟩
  | .hbm, ⟨38, _⟩ => ⟨S128x8x8x2056, .f32⟩
  | .hbm, ⟨39, _⟩ => ⟨S128x8x8x2056, .f32⟩
  | .hbm, ⟨40, _⟩ => ⟨S2056, .i32⟩
  | .hbm, ⟨41, _⟩ => ⟨S1x2056, .i32⟩
  | .hbm, ⟨42, _⟩ => ⟨S8, .i32⟩
  | .hbm, ⟨43, _⟩ => ⟨S_, .i32⟩
  | .hbm, ⟨44, _⟩ => ⟨S8, .i32⟩
  | .hbm, ⟨45, _⟩ => ⟨S8, .i32⟩
  | .hbm, ⟨46, _⟩ => ⟨S8x1, .i32⟩
  | .hbm, ⟨47, _⟩ => ⟨S8x2056, .i32⟩
  | .hbm, ⟨48, _⟩ => ⟨S8x2056, .i32⟩
  | .hbm, ⟨49, _⟩ => ⟨S8x2056, .i1⟩
  | .hbm, ⟨50, _⟩ => ⟨S128x8x8x2056, .f32⟩
  | .hbm, ⟨51, _⟩ => ⟨S_, .f32⟩
  | .hbm, ⟨52, _⟩ => ⟨S128x8x8x2056, .f32⟩
  | .hbm, ⟨53, _⟩ => ⟨S128x8x8x2056, .f32⟩
  | .hbm, ⟨54, _⟩ => ⟨S128x8x8x2056, .f32⟩
  | .hbm, ⟨55, _⟩ => ⟨S128x8x8x2056, .f32⟩
  | .hbm, ⟨56, _⟩ => ⟨S128x8x8x2056, .i1⟩
  | .hbm, ⟨57, _⟩ => ⟨S128x8x8x2056, .f32⟩
  | .hbm, ⟨58, _⟩ => ⟨S128x8x8x2056, .f32⟩
  | .hbm, ⟨59, _⟩ => ⟨S128x8x8x2056, .f32⟩
  | .hbm, ⟨60, _⟩ => ⟨S128x8x8x2056, .f32⟩
  | .hbm, ⟨61, _⟩ => ⟨S128x8x8x2056, .f32⟩
  | .hbm, ⟨62, _⟩ => ⟨S128x8x8x2056, .f32⟩
  | .hbm, ⟨63, _⟩ => ⟨S128x8x8x2056, .f32⟩
  | .hbm, ⟨64, _⟩ => ⟨S128x8x8x2056, .f32⟩
  | .hbm, ⟨65, _⟩ => ⟨S128x8x8x2056, .f32⟩
  | .hbm, ⟨66, _⟩ => ⟨S_, .f32⟩
  | .hbm, ⟨67, _⟩ => ⟨S_, .f32⟩
  | .hbm, ⟨68, _⟩ => ⟨S128x8x8x2056, .i1⟩
  | .hbm, ⟨69, _⟩ => ⟨S128x8x8x2056, .f32⟩
  | .hbm, ⟨70, _⟩ => ⟨S128x8x8x2056, .f32⟩
  | .hbm, ⟨71, _⟩ => ⟨S128x8x8x2056, .f32⟩
  | .hbm, ⟨72, _⟩ => ⟨S128x8x8x2056, .f32⟩
  | .hbm, ⟨73, _⟩ => ⟨S_, .f32⟩
  | .hbm, ⟨74, _⟩ => ⟨S128x8x8x2056, .f32⟩
  | .hbm, ⟨75, _⟩ => ⟨S128x8x8x2056, .f32⟩
  | .hbm, ⟨76, _⟩ => ⟨S128x8x8x2056, .f32⟩
  | .hbm, ⟨77, _⟩ => ⟨S128x8x8x2056, .f32⟩
  | .hbm, ⟨78, _⟩ => ⟨S128x8x8x2056, .i1⟩
  | .hbm, ⟨79, _⟩ => ⟨S128x8x8x2056, .f32⟩
  | .hbm, ⟨80, _⟩ => ⟨S128x8x8x2056, .f32⟩
  | .hbm, ⟨81, _⟩ => ⟨S128x8x8x2056, .f32⟩
  | .hbm, ⟨82, _⟩ => ⟨S128x8x8x2056, .f32⟩
  | .hbm, ⟨83, _⟩ => ⟨S128x8x8x2056, .f32⟩
  | .hbm, ⟨84, _⟩ => ⟨S128x8x8x2056, .f32⟩
  | .hbm, ⟨85, _⟩ => ⟨S128x8x8x2056, .f32⟩
  | .hbm, ⟨86, _⟩ => ⟨S128x8x8x2056, .f32⟩
  | .hbm, ⟨87, _⟩ => ⟨S128x8x8x2056, .f32⟩
  | .hbm, ⟨88, _⟩ => ⟨S_, .f32⟩
  | .hbm, ⟨89, _⟩ => ⟨S_, .f32⟩
  | .hbm, ⟨90, _⟩ => ⟨S128x8x8x2056, .i1⟩
  | .hbm, ⟨91, _⟩ => ⟨S128x8x8x2056, .f32⟩
  | .hbm, ⟨92, _⟩ => ⟨S128x8x8x2056, .f32⟩
  | .hbm, ⟨93, _⟩ => ⟨S_, .f32⟩
  | .hbm, ⟨94, _⟩ => ⟨S_, .f32⟩
  | .hbm, ⟨95, _⟩ => ⟨S128x8x8x2056, .f32⟩
  | .hbm, ⟨96, _⟩ => ⟨S128x8x8x2056, .f32⟩
  | .hbm, ⟨97, _⟩ => ⟨S128x8x8x2056, .f32⟩
  | .hbm, ⟨98, _⟩ => ⟨S128x8x8x2056, .f32⟩
  | .hbm, ⟨99, _⟩ => ⟨S128x8x64x8, .f32⟩
  | .hbm, ⟨100, _⟩ => ⟨S128x8x8x64, .f32⟩
  | .hbm, ⟨101, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_call0_v0 : Ref sig .tc := ⟨.hbm, 50, rfl⟩
abbrev main_call0_call0_cst : Ref sig .tc := ⟨.hbm, 51, rfl⟩
abbrev main_call0_call0_v0 : Ref sig .tc := ⟨.hbm, 52, rfl⟩
abbrev main_call0_call0_v1 : Ref sig .tc := ⟨.hbm, 53, rfl⟩
abbrev main_call0_call0_v2 : Ref sig .tc := ⟨.hbm, 54, rfl⟩
abbrev main_call0_call0_v3 : Ref sig .tc := ⟨.hbm, 55, rfl⟩
abbrev main_call0_call0_v4 : Ref sig .tc := ⟨.hbm, 56, rfl⟩
abbrev main_call0_call0_v5 : Ref sig .tc := ⟨.hbm, 57, rfl⟩
abbrev main_call0_call0_v6 : Ref sig .tc := ⟨.hbm, 58, rfl⟩
abbrev main_call0_call0_v7 : Ref sig .tc := ⟨.hbm, 59, rfl⟩
abbrev main_call0_call0_v8 : Ref sig .tc := ⟨.hbm, 60, rfl⟩
abbrev main_call0_call0_v9 : Ref sig .tc := ⟨.hbm, 61, rfl⟩
abbrev main_call0_call0_v10 : Ref sig .tc := ⟨.hbm, 62, rfl⟩
abbrev main_call0_call0_v11 : Ref sig .tc := ⟨.hbm, 63, rfl⟩
abbrev main_call0_v1 : Ref sig .tc := ⟨.hbm, 64, rfl⟩
abbrev main_v38 : Ref sig .tc := ⟨.hbm, 65, rfl⟩
abbrev main_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v39 : Ref sig .tc := ⟨.hbm, 70, rfl⟩
abbrev main_v40 : Ref sig .tc := ⟨.hbm, 71, rfl⟩
abbrev main_call2_v0 : Ref sig .tc := ⟨.hbm, 72, rfl⟩
abbrev main_call2_call0_cst : Ref sig .tc := ⟨.hbm, 73, rfl⟩
abbrev main_call2_call0_v0 : Ref sig .tc := ⟨.hbm, 74, rfl⟩
abbrev main_call2_call0_v1 : Ref sig .tc := ⟨.hbm, 75, rfl⟩
abbrev main_call2_call0_v2 : Ref sig .tc := ⟨.hbm, 76, rfl⟩
abbrev main_call2_call0_v3 : Ref sig .tc := ⟨.hbm, 77, rfl⟩
abbrev main_call2_call0_v4 : Ref sig .tc := ⟨.hbm, 78, rfl⟩
abbrev main_call2_call0_v5 : Ref sig .tc := ⟨.hbm, 79, rfl⟩
abbrev main_call2_call0_v6 : Ref sig .tc := ⟨.hbm, 80, rfl⟩
abbrev main_call2_call0_v7 : Ref sig .tc := ⟨.hbm, 81, rfl⟩
abbrev main_call2_call0_v8 : Ref sig .tc := ⟨.hbm, 82, rfl⟩
abbrev main_call2_call0_v9 : Ref sig .tc := ⟨.hbm, 83, rfl⟩
abbrev main_call2_call0_v10 : Ref sig .tc := ⟨.hbm, 84, rfl⟩
abbrev main_call2_call0_v11 : Ref sig .tc := ⟨.hbm, 85, rfl⟩
abbrev main_call2_v1 : Ref sig .tc := ⟨.hbm, 86, rfl⟩
abbrev main_v41 : Ref sig .tc := ⟨.hbm, 87, rfl⟩
abbrev main_cst_4 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v42 : Ref sig .tc := ⟨.hbm, 92, rfl⟩
abbrev main_call4_cst : Ref sig .tc := ⟨.hbm, 93, rfl⟩
abbrev main_call4_v0 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩

abbrev nD : Nat := 1
abbrev τ : Topo := Topo.v7x

variable {F : FTy → Type} [FloatOps F]
-- ==== Kernel2.lean ====
abbrev S16384x1024 : Shape := ⟨2, ![16384, 1024]⟩
abbrev S16384x256 : Shape := ⟨2, ![16384, 256]⟩
abbrev S16384x768 : Shape := ⟨2, ![16384, 768]⟩
abbrev S4x2x256 : Shape := ⟨3, ![4, 2, 256]⟩
abbrev S4x16x512x256 : Shape := ⟨4, ![4, 16, 512, 256]⟩
abbrev S2x16384x256 : Shape := ⟨3, ![2, 16384, 256]⟩
abbrev S256 : Shape := ⟨1, ![256]⟩
abbrev S3x256 : Shape := ⟨2, ![3, 256]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S256x1024 : Shape := ⟨2, ![256, 1024]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1x1024 : Shape := ⟨2, ![1, 1024]⟩
abbrev S512x1024 : Shape := ⟨2, ![512, 1024]⟩
abbrev S512x256 : Shape := ⟨2, ![512, 256]⟩
abbrev S8x256 : Shape := ⟨2, ![8, 256]⟩
abbrev S1x2x256 : Shape := ⟨3, ![1, 2, 256]⟩
abbrev S1x2x512x256 : Shape := ⟨4, ![1, 2, 512, 256]⟩
abbrev S1x512x256 : Shape := ⟨3, ![1, 512, 256]⟩
abbrev S2x256 : Shape := ⟨2, ![2, 256]⟩
abbrev S1x1x512x256 : Shape := ⟨4, ![1, 1, 512, 256]⟩
abbrev S256x512 : Shape := ⟨2, ![256, 512]⟩
abbrev S512 : Shape := ⟨1, ![512]⟩
abbrev S512x1 : Shape := ⟨2, ![512, 1]⟩

abbrev nBuf : Space → Nat
  | .hbm => 58
  | .vmem => 37
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x768, .f32⟩
  | .hbm, ⟨5, _⟩ => ⟨S4x2x256, .f32⟩
  | .hbm, ⟨6, _⟩ => ⟨S4x16x512x256, .f32⟩
  | .hbm, ⟨7, _⟩ => ⟨S2x16384x256, .f32⟩
  | .hbm, ⟨8, _⟩ => ⟨S256, .f32⟩
  | .hbm, ⟨9, _⟩ => ⟨S256, .f32⟩
  | .hbm, ⟨10, _⟩ => ⟨S3x256, .f32⟩
  | .hbm, ⟨11, _⟩ => ⟨S1024, .f32⟩
  | .hbm, ⟨12, _⟩ => ⟨S1024, .f32⟩
  | .hbm, ⟨13, _⟩ => ⟨S1024x1024, .f32⟩
  | .hbm, ⟨14, _⟩ => ⟨S1024x4096, .f32⟩
  | .hbm, ⟨15, _⟩ => ⟨S4096x1024, .f32⟩
  | .hbm, ⟨16, _⟩ => ⟨S1024x1024, .f32⟩
  | .hbm, ⟨17, _⟩ => ⟨S256x1024, .f32⟩
  | .hbm, ⟨18, _⟩ => ⟨S1024x1024, .bf16⟩
  | .hbm, ⟨19, _⟩ => ⟨S1024x4096, .bf16⟩
  | .hbm, ⟨20, _⟩ => ⟨S4096x1024, .bf16⟩
  | .hbm, ⟨21, _⟩ => ⟨S1024x1024, .bf16⟩
  | .hbm, ⟨22, _⟩ => ⟨S256x1024, .bf16⟩
  | .hbm, ⟨23, _⟩ => ⟨S256, .i32⟩
  | .hbm, ⟨24, _⟩ => ⟨S_, .i32⟩
  | .hbm, ⟨25, _⟩ => ⟨S_, .i32⟩
  | .hbm, ⟨26, _⟩ => ⟨S256, .i32⟩
  | .hbm, ⟨27, _⟩ => ⟨S256, .i32⟩
  | .hbm, ⟨28, _⟩ => ⟨S256, .i32⟩
  | .hbm, ⟨29, _⟩ => ⟨S_, .i32⟩
  | .hbm, ⟨30, _⟩ => ⟨S256, .i32⟩
  | .hbm, ⟨31, _⟩ => ⟨S256, .i1⟩
  | .hbm, ⟨32, _⟩ => ⟨S256, .i32⟩
  | .hbm, ⟨33, _⟩ => ⟨S256, .i32⟩
  | .hbm, ⟨34, _⟩ => ⟨S_, .i32⟩
  | .hbm, ⟨35, _⟩ => ⟨S256, .i32⟩
  | .hbm, ⟨36, _⟩ => ⟨S256, .i1⟩
  | .hbm, ⟨37, _⟩ => ⟨S256, .i1⟩
  | .hbm, ⟨38, _⟩ => ⟨S_, .i32⟩
  | .hbm, ⟨39, _⟩ => ⟨S256, .i32⟩
  | .hbm, ⟨40, _⟩ => ⟨S256, .i32⟩
  | .hbm, ⟨41, _⟩ => ⟨S256, .i32⟩
  | .hbm, ⟨42, _⟩ => ⟨S256x1, .i32⟩
  | .hbm, ⟨43, _⟩ => ⟨S1x256, .i32⟩
  | .hbm, ⟨44, _⟩ => ⟨S256x256, .i32⟩
  | .hbm, ⟨45, _⟩ => ⟨S256x256, .i32⟩
  | .hbm, ⟨46, _⟩ => ⟨S256x256, .i1⟩
  | .hbm, ⟨47, _⟩ => ⟨S_, .f32⟩
  | .hbm, ⟨48, _⟩ => ⟨S_, .f32⟩
  | .hbm, ⟨49, _⟩ => ⟨S256x256, .f32⟩
  | .hbm, ⟨50, _⟩ => ⟨S256x256, .f32⟩
  | .hbm, ⟨51, _⟩ => ⟨S256x256, .f32⟩
  | .hbm, ⟨52, _⟩ => ⟨S256x256, .bf16⟩
  | .hbm, ⟨53, _⟩ => ⟨S1x256, .f32⟩
  | .hbm, ⟨54, _⟩ => ⟨S1x256, .f32⟩
  | .hbm, ⟨55, _⟩ => ⟨S1x1024, .f32⟩
  | .hbm, ⟨56, _⟩ => ⟨S1x1024, .f32⟩
  | .hbm, ⟨57, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S8x256, .f32⟩
  | .local _ .vmem, ⟨15, _⟩ => ⟨S8x256, .f32⟩
  | .local _ .vmem, ⟨16, _⟩ => ⟨S8x256, .f32⟩
  | .local _ .vmem, ⟨17, _⟩ => ⟨S8x256, .f32⟩
  | .local _ .vmem, ⟨18, _⟩ => ⟨S1x2x256, .f32⟩
  | .local _ .vmem, ⟨19, _⟩ => ⟨S1x2x256, .f32⟩
  | .local _ .vmem, ⟨20, _⟩ => ⟨S1x2x512x256, .f32⟩
  | .local _ .vmem, ⟨21, _⟩ => ⟨S1x2x512x256, .f32⟩
  | .local _ .vmem, ⟨22, _⟩ => ⟨S1x512x256, .f32⟩
  | .local _ .vmem, ⟨23, _⟩ => ⟨S1x512x256, .f32⟩
  | .local _ .vmem, ⟨24, _⟩ => ⟨S1x256, .f32⟩
  | .local _ .vmem, ⟨25, _⟩ => ⟨S1x256, .f32⟩
  | .local _ .vmem, ⟨26, _⟩ => ⟨S3x256, .f32⟩
  | .local _ .vmem, ⟨27, _⟩ => ⟨S256x256, .bf16⟩
  | .local _ .vmem, ⟨28, _⟩ => ⟨S1024x1024, .bf16⟩
  | .local _ .vmem, ⟨29, _⟩ => ⟨S1x1024, .f32⟩
  | .local _ .vmem, ⟨30, _⟩ => ⟨S1024x4096, .bf16⟩
  | .local _ .vmem, ⟨31, _⟩ => ⟨S4096x1024, .bf16⟩
  | .local _ .vmem, ⟨32, _⟩ => ⟨S1x1024, .f32⟩
  | .local _ .vmem, ⟨33, _⟩ => ⟨S1024x1024, .bf16⟩
  | .local _ .vmem, ⟨34, _⟩ => ⟨S256x1024, .bf16⟩
  | .local _ .vmem, ⟨35, _⟩ => ⟨S512x1024, .f32⟩
  | .local _ .vmem, ⟨36, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_cst : Ref sig .tc := ⟨.hbm, 47, rfl⟩
abbrev main_cst_0 : Ref sig .tc := ⟨.hbm, 48, rfl⟩
abbrev main_call1_v0 : Ref sig .tc := ⟨.hbm, 49, rfl⟩
abbrev main_call1_v1 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_stg21_0 : Ref sig .tc := ⟨.vmem, 33, rfl⟩
abbrev cc0_stg22_0 : Ref sig .tc := ⟨.vmem, 34, rfl⟩
abbrev cc0_stg23_0 : Ref sig .tc := ⟨.vmem, 35, rfl⟩
abbrev cc0_stg23_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem19_0 : DmaSem sig := 31
abbrev cc0_sem20_0 : DmaSem sig := 32
abbrev cc0_sem21_0 : DmaSem sig := 33
abbrev cc0_sem22_0 : DmaSem sig := 34
abbrev cc0_sem23_0 : DmaSem sig := 35
abbrev cc0_sem23_1 : DmaSem sig := 36

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S3x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1024x4096 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S4096x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1024x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S256x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 2 → Memref sig .tc .vmem S512x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, false]
-- ==== Reference2Ideal.lean ====
abbrev S16384x1024 : Shape := ⟨2, ![16384, 1024]⟩
abbrev S16384x256 : Shape := ⟨2, ![16384, 256]⟩
abbrev S16384x768 : Shape := ⟨2, ![16384, 768]⟩
abbrev S4x2x256 : Shape := ⟨3, ![4, 2, 256]⟩
abbrev S4x16x512x256 : Shape := ⟨4, ![4, 16, 512, 256]⟩
abbrev S2x16384x256 : Shape := ⟨3, ![2, 16384, 256]⟩
abbrev S256 : Shape := ⟨1, ![256]⟩
abbrev S3x256 : Shape := ⟨2, ![3, 256]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S256x1024 : Shape := ⟨2, ![256, 1024]⟩
abbrev S16384x4x64 : Shape := ⟨3, ![16384, 4, 64]⟩
abbrev S_ : Shape := ⟨0, ![]⟩
abbrev S16384x4 : Shape := ⟨2, ![16384, 4]⟩
abbrev S16384x4x1 : Shape := ⟨3, ![16384, 4, 1]⟩
abbrev S1x256 : Shape := ⟨2, ![1, 256]⟩
abbrev S4x4096x768 : Shape := ⟨3, ![4, 4096, 768]⟩
abbrev S4x4096x256 : Shape := ⟨3, ![4, 4096, 256]⟩
abbrev S4x4098x256 : Shape := ⟨3, ![4, 4098, 256]⟩
abbrev S1x1x256 : Shape := ⟨3, ![1, 1, 256]⟩
abbrev S4x16x256x512 : Shape := ⟨4, ![4, 16, 256, 512]⟩
abbrev S16384x512 : Shape := ⟨2, ![16384, 512]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩
abbrev S1x16384x256 : Shape := ⟨3, ![1, 16384, 256]⟩

abbrev nBuf : Space → Nat
  | .hbm => 137
  | .vmem => 0
  | .smem => 0
  | _ => 0

abbrev hbmTy0_0 (i : Nat) : BufTy := match i % 128 with
  | 0 => ⟨S16384x1024, .f32⟩
  | 1 => ⟨S16384x256, .f32⟩
  | 2 => ⟨S16384x256, .f32⟩
  | 3 => ⟨S16384x256, .f32⟩
  | 4 => ⟨S16384x768, .f32⟩
  | 5 => ⟨S4x2x256, .f32⟩
  | 6 => ⟨S4x16x512x256, .f32⟩
  | 7 => ⟨S2x16384x256, .f32⟩
  | 8 => ⟨S256, .f32⟩
  | 9 => ⟨S256, .f32⟩
  | 10 => ⟨S3x256, .f32⟩
  | 11 => ⟨S1024, .f32⟩
  | 12 => ⟨S1024, .f32⟩
  | 13 => ⟨S1024x1024, .f32⟩
  | 14 => ⟨S1024x4096, .f32⟩
  | 15 => ⟨S4096x1024, .f32⟩
  | 16 => ⟨S1024x1024, .f32⟩
  | 17 => ⟨S256x1024, .f32⟩
  | 18 => ⟨S16384x4x64, .f32⟩
  | 19 => ⟨S_, .f32⟩
  | 20 => ⟨S16384x4, .f32⟩
  | 21 => ⟨S16384x4x1, .f32⟩
  | 22 => ⟨S_, .f32⟩
  | 23 => ⟨S16384x4x1, .f32⟩
  | 24 => ⟨S16384x4x1, .f32⟩
  | 25 => ⟨S16384x4x64, .f32⟩
  | 26 => ⟨S16384x4x64, .f32⟩
  | 27 => ⟨S16384x4x64, .f32⟩
  | 28 => ⟨S_, .f32⟩
  | 29 => ⟨S16384x4, .f32⟩
  | 30 => ⟨S16384x4x1, .f32⟩
  | 31 => ⟨S_, .f32⟩
  | 32 => ⟨S16384x4x1, .f32⟩
  | 33 => ⟨S16384x4x1, .f32⟩
  | 34 => ⟨S16384x4x64, .f32⟩
  | 35 => ⟨S16384x4x64, .f32⟩
  | 36 => ⟨S_, .f32⟩
  | 37 => ⟨S16384x4x1, .f32⟩
  | 38 => ⟨S16384x4x1, .f32⟩
  | 39 => ⟨S16384x4x1, .f32⟩
  | 40 => ⟨S16384x4x64, .f32⟩
  | 41 => ⟨S16384x4x64, .f32⟩
  | 42 => ⟨S16384x256, .f32⟩
  | 43 => ⟨S1x256, .f32⟩
  | 44 => ⟨S16384x256, .f32⟩
  | 45 => ⟨S16384x256, .f32⟩
  | 46 => ⟨S1x256, .f32⟩
  | 47 => ⟨S16384x256, .f32⟩
  | 48 => ⟨S16384x256, .f32⟩
  | 49 => ⟨S16384x256, .f32⟩
  | 50 => ⟨S16384x256, .f32⟩
  | 51 => ⟨S4x4096x768, .f32⟩
  | 52 => ⟨S4x4096x256, .f32⟩
  | 53 => ⟨S4x4096x256, .f32⟩
  | 54 => ⟨S4x4096x256, .f32⟩
  | 55 => ⟨S4x4096x256, .f32⟩
  | 56 => ⟨S4x4098x256, .f32⟩
  | 57 => ⟨S1x256, .f32⟩
  | 58 => ⟨S256, .f32⟩
  | 59 => ⟨S4x4096x256, .f32⟩
  | 60 => ⟨S1x1x256, .f32⟩
  | 61 => ⟨S4x4096x256, .f32⟩
  | 62 => ⟨S4x4096x256, .f32⟩
  | 63 => ⟨S1x256, .f32⟩
  | 64 => ⟨S256, .f32⟩
  | 65 => ⟨S4x4096x256, .f32⟩
  | 66 => ⟨S1x1x256, .f32⟩
  | 67 => ⟨S4x4096x256, .f32⟩
  | 68 => ⟨S4x4096x256, .f32⟩
  | 69 => ⟨S4x4096x256, .f32⟩
  | 70 => ⟨S1x256, .f32⟩
  | 71 => ⟨S256, .f32⟩
  | 72 => ⟨S4x4096x256, .f32⟩
  | 73 => ⟨S1x1x256, .f32⟩
  | 74 => ⟨S4x4096x256, .f32⟩
  | 75 => ⟨S4x4096x256, .f32⟩
  | 76 => ⟨S4x4096x256, .f32⟩
  | 77 => ⟨S4x4096x256, .f32⟩
  | 78 => ⟨S16384x256, .f32⟩
  | 79 => ⟨S4x16x256x512, .f32⟩
  | 80 => ⟨S16384x512, .f32⟩
  | 81 => ⟨S16384x1024, .f32⟩
  | 82 => ⟨S16384x1024, .f32⟩
  | 83 => ⟨S16384x1024, .f32⟩
  | 84 => ⟨S16384x1024, .f32⟩
  | 85 => ⟨S_, .f32⟩
  | 86 => ⟨S16384, .f32⟩
  | 87 => ⟨S16384x1, .f32⟩
  | 88 => ⟨S_, .f32⟩
  | 89 => ⟨S16384x1, .f32⟩
  | 90 => ⟨S16384x1, .f32⟩
  | 91 => ⟨S_, .f32⟩
  | 92 => ⟨S16384x1, .f32⟩
  | 93 => ⟨S16384x1, .f32⟩
  | 94 => ⟨S16384x1, .f32⟩
  | 95 => ⟨S16384x1024, .f32⟩
  | 96 => ⟨S16384x1024, .f32⟩
  | 97 => ⟨S1x1024, .f32⟩
  | 98 => ⟨S16384x1024, .f32⟩
  | 99 => ⟨S16384x1024, .f32⟩
  | 100 => ⟨S16384x4096, .f32⟩
  | 101 => ⟨S_, .f32⟩
  | 102 => ⟨S16384x4096, .f32⟩
  | 103 => ⟨S16384x4096, .f32⟩
  | 104 => ⟨S16384x4096, .f32⟩
  | 105 => ⟨S16384x1024, .f32⟩
  | 106 => ⟨S16384x1024, .f32⟩
  | 107 => ⟨S16384x1024, .f32⟩
  | 108 => ⟨S_, .f32⟩
  | 109 => ⟨S16384, .f32⟩
  | 110 => ⟨S16384x1, .f32⟩
  | 111 => ⟨S_, .f32⟩
  | 112 => ⟨S16384x1, .f32⟩
  | 113 => ⟨S16384x1, .f32⟩
  | 114 => ⟨S_, .f32⟩
  | 115 => ⟨S16384x1, .f32⟩
  | 116 => ⟨S16384x1, .f32⟩
  | 117 => ⟨S16384x1, .f32⟩
  | 118 => ⟨S16384x1024, .f32⟩
  | 119 => ⟨S16384x1024, .f32⟩
  | 120 => ⟨S1x1024, .f32⟩
  | 121 => ⟨S16384x1024, .f32⟩
  | 122 => ⟨S16384x1024, .f32⟩
  | 123 => ⟨S16384x1024, .f32⟩
  | 124 => ⟨S16384x1024, .f32⟩
  | 125 => ⟨S16384x1024, .f32⟩
  | 126 => ⟨S_, .f32⟩
  | 127 => ⟨S16384x1024, .f32⟩
  | _ => ⟨S16384x1024, .f32⟩

abbrev hbmTy0_1 (i : Nat) : BufTy := match i % 128 with
  | 0 => ⟨S16384x1024, .f32⟩
  | 1 => ⟨S_, .f32⟩
  | 2 => ⟨S16384x1024, .f32⟩
  | 3 => ⟨S16384x1024, .f32⟩
  | 4 => ⟨S1x16384x256, .f32⟩
  | 5 => ⟨S16384x256, .f32⟩
  | 6 => ⟨S16384x1024, .f32⟩
  | 7 => ⟨S16384x1024, .f32⟩
  | 8 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_4 : Ref sig .tc := ⟨.hbm, 85, rfl⟩
abbrev main_v62 : Ref sig .tc := ⟨.hbm, 86, rfl⟩
abbrev main_v63 : Ref sig .tc := ⟨.hbm, 87, rfl⟩
abbrev main_cst_5 : Ref sig .tc := ⟨.hbm, 88, rfl⟩
abbrev main_v64 : Ref sig .tc := ⟨.hbm, 89, rfl⟩
abbrev main_v65 : Ref sig .tc := ⟨.hbm, 90, rfl⟩
abbrev main_cst_6 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_call0_cst : Ref sig .tc := ⟨.hbm, 101, rfl⟩
abbrev main_call0_v0 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_7 : Ref sig .tc := ⟨.hbm, 108, rfl⟩
abbrev main_v80 : Ref sig .tc := ⟨.hbm, 109, rfl⟩
abbrev main_v81 : Ref sig .tc := ⟨.hbm, 110, rfl⟩
abbrev main_cst_8 : Ref sig .tc := ⟨.hbm, 111, rfl⟩
abbrev main_v82 : Ref sig .tc := ⟨.hbm, 112, rfl⟩
abbrev main_v83 : Ref sig .tc := ⟨.hbm, 113, rfl⟩
abbrev main_cst_9 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_10 : Ref sig .tc := ⟨.hbm, 126, rfl⟩
abbrev main_v95 : Ref sig .tc := ⟨.hbm, 127, rfl⟩
abbrev main_v96 : Ref sig .tc := ⟨.hbm, 128, rfl⟩
abbrev main_cst_11 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩

abbrev nD : Nat := 1
abbrev τ : Topo := Topo.v7x

variable {F : FTy → Type} [FloatOps F]
-- ==== Kernel3.lean ====
abbrev S16384x768 : Shape := ⟨2, ![16384, 768]⟩
abbrev S4x4096x768 : Shape := ⟨3, ![4, 4096, 768]⟩
abbrev S4x8x256 : Shape := ⟨3, ![4, 8, 256]⟩
abbrev S4x8x768 : Shape := ⟨3, ![4, 8, 768]⟩

abbrev nBuf : Space → Nat
  | .hbm => 3
  | .vmem => 2
  | .smem => 0
  | _ => 0

abbrev bufTy : (tb : Table) → Fin (tcTables nBuf tb) → BufTy
  | .hbm, ⟨0, _⟩ => ⟨S16384x768, .f32⟩
  | .hbm, ⟨1, _⟩ => ⟨S4x4096x768, .f32⟩
  | .hbm, ⟨2, _⟩ => ⟨S4x8x256, .f32⟩
  | .local _ .vmem, ⟨0, _⟩ => ⟨S4x8x768, .f32⟩
  | .local _ .vmem, ⟨1, _⟩ => ⟨S4x8x256, .f32⟩
  | _, _ => ⟨S16384x768, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c511_i32 : BitVec 32 := 511#32
  let c0_i32_0 : BitVec 32 := 0#32
  let c0_i32_1 : BitVec 32 := 0#32
  ![c0_i32.toNat, c511_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S4x8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference3Ideal.lean ====
abbrev S16384x768 : Shape := ⟨2, ![16384, 768]⟩
abbrev S4x4096x768 : Shape := ⟨3, ![4, 4096, 768]⟩
abbrev S4x4096x256 : Shape := ⟨3, ![4, 4096, 256]⟩
abbrev S4x8x256 : Shape := ⟨3, ![4, 8, 256]⟩

abbrev nBuf : Space → Nat
  | .hbm => 7
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S4x4096x768, .f32⟩
  | .hbm, ⟨2, _⟩ => ⟨S4x4096x256, .f32⟩
  | .hbm, ⟨3, _⟩ => ⟨S4x4096x256, .f32⟩
  | .hbm, ⟨4, _⟩ => ⟨S4x4096x256, .f32⟩
  | .hbm, ⟨5, _⟩ => ⟨S4x4096x256, .f32⟩
  | .hbm, ⟨6, _⟩ => ⟨S4x8x256, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩

abbrev nD : Nat := 1
abbrev τ : Topo := Topo.v7x

variable {F : FTy → Type} [FloatOps F]
-- ==== Kernel4.lean ====
abbrev S16384x1024 : Shape := ⟨2, ![16384, 1024]⟩
abbrev S4x1024 : Shape := ⟨2, ![4, 1024]⟩
abbrev S2x16384x512 : Shape := ⟨3, ![2, 16384, 512]⟩
abbrev S1024 : Shape := ⟨1, ![1024]⟩
abbrev S256 : Shape := ⟨1, ![256]⟩
abbrev S64x256 : Shape := ⟨2, ![64, 256]⟩
abbrev S128x256 : Shape := ⟨2, ![128, 256]⟩
abbrev S4x64 : Shape := ⟨2, ![4, 64]⟩
abbrev S64 : Shape := ⟨1, ![64]⟩
abbrev S1024x3328 : Shape := ⟨2, ![1024, 3328]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1x64 : Shape := ⟨2, ![1, 64]⟩
abbrev S8x64 : Shape := ⟨2, ![8, 64]⟩
abbrev S1x1024 : Shape := ⟨2, ![1, 1024]⟩
abbrev S128x512 : Shape := ⟨2, ![128, 512]⟩
abbrev S1 : Shape := ⟨1, ![1]⟩
abbrev S2 : Shape := ⟨1, ![2]⟩
abbrev S1x256 : Shape := ⟨2, ![1, 256]⟩
abbrev S256x1 : Shape := ⟨2, ![256, 1]⟩
abbrev S256x256 : Shape := ⟨2, ![256, 256]⟩
abbrev S4x1x1024 : Shape := ⟨3, ![4, 1, 1024]⟩
abbrev S16384x768 : Shape := ⟨2, ![16384, 768]⟩
abbrev S16384x256 : Shape := ⟨2, ![16384, 256]⟩
abbrev S4x16x512x256 : Shape := ⟨4, ![4, 16, 512, 256]⟩
abbrev S16384x512 : Shape := ⟨2, ![16384, 512]⟩
abbrev S512x1024 : Shape := ⟨2, ![512, 1024]⟩
abbrev S1x1x1024 : Shape := ⟨3, ![1, 1, 1024]⟩
abbrev S2x512x512 : Shape := ⟨3, ![2, 512, 512]⟩
abbrev S512x768 : Shape := ⟨2, ![512, 768]⟩
abbrev S512x256 : Shape := ⟨2, ![512, 256]⟩
abbrev S1x2x512x256 : Shape := ⟨4, ![1, 2, 512, 256]⟩
abbrev S8x1024 : Shape := ⟨2, ![8, 1024]⟩
abbrev S1x512x512 : Shape := ⟨3, ![1, 512, 512]⟩
abbrev S1024x1024 : Shape := ⟨2, ![1024, 1024]⟩
abbrev S512x128 : Shape := ⟨2, ![512, 128]⟩
abbrev S1024x768 : Shape := ⟨2, ![1024, 768]⟩
abbrev S1024x512 : Shape := ⟨2, ![1024, 512]⟩
abbrev S1x1x512x256 : Shape := ⟨4, ![1, 1, 512, 256]⟩

abbrev nBuf : Space → Nat
  | .hbm => 125
  | .vmem => 53
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S2x16384x512, .f32⟩
  | .hbm, ⟨3, _⟩ => ⟨S2x16384x512, .f32⟩
  | .hbm, ⟨4, _⟩ => ⟨S1024, .f32⟩
  | .hbm, ⟨5, _⟩ => ⟨S1024, .f32⟩
  | .hbm, ⟨6, _⟩ => ⟨S256, .f32⟩
  | .hbm, ⟨7, _⟩ => ⟨S64x256, .f32⟩
  | .hbm, ⟨8, _⟩ => ⟨S256, .f32⟩
  | .hbm, ⟨9, _⟩ => ⟨S64x256, .f32⟩
  | .hbm, ⟨10, _⟩ => ⟨S128x256, .f32⟩
  | .hbm, ⟨11, _⟩ => ⟨S256, .f32⟩
  | .hbm, ⟨12, _⟩ => ⟨S256, .f32⟩
  | .hbm, ⟨13, _⟩ => ⟨S4x64, .f32⟩
  | .hbm, ⟨14, _⟩ => ⟨S64, .f32⟩
  | .hbm, ⟨15, _⟩ => ⟨S64, .f32⟩
  | .hbm, ⟨16, _⟩ => ⟨S1024x3328, .f32⟩
  | .hbm, ⟨17, _⟩ => ⟨S1024x3328, .bf16⟩
  | .hbm, ⟨18, _⟩ => ⟨S512, .i32⟩
  | .hbm, ⟨19, _⟩ => ⟨S_, .i32⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S512, .i32⟩
  | .hbm, ⟨28, _⟩ => ⟨S512, .i32⟩
  | .hbm, ⟨29, _⟩ => ⟨S_, .i32⟩
  | .hbm, ⟨30, _⟩ => ⟨S512, .i32⟩
  | .hbm, ⟨31, _⟩ => ⟨S512, .i1⟩
  | .hbm, ⟨32, _⟩ => ⟨S512, .i1⟩
  | .hbm, ⟨33, _⟩ => ⟨S_, .i32⟩
  | .hbm, ⟨34, _⟩ => ⟨S512, .i32⟩
  | .hbm, ⟨35, _⟩ => ⟨S512, .i32⟩
  | .hbm, ⟨36, _⟩ => ⟨S512, .i32⟩
  | .hbm, ⟨37, _⟩ => ⟨S512x1, .i32⟩
  | .hbm, ⟨38, _⟩ => ⟨S1x512, .i32⟩
  | .hbm, ⟨39, _⟩ => ⟨S512x512, .i32⟩
  | .hbm, ⟨40, _⟩ => ⟨S512x512, .i32⟩
  | .hbm, ⟨41, _⟩ => ⟨S512x512, .i1⟩
  | .hbm, ⟨42, _⟩ => ⟨S_, .f32⟩
  | .hbm, ⟨43, _⟩ => ⟨S_, .f32⟩
  | .hbm, ⟨44, _⟩ => ⟨S512x512, .f32⟩
  | .hbm, ⟨45, _⟩ => ⟨S512x512, .f32⟩
  | .hbm, ⟨46, _⟩ => ⟨S512x512, .f32⟩
  | .hbm, ⟨47, _⟩ => ⟨S512x512, .bf16⟩
  | .hbm, ⟨48, _⟩ => ⟨S1x64, .f32⟩
  | .hbm, ⟨49, _⟩ => ⟨S8x64, .f32⟩
  | .hbm, ⟨50, _⟩ => ⟨S512, .f32⟩
  | .hbm, ⟨51, _⟩ => ⟨S1x512, .f32⟩
  | .hbm, ⟨52, _⟩ => ⟨S1x64, .f32⟩
  | .hbm, ⟨53, _⟩ => ⟨S8x64, .f32⟩
  | .hbm, ⟨54, _⟩ => ⟨S512, .f32⟩
  | .hbm, ⟨55, _⟩ => ⟨S1x512, .f32⟩
  | .hbm, ⟨56, _⟩ => ⟨S1x1024, .f32⟩
  | .hbm, ⟨57, _⟩ => ⟨S_, .f32⟩
  | .hbm, ⟨58, _⟩ => ⟨S128x512, .f32⟩
  | .hbm, ⟨59, _⟩ => ⟨S_, .i32⟩
  | .hbm, ⟨60, _⟩ => ⟨S1, .i32⟩
  | .hbm, ⟨61, _⟩ => ⟨S_, .i32⟩
  | .hbm, ⟨62, _⟩ => ⟨S1, .i32⟩
  | .hbm, ⟨63, _⟩ => ⟨S2, .i32⟩
  | .hbm, ⟨64, _⟩ => ⟨S128x512, .f32⟩
  | .hbm, ⟨65, _⟩ => ⟨S_, .i32⟩
  | .hbm, ⟨66, _⟩ => ⟨S1, .i32⟩
  | .hbm, ⟨67, _⟩ => ⟨S_, .i32⟩
  | .hbm, ⟨68, _⟩ => ⟨S1, .i32⟩
  | .hbm, ⟨69, _⟩ => ⟨S2, .i32⟩
  | .hbm, ⟨70, _⟩ => ⟨S128x512, .f32⟩
  | .hbm, ⟨71, _⟩ => ⟨S128x512, .bf16⟩
  | .hbm, ⟨72, _⟩ => ⟨S1x1024, .f32⟩
  | .hbm, ⟨73, _⟩ => ⟨S1x256, .f32⟩
  | .hbm, ⟨74, _⟩ => ⟨S1x256, .f32⟩
  | .hbm, ⟨75, _⟩ => ⟨S1x256, .f32⟩
  | .hbm, ⟨76, _⟩ => ⟨S1x256, .f32⟩
  | .hbm, ⟨77, _⟩ => ⟨S1x256, .f32⟩
  | .hbm, ⟨78, _⟩ => ⟨S128x256, .bf16⟩
  | .hbm, ⟨79, _⟩ => ⟨S256, .i32⟩
  | .hbm, ⟨80, _⟩ => ⟨S_, .i32⟩
  | .hbm, ⟨81, _⟩ => ⟨S_, .i32⟩
  | .hbm, ⟨82, _⟩ => ⟨S256, .i32⟩
  | .hbm, ⟨83, _⟩ => ⟨S256, .i32⟩
  | .hbm, ⟨84, _⟩ => ⟨S256, .i32⟩
  | .hbm, ⟨85, _⟩ => ⟨S_, .i32⟩
  | .hbm, ⟨86, _⟩ => ⟨S256, .i32⟩
  | .hbm, ⟨87, _⟩ => ⟨S256, .i1⟩
  | .hbm, ⟨88, _⟩ => ⟨S256, .i32⟩
  | .hbm, ⟨89, _⟩ => ⟨S256, .i32⟩
  | .hbm, ⟨90, _⟩ => ⟨S_, .i32⟩
  | .hbm, ⟨91, _⟩ => ⟨S256, .i32⟩
  | .hbm, ⟨92, _⟩ => ⟨S256, .i1⟩
  | .hbm, ⟨93, _⟩ => ⟨S256, .i1⟩
  | .hbm, ⟨94, _⟩ => ⟨S_, .i32⟩
  | .hbm, ⟨95, _⟩ => ⟨S256, .i32⟩
  | .hbm, ⟨96, _⟩ => ⟨S256, .i32⟩
  | .hbm, ⟨97, _⟩ => ⟨S256, .i32⟩
  | .hbm, ⟨98, _⟩ => ⟨S256x1, .i32⟩
  | .hbm, ⟨99, _⟩ => ⟨S1x256, .i32⟩
  | .hbm, ⟨100, _⟩ => ⟨S256x256, .i32⟩
  | .hbm, ⟨101, _⟩ => ⟨S256x256, .i32⟩
  | .hbm, ⟨102, _⟩ => ⟨S256x256, .i1⟩
  | .hbm, ⟨103, _⟩ => ⟨S_, .f32⟩
  | .hbm, ⟨104, _⟩ => ⟨S_, .f32⟩
  | .hbm, ⟨105, _⟩ => ⟨S256x256, .f32⟩
  | .hbm, ⟨106, _⟩ => ⟨S256x256, .f32⟩
  | .hbm, ⟨107, _⟩ => ⟨S256x256, .f32⟩
  | .hbm, ⟨108, _⟩ => ⟨S256x256, .bf16⟩
  | .hbm, ⟨109, _⟩ => ⟨S4x1x1024, .f32⟩
  | .hbm, ⟨110, _⟩ => ⟨S16384x1024, .f32⟩
  | .hbm, ⟨111, _⟩ => ⟨S16384x768, .f32⟩
  | .hbm, ⟨112, _⟩ => ⟨S2x16384x512, .f32⟩
  | .hbm, ⟨113, _⟩ => ⟨S2x16384x512, .f32⟩
  | .hbm, ⟨114, _⟩ => ⟨S16384x256, .f32⟩
  | .hbm, ⟨115, _⟩ => ⟨S16384x256, .f32⟩
  | .hbm, ⟨116, _⟩ => ⟨S16384x256, .f32⟩
  | .hbm, ⟨117, _⟩ => ⟨S16384x256, .f32⟩
  | .hbm, ⟨118, _⟩ => ⟨S16384x256, .f32⟩
  | .hbm, ⟨119, _⟩ => ⟨S16384x256, .f32⟩
  | .hbm, ⟨120, _⟩ => ⟨S16384x256, .f32⟩
  | .hbm, ⟨121, _⟩ => ⟨S16384x256, .f32⟩
  | .hbm, ⟨122, _⟩ => ⟨S4x16x512x256, .bf16⟩
  | .hbm, ⟨123, _⟩ => ⟨S16384x512, .bf16⟩
  | .hbm, ⟨124, _⟩ => ⟨S4x16x512x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3328, .bf16⟩
  | .local _ .vmem, ⟨4, _⟩ => ⟨S512x512, .bf16⟩
  | .local _ .vmem, ⟨5, _⟩ => ⟨S1x512, .f32⟩
  | .local _ .vmem, ⟨6, _⟩ => ⟨S1x512, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S128x512, .bf16⟩
  | .local _ .vmem, ⟨16, _⟩ => ⟨S128x256, .bf16⟩
  | .local _ .vmem, ⟨17, _⟩ => ⟨S256x256, .bf16⟩
  | .local _ .vmem, ⟨18, _⟩ => ⟨S2x512x512, .f32⟩
  | .local _ .vmem, ⟨19, _⟩ => ⟨S2x512x512, .f32⟩
  | .local _ .vmem, ⟨20, _⟩ => ⟨S2x512x512, .f32⟩
  | .local _ .vmem, ⟨21, _⟩ => ⟨S2x512x512, .f32⟩
  | .local _ .vmem, ⟨22, _⟩ => ⟨S512x1024, .f32⟩
  | .local _ .vmem, ⟨23, _⟩ => ⟨S512x1024, .f32⟩
  | .local _ .vmem, ⟨24, _⟩ => ⟨S512x768, .f32⟩
  | .local _ .vmem, ⟨25, _⟩ => ⟨S512x768, .f32⟩
  | .local _ .vmem, ⟨26, _⟩ => ⟨S2x512x512, .f32⟩
  | .local _ .vmem, ⟨27, _⟩ => ⟨S2x512x512, .f32⟩
  | .local _ .vmem, ⟨28, _⟩ => ⟨S2x512x512, .f32⟩
  | .local _ .vmem, ⟨29, _⟩ => ⟨S2x512x512, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S512x256, .f32⟩
  | .local _ .vmem, ⟨34, _⟩ => ⟨S512x256, .f32⟩
  | .local _ .vmem, ⟨35, _⟩ => ⟨S512x256, .f32⟩
  | .local _ .vmem, ⟨36, _⟩ => ⟨S512x256, .f32⟩
  | .local _ .vmem, ⟨37, _⟩ => ⟨S512x256, .f32⟩
  | .local _ .vmem, ⟨38, _⟩ => ⟨S512x256, .f32⟩
  | .local _ .vmem, ⟨39, _⟩ => ⟨S512x256, .f32⟩
  | .local _ .vmem, ⟨40, _⟩ => ⟨S512x256, .f32⟩
  | .local _ .vmem, ⟨41, _⟩ => ⟨S512x256, .f32⟩
  | .local _ .vmem, ⟨42, _⟩ => ⟨S512x256, .f32⟩
  | .local _ .vmem, ⟨43, _⟩ => ⟨S512x256, .f32⟩
  | .local _ .vmem, ⟨44, _⟩ => ⟨S512x256, .f32⟩
  | .local _ .vmem, ⟨45, _⟩ => ⟨S512x256, .f32⟩
  | .local _ .vmem, ⟨46, _⟩ => ⟨S1x2x512x256, .bf16⟩
  | .local _ .vmem, ⟨47, _⟩ => ⟨S1x2x512x256, .bf16⟩
  | .local _ .vmem, ⟨48, _⟩ => ⟨S512x512, .bf16⟩
  | .local _ .vmem, ⟨49, _⟩ => ⟨S512x512, .bf16⟩
  | .local _ .vmem, ⟨50, _⟩ => ⟨S1x2x512x256, .bf16⟩
  | .local _ .vmem, ⟨51, _⟩ => ⟨S1x2x512x256, .bf16⟩
  | .local _ .vmem, ⟨52, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_cst : Ref sig .tc := ⟨.hbm, 42, rfl⟩
abbrev main_cst_0 : Ref sig .tc := ⟨.hbm, 43, rfl⟩
abbrev main_call1_v0 : Ref sig .tc := ⟨.hbm, 44, rfl⟩
abbrev main_call1_v1 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_cst_1 : Ref sig .tc := ⟨.hbm, 57, rfl⟩
abbrev main_v19 : Ref sig .tc := ⟨.hbm, 58, rfl⟩
abbrev main_c_2 : Ref sig .tc := ⟨.hbm, 59, rfl⟩
abbrev main_v20 : Ref sig .tc := ⟨.hbm, 60, rfl⟩
abbrev main_c_3 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_c_4 : Ref sig .tc := ⟨.hbm, 65, rfl⟩
abbrev main_v24 : Ref sig .tc := ⟨.hbm, 66, rfl⟩
abbrev main_c_5 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_c_6 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_c : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_c_0 : Ref sig .tc := ⟨.hbm, 94, rfl⟩
abbrev main_call2_v12 : Ref sig .tc := ⟨.hbm, 95, rfl⟩
abbrev main_call2_v13 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_7 : Ref sig .tc := ⟨.hbm, 103, rfl⟩
abbrev main_cst_8 : Ref sig .tc := ⟨.hbm, 104, rfl⟩
abbrev main_call3_v0 : Ref sig .tc := ⟨.hbm, 105, rfl⟩
abbrev main_call3_v1 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46_0 : Ref sig .tc := ⟨.hbm, 110, rfl⟩
abbrev main_v46_1 : Ref sig .tc := ⟨.hbm, 111, rfl⟩
abbrev main_v46_2 : Ref sig .tc := ⟨.hbm, 112, rfl⟩
abbrev main_v46_3 : Ref sig .tc := ⟨.hbm, 113, rfl⟩
abbrev main_v46_4 : Ref sig .tc := ⟨.hbm, 114, rfl⟩
abbrev main_v46_5 : Ref sig .tc := ⟨.hbm, 115, rfl⟩
abbrev main_v46_6 : Ref sig .tc := ⟨.hbm, 116, rfl⟩
abbrev main_v46_7 : Ref sig .tc := ⟨.hbm, 117, rfl⟩
abbrev main_v46_8 : Ref sig .tc := ⟨.hbm, 118, rfl⟩
abbrev main_v46_9 : Ref sig .tc := ⟨.hbm, 119, rfl⟩
abbrev main_v46_10 : Ref sig .tc := ⟨.hbm, 120, rfl⟩
abbrev main_v46_11 : Ref sig .tc := ⟨.hbm, 121, rfl⟩
abbrev main_v46_12 : Ref sig .tc := ⟨.hbm, 122, rfl⟩
abbrev main_v46_13 : Ref sig .tc := ⟨.hbm, 123, rfl⟩
abbrev main_v46_14 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg24_1 : Ref sig .tc := ⟨.vmem, 35, rfl⟩
abbrev cc0_stg25_0 : Ref sig .tc := ⟨.vmem, 36, rfl⟩
abbrev cc0_stg25_1 : Ref sig .tc := ⟨.vmem, 37, rfl⟩
abbrev cc0_stg26_0 : Ref sig .tc := ⟨.vmem, 38, rfl⟩
abbrev cc0_stg26_1 : Ref sig .tc := ⟨.vmem, 39, rfl⟩
abbrev cc0_stg27_0 : Ref sig .tc := ⟨.vmem, 40, rfl⟩
abbrev cc0_stg27_1 : Ref sig .tc := ⟨.vmem, 41, rfl⟩
abbrev cc0_stg28_0 : Ref sig .tc := ⟨.vmem, 42, rfl⟩
abbrev cc0_stg28_1 : Ref sig .tc := ⟨.vmem, 43, rfl⟩
abbrev cc0_stg29_0 : Ref sig .tc := ⟨.vmem, 44, rfl⟩
abbrev cc0_stg29_1 : Ref sig .tc := ⟨.vmem, 45, rfl⟩
abbrev cc0_stg30_0 : Ref sig .tc := ⟨.vmem, 46, rfl⟩
abbrev cc0_stg30_1 : Ref sig .tc := ⟨.vmem, 47, rfl⟩
abbrev cc0_stg31_0 : Ref sig .tc := ⟨.vmem, 48, rfl⟩
abbrev cc0_stg31_1 : Ref sig .tc := ⟨.vmem, 49, rfl⟩
abbrev cc0_stg32_0 : Ref sig .tc := ⟨.vmem, 50, rfl⟩
abbrev cc0_stg32_1 : Ref sig .tc := ⟨.vmem, 51, rfl⟩
abbrev cc0_scratch0 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc0_sem23_0 : DmaSem sig := 32
abbrev cc0_sem23_1 : DmaSem sig := 33
abbrev cc0_sem24_0 : DmaSem sig := 34
abbrev cc0_sem24_1 : DmaSem sig := 35
abbrev cc0_sem25_0 : DmaSem sig := 36
abbrev cc0_sem25_1 : DmaSem sig := 37
abbrev cc0_sem26_0 : DmaSem sig := 38
abbrev cc0_sem26_1 : DmaSem sig := 39
abbrev cc0_sem27_0 : DmaSem sig := 40
abbrev cc0_sem27_1 : DmaSem sig := 41
abbrev cc0_sem28_0 : DmaSem sig := 42
abbrev cc0_sem28_1 : DmaSem sig := 43
abbrev cc0_sem29_0 : DmaSem sig := 44
abbrev cc0_sem29_1 : DmaSem sig := 45
abbrev cc0_sem30_0 : DmaSem sig := 46
abbrev cc0_sem30_1 : DmaSem sig := 47
abbrev cc0_sem31_0 : DmaSem sig := 48
abbrev cc0_sem31_1 : DmaSem sig := 49
abbrev cc0_sem32_0 : DmaSem sig := 50
abbrev cc0_sem32_1 : DmaSem sig := 51

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x768 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2x512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2x512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S512x256 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S512x256 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S512x256 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x2x512x256 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S512x512 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x2x512x256 .bf16 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]
-- ==== Reference4Ideal.lean ====
abbrev S16384x1024 : Shape := ⟨2, ![16384, 1024]⟩
abbrev S4x1024 : Shape := ⟨2, ![4, 1024]⟩
abbrev S2x16384x512 : Shape := ⟨3, ![2, 16384, 512]⟩
abbrev S1024 : Shape := ⟨1, ![1024]⟩
abbrev S256 : Shape := ⟨1, ![256]⟩
abbrev S64x256 : Shape := ⟨2, ![64, 256]⟩
abbrev S128x256 : Shape := ⟨2, ![128, 256]⟩
abbrev S4x64 : Shape := ⟨2, ![4, 64]⟩
abbrev S64 : Shape := ⟨1, ![64]⟩
abbrev S1024x3328 : Shape := ⟨2, ![1024, 3328]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3328 : Shape := ⟨2, ![16384, 3328]⟩
abbrev S16384x768 : Shape := ⟨2, ![16384, 768]⟩
abbrev S16384x1536 : Shape := ⟨2, ![16384, 1536]⟩
abbrev S16384x512 : Shape := ⟨2, ![16384, 512]⟩
abbrev S16384x8x64 : Shape := ⟨3, ![16384, 8, 64]⟩
abbrev S16384x8 : Shape := ⟨2, ![16384, 8]⟩
abbrev S16384x8x1 : Shape := ⟨3, ![16384, 8, 1]⟩
abbrev S1x1x64 : Shape := ⟨3, ![1, 1, 64]⟩
abbrev S1x16384x512 : Shape := ⟨3, ![1, 16384, 512]⟩
abbrev S4x16x256x512 : Shape := ⟨4, ![4, 16, 256, 512]⟩
abbrev S4x16x512x256 : Shape := ⟨4, ![4, 16, 512, 256]⟩

abbrev nBuf : Space → Nat
  | .hbm => 99
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S2x16384x512, .f32⟩
  | .hbm, ⟨3, _⟩ => ⟨S2x16384x512, .f32⟩
  | .hbm, ⟨4, _⟩ => ⟨S1024, .f32⟩
  | .hbm, ⟨5, _⟩ => ⟨S1024, .f32⟩
  | .hbm, ⟨6, _⟩ => ⟨S256, .f32⟩
  | .hbm, ⟨7, _⟩ => ⟨S64x256, .f32⟩
  | .hbm, ⟨8, _⟩ => ⟨S256, .f32⟩
  | .hbm, ⟨9, _⟩ => ⟨S64x256, .f32⟩
  | .hbm, ⟨10, _⟩ => ⟨S128x256, .f32⟩
  | .hbm, ⟨11, _⟩ => ⟨S256, .f32⟩
  | .hbm, ⟨12, _⟩ => ⟨S256, .f32⟩
  | .hbm, ⟨13, _⟩ => ⟨S4x64, .f32⟩
  | .hbm, ⟨14, _⟩ => ⟨S64, .f32⟩
  | .hbm, ⟨15, _⟩ => ⟨S64, .f32⟩
  | .hbm, ⟨16, _⟩ => ⟨S1024x3328, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S16384x3328, .f32⟩
  | .hbm, ⟨34, _⟩ => ⟨S16384x1024, .f32⟩
  | .hbm, ⟨35, _⟩ => ⟨S16384x768, .f32⟩
  | .hbm, ⟨36, _⟩ => ⟨S16384x1536, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x8x64, .f32⟩
  | .hbm, ⟨41, _⟩ => ⟨S16384x8x64, .f32⟩
  | .hbm, ⟨42, _⟩ => ⟨S_, .f32⟩
  | .hbm, ⟨43, _⟩ => ⟨S16384x8, .f32⟩
  | .hbm, ⟨44, _⟩ => ⟨S16384x8x1, .f32⟩
  | .hbm, ⟨45, _⟩ => ⟨S_, .f32⟩
  | .hbm, ⟨46, _⟩ => ⟨S16384x8x1, .f32⟩
  | .hbm, ⟨47, _⟩ => ⟨S16384x8x1, .f32⟩
  | .hbm, ⟨48, _⟩ => ⟨S_, .f32⟩
  | .hbm, ⟨49, _⟩ => ⟨S16384x8x1, .f32⟩
  | .hbm, ⟨50, _⟩ => ⟨S16384x8x1, .f32⟩
  | .hbm, ⟨51, _⟩ => ⟨S16384x8x1, .f32⟩
  | .hbm, ⟨52, _⟩ => ⟨S16384x8x64, .f32⟩
  | .hbm, ⟨53, _⟩ => ⟨S16384x8x64, .f32⟩
  | .hbm, ⟨54, _⟩ => ⟨S1x1x64, .f32⟩
  | .hbm, ⟨55, _⟩ => ⟨S16384x8x64, .f32⟩
  | .hbm, ⟨56, _⟩ => ⟨S16384x8x64, .f32⟩
  | .hbm, ⟨57, _⟩ => ⟨S_, .f32⟩
  | .hbm, ⟨58, _⟩ => ⟨S16384x8x64, .f32⟩
  | .hbm, ⟨59, _⟩ => ⟨S16384x8x64, .f32⟩
  | .hbm, ⟨60, _⟩ => ⟨S16384x8x64, .f32⟩
  | .hbm, ⟨61, _⟩ => ⟨S16384x8x64, .f32⟩
  | .hbm, ⟨62, _⟩ => ⟨S_, .f32⟩
  | .hbm, ⟨63, _⟩ => ⟨S16384x8, .f32⟩
  | .hbm, ⟨64, _⟩ => ⟨S16384x8x1, .f32⟩
  | .hbm, ⟨65, _⟩ => ⟨S_, .f32⟩
  | .hbm, ⟨66, _⟩ => ⟨S16384x8x1, .f32⟩
  | .hbm, ⟨67, _⟩ => ⟨S16384x8x1, .f32⟩
  | .hbm, ⟨68, _⟩ => ⟨S_, .f32⟩
  | .hbm, ⟨69, _⟩ => ⟨S16384x8x1, .f32⟩
  | .hbm, ⟨70, _⟩ => ⟨S16384x8x1, .f32⟩
  | .hbm, ⟨71, _⟩ => ⟨S16384x8x1, .f32⟩
  | .hbm, ⟨72, _⟩ => ⟨S16384x8x64, .f32⟩
  | .hbm, ⟨73, _⟩ => ⟨S16384x8x64, .f32⟩
  | .hbm, ⟨74, _⟩ => ⟨S1x1x64, .f32⟩
  | .hbm, ⟨75, _⟩ => ⟨S16384x8x64, .f32⟩
  | .hbm, ⟨76, _⟩ => ⟨S16384x8x64, .f32⟩
  | .hbm, ⟨77, _⟩ => ⟨S16384x512, .f32⟩
  | .hbm, ⟨78, _⟩ => ⟨S1x16384x512, .f32⟩
  | .hbm, ⟨79, _⟩ => ⟨S16384x512, .f32⟩
  | .hbm, ⟨80, _⟩ => ⟨S1x16384x512, .f32⟩
  | .hbm, ⟨81, _⟩ => ⟨S1x16384x512, .f32⟩
  | .hbm, ⟨82, _⟩ => ⟨S2x16384x512, .f32⟩
  | .hbm, ⟨83, _⟩ => ⟨S1x16384x512, .f32⟩
  | .hbm, ⟨84, _⟩ => ⟨S16384x512, .f32⟩
  | .hbm, ⟨85, _⟩ => ⟨S1x16384x512, .f32⟩
  | .hbm, ⟨86, _⟩ => ⟨S1x16384x512, .f32⟩
  | .hbm, ⟨87, _⟩ => ⟨S2x16384x512, .f32⟩
  | .hbm, ⟨88, _⟩ => ⟨S16384x512, .f32⟩
  | .hbm, ⟨89, _⟩ => ⟨S_, .f32⟩
  | .hbm, ⟨90, _⟩ => ⟨S16384x512, .f32⟩
  | .hbm, ⟨91, _⟩ => ⟨S16384x512, .f32⟩
  | .hbm, ⟨92, _⟩ => ⟨S4x16x256x512, .f32⟩
  | .hbm, ⟨93, _⟩ => ⟨S4x16x512x256, .f32⟩
  | .hbm, ⟨94, _⟩ => ⟨S4x16x512x256, .bf16⟩
  | .hbm, ⟨95, _⟩ => ⟨S16384x512, .bf16⟩
  | .hbm, ⟨96, _⟩ => ⟨S4x16x256x512, .f32⟩
  | .hbm, ⟨97, _⟩ => ⟨S4x16x512x256, .f32⟩
  | .hbm, ⟨98, _⟩ => ⟨S4x16x512x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_9 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]
-- ==== Proof.Stick.Pre.lean ====
/- The precondition on the page table, read word by word. -/
module

public import proofs.«01_k».proof.Pre_pages_in_range
public import Idealize.ShloMosaic.PureOps.Ideal

@[expose] public section

namespace Cert.Pre_pages_in_range

open Idealize.ShloMosaic

/-- The facts the predicate states. -/
theorem facts : Facts where
  bcast_S_S128x16 := ⟨fun a => a.elim0, fun a => a.elim0⟩

/-- A word between 0 and 2560 as a signed number is below 2560 as a natural number. -/
theorem word_lt (w : BitVec 32) (h0 : IntOp.cmpi .sge w 0#32 = 1#1) (h1 : IntOp.cmpi .slt w 2560#32 = 1#1) : w.toNat < 2560 := by
  have one (p : Bool) : (BitVec.ofBool p = 1#1) ↔ p = true := by cases p <;> decide
  simp only [IntOp.cmpi, one, BitVec.sle, BitVec.slt, decide_eq_true_eq] at h0 h1
  have e := BitVec.toInt_eq_toNat_cond w
  have hw := w.isLt
  simp at h0 h1
  split at e <;> omega

theorem page_lt [Facts] {F : FTy → Type} [FloatOps F] {q k v : FVec F S1024x512 .f32} {K V : FVec F S2x2560x128x8x64 .f32} {T : IVec S128x16 32} {B : FVec F S8 .f32}
    (h : fn (F := F) q k v K V T B = fun _ => 1#1) (w : S128x16.Idx) : (T w).toNat < 2560 := by
  have andi_one (a b : BitVec 1) : IntOp.andi a b = 1#1 ↔ a = 1#1 ∧ b = 1#1 := by revert a b; decide
  have pre := congrFun h w
  simp only [fn, constantI, broadcastInDim, cmpi, andi, andi_one] at pre
  exact word_lt _ pre.1 pre.2

end Cert.Pre_pages_in_range
-- ==== Proof.Stick.TablesKernel.lean ====
/- A page table whose entries name pages admits every page window of the call. -/
module

public import proofs.«01_k».proof.Kernel
public import proofs.«01_k».proof.Proof.Gen.Kernel

@[expose] public section

namespace Cert.Kernel.Gen

open Idealize.ShloMosaic Cert.Kernel

/-- A page inside the pool is a block inside the pool. -/
theorem page_block (x : ℕ) (h : x < 2560) :
    ∀ a, ((![0, x, 0, 0] : Fin 4 → ℕ) a + 1) * S1x1x512x128.size a ≤ S2x2560x512x128.size a := by
  intro a
  match a with
  | ⟨0, _⟩ => show (0 + 1) * 1 ≤ 2; omega
  | ⟨1, _⟩ => show (x + 1) * 1 ≤ 2560; omega
  | ⟨2, _⟩ => show (0 + 1) * 512 ≤ 512; omega
  | ⟨3, _⟩ => show (0 + 1) * 128 ≤ 128; omega

variable {F : FTy → Type} [FloatOps F]

set_option maxRecDepth 4000 in
theorem ok0_of_range (pf : pre0.Contents (Elt F)) (h : ∀ w : S128x16.Idx, BitVec.toNat (pf 0 w) < 2560) : ok0 pf := by
  unfold ok0
  repeat' apply And.intro
  all_goals exact fun i => ⟨page_block _ (h _), Or.inl rfl⟩

end Cert.Kernel.Gen
-- ==== Proof.Stick.RunKernelIdeal.lean ====
/- The body of the attention kernel, run once at symbolic operands, part by part: what its stores leave in the output's
   buffer is a list of pieces, and every input buffer is left as it was. -/
module

public import proofs.«01_k».proof.Proof.Gen.KernelIdeal.Frame.Runs
public import Idealize.ShloMosaic.Lib.LaneScatter.Own

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.LaneScatter (raw)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- 68 input buffers and 35 printed parts: the declaration's term is long
set_option maxHeartbeats 2000000 in
/-- The pieces that the body's stores leave in the output's buffer, last first, with the proof that the body, run on whole
    buffers held at the inputs' contents, leaves the inputs as they were and the output's buffer with these pieces written. -/
noncomputable def kernelRun0_A (c : Dev nD) (i : grid0.Coords) (arg2 : Memref sig .tc .vmem S2x8x512 .f32) (harg2 : arg2.IsWhole) (arg3 : Memref sig .tc .vmem S64x128 .f32) (harg3 : arg3.IsWhole) (arg4 : Memref sig .tc .vmem S2x8x512 .f32) (harg4 : arg4.IsWhole) (arg5 : Memref sig .tc .vmem S2x8x512 .f32) (harg5 : arg5.IsWhole) (arg6 : Memref sig .tc .vmem S1x1x512x128 .f32) (harg6 : arg6.IsWhole) (arg7 : Memref sig .tc .vmem S1x1x512x128 .f32) (harg7 : arg7.IsWhole) (arg8 : Memref sig .tc .vmem S1x1x512x128 .f32) (harg8 : arg8.IsWhole) (arg9 : Memref sig .tc .vmem S1x1x512x128 .f32) (harg9 : arg9.IsWhole) (arg10 : Memref sig .tc .vmem S1x1x512x128 .f32) (harg10 : arg10.IsWhole) (arg11 : Memref sig .tc .vmem S1x1x512x128 .f32) (harg11 : arg11.IsWhole) (arg12 : Memref sig .tc .vmem S1x1x512x128 .f32) (harg12 : arg12.IsWhole) (arg13 : Memref sig .tc .vmem S1x1x512x128 .f32) (harg13 : arg13.IsWhole) (arg14 : Memref sig .tc .vmem S1x1x512x128 .f32) (harg14 : arg14.IsWhole) (arg15 : Memref sig .tc .vmem S1x1x512x128 .f32) (harg15 : arg15.IsWhole) (arg16 : Memref sig .tc .vmem S1x1x512x128 .f32) (harg16 : arg16.IsWhole) (arg17 : Memref sig .tc .vmem S1x1x512x128 .f32) (harg17 : arg17.IsWhole) (arg18 : Memref sig .tc .vmem S1x1x512x128 .f32) (harg18 : arg18.IsWhole) (arg19 : Memref sig .tc .vmem S1x1x512x128 .f32) (harg19 : arg19.IsWhole) (arg20 : Memref sig .tc .vmem S1x1x512x128 .f32) (harg20 : arg20.IsWhole) (arg21 : Memref sig .tc .vmem S1x1x512x128 .f32) (harg21 : arg21.IsWhole) (arg22 : Memref sig .tc .vmem S1x1x512x128 .f32) (harg22 : arg22.IsWhole) (arg23 : Memref sig .tc .vmem S1x1x512x128 .f32) (harg23 : arg23.IsWhole) (arg24 : Memref sig .tc .vmem S1x1x512x128 .f32) (harg24 : arg24.IsWhole) (arg25 : Memref sig .tc .vmem S1x1x512x128 .f32) (harg25 : arg25.IsWhole) (arg26 : Memref sig .tc .vmem S1x1x512x128 .f32) (harg26 : arg26.IsWhole) (arg27 : Memref sig .tc .vmem S1x1x512x128 .f32) (harg27 : arg27.IsWhole) (arg28 : Memref sig .tc .vmem S1x1x512x128 .f32) (harg28 : arg28.IsWhole) (arg29 : Memref sig .tc .vmem S1x1x512x128 .f32) (harg29 : arg29.IsWhole) (arg30 : Memref sig .tc .vmem S1x1x512x128 .f32) (harg30 : arg30.IsWhole) (arg31 : Memref sig .tc .vmem S1x1x512x128 .f32) (harg31 : arg31.IsWhole) (arg32 : Memref sig .tc .vmem S1x1x512x128 .f32) (harg32 : arg32.IsWhole) (arg33 : Memref sig .tc .vmem S1x1x512x128 .f32) (harg33 : arg33.IsWhole) (arg34 : Memref sig .tc .vmem S1x1x512x128 .f32) (harg34 : arg34.IsWhole) (arg35 : Memref sig .tc .vmem S1x1x512x128 .f32) (harg35 : arg35.IsWhole) (arg36 : Memref sig .tc .vmem S1x1x512x128 .f32) (harg36 : arg36.IsWhole) (arg37 : Memref sig .tc .vmem S1x1x512x128 .f32) (harg37 : arg37.IsWhole) (arg38 : Memref sig .tc .vmem S1x1x512x128 .f32) (harg38 : arg38.IsWhole) (arg39 : Memref sig .tc .vmem S1x1x512x128 .f32) (harg39 : arg39.IsWhole) (arg40 : Memref sig .tc .vmem S1x1x512x128 .f32) (harg40 : arg40.IsWhole) (arg41 : Memref sig .tc .vmem S1x1x512x128 .f32) (harg41 : arg41.IsWhole) (arg42 : Memref sig .tc .vmem S1x1x512x128 .f32) (harg42 : arg42.IsWhole) (arg43 : Memref sig .tc .vmem S1x1x512x128 .f32) (harg43 : arg43.IsWhole) (arg44 : Memref sig .tc .vmem S1x1x512x128 .f32) (harg44 : arg44.IsWhole) (arg45 : Memref sig .tc .vmem S1x1x512x128 .f32) (harg45 : arg45.IsWhole) (arg46 : Memref sig .tc .vmem S1x1x512x128 .f32) (harg46 : arg46.IsWhole) (arg47 : Memref sig .tc .vmem S1x1x512x128 .f32) (harg47 : arg47.IsWhole) (arg48 : Memref sig .tc .vmem S1x1x512x128 .f32) (harg48 : arg48.IsWhole) (arg49 : Memref sig .tc .vmem S1x1x512x128 .f32) (harg49 : arg49.IsWhole) (arg50 : Memref sig .tc .vmem S1x1x512x128 .f32) (harg50 : arg50.IsWhole) (arg51 : Memref sig .tc .vmem S1x1x512x128 .f32) (harg51 : arg51.IsWhole) (arg52 : Memref sig .tc .vmem S1x1x512x128 .f32) (harg52 : arg52.IsWhole) (arg53 : Memref sig .tc .vmem S1x1x512x128 .f32) (harg53 : arg53.IsWhole) (arg54 : Memref sig .tc .vmem S1x1x512x128 .f32) (harg54 : arg54.IsWhole) (arg55 : Memref sig .tc .vmem S1x1x512x128 .f32) (harg55 : arg55.IsWhole) (arg56 : Memref sig .tc .vmem S1x1x512x128 .f32) (harg56 : arg56.IsWhole) (arg57 : Memref sig .tc .vmem S1x1x512x128 .f32) (harg57 : arg57.IsWhole) (arg58 : Memref sig .tc .vmem S1x1x512x128 .f32) (harg58 : arg58.IsWhole) (arg59 : Memref sig .tc .vmem S1x1x512x128 .f32) (harg59 : arg59.IsWhole) (arg60 : Memref sig .tc .vmem S1x1x512x128 .f32) (harg60 : arg60.IsWhole) (arg61 : Memref sig .tc .vmem S1x1x512x128 .f32) (harg61 : arg61.IsWhole) (arg62 : Memref sig .tc .vmem S1x1x512x128 .f32) (harg62 : arg62.IsWhole) (arg63 : Memref sig .tc .vmem S1x1x512x128 .f32) (harg63 : arg63.IsWhole) (arg64 : Memref sig .tc .vmem S1x1x512x128 .f32) (harg64 : arg64.IsWhole) (arg65 : Memref sig .tc .vmem S1x1x512x128 .f32) (harg65 : arg65.IsWhole) (arg66 : Memref sig .tc .vmem S1x1x512x128 .f32) (harg66 : arg66.IsWhole) (arg67 : Memref sig .tc .vmem S1x1x512x128 .f32) (harg67 : arg67.IsWhole) (arg68 : Memref sig .tc .vmem S1x1x512x128 .f32) (harg68 : arg68.IsWhole) (arg69 : Memref sig .tc .vmem S1x1x512x128 .f32) (harg69 : arg69.IsWhole) (arg70 : Memref sig .tc .vmem S2x8x512 .f32) (harg70 : arg70.IsWhole)
    (x0 : Vec F S2x8x512 .f32) (x1 : Vec F S64x128 .f32) (x2 : Vec F S2x8x512 .f32) (x3 : Vec F S2x8x512 .f32) (x4 : Vec F S1x1x512x128 .f32) (x5 : Vec F S1x1x512x128 .f32) (x6 : Vec F S1x1x512x128 .f32) (x7 : Vec F S1x1x512x128 .f32) (x8 : Vec F S1x1x512x128 .f32) (x9 : Vec F S1x1x512x128 .f32) (x10 : Vec F S1x1x512x128 .f32) (x11 : Vec F S1x1x512x128 .f32) (x12 : Vec F S1x1x512x128 .f32) (x13 : Vec F S1x1x512x128 .f32) (x14 : Vec F S1x1x512x128 .f32) (x15 : Vec F S1x1x512x128 .f32) (x16 : Vec F S1x1x512x128 .f32) (x17 : Vec F S1x1x512x128 .f32) (x18 : Vec F S1x1x512x128 .f32) (x19 : Vec F S1x1x512x128 .f32) (x20 : Vec F S1x1x512x128 .f32) (x21 : Vec F S1x1x512x128 .f32) (x22 : Vec F S1x1x512x128 .f32) (x23 : Vec F S1x1x512x128 .f32) (x24 : Vec F S1x1x512x128 .f32) (x25 : Vec F S1x1x512x128 .f32) (x26 : Vec F S1x1x512x128 .f32) (x27 : Vec F S1x1x512x128 .f32) (x28 : Vec F S1x1x512x128 .f32) (x29 : Vec F S1x1x512x128 .f32) (x30 : Vec F S1x1x512x128 .f32) (x31 : Vec F S1x1x512x128 .f32) (x32 : Vec F S1x1x512x128 .f32) (x33 : Vec F S1x1x512x128 .f32) (x34 : Vec F S1x1x512x128 .f32) (x35 : Vec F S1x1x512x128 .f32) (x36 : Vec F S1x1x512x128 .f32) (x37 : Vec F S1x1x512x128 .f32) (x38 : Vec F S1x1x512x128 .f32) (x39 : Vec F S1x1x512x128 .f32) (x40 : Vec F S1x1x512x128 .f32) (x41 : Vec F S1x1x512x128 .f32) (x42 : Vec F S1x1x512x128 .f32) (x43 : Vec F S1x1x512x128 .f32) (x44 : Vec F S1x1x512x128 .f32) (x45 : Vec F S1x1x512x128 .f32) (x46 : Vec F S1x1x512x128 .f32) (x47 : Vec F S1x1x512x128 .f32) (x48 : Vec F S1x1x512x128 .f32) (x49 : Vec F S1x1x512x128 .f32) (x50 : Vec F S1x1x512x128 .f32) (x51 : Vec F S1x1x512x128 .f32) (x52 : Vec F S1x1x512x128 .f32) (x53 : Vec F S1x1x512x128 .f32) (x54 : Vec F S1x1x512x128 .f32) (x55 : Vec F S1x1x512x128 .f32) (x56 : Vec F S1x1x512x128 .f32) (x57 : Vec F S1x1x512x128 .f32) (x58 : Vec F S1x1x512x128 .f32) (x59 : Vec F S1x1x512x128 .f32) (x60 : Vec F S1x1x512x128 .f32) (x61 : Vec F S1x1x512x128 .f32) (x62 : Vec F S1x1x512x128 .f32) (x63 : Vec F S1x1x512x128 .f32) (x64 : Vec F S1x1x512x128 .f32) (x65 : Vec F S1x1x512x128 .f32) (x66 : Vec F S1x1x512x128 .f32) (x67 : Vec F S1x1x512x128 .f32) (xt0 : TbBuf0 (F := F) c tbM0_0) :
    { L68 : List (View.Piece (Elt F) S2x8x512 .f32) //
      ∀ (E : Set ℕ) (K : PUnit → sProp 𝕄),
        iprop(raw (c : Thread nD τ) arg2 (harg2.unread x0) ∗ raw (c : Thread nD τ) arg3 (harg3.unread x1) ∗ raw (c : Thread nD τ) arg4 (harg4.unread x2) ∗ raw (c : Thread nD τ) arg5 (harg5.unread x3) ∗ raw (c : Thread nD τ) arg6 (harg6.unread x4) ∗ raw (c : Thread nD τ) arg7 (harg7.unread x5) ∗ raw (c : Thread nD τ) arg8 (harg8.unread x6) ∗ raw (c : Thread nD τ) arg9 (harg9.unread x7) ∗ raw (c : Thread nD τ) arg10 (harg10.unread x8) ∗ raw (c : Thread nD τ) arg11 (harg11.unread x9) ∗ raw (c : Thread nD τ) arg12 (harg12.unread x10) ∗ raw (c : Thread nD τ) arg13 (harg13.unread x11) ∗ raw (c : Thread nD τ) arg14 (harg14.unread x12) ∗ raw (c : Thread nD τ) arg15 (harg15.unread x13) ∗ raw (c : Thread nD τ) arg16 (harg16.unread x14) ∗ raw (c : Thread nD τ) arg17 (harg17.unread x15) ∗ raw (c : Thread nD τ) arg18 (harg18.unread x16) ∗ raw (c : Thread nD τ) arg19 (harg19.unread x17) ∗ raw (c : Thread nD τ) arg20 (harg20.unread x18) ∗ raw (c : Thread nD τ) arg21 (harg21.unread x19) ∗ raw (c : Thread nD τ) arg22 (harg22.unread x20) ∗ raw (c : Thread nD τ) arg23 (harg23.unread x21) ∗ raw (c : Thread nD τ) arg24 (harg24.unread x22) ∗ raw (c : Thread nD τ) arg25 (harg25.unread x23) ∗ raw (c : Thread nD τ) arg26 (harg26.unread x24) ∗ raw (c : Thread nD τ) arg27 (harg27.unread x25) ∗ raw (c : Thread nD τ) arg28 (harg28.unread x26) ∗ raw (c : Thread nD τ) arg29 (harg29.unread x27) ∗ raw (c : Thread nD τ) arg30 (harg30.unread x28) ∗ raw (c : Thread nD τ) arg31 (harg31.unread x29) ∗ raw (c : Thread nD τ) arg32 (harg32.unread x30) ∗ raw (c : Thread nD τ) arg33 (harg33.unread x31) ∗ raw (c : Thread nD τ) arg34 (harg34.unread x32) ∗ raw (c : Thread nD τ) arg35 (harg35.unread x33) ∗ raw (c : Thread nD τ) arg36 (harg36.unread x34) ∗ raw (c : Thread nD τ) arg37 (harg37.unread x35) ∗ raw (c : Thread nD τ) arg38 (harg38.unread x36) ∗ raw (c : Thread nD τ) arg39 (harg39.unread x37) ∗ raw (c : Thread nD τ) arg40 (harg40.unread x38) ∗ raw (c : Thread nD τ) arg41 (harg41.unread x39) ∗ raw (c : Thread nD τ) arg42 (harg42.unread x40) ∗ raw (c : Thread nD τ) arg43 (harg43.unread x41) ∗ raw (c : Thread nD τ) arg44 (harg44.unread x42) ∗ raw (c : Thread nD τ) arg45 (harg45.unread x43) ∗ raw (c : Thread nD τ) arg46 (harg46.unread x44) ∗ raw (c : Thread nD τ) arg47 (harg47.unread x45) ∗ raw (c : Thread nD τ) arg48 (harg48.unread x46) ∗ raw (c : Thread nD τ) arg49 (harg49.unread x47) ∗ raw (c : Thread nD τ) arg50 (harg50.unread x48) ∗ raw (c : Thread nD τ) arg51 (harg51.unread x49) ∗ raw (c : Thread nD τ) arg52 (harg52.unread x50) ∗ raw (c : Thread nD τ) arg53 (harg53.unread x51) ∗ raw (c : Thread nD τ) arg54 (harg54.unread x52) ∗ raw (c : Thread nD τ) arg55 (harg55.unread x53) ∗ raw (c : Thread nD τ) arg56 (harg56.unread x54) ∗ raw (c : Thread nD τ) arg57 (harg57.unread x55) ∗ raw (c : Thread nD τ) arg58 (harg58.unread x56) ∗ raw (c : Thread nD τ) arg59 (harg59.unread x57) ∗ raw (c : Thread nD τ) arg60 (harg60.unread x58) ∗ raw (c : Thread nD τ) arg61 (harg61.unread x59) ∗ raw (c : Thread nD τ) arg62 (harg62.unread x60) ∗ raw (c : Thread nD τ) arg63 (harg63.unread x61) ∗ raw (c : Thread nD τ) arg64 (harg64.unread x62) ∗ raw (c : Thread nD τ) arg65 (harg65.unread x63) ∗ raw (c : Thread nD τ) arg66 (harg66.unread x64) ∗ raw (c : Thread nD τ) arg67 (harg67.unread x65) ∗ raw (c : Thread nD τ) arg68 (harg68.unread x66) ∗ raw (c : Thread nD τ) arg69 (harg69.unread x67) ∗ (∃ d, owns (c : Thread nD τ) arg70 fullShare d) ∗ tbPt0 c tbM0_0 xt0
            ∗ (iprop(raw (c : Thread nD τ) arg2 (harg2.unread x0) ∗ raw (c : Thread nD τ) arg3 (harg3.unread x1) ∗ raw (c : Thread nD τ) arg4 (harg4.unread x2) ∗ raw (c : Thread nD τ) arg5 (harg5.unread x3) ∗ raw (c : Thread nD τ) arg6 (harg6.unread x4) ∗ raw (c : Thread nD τ) arg7 (harg7.unread x5) ∗ raw (c : Thread nD τ) arg8 (harg8.unread x6) ∗ raw (c : Thread nD τ) arg9 (harg9.unread x7) ∗ raw (c : Thread nD τ) arg10 (harg10.unread x8) ∗ raw (c : Thread nD τ) arg11 (harg11.unread x9) ∗ raw (c : Thread nD τ) arg12 (harg12.unread x10) ∗ raw (c : Thread nD τ) arg13 (harg13.unread x11) ∗ raw (c : Thread nD τ) arg14 (harg14.unread x12) ∗ raw (c : Thread nD τ) arg15 (harg15.unread x13) ∗ raw (c : Thread nD τ) arg16 (harg16.unread x14) ∗ raw (c : Thread nD τ) arg17 (harg17.unread x15) ∗ raw (c : Thread nD τ) arg18 (harg18.unread x16) ∗ raw (c : Thread nD τ) arg19 (harg19.unread x17) ∗ raw (c : Thread nD τ) arg20 (harg20.unread x18) ∗ raw (c : Thread nD τ) arg21 (harg21.unread x19) ∗ raw (c : Thread nD τ) arg22 (harg22.unread x20) ∗ raw (c : Thread nD τ) arg23 (harg23.unread x21) ∗ raw (c : Thread nD τ) arg24 (harg24.unread x22) ∗ raw (c : Thread nD τ) arg25 (harg25.unread x23) ∗ raw (c : Thread nD τ) arg26 (harg26.unread x24) ∗ raw (c : Thread nD τ) arg27 (harg27.unread x25) ∗ raw (c : Thread nD τ) arg28 (harg28.unread x26) ∗ raw (c : Thread nD τ) arg29 (harg29.unread x27) ∗ raw (c : Thread nD τ) arg30 (harg30.unread x28) ∗ raw (c : Thread nD τ) arg31 (harg31.unread x29) ∗ raw (c : Thread nD τ) arg32 (harg32.unread x30) ∗ raw (c : Thread nD τ) arg33 (harg33.unread x31) ∗ raw (c : Thread nD τ) arg34 (harg34.unread x32) ∗ raw (c : Thread nD τ) arg35 (harg35.unread x33) ∗ raw (c : Thread nD τ) arg36 (harg36.unread x34) ∗ raw (c : Thread nD τ) arg37 (harg37.unread x35) ∗ raw (c : Thread nD τ) arg38 (harg38.unread x36) ∗ raw (c : Thread nD τ) arg39 (harg39.unread x37) ∗ raw (c : Thread nD τ) arg40 (harg40.unread x38) ∗ raw (c : Thread nD τ) arg41 (harg41.unread x39) ∗ raw (c : Thread nD τ) arg42 (harg42.unread x40) ∗ raw (c : Thread nD τ) arg43 (harg43.unread x41) ∗ raw (c : Thread nD τ) arg44 (harg44.unread x42) ∗ raw (c : Thread nD τ) arg45 (harg45.unread x43) ∗ raw (c : Thread nD τ) arg46 (harg46.unread x44) ∗ raw (c : Thread nD τ) arg47 (harg47.unread x45) ∗ raw (c : Thread nD τ) arg48 (harg48.unread x46) ∗ raw (c : Thread nD τ) arg49 (harg49.unread x47) ∗ raw (c : Thread nD τ) arg50 (harg50.unread x48) ∗ raw (c : Thread nD τ) arg51 (harg51.unread x49) ∗ raw (c : Thread nD τ) arg52 (harg52.unread x50) ∗ raw (c : Thread nD τ) arg53 (harg53.unread x51) ∗ raw (c : Thread nD τ) arg54 (harg54.unread x52) ∗ raw (c : Thread nD τ) arg55 (harg55.unread x53) ∗ raw (c : Thread nD τ) arg56 (harg56.unread x54) ∗ raw (c : Thread nD τ) arg57 (harg57.unread x55) ∗ raw (c : Thread nD τ) arg58 (harg58.unread x56) ∗ raw (c : Thread nD τ) arg59 (harg59.unread x57) ∗ raw (c : Thread nD τ) arg60 (harg60.unread x58) ∗ raw (c : Thread nD τ) arg61 (harg61.unread x59) ∗ raw (c : Thread nD τ) arg62 (harg62.unread x60) ∗ raw (c : Thread nD τ) arg63 (harg63.unread x61) ∗ raw (c : Thread nD τ) arg64 (harg64.unread x62) ∗ raw (c : Thread nD τ) arg65 (harg65.unread x63) ∗ raw (c : Thread nD τ) arg66 (harg66.unread x64) ∗ raw (c : Thread nD τ) arg67 (harg67.unread x65) ∗ raw (c : Thread nD τ) arg68 (harg68.unread x66) ∗ raw (c : Thread nD τ) arg69 (harg69.unread x67) ∗ (∃ f, arg70.view.loc (c : Thread nD τ) ↦[arg70.view.set]{fullShare} arg70.view.writes (Elt F) f L68) ∗ tbPt0 c tbM0_0 xt0) -∗ K ⟨⟩))
          ⊢ wp frame (wpE (defs₀ (F := F)) Variants.none c none) E (cc0_attn_sample i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70) K } := by
  refine ⟨?_, fun E K => ?run⟩
  case run =>
    simp only [cc0_attn_sample_eq_skeleton]; unfold cc0_attn_sample_skel
    unfold owns
    iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, H67, ⟨%d68, %f68, -, H68⟩, HT0, Hk⟩
    sl_exec_parts
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    isplitl [H38]; · iexact H38
    isplitl [H39]; · iexact H39
    isplitl [H40]; · iexact H40
    isplitl [H41]; · iexact H41
    isplitl [H42]; · iexact H42
    isplitl [H43]; · iexact H43
    isplitl [H44]; · iexact H44
    isplitl [H45]; · iexact H45
    isplitl [H46]; · iexact H46
    isplitl [H47]; · iexact H47
    isplitl [H48]; · iexact H48
    isplitl [H49]; · iexact H49
    isplitl [H50]; · iexact H50
    isplitl [H51]; · iexact H51
    isplitl [H52]; · iexact H52
    isplitl [H53]; · iexact H53
    isplitl [H54]; · iexact H54
    isplitl [H55]; · iexact H55
    isplitl [H56]; · iexact H56
    isplitl [H57]; · iexact H57
    isplitl [H58]; · iexact H58
    isplitl [H59]; · iexact H59
    isplitl [H60]; · iexact H60
    isplitl [H61]; · iexact H61
    isplitl [H62]; · iexact H62
    isplitl [H63]; · iexact H63
    isplitl [H64]; · iexact H64
    isplitl [H65]; · iexact H65
    isplitl [H66]; · iexact H66
    isplitl [H67]; · iexact H67
    isplitl [H68]; · iexists _; iexact H68
    iexact HT0

end Cert.KernelIdeal.Gen

end
-- ==== Proof.Stick.FrameKernelIdeal.lean ====
/- The frame of the attention kernel: what the output holds after each grid point, the proof data of the pipeline, the
   body's obligation, the run and the claim that every argument ends unchanged; for every page table that satisfies the
   side condition `Ok`. -/
module

public import proofs.«01_k».proof.Proof.Stick.RunKernelIdeal
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.LaneScatter (raw owns_raw raw_owns)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 68 tile its block (2 stores of `S1x8x512`, checked by the kernel's evaluation: Lib/Ring.lean `Piece.tiledL`, linear in the pieces, through a loop's `@[irreducible]` trip theorem too), so they cover it. -/
theorem cover0_A_68 (c : Dev nD) (i : grid0.Coords) (arg2 : Memref sig .tc .vmem S2x8x512 .f32) (harg2 : arg2.IsWhole) (arg3 : Memref sig .tc .vmem S64x128 .f32) (harg3 : arg3.IsWhole) (arg4 : Memref sig .tc .vmem S2x8x512 .f32) (harg4 : arg4.IsWhole) (arg5 : Memref sig .tc .vmem S2x8x512 .f32) (harg5 : arg5.IsWhole) (arg6 : Memref sig .tc .vmem S1x1x512x128 .f32) (harg6 : arg6.IsWhole) (arg7 : Memref sig .tc .vmem S1x1x512x128 .f32) (harg7 : arg7.IsWhole) (arg8 : Memref sig .tc .vmem S1x1x512x128 .f32) (harg8 : arg8.IsWhole) (arg9 : Memref sig .tc .vmem S1x1x512x128 .f32) (harg9 : arg9.IsWhole) (arg10 : Memref sig .tc .vmem S1x1x512x128 .f32) (harg10 : arg10.IsWhole) (arg11 : Memref sig .tc .vmem S1x1x512x128 .f32) (harg11 : arg11.IsWhole) (arg12 : Memref sig .tc .vmem S1x1x512x128 .f32) (harg12 : arg12.IsWhole) (arg13 : Memref sig .tc .vmem S1x1x512x128 .f32) (harg13 : arg13.IsWhole) (arg14 : Memref sig .tc .vmem S1x1x512x128 .f32) (harg14 : arg14.IsWhole) (arg15 : Memref sig .tc .vmem S1x1x512x128 .f32) (harg15 : arg15.IsWhole) (arg16 : Memref sig .tc .vmem S1x1x512x128 .f32) (harg16 : arg16.IsWhole) (arg17 : Memref sig .tc .vmem S1x1x512x128 .f32) (harg17 : arg17.IsWhole) (arg18 : Memref sig .tc .vmem S1x1x512x128 .f32) (harg18 : arg18.IsWhole) (arg19 : Memref sig .tc .vmem S1x1x512x128 .f32) (harg19 : arg19.IsWhole) (arg20 : Memref sig .tc .vmem S1x1x512x128 .f32) (harg20 : arg20.IsWhole) (arg21 : Memref sig .tc .vmem S1x1x512x128 .f32) (harg21 : arg21.IsWhole) (arg22 : Memref sig .tc .vmem S1x1x512x128 .f32) (harg22 : arg22.IsWhole) (arg23 : Memref sig .tc .vmem S1x1x512x128 .f32) (harg23 : arg23.IsWhole) (arg24 : Memref sig .tc .vmem S1x1x512x128 .f32) (harg24 : arg24.IsWhole) (arg25 : Memref sig .tc .vmem S1x1x512x128 .f32) (harg25 : arg25.IsWhole) (arg26 : Memref sig .tc .vmem S1x1x512x128 .f32) (harg26 : arg26.IsWhole) (arg27 : Memref sig .tc .vmem S1x1x512x128 .f32) (harg27 : arg27.IsWhole) (arg28 : Memref sig .tc .vmem S1x1x512x128 .f32) (harg28 : arg28.IsWhole) (arg29 : Memref sig .tc .vmem S1x1x512x128 .f32) (harg29 : arg29.IsWhole) (arg30 : Memref sig .tc .vmem S1x1x512x128 .f32) (harg30 : arg30.IsWhole) (arg31 : Memref sig .tc .vmem S1x1x512x128 .f32) (harg31 : arg31.IsWhole) (arg32 : Memref sig .tc .vmem S1x1x512x128 .f32) (harg32 : arg32.IsWhole) (arg33 : Memref sig .tc .vmem S1x1x512x128 .f32) (harg33 : arg33.IsWhole) (arg34 : Memref sig .tc .vmem S1x1x512x128 .f32) (harg34 : arg34.IsWhole) (arg35 : Memref sig .tc .vmem S1x1x512x128 .f32) (harg35 : arg35.IsWhole) (arg36 : Memref sig .tc .vmem S1x1x512x128 .f32) (harg36 : arg36.IsWhole) (arg37 : Memref sig .tc .vmem S1x1x512x128 .f32) (harg37 : arg37.IsWhole) (arg38 : Memref sig .tc .vmem S1x1x512x128 .f32) (harg38 : arg38.IsWhole) (arg39 : Memref sig .tc .vmem S1x1x512x128 .f32) (harg39 : arg39.IsWhole) (arg40 : Memref sig .tc .vmem S1x1x512x128 .f32) (harg40 : arg40.IsWhole) (arg41 : Memref sig .tc .vmem S1x1x512x128 .f32) (harg41 : arg41.IsWhole) (arg42 : Memref sig .tc .vmem S1x1x512x128 .f32) (harg42 : arg42.IsWhole) (arg43 : Memref sig .tc .vmem S1x1x512x128 .f32) (harg43 : arg43.IsWhole) (arg44 : Memref sig .tc .vmem S1x1x512x128 .f32) (harg44 : arg44.IsWhole) (arg45 : Memref sig .tc .vmem S1x1x512x128 .f32) (harg45 : arg45.IsWhole) (arg46 : Memref sig .tc .vmem S1x1x512x128 .f32) (harg46 : arg46.IsWhole) (arg47 : Memref sig .tc .vmem S1x1x512x128 .f32) (harg47 : arg47.IsWhole) (arg48 : Memref sig .tc .vmem S1x1x512x128 .f32) (harg48 : arg48.IsWhole) (arg49 : Memref sig .tc .vmem S1x1x512x128 .f32) (harg49 : arg49.IsWhole) (arg50 : Memref sig .tc .vmem S1x1x512x128 .f32) (harg50 : arg50.IsWhole) (arg51 : Memref sig .tc .vmem S1x1x512x128 .f32) (harg51 : arg51.IsWhole) (arg52 : Memref sig .tc .vmem S1x1x512x128 .f32) (harg52 : arg52.IsWhole) (arg53 : Memref sig .tc .vmem S1x1x512x128 .f32) (harg53 : arg53.IsWhole) (arg54 : Memref sig .tc .vmem S1x1x512x128 .f32) (harg54 : arg54.IsWhole) (arg55 : Memref sig .tc .vmem S1x1x512x128 .f32) (harg55 : arg55.IsWhole) (arg56 : Memref sig .tc .vmem S1x1x512x128 .f32) (harg56 : arg56.IsWhole) (arg57 : Memref sig .tc .vmem S1x1x512x128 .f32) (harg57 : arg57.IsWhole) (arg58 : Memref sig .tc .vmem S1x1x512x128 .f32) (harg58 : arg58.IsWhole) (arg59 : Memref sig .tc .vmem S1x1x512x128 .f32) (harg59 : arg59.IsWhole) (arg60 : Memref sig .tc .vmem S1x1x512x128 .f32) (harg60 : arg60.IsWhole) (arg61 : Memref sig .tc .vmem S1x1x512x128 .f32) (harg61 : arg61.IsWhole) (arg62 : Memref sig .tc .vmem S1x1x512x128 .f32) (harg62 : arg62.IsWhole) (arg63 : Memref sig .tc .vmem S1x1x512x128 .f32) (harg63 : arg63.IsWhole) (arg64 : Memref sig .tc .vmem S1x1x512x128 .f32) (harg64 : arg64.IsWhole) (arg65 : Memref sig .tc .vmem S1x1x512x128 .f32) (harg65 : arg65.IsWhole) (arg66 : Memref sig .tc .vmem S1x1x512x128 .f32) (harg66 : arg66.IsWhole) (arg67 : Memref sig .tc .vmem S1x1x512x128 .f32) (harg67 : arg67.IsWhole) (arg68 : Memref sig .tc .vmem S1x1x512x128 .f32) (harg68 : arg68.IsWhole) (arg69 : Memref sig .tc .vmem S1x1x512x128 .f32) (harg69 : arg69.IsWhole) (arg70 : Memref sig .tc .vmem S2x8x512 .f32) (harg70 : arg70.IsWhole)
    (x0 : Vec F S2x8x512 .f32) (x1 : Vec F S64x128 .f32) (x2 : Vec F S2x8x512 .f32) (x3 : Vec F S2x8x512 .f32) (x4 : Vec F S1x1x512x128 .f32) (x5 : Vec F S1x1x512x128 .f32) (x6 : Vec F S1x1x512x128 .f32) (x7 : Vec F S1x1x512x128 .f32) (x8 : Vec F S1x1x512x128 .f32) (x9 : Vec F S1x1x512x128 .f32) (x10 : Vec F S1x1x512x128 .f32) (x11 : Vec F S1x1x512x128 .f32) (x12 : Vec F S1x1x512x128 .f32) (x13 : Vec F S1x1x512x128 .f32) (x14 : Vec F S1x1x512x128 .f32) (x15 : Vec F S1x1x512x128 .f32) (x16 : Vec F S1x1x512x128 .f32) (x17 : Vec F S1x1x512x128 .f32) (x18 : Vec F S1x1x512x128 .f32) (x19 : Vec F S1x1x512x128 .f32) (x20 : Vec F S1x1x512x128 .f32) (x21 : Vec F S1x1x512x128 .f32) (x22 : Vec F S1x1x512x128 .f32) (x23 : Vec F S1x1x512x128 .f32) (x24 : Vec F S1x1x512x128 .f32) (x25 : Vec F S1x1x512x128 .f32) (x26 : Vec F S1x1x512x128 .f32) (x27 : Vec F S1x1x512x128 .f32) (x28 : Vec F S1x1x512x128 .f32) (x29 : Vec F S1x1x512x128 .f32) (x30 : Vec F S1x1x512x128 .f32) (x31 : Vec F S1x1x512x128 .f32) (x32 : Vec F S1x1x512x128 .f32) (x33 : Vec F S1x1x512x128 .f32) (x34 : Vec F S1x1x512x128 .f32) (x35 : Vec F S1x1x512x128 .f32) (x36 : Vec F S1x1x512x128 .f32) (x37 : Vec F S1x1x512x128 .f32) (x38 : Vec F S1x1x512x128 .f32) (x39 : Vec F S1x1x512x128 .f32) (x40 : Vec F S1x1x512x128 .f32) (x41 : Vec F S1x1x512x128 .f32) (x42 : Vec F S1x1x512x128 .f32) (x43 : Vec F S1x1x512x128 .f32) (x44 : Vec F S1x1x512x128 .f32) (x45 : Vec F S1x1x512x128 .f32) (x46 : Vec F S1x1x512x128 .f32) (x47 : Vec F S1x1x512x128 .f32) (x48 : Vec F S1x1x512x128 .f32) (x49 : Vec F S1x1x512x128 .f32) (x50 : Vec F S1x1x512x128 .f32) (x51 : Vec F S1x1x512x128 .f32) (x52 : Vec F S1x1x512x128 .f32) (x53 : Vec F S1x1x512x128 .f32) (x54 : Vec F S1x1x512x128 .f32) (x55 : Vec F S1x1x512x128 .f32) (x56 : Vec F S1x1x512x128 .f32) (x57 : Vec F S1x1x512x128 .f32) (x58 : Vec F S1x1x512x128 .f32) (x59 : Vec F S1x1x512x128 .f32) (x60 : Vec F S1x1x512x128 .f32) (x61 : Vec F S1x1x512x128 .f32) (x62 : Vec F S1x1x512x128 .f32) (x63 : Vec F S1x1x512x128 .f32) (x64 : Vec F S1x1x512x128 .f32) (x65 : Vec F S1x1x512x128 .f32) (x66 : Vec F S1x1x512x128 .f32) (x67 : Vec F S1x1x512x128 .f32) (xt0 : TbBuf0 (F := F) c tbM0_0) (y : S2x8x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66 x67 xt0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66 x67 xt0).1 S1x8x512.size (by sl_kernel_rfl) y

/-- What the run leaves in output 68's staging buffer: its pieces read back over junk. -/
def out0_A_68 (c : Dev nD) (i : grid0.Coords) (arg2 : Memref sig .tc .vmem S2x8x512 .f32) (harg2 : arg2.IsWhole) (arg3 : Memref sig .tc .vmem S64x128 .f32) (harg3 : arg3.IsWhole) (arg4 : Memref sig .tc .vmem S2x8x512 .f32) (harg4 : arg4.IsWhole) (arg5 : Memref sig .tc .vmem S2x8x512 .f32) (harg5 : arg5.IsWhole) (arg6 : Memref sig .tc .vmem S1x1x512x128 .f32) (harg6 : arg6.IsWhole) (arg7 : Memref sig .tc .vmem S1x1x512x128 .f32) (harg7 : arg7.IsWhole) (arg8 : Memref sig .tc .vmem S1x1x512x128 .f32) (harg8 : arg8.IsWhole) (arg9 : Memref sig .tc .vmem S1x1x512x128 .f32) (harg9 : arg9.IsWhole) (arg10 : Memref sig .tc .vmem S1x1x512x128 .f32) (harg10 : arg10.IsWhole) (arg11 : Memref sig .tc .vmem S1x1x512x128 .f32) (harg11 : arg11.IsWhole) (arg12 : Memref sig .tc .vmem S1x1x512x128 .f32) (harg12 : arg12.IsWhole) (arg13 : Memref sig .tc .vmem S1x1x512x128 .f32) (harg13 : arg13.IsWhole) (arg14 : Memref sig .tc .vmem S1x1x512x128 .f32) (harg14 : arg14.IsWhole) (arg15 : Memref sig .tc .vmem S1x1x512x128 .f32) (harg15 : arg15.IsWhole) (arg16 : Memref sig .tc .vmem S1x1x512x128 .f32) (harg16 : arg16.IsWhole) (arg17 : Memref sig .tc .vmem S1x1x512x128 .f32) (harg17 : arg17.IsWhole) (arg18 : Memref sig .tc .vmem S1x1x512x128 .f32) (harg18 : arg18.IsWhole) (arg19 : Memref sig .tc .vmem S1x1x512x128 .f32) (harg19 : arg19.IsWhole) (arg20 : Memref sig .tc .vmem S1x1x512x128 .f32) (harg20 : arg20.IsWhole) (arg21 : Memref sig .tc .vmem S1x1x512x128 .f32) (harg21 : arg21.IsWhole) (arg22 : Memref sig .tc .vmem S1x1x512x128 .f32) (harg22 : arg22.IsWhole) (arg23 : Memref sig .tc .vmem S1x1x512x128 .f32) (harg23 : arg23.IsWhole) (arg24 : Memref sig .tc .vmem S1x1x512x128 .f32) (harg24 : arg24.IsWhole) (arg25 : Memref sig .tc .vmem S1x1x512x128 .f32) (harg25 : arg25.IsWhole) (arg26 : Memref sig .tc .vmem S1x1x512x128 .f32) (harg26 : arg26.IsWhole) (arg27 : Memref sig .tc .vmem S1x1x512x128 .f32) (harg27 : arg27.IsWhole) (arg28 : Memref sig .tc .vmem S1x1x512x128 .f32) (harg28 : arg28.IsWhole) (arg29 : Memref sig .tc .vmem S1x1x512x128 .f32) (harg29 : arg29.IsWhole) (arg30 : Memref sig .tc .vmem S1x1x512x128 .f32) (harg30 : arg30.IsWhole) (arg31 : Memref sig .tc .vmem S1x1x512x128 .f32) (harg31 : arg31.IsWhole) (arg32 : Memref sig .tc .vmem S1x1x512x128 .f32) (harg32 : arg32.IsWhole) (arg33 : Memref sig .tc .vmem S1x1x512x128 .f32) (harg33 : arg33.IsWhole) (arg34 : Memref sig .tc .vmem S1x1x512x128 .f32) (harg34 : arg34.IsWhole) (arg35 : Memref sig .tc .vmem S1x1x512x128 .f32) (harg35 : arg35.IsWhole) (arg36 : Memref sig .tc .vmem S1x1x512x128 .f32) (harg36 : arg36.IsWhole) (arg37 : Memref sig .tc .vmem S1x1x512x128 .f32) (harg37 : arg37.IsWhole) (arg38 : Memref sig .tc .vmem S1x1x512x128 .f32) (harg38 : arg38.IsWhole) (arg39 : Memref sig .tc .vmem S1x1x512x128 .f32) (harg39 : arg39.IsWhole) (arg40 : Memref sig .tc .vmem S1x1x512x128 .f32) (harg40 : arg40.IsWhole) (arg41 : Memref sig .tc .vmem S1x1x512x128 .f32) (harg41 : arg41.IsWhole) (arg42 : Memref sig .tc .vmem S1x1x512x128 .f32) (harg42 : arg42.IsWhole) (arg43 : Memref sig .tc .vmem S1x1x512x128 .f32) (harg43 : arg43.IsWhole) (arg44 : Memref sig .tc .vmem S1x1x512x128 .f32) (harg44 : arg44.IsWhole) (arg45 : Memref sig .tc .vmem S1x1x512x128 .f32) (harg45 : arg45.IsWhole) (arg46 : Memref sig .tc .vmem S1x1x512x128 .f32) (harg46 : arg46.IsWhole) (arg47 : Memref sig .tc .vmem S1x1x512x128 .f32) (harg47 : arg47.IsWhole) (arg48 : Memref sig .tc .vmem S1x1x512x128 .f32) (harg48 : arg48.IsWhole) (arg49 : Memref sig .tc .vmem S1x1x512x128 .f32) (harg49 : arg49.IsWhole) (arg50 : Memref sig .tc .vmem S1x1x512x128 .f32) (harg50 : arg50.IsWhole) (arg51 : Memref sig .tc .vmem S1x1x512x128 .f32) (harg51 : arg51.IsWhole) (arg52 : Memref sig .tc .vmem S1x1x512x128 .f32) (harg52 : arg52.IsWhole) (arg53 : Memref sig .tc .vmem S1x1x512x128 .f32) (harg53 : arg53.IsWhole) (arg54 : Memref sig .tc .vmem S1x1x512x128 .f32) (harg54 : arg54.IsWhole) (arg55 : Memref sig .tc .vmem S1x1x512x128 .f32) (harg55 : arg55.IsWhole) (arg56 : Memref sig .tc .vmem S1x1x512x128 .f32) (harg56 : arg56.IsWhole) (arg57 : Memref sig .tc .vmem S1x1x512x128 .f32) (harg57 : arg57.IsWhole) (arg58 : Memref sig .tc .vmem S1x1x512x128 .f32) (harg58 : arg58.IsWhole) (arg59 : Memref sig .tc .vmem S1x1x512x128 .f32) (harg59 : arg59.IsWhole) (arg60 : Memref sig .tc .vmem S1x1x512x128 .f32) (harg60 : arg60.IsWhole) (arg61 : Memref sig .tc .vmem S1x1x512x128 .f32) (harg61 : arg61.IsWhole) (arg62 : Memref sig .tc .vmem S1x1x512x128 .f32) (harg62 : arg62.IsWhole) (arg63 : Memref sig .tc .vmem S1x1x512x128 .f32) (harg63 : arg63.IsWhole) (arg64 : Memref sig .tc .vmem S1x1x512x128 .f32) (harg64 : arg64.IsWhole) (arg65 : Memref sig .tc .vmem S1x1x512x128 .f32) (harg65 : arg65.IsWhole) (arg66 : Memref sig .tc .vmem S1x1x512x128 .f32) (harg66 : arg66.IsWhole) (arg67 : Memref sig .tc .vmem S1x1x512x128 .f32) (harg67 : arg67.IsWhole) (arg68 : Memref sig .tc .vmem S1x1x512x128 .f32) (harg68 : arg68.IsWhole) (arg69 : Memref sig .tc .vmem S1x1x512x128 .f32) (harg69 : arg69.IsWhole) (arg70 : Memref sig .tc .vmem S2x8x512 .f32) (harg70 : arg70.IsWhole)
    (x0 : Vec F S2x8x512 .f32) (x1 : Vec F S64x128 .f32) (x2 : Vec F S2x8x512 .f32) (x3 : Vec F S2x8x512 .f32) (x4 : Vec F S1x1x512x128 .f32) (x5 : Vec F S1x1x512x128 .f32) (x6 : Vec F S1x1x512x128 .f32) (x7 : Vec F S1x1x512x128 .f32) (x8 : Vec F S1x1x512x128 .f32) (x9 : Vec F S1x1x512x128 .f32) (x10 : Vec F S1x1x512x128 .f32) (x11 : Vec F S1x1x512x128 .f32) (x12 : Vec F S1x1x512x128 .f32) (x13 : Vec F S1x1x512x128 .f32) (x14 : Vec F S1x1x512x128 .f32) (x15 : Vec F S1x1x512x128 .f32) (x16 : Vec F S1x1x512x128 .f32) (x17 : Vec F S1x1x512x128 .f32) (x18 : Vec F S1x1x512x128 .f32) (x19 : Vec F S1x1x512x128 .f32) (x20 : Vec F S1x1x512x128 .f32) (x21 : Vec F S1x1x512x128 .f32) (x22 : Vec F S1x1x512x128 .f32) (x23 : Vec F S1x1x512x128 .f32) (x24 : Vec F S1x1x512x128 .f32) (x25 : Vec F S1x1x512x128 .f32) (x26 : Vec F S1x1x512x128 .f32) (x27 : Vec F S1x1x512x128 .f32) (x28 : Vec F S1x1x512x128 .f32) (x29 : Vec F S1x1x512x128 .f32) (x30 : Vec F S1x1x512x128 .f32) (x31 : Vec F S1x1x512x128 .f32) (x32 : Vec F S1x1x512x128 .f32) (x33 : Vec F S1x1x512x128 .f32) (x34 : Vec F S1x1x512x128 .f32) (x35 : Vec F S1x1x512x128 .f32) (x36 : Vec F S1x1x512x128 .f32) (x37 : Vec F S1x1x512x128 .f32) (x38 : Vec F S1x1x512x128 .f32) (x39 : Vec F S1x1x512x128 .f32) (x40 : Vec F S1x1x512x128 .f32) (x41 : Vec F S1x1x512x128 .f32) (x42 : Vec F S1x1x512x128 .f32) (x43 : Vec F S1x1x512x128 .f32) (x44 : Vec F S1x1x512x128 .f32) (x45 : Vec F S1x1x512x128 .f32) (x46 : Vec F S1x1x512x128 .f32) (x47 : Vec F S1x1x512x128 .f32) (x48 : Vec F S1x1x512x128 .f32) (x49 : Vec F S1x1x512x128 .f32) (x50 : Vec F S1x1x512x128 .f32) (x51 : Vec F S1x1x512x128 .f32) (x52 : Vec F S1x1x512x128 .f32) (x53 : Vec F S1x1x512x128 .f32) (x54 : Vec F S1x1x512x128 .f32) (x55 : Vec F S1x1x512x128 .f32) (x56 : Vec F S1x1x512x128 .f32) (x57 : Vec F S1x1x512x128 .f32) (x58 : Vec F S1x1x512x128 .f32) (x59 : Vec F S1x1x512x128 .f32) (x60 : Vec F S1x1x512x128 .f32) (x61 : Vec F S1x1x512x128 .f32) (x62 : Vec F S1x1x512x128 .f32) (x63 : Vec F S1x1x512x128 .f32) (x64 : Vec F S1x1x512x128 .f32) (x65 : Vec F S1x1x512x128 .f32) (x66 : Vec F S1x1x512x128 .f32) (x67 : Vec F S1x1x512x128 .f32) (xt0 : TbBuf0 (F := F) c tbM0_0) : Vec F S2x8x512 .f32 :=
  VO0_68.read (Elt F) (VO0_68.writes (Elt F) VO0_68.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66 x67 xt0).1)

/-! ## What the outputs hold after each point -/

/-- What the outputs' staging buffers hold after the body at point `t`: the run's contents at
    the point's memrefs and input blocks. -/
def outsAt0 (hO : Ok m) (c : Dev nD) (t : Fin (cfgM m hO).N) : Vec F S2x8x512 .f32 :=
  out0_A_68 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) (ms0_37 m hO t) (hs0_37 m hO t) (ms0_38 m hO t) (hs0_38 m hO t) (ms0_39 m hO t) (hs0_39 m hO t) (ms0_40 m hO t) (hs0_40 m hO t) (ms0_41 m hO t) (hs0_41 m hO t) (ms0_42 m hO t) (hs0_42 m hO t) (ms0_43 m hO t) (hs0_43 m hO t) (ms0_44 m hO t) (hs0_44 m hO t) (ms0_45 m hO t) (hs0_45 m hO t) (ms0_46 m hO t) (hs0_46 m hO t) (ms0_47 m hO t) (hs0_47 m hO t) (ms0_48 m hO t) (hs0_48 m hO t) (ms0_49 m hO t) (hs0_49 m hO t) (ms0_50 m hO t) (hs0_50 m hO t) (ms0_51 m hO t) (hs0_51 m hO t) (ms0_52 m hO t) (hs0_52 m hO t) (ms0_53 m hO t) (hs0_53 m hO t) (ms0_54 m hO t) (hs0_54 m hO t) (ms0_55 m hO t) (hs0_55 m hO t) (ms0_56 m hO t) (hs0_56 m hO t) (ms0_57 m hO t) (hs0_57 m hO t) (ms0_58 m hO t) (hs0_58 m hO t) (ms0_59 m hO t) (hs0_59 m hO t) (ms0_60 m hO t) (hs0_60 m hO t) (ms0_61 m hO t) (hs0_61 m hO t) (ms0_62 m hO t) (hs0_62 m hO t) (ms0_63 m hO t) (hs0_63 m hO t) (ms0_64 m hO t) (hs0_64 m hO t) (ms0_65 m hO t) (hs0_65 m hO t) (ms0_66 m hO t) (hs0_66 m hO t) (ms0_67 m hO t) (hs0_67 m hO t) (ms0_68 m hO t) (hs0_68 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (iblk m hO c 36 t) (iblk m hO c 37 t) (iblk m hO c 38 t) (iblk m hO c 39 t) (iblk m hO c 40 t) (iblk m hO c 41 t) (iblk m hO c 42 t) (iblk m hO c 43 t) (iblk m hO c 44 t) (iblk m hO c 45 t) (iblk m hO c 46 t) (iblk m hO c 47 t) (iblk m hO c 48 t) (iblk m hO c 49 t) (iblk m hO c 50 t) (iblk m hO c 51 t) (iblk m hO c 52 t) (iblk m hO c 53 t) (iblk m hO c 54 t) (iblk m hO c 55 t) (iblk m hO c 56 t) (iblk m hO c 57 t) (iblk m hO c 58 t) (iblk m hO c 59 t) (iblk m hO c 60 t) (iblk m hO c 61 t) (iblk m hO c 62 t) (iblk m hO c 63 t) (iblk m hO c 64 t) (iblk m hO c 65 t) (iblk m hO c 66 t) (iblk m hO c 67 t) (tbl m 0)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => iblk m hO c 29 t
    | ⟨30, _⟩ => iblk m hO c 30 t
    | ⟨31, _⟩ => iblk m hO c 31 t
    | ⟨32, _⟩ => iblk m hO c 32 t
    | ⟨33, _⟩ => iblk m hO c 33 t
    | ⟨34, _⟩ => iblk m hO c 34 t
    | ⟨35, _⟩ => iblk m hO c 35 t
    | ⟨36, _⟩ => iblk m hO c 36 t
    | ⟨37, _⟩ => iblk m hO c 37 t
    | ⟨38, _⟩ => iblk m hO c 38 t
    | ⟨39, _⟩ => iblk m hO c 39 t
    | ⟨40, _⟩ => iblk m hO c 40 t
    | ⟨41, _⟩ => iblk m hO c 41 t
    | ⟨42, _⟩ => iblk m hO c 42 t
    | ⟨43, _⟩ => iblk m hO c 43 t
    | ⟨44, _⟩ => iblk m hO c 44 t
    | ⟨45, _⟩ => iblk m hO c 45 t
    | ⟨46, _⟩ => iblk m hO c 46 t
    | ⟨47, _⟩ => iblk m hO c 47 t
    | ⟨48, _⟩ => iblk m hO c 48 t
    | ⟨49, _⟩ => iblk m hO c 49 t
    | ⟨50, _⟩ => iblk m hO c 50 t
    | ⟨51, _⟩ => iblk m hO c 51 t
    | ⟨52, _⟩ => iblk m hO c 52 t
    | ⟨53, _⟩ => iblk m hO c 53 t
    | ⟨54, _⟩ => iblk m hO c 54 t
    | ⟨55, _⟩ => iblk m hO c 55 t
    | ⟨56, _⟩ => iblk m hO c 56 t
    | ⟨57, _⟩ => iblk m hO c 57 t
    | ⟨58, _⟩ => iblk m hO c 58 t
    | ⟨59, _⟩ => iblk m hO c 59 t
    | ⟨60, _⟩ => iblk m hO c 60 t
    | ⟨61, _⟩ => iblk m hO c 61 t
    | ⟨62, _⟩ => iblk m hO c 62 t
    | ⟨63, _⟩ => iblk m hO c 63 t
    | ⟨64, _⟩ => iblk m hO c 64 t
    | ⟨65, _⟩ => iblk m hO c 65 t
    | ⟨66, _⟩ => iblk m hO c 66 t
    | ⟨67, _⟩ => iblk m hO c 67 t
    | ⟨68, _⟩ => (outsAt0 m hO c t)
    | ⟨_ + 69, h⟩ => absurd h (Nat.not_lt.2 (Nat.le_add_left _ _))
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = iblk m hO c 19 t := by dsimp only [dats]; try rfl
theorem after0_20 (hO : Ok m) (c : Dev nD) (t : Fin (cfgM m hO).N) : (dats m hO 0 c).after 20 t = iblk m hO c 20 t := by dsimp only [dats]; try rfl
theorem after0_21 (hO : Ok m) (c : Dev nD) (t : Fin (cfgM m hO).N) : (dats m hO 0 c).after 21 t = iblk m hO c 21 t := by dsimp only [dats]; try rfl
theorem after0_22 (hO : Ok m) (c : Dev nD) (t : Fin (cfgM m hO).N) : (dats m hO 0 c).after 22 t = iblk m hO c 22 t := by dsimp only [dats]; try rfl
theorem after0_23 (hO : Ok m) (c : Dev nD) (t : Fin (cfgM m hO).N) : (dats m hO 0 c).after 23 t = iblk m hO c 23 t := by dsimp only [dats]; try rfl
theorem after0_24 (hO : Ok m) (c : Dev nD) (t : Fin (cfgM m hO).N) : (dats m hO 0 c).after 24 t = iblk m hO c 24 t := by dsimp only [dats]; try rfl
theorem after0_25 (hO : Ok m) (c : Dev nD) (t : Fin (cfgM m hO).N) : (dats m hO 0 c).after 25 t = iblk m hO c 25 t := by dsimp only [dats]; try rfl
theorem after0_26 (hO : Ok m) (c : Dev nD) (t : Fin (cfgM m hO).N) : (dats m hO 0 c).after 26 t = iblk m hO c 26 t := by dsimp only [dats]; try rfl
theorem after0_27 (hO : Ok m) (c : Dev nD) (t : Fin (cfgM m hO).N) : (dats m hO 0 c).after 27 t = iblk m hO c 27 t := by dsimp only [dats]; try rfl
theorem after0_28 (hO : Ok m) (c : Dev nD) (t : Fin (cfgM m hO).N) : (dats m hO 0 c).after 28 t = iblk m hO c 28 t := by dsimp only [dats]; try rfl
theorem after0_29 (hO : Ok m) (c : Dev nD) (t : Fin (cfgM m hO).N) : (dats m hO 0 c).after 29 t = iblk m hO c 29 t := by dsimp only [dats]; try rfl
theorem after0_30 (hO : Ok m) (c : Dev nD) (t : Fin (cfgM m hO).N) : (dats m hO 0 c).after 30 t = iblk m hO c 30 t := by dsimp only [dats]; try rfl
theorem after0_31 (hO : Ok m) (c : Dev nD) (t : Fin (cfgM m hO).N) : (dats m hO 0 c).after 31 t = iblk m hO c 31 t := by dsimp only [dats]; try rfl
theorem after0_32 (hO : Ok m) (c : Dev nD) (t : Fin (cfgM m hO).N) : (dats m hO 0 c).after 32 t = iblk m hO c 32 t := by dsimp only [dats]; try rfl
theorem after0_33 (hO : Ok m) (c : Dev nD) (t : Fin (cfgM m hO).N) : (dats m hO 0 c).after 33 t = iblk m hO c 33 t := by dsimp only [dats]; try rfl
theorem after0_34 (hO : Ok m) (c : Dev nD) (t : Fin (cfgM m hO).N) : (dats m hO 0 c).after 34 t = iblk m hO c 34 t := by dsimp only [dats]; try rfl
theorem after0_35 (hO : Ok m) (c : Dev nD) (t : Fin (cfgM m hO).N) : (dats m hO 0 c).after 35 t = iblk m hO c 35 t := by dsimp only [dats]; try rfl
theorem after0_36 (hO : Ok m) (c : Dev nD) (t : Fin (cfgM m hO).N) : (dats m hO 0 c).after 36 t = iblk m hO c 36 t := by dsimp only [dats]; try rfl
theorem after0_37 (hO : Ok m) (c : Dev nD) (t : Fin (cfgM m hO).N) : (dats m hO 0 c).after 37 t = iblk m hO c 37 t := by dsimp only [dats]; try rfl
theorem after0_38 (hO : Ok m) (c : Dev nD) (t : Fin (cfgM m hO).N) : (dats m hO 0 c).after 38 t = iblk m hO c 38 t := by dsimp only [dats]; try rfl
theorem after0_39 (hO : Ok m) (c : Dev nD) (t : Fin (cfgM m hO).N) : (dats m hO 0 c).after 39 t = iblk m hO c 39 t := by dsimp only [dats]; try rfl
theorem after0_40 (hO : Ok m) (c : Dev nD) (t : Fin (cfgM m hO).N) : (dats m hO 0 c).after 40 t = iblk m hO c 40 t := by dsimp only [dats]; try rfl
theorem after0_41 (hO : Ok m) (c : Dev nD) (t : Fin (cfgM m hO).N) : (dats m hO 0 c).after 41 t = iblk m hO c 41 t := by dsimp only [dats]; try rfl
theorem after0_42 (hO : Ok m) (c : Dev nD) (t : Fin (cfgM m hO).N) : (dats m hO 0 c).after 42 t = iblk m hO c 42 t := by dsimp only [dats]; try rfl
theorem after0_43 (hO : Ok m) (c : Dev nD) (t : Fin (cfgM m hO).N) : (dats m hO 0 c).after 43 t = iblk m hO c 43 t := by dsimp only [dats]; try rfl
theorem after0_44 (hO : Ok m) (c : Dev nD) (t : Fin (cfgM m hO).N) : (dats m hO 0 c).after 44 t = iblk m hO c 44 t := by dsimp only [dats]; try rfl
theorem after0_45 (hO : Ok m) (c : Dev nD) (t : Fin (cfgM m hO).N) : (dats m hO 0 c).after 45 t = iblk m hO c 45 t := by dsimp only [dats]; try rfl
theorem after0_46 (hO : Ok m) (c : Dev nD) (t : Fin (cfgM m hO).N) : (dats m hO 0 c).after 46 t = iblk m hO c 46 t := by dsimp only [dats]; try rfl
theorem after0_47 (hO : Ok m) (c : Dev nD) (t : Fin (cfgM m hO).N) : (dats m hO 0 c).after 47 t = iblk m hO c 47 t := by dsimp only [dats]; try rfl
theorem after0_48 (hO : Ok m) (c : Dev nD) (t : Fin (cfgM m hO).N) : (dats m hO 0 c).after 48 t = iblk m hO c 48 t := by dsimp only [dats]; try rfl
theorem after0_49 (hO : Ok m) (c : Dev nD) (t : Fin (cfgM m hO).N) : (dats m hO 0 c).after 49 t = iblk m hO c 49 t := by dsimp only [dats]; try rfl
theorem after0_50 (hO : Ok m) (c : Dev nD) (t : Fin (cfgM m hO).N) : (dats m hO 0 c).after 50 t = iblk m hO c 50 t := by dsimp only [dats]; try rfl
theorem after0_51 (hO : Ok m) (c : Dev nD) (t : Fin (cfgM m hO).N) : (dats m hO 0 c).after 51 t = iblk m hO c 51 t := by dsimp only [dats]; try rfl
theorem after0_52 (hO : Ok m) (c : Dev nD) (t : Fin (cfgM m hO).N) : (dats m hO 0 c).after 52 t = iblk m hO c 52 t := by dsimp only [dats]; try rfl
theorem after0_53 (hO : Ok m) (c : Dev nD) (t : Fin (cfgM m hO).N) : (dats m hO 0 c).after 53 t = iblk m hO c 53 t := by dsimp only [dats]; try rfl
theorem after0_54 (hO : Ok m) (c : Dev nD) (t : Fin (cfgM m hO).N) : (dats m hO 0 c).after 54 t = iblk m hO c 54 t := by dsimp only [dats]; try rfl
theorem after0_55 (hO : Ok m) (c : Dev nD) (t : Fin (cfgM m hO).N) : (dats m hO 0 c).after 55 t = iblk m hO c 55 t := by dsimp only [dats]; try rfl
theorem after0_56 (hO : Ok m) (c : Dev nD) (t : Fin (cfgM m hO).N) : (dats m hO 0 c).after 56 t = iblk m hO c 56 t := by dsimp only [dats]; try rfl
theorem after0_57 (hO : Ok m) (c : Dev nD) (t : Fin (cfgM m hO).N) : (dats m hO 0 c).after 57 t = iblk m hO c 57 t := by dsimp only [dats]; try rfl
theorem after0_58 (hO : Ok m) (c : Dev nD) (t : Fin (cfgM m hO).N) : (dats m hO 0 c).after 58 t = iblk m hO c 58 t := by dsimp only [dats]; try rfl
theorem after0_59 (hO : Ok m) (c : Dev nD) (t : Fin (cfgM m hO).N) : (dats m hO 0 c).after 59 t = iblk m hO c 59 t := by dsimp only [dats]; try rfl
theorem after0_60 (hO : Ok m) (c : Dev nD) (t : Fin (cfgM m hO).N) : (dats m hO 0 c).after 60 t = iblk m hO c 60 t := by dsimp only [dats]; try rfl
theorem after0_61 (hO : Ok m) (c : Dev nD) (t : Fin (cfgM m hO).N) : (dats m hO 0 c).after 61 t = iblk m hO c 61 t := by dsimp only [dats]; try rfl
theorem after0_62 (hO : Ok m) (c : Dev nD) (t : Fin (cfgM m hO).N) : (dats m hO 0 c).after 62 t = iblk m hO c 62 t := by dsimp only [dats]; try rfl
theorem after0_63 (hO : Ok m) (c : Dev nD) (t : Fin (cfgM m hO).N) : (dats m hO 0 c).after 63 t = iblk m hO c 63 t := by dsimp only [dats]; try rfl
theorem after0_64 (hO : Ok m) (c : Dev nD) (t : Fin (cfgM m hO).N) : (dats m hO 0 c).after 64 t = iblk m hO c 64 t := by dsimp only [dats]; try rfl
theorem after0_65 (hO : Ok m) (c : Dev nD) (t : Fin (cfgM m hO).N) : (dats m hO 0 c).after 65 t = iblk m hO c 65 t := by dsimp only [dats]; try rfl
theorem after0_66 (hO : Ok m) (c : Dev nD) (t : Fin (cfgM m hO).N) : (dats m hO 0 c).after 66 t = iblk m hO c 66 t := by dsimp only [dats]; try rfl
theorem after0_67 (hO : Ok m) (c : Dev nD) (t : Fin (cfgM m hO).N) : (dats m hO 0 c).after 67 t = iblk m hO c 67 t := by dsimp only [dats]; try rfl
theorem after0_68 (hO : Ok m) (c : Dev nD) (t : Fin (cfgM m hO).N) : (dats m hO 0 c).after 68 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d
theorem before0_20 (hO : Ok m) (c : Dev nD) (t : Fin (cfgM m hO).N) (d) : (dats m hO 0 c).before 20 t d = iblk m hO c 20 t :=
  before0_20_of m hO (dats m hO 0 c) (A_eq m hO c 20) (after0_20 m hO c) t d
theorem before0_21 (hO : Ok m) (c : Dev nD) (t : Fin (cfgM m hO).N) (d) : (dats m hO 0 c).before 21 t d = iblk m hO c 21 t :=
  before0_21_of m hO (dats m hO 0 c) (A_eq m hO c 21) (after0_21 m hO c) t d
theorem before0_22 (hO : Ok m) (c : Dev nD) (t : Fin (cfgM m hO).N) (d) : (dats m hO 0 c).before 22 t d = iblk m hO c 22 t :=
  before0_22_of m hO (dats m hO 0 c) (A_eq m hO c 22) (after0_22 m hO c) t d
theorem before0_23 (hO : Ok m) (c : Dev nD) (t : Fin (cfgM m hO).N) (d) : (dats m hO 0 c).before 23 t d = iblk m hO c 23 t :=
  before0_23_of m hO (dats m hO 0 c) (A_eq m hO c 23) (after0_23 m hO c) t d
theorem before0_24 (hO : Ok m) (c : Dev nD) (t : Fin (cfgM m hO).N) (d) : (dats m hO 0 c).before 24 t d = iblk m hO c 24 t :=
  before0_24_of m hO (dats m hO 0 c) (A_eq m hO c 24) (after0_24 m hO c) t d
theorem before0_25 (hO : Ok m) (c : Dev nD) (t : Fin (cfgM m hO).N) (d) : (dats m hO 0 c).before 25 t d = iblk m hO c 25 t :=
  before0_25_of m hO (dats m hO 0 c) (A_eq m hO c 25) (after0_25 m hO c) t d
theorem before0_26 (hO : Ok m) (c : Dev nD) (t : Fin (cfgM m hO).N) (d) : (dats m hO 0 c).before 26 t d = iblk m hO c 26 t :=
  before0_26_of m hO (dats m hO 0 c) (A_eq m hO c 26) (after0_26 m hO c) t d
theorem before0_27 (hO : Ok m) (c : Dev nD) (t : Fin (cfgM m hO).N) (d) : (dats m hO 0 c).before 27 t d = iblk m hO c 27 t :=
  before0_27_of m hO (dats m hO 0 c) (A_eq m hO c 27) (after0_27 m hO c) t d
theorem before0_28 (hO : Ok m) (c : Dev nD) (t : Fin (cfgM m hO).N) (d) : (dats m hO 0 c).before 28 t d = iblk m hO c 28 t :=
  before0_28_of m hO (dats m hO 0 c) (A_eq m hO c 28) (after0_28 m hO c) t d
theorem before0_29 (hO : Ok m) (c : Dev nD) (t : Fin (cfgM m hO).N) (d) : (dats m hO 0 c).before 29 t d = iblk m hO c 29 t :=
  before0_29_of m hO (dats m hO 0 c) (A_eq m hO c 29) (after0_29 m hO c) t d
theorem before0_30 (hO : Ok m) (c : Dev nD) (t : Fin (cfgM m hO).N) (d) : (dats m hO 0 c).before 30 t d = iblk m hO c 30 t :=
  before0_30_of m hO (dats m hO 0 c) (A_eq m hO c 30) (after0_30 m hO c) t d
theorem before0_31 (hO : Ok m) (c : Dev nD) (t : Fin (cfgM m hO).N) (d) : (dats m hO 0 c).before 31 t d = iblk m hO c 31 t :=
  before0_31_of m hO (dats m hO 0 c) (A_eq m hO c 31) (after0_31 m hO c) t d
theorem before0_32 (hO : Ok m) (c : Dev nD) (t : Fin (cfgM m hO).N) (d) : (dats m hO 0 c).before 32 t d = iblk m hO c 32 t :=
  before0_32_of m hO (dats m hO 0 c) (A_eq m hO c 32) (after0_32 m hO c) t d
theorem before0_33 (hO : Ok m) (c : Dev nD) (t : Fin (cfgM m hO).N) (d) : (dats m hO 0 c).before 33 t d = iblk m hO c 33 t :=
  before0_33_of m hO (dats m hO 0 c) (A_eq m hO c 33) (after0_33 m hO c) t d
theorem before0_34 (hO : Ok m) (c : Dev nD) (t : Fin (cfgM m hO).N) (d) : (dats m hO 0 c).before 34 t d = iblk m hO c 34 t :=
  before0_34_of m hO (dats m hO 0 c) (A_eq m hO c 34) (after0_34 m hO c) t d
theorem before0_35 (hO : Ok m) (c : Dev nD) (t : Fin (cfgM m hO).N) (d) : (dats m hO 0 c).before 35 t d = iblk m hO c 35 t :=
  before0_35_of m hO (dats m hO 0 c) (A_eq m hO c 35) (after0_35 m hO c) t d
theorem before0_36 (hO : Ok m) (c : Dev nD) (t : Fin (cfgM m hO).N) (d) : (dats m hO 0 c).before 36 t d = iblk m hO c 36 t :=
  before0_36_of m hO (dats m hO 0 c) (A_eq m hO c 36) (after0_36 m hO c) t d
theorem before0_37 (hO : Ok m) (c : Dev nD) (t : Fin (cfgM m hO).N) (d) : (dats m hO 0 c).before 37 t d = iblk m hO c 37 t :=
  before0_37_of m hO (dats m hO 0 c) (A_eq m hO c 37) (after0_37 m hO c) t d
theorem before0_38 (hO : Ok m) (c : Dev nD) (t : Fin (cfgM m hO).N) (d) : (dats m hO 0 c).before 38 t d = iblk m hO c 38 t :=
  before0_38_of m hO (dats m hO 0 c) (A_eq m hO c 38) (after0_38 m hO c) t d
theorem before0_39 (hO : Ok m) (c : Dev nD) (t : Fin (cfgM m hO).N) (d) : (dats m hO 0 c).before 39 t d = iblk m hO c 39 t :=
  before0_39_of m hO (dats m hO 0 c) (A_eq m hO c 39) (after0_39 m hO c) t d
theorem before0_40 (hO : Ok m) (c : Dev nD) (t : Fin (cfgM m hO).N) (d) : (dats m hO 0 c).before 40 t d = iblk m hO c 40 t :=
  before0_40_of m hO (dats m hO 0 c) (A_eq m hO c 40) (after0_40 m hO c) t d
theorem before0_41 (hO : Ok m) (c : Dev nD) (t : Fin (cfgM m hO).N) (d) : (dats m hO 0 c).before 41 t d = iblk m hO c 41 t :=
  before0_41_of m hO (dats m hO 0 c) (A_eq m hO c 41) (after0_41 m hO c) t d
theorem before0_42 (hO : Ok m) (c : Dev nD) (t : Fin (cfgM m hO).N) (d) : (dats m hO 0 c).before 42 t d = iblk m hO c 42 t :=
  before0_42_of m hO (dats m hO 0 c) (A_eq m hO c 42) (after0_42 m hO c) t d
theorem before0_43 (hO : Ok m) (c : Dev nD) (t : Fin (cfgM m hO).N) (d) : (dats m hO 0 c).before 43 t d = iblk m hO c 43 t :=
  before0_43_of m hO (dats m hO 0 c) (A_eq m hO c 43) (after0_43 m hO c) t d
theorem before0_44 (hO : Ok m) (c : Dev nD) (t : Fin (cfgM m hO).N) (d) : (dats m hO 0 c).before 44 t d = iblk m hO c 44 t :=
  before0_44_of m hO (dats m hO 0 c) (A_eq m hO c 44) (after0_44 m hO c) t d
theorem before0_45 (hO : Ok m) (c : Dev nD) (t : Fin (cfgM m hO).N) (d) : (dats m hO 0 c).before 45 t d = iblk m hO c 45 t :=
  before0_45_of m hO (dats m hO 0 c) (A_eq m hO c 45) (after0_45 m hO c) t d
theorem before0_46 (hO : Ok m) (c : Dev nD) (t : Fin (cfgM m hO).N) (d) : (dats m hO 0 c).before 46 t d = iblk m hO c 46 t :=
  before0_46_of m hO (dats m hO 0 c) (A_eq m hO c 46) (after0_46 m hO c) t d
theorem before0_47 (hO : Ok m) (c : Dev nD) (t : Fin (cfgM m hO).N) (d) : (dats m hO 0 c).before 47 t d = iblk m hO c 47 t :=
  before0_47_of m hO (dats m hO 0 c) (A_eq m hO c 47) (after0_47 m hO c) t d
theorem before0_48 (hO : Ok m) (c : Dev nD) (t : Fin (cfgM m hO).N) (d) : (dats m hO 0 c).before 48 t d = iblk m hO c 48 t :=
  before0_48_of m hO (dats m hO 0 c) (A_eq m hO c 48) (after0_48 m hO c) t d
theorem before0_49 (hO : Ok m) (c : Dev nD) (t : Fin (cfgM m hO).N) (d) : (dats m hO 0 c).before 49 t d = iblk m hO c 49 t :=
  before0_49_of m hO (dats m hO 0 c) (A_eq m hO c 49) (after0_49 m hO c) t d
theorem before0_50 (hO : Ok m) (c : Dev nD) (t : Fin (cfgM m hO).N) (d) : (dats m hO 0 c).before 50 t d = iblk m hO c 50 t :=
  before0_50_of m hO (dats m hO 0 c) (A_eq m hO c 50) (after0_50 m hO c) t d
theorem before0_51 (hO : Ok m) (c : Dev nD) (t : Fin (cfgM m hO).N) (d) : (dats m hO 0 c).before 51 t d = iblk m hO c 51 t :=
  before0_51_of m hO (dats m hO 0 c) (A_eq m hO c 51) (after0_51 m hO c) t d
theorem before0_52 (hO : Ok m) (c : Dev nD) (t : Fin (cfgM m hO).N) (d) : (dats m hO 0 c).before 52 t d = iblk m hO c 52 t :=
  before0_52_of m hO (dats m hO 0 c) (A_eq m hO c 52) (after0_52 m hO c) t d
theorem before0_53 (hO : Ok m) (c : Dev nD) (t : Fin (cfgM m hO).N) (d) : (dats m hO 0 c).before 53 t d = iblk m hO c 53 t :=
  before0_53_of m hO (dats m hO 0 c) (A_eq m hO c 53) (after0_53 m hO c) t d
theorem before0_54 (hO : Ok m) (c : Dev nD) (t : Fin (cfgM m hO).N) (d) : (dats m hO 0 c).before 54 t d = iblk m hO c 54 t :=
  before0_54_of m hO (dats m hO 0 c) (A_eq m hO c 54) (after0_54 m hO c) t d
theorem before0_55 (hO : Ok m) (c : Dev nD) (t : Fin (cfgM m hO).N) (d) : (dats m hO 0 c).before 55 t d = iblk m hO c 55 t :=
  before0_55_of m hO (dats m hO 0 c) (A_eq m hO c 55) (after0_55 m hO c) t d
theorem before0_56 (hO : Ok m) (c : Dev nD) (t : Fin (cfgM m hO).N) (d) : (dats m hO 0 c).before 56 t d = iblk m hO c 56 t :=
  before0_56_of m hO (dats m hO 0 c) (A_eq m hO c 56) (after0_56 m hO c) t d
theorem before0_57 (hO : Ok m) (c : Dev nD) (t : Fin (cfgM m hO).N) (d) : (dats m hO 0 c).before 57 t d = iblk m hO c 57 t :=
  before0_57_of m hO (dats m hO 0 c) (A_eq m hO c 57) (after0_57 m hO c) t d
theorem before0_58 (hO : Ok m) (c : Dev nD) (t : Fin (cfgM m hO).N) (d) : (dats m hO 0 c).before 58 t d = iblk m hO c 58 t :=
  before0_58_of m hO (dats m hO 0 c) (A_eq m hO c 58) (after0_58 m hO c) t d
theorem before0_59 (hO : Ok m) (c : Dev nD) (t : Fin (cfgM m hO).N) (d) : (dats m hO 0 c).before 59 t d = iblk m hO c 59 t :=
  before0_59_of m hO (dats m hO 0 c) (A_eq m hO c 59) (after0_59 m hO c) t d
theorem before0_60 (hO : Ok m) (c : Dev nD) (t : Fin (cfgM m hO).N) (d) : (dats m hO 0 c).before 60 t d = iblk m hO c 60 t :=
  before0_60_of m hO (dats m hO 0 c) (A_eq m hO c 60) (after0_60 m hO c) t d
theorem before0_61 (hO : Ok m) (c : Dev nD) (t : Fin (cfgM m hO).N) (d) : (dats m hO 0 c).before 61 t d = iblk m hO c 61 t :=
  before0_61_of m hO (dats m hO 0 c) (A_eq m hO c 61) (after0_61 m hO c) t d
theorem before0_62 (hO : Ok m) (c : Dev nD) (t : Fin (cfgM m hO).N) (d) : (dats m hO 0 c).before 62 t d = iblk m hO c 62 t :=
  before0_62_of m hO (dats m hO 0 c) (A_eq m hO c 62) (after0_62 m hO c) t d
theorem before0_63 (hO : Ok m) (c : Dev nD) (t : Fin (cfgM m hO).N) (d) : (dats m hO 0 c).before 63 t d = iblk m hO c 63 t :=
  before0_63_of m hO (dats m hO 0 c) (A_eq m hO c 63) (after0_63 m hO c) t d
theorem before0_64 (hO : Ok m) (c : Dev nD) (t : Fin (cfgM m hO).N) (d) : (dats m hO 0 c).before 64 t d = iblk m hO c 64 t :=
  before0_64_of m hO (dats m hO 0 c) (A_eq m hO c 64) (after0_64 m hO c) t d
theorem before0_65 (hO : Ok m) (c : Dev nD) (t : Fin (cfgM m hO).N) (d) : (dats m hO 0 c).before 65 t d = iblk m hO c 65 t :=
  before0_65_of m hO (dats m hO 0 c) (A_eq m hO c 65) (after0_65 m hO c) t d
theorem before0_66 (hO : Ok m) (c : Dev nD) (t : Fin (cfgM m hO).N) (d) : (dats m hO 0 c).before 66 t d = iblk m hO c 66 t :=
  before0_66_of m hO (dats m hO 0 c) (A_eq m hO c 66) (after0_66 m hO c) t d
theorem before0_67 (hO : Ok m) (c : Dev nD) (t : Fin (cfgM m hO).N) (d) : (dats m hO 0 c).before 67 t d = iblk m hO c 67 t :=
  before0_67_of m hO (dats m hO 0 c) (A_eq m hO c 67) (after0_67 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d))
    ∗ (∃ d, owns (c : Thread nD τ) (ms0_27 m hO t) fullShare ((dats m hO 0 c).before 27 t d))
    ∗ (∃ d, owns (c : Thread nD τ) (ms0_28 m hO t) fullShare ((dats m hO 0 c).before 28 t d))
    ∗ (∃ d, owns (c : Thread nD τ) (ms0_29 m hO t) fullShare ((dats m hO 0 c).before 29 t d))
    ∗ (∃ d, owns (c : Thread nD τ) (ms0_30 m hO t) fullShare ((dats m hO 0 c).before 30 t d))
    ∗ (∃ d, owns (c : Thread nD τ) (ms0_31 m hO t) fullShare ((dats m hO 0 c).before 31 t d))
    ∗ (∃ d, owns (c : Thread nD τ) (ms0_32 m hO t) fullShare ((dats m hO 0 c).before 32 t d))
    ∗ (∃ d, owns (c : Thread nD τ) (ms0_33 m hO t) fullShare ((dats m hO 0 c).before 33 t d))
    ∗ (∃ d, owns (c : Thread nD τ) (ms0_34 m hO t) fullShare ((dats m hO 0 c).before 34 t d))
    ∗ (∃ d, owns (c : Thread nD τ) (ms0_35 m hO t) fullShare ((dats m hO 0 c).before 35 t d))
    ∗ (∃ d, owns (c : Thread nD τ) (ms0_36 m hO t) fullShare ((dats m hO 0 c).before 36 t d))
    ∗ (∃ d, owns (c : Thread nD τ) (ms0_37 m hO t) fullShare ((dats m hO 0 c).before 37 t d))
    ∗ (∃ d, owns (c : Thread nD τ) (ms0_38 m hO t) fullShare ((dats m hO 0 c).before 38 t d))
    ∗ (∃ d, owns (c : Thread nD τ) (ms0_39 m hO t) fullShare ((dats m hO 0 c).before 39 t d))
    ∗ (∃ d, owns (c : Thread nD τ) (ms0_40 m hO t) fullShare ((dats m hO 0 c).before 40 t d))
    ∗ (∃ d, owns (c : Thread nD τ) (ms0_41 m hO t) fullShare ((dats m hO 0 c).before 41 t d))
    ∗ (∃ d, owns (c : Thread nD τ) (ms0_42 m hO t) fullShare ((dats m hO 0 c).before 42 t d))
    ∗ (∃ d, owns (c : Thread nD τ) (ms0_43 m hO t) fullShare ((dats m hO 0 c).before 43 t d))
    ∗ (∃ d, owns (c : Thread nD τ) (ms0_44 m hO t) fullShare ((dats m hO 0 c).before 44 t d))
    ∗ (∃ d, owns (c : Thread nD τ) (ms0_45 m hO t) fullShare ((dats m hO 0 c).before 45 t d))
    ∗ (∃ d, owns (c : Thread nD τ) (ms0_46 m hO t) fullShare ((dats m hO 0 c).before 46 t d))
    ∗ (∃ d, owns (c : Thread nD τ) (ms0_47 m hO t) fullShare ((dats m hO 0 c).before 47 t d))
    ∗ (∃ d, owns (c : Thread nD τ) (ms0_48 m hO t) fullShare ((dats m hO 0 c).before 48 t d))
    ∗ (∃ d, owns (c : Thread nD τ) (ms0_49 m hO t) fullShare ((dats m hO 0 c).before 49 t d))
    ∗ (∃ d, owns (c : Thread nD τ) (ms0_50 m hO t) fullShare ((dats m hO 0 c).before 50 t d))
    ∗ (∃ d, owns (c : Thread nD τ) (ms0_51 m hO t) fullShare ((dats m hO 0 c).before 51 t d))
    ∗ (∃ d, owns (c : Thread nD τ) (ms0_52 m hO t) fullShare ((dats m hO 0 c).before 52 t d))
    ∗ (∃ d, owns (c : Thread nD τ) (ms0_53 m hO t) fullShare ((dats m hO 0 c).before 53 t d))
    ∗ (∃ d, owns (c : Thread nD τ) (ms0_54 m hO t) fullShare ((dats m hO 0 c).before 54 t d))
    ∗ (∃ d, owns (c : Thread nD τ) (ms0_55 m hO t) fullShare ((dats m hO 0 c).before 55 t d))
    ∗ (∃ d, owns (c : Thread nD τ) (ms0_56 m hO t) fullShare ((dats m hO 0 c).before 56 t d))
    ∗ (∃ d, owns (c : Thread nD τ) (ms0_57 m hO t) fullShare ((dats m hO 0 c).before 57 t d))
    ∗ (∃ d, owns (c : Thread nD τ) (ms0_58 m hO t) fullShare ((dats m hO 0 c).before 58 t d))
    ∗ (∃ d, owns (c : Thread nD τ) (ms0_59 m hO t) fullShare ((dats m hO 0 c).before 59 t d))
    ∗ (∃ d, owns (c : Thread nD τ) (ms0_60 m hO t) fullShare ((dats m hO 0 c).before 60 t d))
    ∗ (∃ d, owns (c : Thread nD τ) (ms0_61 m hO t) fullShare ((dats m hO 0 c).before 61 t d))
    ∗ (∃ d, owns (c : Thread nD τ) (ms0_62 m hO t) fullShare ((dats m hO 0 c).before 62 t d))
    ∗ (∃ d, owns (c : Thread nD τ) (ms0_63 m hO t) fullShare ((dats m hO 0 c).before 63 t d))
    ∗ (∃ d, owns (c : Thread nD τ) (ms0_64 m hO t) fullShare ((dats m hO 0 c).before 64 t d))
    ∗ (∃ d, owns (c : Thread nD τ) (ms0_65 m hO t) fullShare ((dats m hO 0 c).before 65 t d))
    ∗ (∃ d, owns (c : Thread nD τ) (ms0_66 m hO t) fullShare ((dats m hO 0 c).before 66 t d))
    ∗ (∃ d, owns (c : Thread nD τ) (ms0_67 m hO t) fullShare ((dats m hO 0 c).before 67 t d))
    ∗ (∃ d, owns (c : Thread nD τ) (ms0_68 m hO t) fullShare ((dats m hO 0 c).before 68 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t)
    ∗ owns (c : Thread nD τ) (ms0_20 m hO t) fullShare ((dats m hO 0 c).after 20 t)
    ∗ owns (c : Thread nD τ) (ms0_21 m hO t) fullShare ((dats m hO 0 c).after 21 t)
    ∗ owns (c : Thread nD τ) (ms0_22 m hO t) fullShare ((dats m hO 0 c).after 22 t)
    ∗ owns (c : Thread nD τ) (ms0_23 m hO t) fullShare ((dats m hO 0 c).after 23 t)
    ∗ owns (c : Thread nD τ) (ms0_24 m hO t) fullShare ((dats m hO 0 c).after 24 t)
    ∗ owns (c : Thread nD τ) (ms0_25 m hO t) fullShare ((dats m hO 0 c).after 25 t)
    ∗ owns (c : Thread nD τ) (ms0_26 m hO t) fullShare ((dats m hO 0 c).after 26 t)
    ∗ owns (c : Thread nD τ) (ms0_27 m hO t) fullShare ((dats m hO 0 c).after 27 t)
    ∗ owns (c : Thread nD τ) (ms0_28 m hO t) fullShare ((dats m hO 0 c).after 28 t)
    ∗ owns (c : Thread nD τ) (ms0_29 m hO t) fullShare ((dats m hO 0 c).after 29 t)
    ∗ owns (c : Thread nD τ) (ms0_30 m hO t) fullShare ((dats m hO 0 c).after 30 t)
    ∗ owns (c : Thread nD τ) (ms0_31 m hO t) fullShare ((dats m hO 0 c).after 31 t)
    ∗ owns (c : Thread nD τ) (ms0_32 m hO t) fullShare ((dats m hO 0 c).after 32 t)
    ∗ owns (c : Thread nD τ) (ms0_33 m hO t) fullShare ((dats m hO 0 c).after 33 t)
    ∗ owns (c : Thread nD τ) (ms0_34 m hO t) fullShare ((dats m hO 0 c).after 34 t)
    ∗ owns (c : Thread nD τ) (ms0_35 m hO t) fullShare ((dats m hO 0 c).after 35 t)
    ∗ owns (c : Thread nD τ) (ms0_36 m hO t) fullShare ((dats m hO 0 c).after 36 t)
    ∗ owns (c : Thread nD τ) (ms0_37 m hO t) fullShare ((dats m hO 0 c).after 37 t)
    ∗ owns (c : Thread nD τ) (ms0_38 m hO t) fullShare ((dats m hO 0 c).after 38 t)
    ∗ owns (c : Thread nD τ) (ms0_39 m hO t) fullShare ((dats m hO 0 c).after 39 t)
    ∗ owns (c : Thread nD τ) (ms0_40 m hO t) fullShare ((dats m hO 0 c).after 40 t)
    ∗ owns (c : Thread nD τ) (ms0_41 m hO t) fullShare ((dats m hO 0 c).after 41 t)
    ∗ owns (c : Thread nD τ) (ms0_42 m hO t) fullShare ((dats m hO 0 c).after 42 t)
    ∗ owns (c : Thread nD τ) (ms0_43 m hO t) fullShare ((dats m hO 0 c).after 43 t)
    ∗ owns (c : Thread nD τ) (ms0_44 m hO t) fullShare ((dats m hO 0 c).after 44 t)
    ∗ owns (c : Thread nD τ) (ms0_45 m hO t) fullShare ((dats m hO 0 c).after 45 t)
    ∗ owns (c : Thread nD τ) (ms0_46 m hO t) fullShare ((dats m hO 0 c).after 46 t)
    ∗ owns (c : Thread nD τ) (ms0_47 m hO t) fullShare ((dats m hO 0 c).after 47 t)
    ∗ owns (c : Thread nD τ) (ms0_48 m hO t) fullShare ((dats m hO 0 c).after 48 t)
    ∗ owns (c : Thread nD τ) (ms0_49 m hO t) fullShare ((dats m hO 0 c).after 49 t)
    ∗ owns (c : Thread nD τ) (ms0_50 m hO t) fullShare ((dats m hO 0 c).after 50 t)
    ∗ owns (c : Thread nD τ) (ms0_51 m hO t) fullShare ((dats m hO 0 c).after 51 t)
    ∗ owns (c : Thread nD τ) (ms0_52 m hO t) fullShare ((dats m hO 0 c).after 52 t)
    ∗ owns (c : Thread nD τ) (ms0_53 m hO t) fullShare ((dats m hO 0 c).after 53 t)
    ∗ owns (c : Thread nD τ) (ms0_54 m hO t) fullShare ((dats m hO 0 c).after 54 t)
    ∗ owns (c : Thread nD τ) (ms0_55 m hO t) fullShare ((dats m hO 0 c).after 55 t)
    ∗ owns (c : Thread nD τ) (ms0_56 m hO t) fullShare ((dats m hO 0 c).after 56 t)
    ∗ owns (c : Thread nD τ) (ms0_57 m hO t) fullShare ((dats m hO 0 c).after 57 t)
    ∗ owns (c : Thread nD τ) (ms0_58 m hO t) fullShare ((dats m hO 0 c).after 58 t)
    ∗ owns (c : Thread nD τ) (ms0_59 m hO t) fullShare ((dats m hO 0 c).after 59 t)
    ∗ owns (c : Thread nD τ) (ms0_60 m hO t) fullShare ((dats m hO 0 c).after 60 t)
    ∗ owns (c : Thread nD τ) (ms0_61 m hO t) fullShare ((dats m hO 0 c).after 61 t)
    ∗ owns (c : Thread nD τ) (ms0_62 m hO t) fullShare ((dats m hO 0 c).after 62 t)
    ∗ owns (c : Thread nD τ) (ms0_63 m hO t) fullShare ((dats m hO 0 c).after 63 t)
    ∗ owns (c : Thread nD τ) (ms0_64 m hO t) fullShare ((dats m hO 0 c).after 64 t)
    ∗ owns (c : Thread nD τ) (ms0_65 m hO t) fullShare ((dats m hO 0 c).after 65 t)
    ∗ owns (c : Thread nD τ) (ms0_66 m hO t) fullShare ((dats m hO 0 c).after 66 t)
    ∗ owns (c : Thread nD τ) (ms0_67 m hO t) fullShare ((dats m hO 0 c).after 67 t)
    ∗ owns (c : Thread nD τ) (ms0_68 m hO t) fullShare ((dats m hO 0 c).after 68 t))

set_option maxHeartbeats 6800000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35, before0_36, before0_37, before0_38, before0_39, before0_40, before0_41, before0_42, before0_43, before0_44, before0_45, before0_46, before0_47, before0_48, before0_49, before0_50, before0_51, before0_52, before0_53, before0_54, before0_55, before0_56, before0_57, before0_58, before0_59, before0_60, before0_61, before0_62, before0_63, before0_64, before0_65, before0_66, before0_67]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46, after0_47, after0_48, after0_49, after0_50, after0_51, after0_52, after0_53, after0_54, after0_55, after0_56, after0_57, after0_58, after0_59, after0_60, after0_61, after0_62, after0_63, after0_64, after0_65, after0_66, after0_67, after0_68]
  rw [show (dats m hO 0 c).Φ t.castSucc = iprop(Pipeline.ΦA spec0 c ∗ Pipeline.ΦT pre0 (tbl m) c) from rfl, PhiT0_eq]
  unfold outsAt0
  unfold out0_A_68
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩, ⟨%d61, H61⟩, ⟨%d62, H62⟩, ⟨%d63, H63⟩, ⟨%d64, H64⟩, ⟨%d65, H65⟩, ⟨%d66, H66⟩, ⟨%d67, H67⟩, ⟨%d68, H68⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (iblk m hO c 36 t) (iblk m hO c 37 t) (iblk m hO c 38 t) (iblk m hO c 39 t) (iblk m hO c 40 t) (iblk m hO c 41 t) (iblk m hO c 42 t) (iblk m hO c 43 t) (iblk m hO c 44 t) (iblk m hO c 45 t) (iblk m hO c 46 t) (iblk m hO c 47 t) (iblk m hO c 48 t) (iblk m hO c 49 t) (iblk m hO c 50 t) (iblk m hO c 51 t) (iblk m hO c 52 t) (iblk m hO c 53 t) (iblk m hO c 54 t) (iblk m hO c 55 t) (iblk m hO c 56 t) (iblk m hO c 57 t) (iblk m hO c 58 t) (iblk m hO c 59 t) (iblk m hO c 60 t) (iblk m hO c 61 t) (iblk m hO c 62 t) (iblk m hO c 63 t) (iblk m hO c 64 t) (iblk m hO c 65 t) (iblk m hO c 66 t) (iblk m hO c 67 t) (tbl m 0)).2 Set.univ _)
  isplitl [H0]; · iapply (owns_raw (c : Thread nD τ) _ (hs0_0 m hO t) _); iexact H0
  isplitl [H1]; · iapply (owns_raw (c : Thread nD τ) _ (hs0_1 m hO t) _); iexact H1
  isplitl [H2]; · iapply (owns_raw (c : Thread nD τ) _ (hs0_2 m hO t) _); iexact H2
  isplitl [H3]; · iapply (owns_raw (c : Thread nD τ) _ (hs0_3 m hO t) _); iexact H3
  isplitl [H4]; · iapply (owns_raw (c : Thread nD τ) _ (hs0_4 m hO t) _); iexact H4
  isplitl [H5]; · iapply (owns_raw (c : Thread nD τ) _ (hs0_5 m hO t) _); iexact H5
  isplitl [H6]; · iapply (owns_raw (c : Thread nD τ) _ (hs0_6 m hO t) _); iexact H6
  isplitl [H7]; · iapply (owns_raw (c : Thread nD τ) _ (hs0_7 m hO t) _); iexact H7
  isplitl [H8]; · iapply (owns_raw (c : Thread nD τ) _ (hs0_8 m hO t) _); iexact H8
  isplitl [H9]; · iapply (owns_raw (c : Thread nD τ) _ (hs0_9 m hO t) _); iexact H9
  isplitl [H10]; · iapply (owns_raw (c : Thread nD τ) _ (hs0_10 m hO t) _); iexact H10
  isplitl [H11]; · iapply (owns_raw (c : Thread nD τ) _ (hs0_11 m hO t) _); iexact H11
  isplitl [H12]; · iapply (owns_raw (c : Thread nD τ) _ (hs0_12 m hO t) _); iexact H12
  isplitl [H13]; · iapply (owns_raw (c : Thread nD τ) _ (hs0_13 m hO t) _); iexact H13
  isplitl [H14]; · iapply (owns_raw (c : Thread nD τ) _ (hs0_14 m hO t) _); iexact H14
  isplitl [H15]; · iapply (owns_raw (c : Thread nD τ) _ (hs0_15 m hO t) _); iexact H15
  isplitl [H16]; · iapply (owns_raw (c : Thread nD τ) _ (hs0_16 m hO t) _); iexact H16
  isplitl [H17]; · iapply (owns_raw (c : Thread nD τ) _ (hs0_17 m hO t) _); iexact H17
  isplitl [H18]; · iapply (owns_raw (c : Thread nD τ) _ (hs0_18 m hO t) _); iexact H18
  isplitl [H19]; · iapply (owns_raw (c : Thread nD τ) _ (hs0_19 m hO t) _); iexact H19
  isplitl [H20]; · iapply (owns_raw (c : Thread nD τ) _ (hs0_20 m hO t) _); iexact H20
  isplitl [H21]; · iapply (owns_raw (c : Thread nD τ) _ (hs0_21 m hO t) _); iexact H21
  isplitl [H22]; · iapply (owns_raw (c : Thread nD τ) _ (hs0_22 m hO t) _); iexact H22
  isplitl [H23]; · iapply (owns_raw (c : Thread nD τ) _ (hs0_23 m hO t) _); iexact H23
  isplitl [H24]; · iapply (owns_raw (c : Thread nD τ) _ (hs0_24 m hO t) _); iexact H24
  isplitl [H25]; · iapply (owns_raw (c : Thread nD τ) _ (hs0_25 m hO t) _); iexact H25
  isplitl [H26]; · iapply (owns_raw (c : Thread nD τ) _ (hs0_26 m hO t) _); iexact H26
  isplitl [H27]; · iapply (owns_raw (c : Thread nD τ) _ (hs0_27 m hO t) _); iexact H27
  isplitl [H28]; · iapply (owns_raw (c : Thread nD τ) _ (hs0_28 m hO t) _); iexact H28
  isplitl [H29]; · iapply (owns_raw (c : Thread nD τ) _ (hs0_29 m hO t) _); iexact H29
  isplitl [H30]; · iapply (owns_raw (c : Thread nD τ) _ (hs0_30 m hO t) _); iexact H30
  isplitl [H31]; · iapply (owns_raw (c : Thread nD τ) _ (hs0_31 m hO t) _); iexact H31
  isplitl [H32]; · iapply (owns_raw (c : Thread nD τ) _ (hs0_32 m hO t) _); iexact H32
  isplitl [H33]; · iapply (owns_raw (c : Thread nD τ) _ (hs0_33 m hO t) _); iexact H33
  isplitl [H34]; · iapply (owns_raw (c : Thread nD τ) _ (hs0_34 m hO t) _); iexact H34
  isplitl [H35]; · iapply (owns_raw (c : Thread nD τ) _ (hs0_35 m hO t) _); iexact H35
  isplitl [H36]; · iapply (owns_raw (c : Thread nD τ) _ (hs0_36 m hO t) _); iexact H36
  isplitl [H37]; · iapply (owns_raw (c : Thread nD τ) _ (hs0_37 m hO t) _); iexact H37
  isplitl [H38]; · iapply (owns_raw (c : Thread nD τ) _ (hs0_38 m hO t) _); iexact H38
  isplitl [H39]; · iapply (owns_raw (c : Thread nD τ) _ (hs0_39 m hO t) _); iexact H39
  isplitl [H40]; · iapply (owns_raw (c : Thread nD τ) _ (hs0_40 m hO t) _); iexact H40
  isplitl [H41]; · iapply (owns_raw (c : Thread nD τ) _ (hs0_41 m hO t) _); iexact H41
  isplitl [H42]; · iapply (owns_raw (c : Thread nD τ) _ (hs0_42 m hO t) _); iexact H42
  isplitl [H43]; · iapply (owns_raw (c : Thread nD τ) _ (hs0_43 m hO t) _); iexact H43
  isplitl [H44]; · iapply (owns_raw (c : Thread nD τ) _ (hs0_44 m hO t) _); iexact H44
  isplitl [H45]; · iapply (owns_raw (c : Thread nD τ) _ (hs0_45 m hO t) _); iexact H45
  isplitl [H46]; · iapply (owns_raw (c : Thread nD τ) _ (hs0_46 m hO t) _); iexact H46
  isplitl [H47]; · iapply (owns_raw (c : Thread nD τ) _ (hs0_47 m hO t) _); iexact H47
  isplitl [H48]; · iapply (owns_raw (c : Thread nD τ) _ (hs0_48 m hO t) _); iexact H48
  isplitl [H49]; · iapply (owns_raw (c : Thread nD τ) _ (hs0_49 m hO t) _); iexact H49
  isplitl [H50]; · iapply (owns_raw (c : Thread nD τ) _ (hs0_50 m hO t) _); iexact H50
  isplitl [H51]; · iapply (owns_raw (c : Thread nD τ) _ (hs0_51 m hO t) _); iexact H51
  isplitl [H52]; · iapply (owns_raw (c : Thread nD τ) _ (hs0_52 m hO t) _); iexact H52
  isplitl [H53]; · iapply (owns_raw (c : Thread nD τ) _ (hs0_53 m hO t) _); iexact H53
  isplitl [H54]; · iapply (owns_raw (c : Thread nD τ) _ (hs0_54 m hO t) _); iexact H54
  isplitl [H55]; · iapply (owns_raw (c : Thread nD τ) _ (hs0_55 m hO t) _); iexact H55
  isplitl [H56]; · iapply (owns_raw (c : Thread nD τ) _ (hs0_56 m hO t) _); iexact H56
  isplitl [H57]; · iapply (owns_raw (c : Thread nD τ) _ (hs0_57 m hO t) _); iexact H57
  isplitl [H58]; · iapply (owns_raw (c : Thread nD τ) _ (hs0_58 m hO t) _); iexact H58
  isplitl [H59]; · iapply (owns_raw (c : Thread nD τ) _ (hs0_59 m hO t) _); iexact H59
  isplitl [H60]; · iapply (owns_raw (c : Thread nD τ) _ (hs0_60 m hO t) _); iexact H60
  isplitl [H61]; · iapply (owns_raw (c : Thread nD τ) _ (hs0_61 m hO t) _); iexact H61
  isplitl [H62]; · iapply (owns_raw (c : Thread nD τ) _ (hs0_62 m hO t) _); iexact H62
  isplitl [H63]; · iapply (owns_raw (c : Thread nD τ) _ (hs0_63 m hO t) _); iexact H63
  isplitl [H64]; · iapply (owns_raw (c : Thread nD τ) _ (hs0_64 m hO t) _); iexact H64
  isplitl [H65]; · iapply (owns_raw (c : Thread nD τ) _ (hs0_65 m hO t) _); iexact H65
  isplitl [H66]; · iapply (owns_raw (c : Thread nD τ) _ (hs0_66 m hO t) _); iexact H66
  isplitl [H67]; · iapply (owns_raw (c : Thread nD τ) _ (hs0_67 m hO t) _); iexact H67
  isplitl [H68]; · iexists _; iexact H68
  isplitl [HT0]; · iexact HT0
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, H67, ⟨%e68, H68⟩, HT0⟩
  isplitl [HΦ HT0]
  · isplitl [HΦ]
    · iexact HΦ
    iexact HT0
  isplitl [Ho]; · iexact Ho
  isplitl [H0]; · iapply (raw_owns (c : Thread nD τ) _ ((hs0_0 m hO t).read_unread _)); iexact H0
  isplitl [H1]; · iapply (raw_owns (c : Thread nD τ) _ ((hs0_1 m hO t).read_unread _)); iexact H1
  isplitl [H2]; · iapply (raw_owns (c : Thread nD τ) _ ((hs0_2 m hO t).read_unread _)); iexact H2
  isplitl [H3]; · iapply (raw_owns (c : Thread nD τ) _ ((hs0_3 m hO t).read_unread _)); iexact H3
  isplitl [H4]; · iapply (raw_owns (c : Thread nD τ) _ ((hs0_4 m hO t).read_unread _)); iexact H4
  isplitl [H5]; · iapply (raw_owns (c : Thread nD τ) _ ((hs0_5 m hO t).read_unread _)); iexact H5
  isplitl [H6]; · iapply (raw_owns (c : Thread nD τ) _ ((hs0_6 m hO t).read_unread _)); iexact H6
  isplitl [H7]; · iapply (raw_owns (c : Thread nD τ) _ ((hs0_7 m hO t).read_unread _)); iexact H7
  isplitl [H8]; · iapply (raw_owns (c : Thread nD τ) _ ((hs0_8 m hO t).read_unread _)); iexact H8
  isplitl [H9]; · iapply (raw_owns (c : Thread nD τ) _ ((hs0_9 m hO t).read_unread _)); iexact H9
  isplitl [H10]; · iapply (raw_owns (c : Thread nD τ) _ ((hs0_10 m hO t).read_unread _)); iexact H10
  isplitl [H11]; · iapply (raw_owns (c : Thread nD τ) _ ((hs0_11 m hO t).read_unread _)); iexact H11
  isplitl [H12]; · iapply (raw_owns (c : Thread nD τ) _ ((hs0_12 m hO t).read_unread _)); iexact H12
  isplitl [H13]; · iapply (raw_owns (c : Thread nD τ) _ ((hs0_13 m hO t).read_unread _)); iexact H13
  isplitl [H14]; · iapply (raw_owns (c : Thread nD τ) _ ((hs0_14 m hO t).read_unread _)); iexact H14
  isplitl [H15]; · iapply (raw_owns (c : Thread nD τ) _ ((hs0_15 m hO t).read_unread _)); iexact H15
  isplitl [H16]; · iapply (raw_owns (c : Thread nD τ) _ ((hs0_16 m hO t).read_unread _)); iexact H16
  isplitl [H17]; · iapply (raw_owns (c : Thread nD τ) _ ((hs0_17 m hO t).read_unread _)); iexact H17
  isplitl [H18]; · iapply (raw_owns (c : Thread nD τ) _ ((hs0_18 m hO t).read_unread _)); iexact H18
  isplitl [H19]; · iapply (raw_owns (c : Thread nD τ) _ ((hs0_19 m hO t).read_unread _)); iexact H19
  isplitl [H20]; · iapply (raw_owns (c : Thread nD τ) _ ((hs0_20 m hO t).read_unread _)); iexact H20
  isplitl [H21]; · iapply (raw_owns (c : Thread nD τ) _ ((hs0_21 m hO t).read_unread _)); iexact H21
  isplitl [H22]; · iapply (raw_owns (c : Thread nD τ) _ ((hs0_22 m hO t).read_unread _)); iexact H22
  isplitl [H23]; · iapply (raw_owns (c : Thread nD τ) _ ((hs0_23 m hO t).read_unread _)); iexact H23
  isplitl [H24]; · iapply (raw_owns (c : Thread nD τ) _ ((hs0_24 m hO t).read_unread _)); iexact H24
  isplitl [H25]; · iapply (raw_owns (c : Thread nD τ) _ ((hs0_25 m hO t).read_unread _)); iexact H25
  isplitl [H26]; · iapply (raw_owns (c : Thread nD τ) _ ((hs0_26 m hO t).read_unread _)); iexact H26
  isplitl [H27]; · iapply (raw_owns (c : Thread nD τ) _ ((hs0_27 m hO t).read_unread _)); iexact H27
  isplitl [H28]; · iapply (raw_owns (c : Thread nD τ) _ ((hs0_28 m hO t).read_unread _)); iexact H28
  isplitl [H29]; · iapply (raw_owns (c : Thread nD τ) _ ((hs0_29 m hO t).read_unread _)); iexact H29
  isplitl [H30]; · iapply (raw_owns (c : Thread nD τ) _ ((hs0_30 m hO t).read_unread _)); iexact H30
  isplitl [H31]; · iapply (raw_owns (c : Thread nD τ) _ ((hs0_31 m hO t).read_unread _)); iexact H31
  isplitl [H32]; · iapply (raw_owns (c : Thread nD τ) _ ((hs0_32 m hO t).read_unread _)); iexact H32
  isplitl [H33]; · iapply (raw_owns (c : Thread nD τ) _ ((hs0_33 m hO t).read_unread _)); iexact H33
  isplitl [H34]; · iapply (raw_owns (c : Thread nD τ) _ ((hs0_34 m hO t).read_unread _)); iexact H34
  isplitl [H35]; · iapply (raw_owns (c : Thread nD τ) _ ((hs0_35 m hO t).read_unread _)); iexact H35
  isplitl [H36]; · iapply (raw_owns (c : Thread nD τ) _ ((hs0_36 m hO t).read_unread _)); iexact H36
  isplitl [H37]; · iapply (raw_owns (c : Thread nD τ) _ ((hs0_37 m hO t).read_unread _)); iexact H37
  isplitl [H38]; · iapply (raw_owns (c : Thread nD τ) _ ((hs0_38 m hO t).read_unread _)); iexact H38
  isplitl [H39]; · iapply (raw_owns (c : Thread nD τ) _ ((hs0_39 m hO t).read_unread _)); iexact H39
  isplitl [H40]; · iapply (raw_owns (c : Thread nD τ) _ ((hs0_40 m hO t).read_unread _)); iexact H40
  isplitl [H41]; · iapply (raw_owns (c : Thread nD τ) _ ((hs0_41 m hO t).read_unread _)); iexact H41
  isplitl [H42]; · iapply (raw_owns (c : Thread nD τ) _ ((hs0_42 m hO t).read_unread _)); iexact H42
  isplitl [H43]; · iapply (raw_owns (c : Thread nD τ) _ ((hs0_43 m hO t).read_unread _)); iexact H43
  isplitl [H44]; · iapply (raw_owns (c : Thread nD τ) _ ((hs0_44 m hO t).read_unread _)); iexact H44
  isplitl [H45]; · iapply (raw_owns (c : Thread nD τ) _ ((hs0_45 m hO t).read_unread _)); iexact H45
  isplitl [H46]; · iapply (raw_owns (c : Thread nD τ) _ ((hs0_46 m hO t).read_unread _)); iexact H46
  isplitl [H47]; · iapply (raw_owns (c : Thread nD τ) _ ((hs0_47 m hO t).read_unread _)); iexact H47
  isplitl [H48]; · iapply (raw_owns (c : Thread nD τ) _ ((hs0_48 m hO t).read_unread _)); iexact H48
  isplitl [H49]; · iapply (raw_owns (c : Thread nD τ) _ ((hs0_49 m hO t).read_unread _)); iexact H49
  isplitl [H50]; · iapply (raw_owns (c : Thread nD τ) _ ((hs0_50 m hO t).read_unread _)); iexact H50
  isplitl [H51]; · iapply (raw_owns (c : Thread nD τ) _ ((hs0_51 m hO t).read_unread _)); iexact H51
  isplitl [H52]; · iapply (raw_owns (c : Thread nD τ) _ ((hs0_52 m hO t).read_unread _)); iexact H52
  isplitl [H53]; · iapply (raw_owns (c : Thread nD τ) _ ((hs0_53 m hO t).read_unread _)); iexact H53
  isplitl [H54]; · iapply (raw_owns (c : Thread nD τ) _ ((hs0_54 m hO t).read_unread _)); iexact H54
  isplitl [H55]; · iapply (raw_owns (c : Thread nD τ) _ ((hs0_55 m hO t).read_unread _)); iexact H55
  isplitl [H56]; · iapply (raw_owns (c : Thread nD τ) _ ((hs0_56 m hO t).read_unread _)); iexact H56
  isplitl [H57]; · iapply (raw_owns (c : Thread nD τ) _ ((hs0_57 m hO t).read_unread _)); iexact H57
  isplitl [H58]; · iapply (raw_owns (c : Thread nD τ) _ ((hs0_58 m hO t).read_unread _)); iexact H58
  isplitl [H59]; · iapply (raw_owns (c : Thread nD τ) _ ((hs0_59 m hO t).read_unread _)); iexact H59
  isplitl [H60]; · iapply (raw_owns (c : Thread nD τ) _ ((hs0_60 m hO t).read_unread _)); iexact H60
  isplitl [H61]; · iapply (raw_owns (c : Thread nD τ) _ ((hs0_61 m hO t).read_unread _)); iexact H61
  isplitl [H62]; · iapply (raw_owns (c : Thread nD τ) _ ((hs0_62 m hO t).read_unread _)); iexact H62
  isplitl [H63]; · iapply (raw_owns (c : Thread nD τ) _ ((hs0_63 m hO t).read_unread _)); iexact H63
  isplitl [H64]; · iapply (raw_owns (c : Thread nD τ) _ ((hs0_64 m hO t).read_unread _)); iexact H64
  isplitl [H65]; · iapply (raw_owns (c : Thread nD τ) _ ((hs0_65 m hO t).read_unread _)); iexact H65
  isplitl [H66]; · iapply (raw_owns (c : Thread nD τ) _ ((hs0_66 m hO t).read_unread _)); iexact H66
  isplitl [H67]; · iapply (raw_owns (c : Thread nD τ) _ ((hs0_67 m hO t).read_unread _)); iexact H67
  unfold owns; iexists _; isplitr
  swap; · iexact H68
  ipureintro; exact View.read_writes_of_cover _ _ _ _ _ (cover0_A_68 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 4000000 in
/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP_around_shared`'s implicit arguments are found by unifying its conclusion with this one, which takes unfolding plain
-- definitions in a metavariable's type
set_option backward.isDefEq.respectTransparency.types false in
set_option maxHeartbeats 4000000 in
/-- THE LAUNCH: `run_main`'s statement, and every semaphore counter at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.KernelIdeal.Gen

end
-- ==== Proof.Stick.Row.lean ====
/- One row of stick-breaking attention over the extended reals: the sum over all keys, each weighted by its own
   break and by what the later keys leave, against the sum taken block by block from the newest keys to the oldest. -/
module

public import Idealize.ShloMosaic.PureOps.Ideal
public import Mathlib.Algebra.BigOperators.Intervals

@[expose] public section

noncomputable section

namespace Cert.Stick

open Idealize.ShloMosaic

/-- The softplus of a score. -/
def sp (z : EReal) : EReal := max z 0 + Ideal.log (1 + Ideal.exp (0 - max z (-z)))

theorem sp_top : sp ⊤ = ⊤ := by
  have h : (0 : EReal) - max ⊤ (-⊤) = ⊥ := by simp
  rw [sp, h, Ideal.exp_bot, add_zero, ← EReal.coe_one, Ideal.log_coe, if_neg (by norm_num)]
  simp

theorem sp_bot : sp ⊥ = 0 := by
  have h : (0 : EReal) - max ⊥ (-⊥) = ⊥ := by simp
  rw [sp, h, Ideal.exp_bot, add_zero, ← EReal.coe_one, Ideal.log_coe]
  simp

theorem sp_coe (r : ℝ) : sp r = ((max r 0 + Real.log (1 + Real.exp (-|r|)) : ℝ) : EReal) := by
  have h : (0 : EReal) - max (r : EReal) (-(r : EReal)) = ((-|r| : ℝ) : EReal) := by
    rw [← EReal.coe_neg, ← EReal.coe_strictMono.monotone.map_max, ← EReal.coe_zero, ← EReal.coe_sub, zero_sub]; rfl
  have h1 : (1 : EReal) + Ideal.exp ((-|r| : ℝ) : EReal) = ((1 + Real.exp (-|r|) : ℝ) : EReal) := by
    rw [Ideal.exp_coe, ← EReal.coe_one, ← EReal.coe_add]
  have hp : (0 : ℝ) < 1 + Real.exp (-|r|) := by positivity
  rw [sp, h, h1, Ideal.log_coe, if_neg hp.not_ge, ← EReal.coe_zero, ← EReal.coe_strictMono.monotone.map_max, ← EReal.coe_add]

/-- A host softplus, written with a subtraction of zero and a negation, is the same function. -/
theorem sp_host (y : EReal) :
    max y 0 + Ideal.log1p (Ideal.exp (-(max (y - 0) (-(y - 0))))) = sp y := by
  rw [sp, Ideal.log1p, sub_zero, zero_sub]

/-- Off the top, the log of the break is the score less its softplus. -/
theorem neg_sp_neg {z : EReal} (hz : z ≠ ⊤) : -(sp (-z)) = z - sp z := by
  induction z with
  | bot => rw [EReal.neg_bot, sp_top, sp_bot]; simp
  | top => exact absurd rfl hz
  | coe r =>
    rw [← EReal.coe_neg, sp_coe, sp_coe, ← EReal.coe_neg, ← EReal.coe_sub, abs_neg]
    congr 1
    rcases le_total r 0 with h | h
    · rw [max_eq_left (by linarith), max_eq_right h]; ring
    · rw [max_eq_right (by linarith), max_eq_left h]; ring

/-- What a key leaves: minus its softplus where it is seen, nothing where it is not. -/
def keep (Z : ℕ → EReal) (M s : ℕ) : EReal := if s < M then 0 - sp (Z s) else 0

theorem zero_sub_sp_ne_top (z : EReal) : 0 - sp z ≠ ⊤ := by
  induction z with
  | bot => rw [sp_bot]; simp
  | top => rw [sp_top]; simp
  | coe r => rw [sp_coe, zero_sub, ← EReal.coe_neg]; exact EReal.coe_ne_top _

theorem keep_ne_top (Z : ℕ → EReal) (M s : ℕ) : keep Z M s ≠ ⊤ := by
  unfold keep; split_ifs
  · exact zero_sub_sp_ne_top _
  · exact EReal.zero_ne_top

/-- The weight of key `s` in the whole-row form: the keys from `s` on, summed and less its own. -/
def wRow (Z : ℕ → EReal) (M N s : ℕ) : EReal :=
  Ideal.exp ((if s < M then -(sp (-(Z s))) else ⊥) + ((∑ i ∈ Finset.Ico s N, keep Z M i) - keep Z M s))

/-- The weight of key `s` in the blocked form: the keys after `s`, no subtraction. -/
def wBlk (Z : ℕ → EReal) (M N s : ℕ) : EReal :=
  if s < M then Ideal.exp ((Z s - sp (Z s)) + ∑ i ∈ Finset.Ico (s + 1) N, keep Z M i) else 0

theorem wRow_eq (Z : ℕ → EReal) (M N s : ℕ) (hs : s < N) : wRow Z M N s = wBlk Z M N s := by
  unfold wRow wBlk
  by_cases hM : s < M
  · rw [if_pos hM, if_pos hM, Finset.sum_eq_sum_Ico_succ_bot hs]
    have hk : keep Z M s = 0 - sp (Z s) := if_pos hM
    by_cases hz : Z s = ⊤
    · rw [hk, hz, sp_top]
      simp
    · rw [neg_sp_neg hz]
      generalize (∑ i ∈ Finset.Ico (s + 1) N, keep Z M i) = S
      rcases h : Z s with _ | _ | r
      · have : Z s = ⊥ := h
        change Ideal.exp ((⊥ - sp ⊥) + _) = Ideal.exp ((⊥ - sp ⊥) + _)
        rw [sp_bot]; simp
      · exact absurd h hz
      · have : Z s = ((r : ℝ) : EReal) := h
        rw [hk, this]
        change Ideal.exp ((((r : ℝ) : EReal) - sp ((r : ℝ) : EReal)) + _) = Ideal.exp ((((r : ℝ) : EReal) - sp ((r : ℝ) : EReal)) + _)
        congr 2
        rw [sp_coe, zero_sub, ← EReal.coe_neg, add_comm, EReal.add_sub_cancel_right]
  · rw [if_neg hM, if_neg hM, EReal.bot_add, Ideal.exp_bot]

/-- A part of a block, selected by position, is a sum over an interval. -/
theorem sum_later (g : ℕ → EReal) (base j n : ℕ) (hj : j < n) :
    ∑ k ∈ Finset.range n, (if j < k then g (base + k) else 0) = ∑ i ∈ Finset.Ico (base + j + 1) (base + n), g i := by
  rw [Finset.range_eq_Ico, ← Finset.sum_Ico_consecutive _ (Nat.zero_le (j + 1)) hj,
    Finset.sum_eq_zero (s := Finset.Ico 0 (j + 1)) (fun k hk => if_neg (by have := Finset.mem_Ico.mp hk; omega)), zero_add,
    Finset.sum_congr rfl (fun k hk => if_pos (show j < k by have := Finset.mem_Ico.mp hk; omega)),
    Finset.sum_Ico_add g (j + 1) n base]
  rw [show j + 1 + base = base + j + 1 by omega, Nat.add_comm n base]

/-- A whole block is a sum over an interval. -/
theorem sum_block (g : ℕ → EReal) (base n : ℕ) :
    ∑ k ∈ Finset.range n, g (base + k) = ∑ i ∈ Finset.Ico base (base + n), g i := by
  rw [Finset.range_eq_Ico, Finset.sum_Ico_add g 0 n base, Nat.zero_add, Nat.add_comm n base]

/-- A summand split into itself and its (zero or bottom) difference with itself, both against 0 or 1, is the summand. -/
theorem split_mul {x : EReal} (hx : x ≠ ⊤) (p : Prop) [Decidable p] :
    x * (if p then (1 : EReal) else 0) + (x - x) * (if p then (1 : EReal) else 0) = if p then x else 0 := by
  by_cases h : p
  · rw [if_pos h, if_pos h, mul_one, mul_one]
    rcases hr : x with _ | _ | r
    · change (⊥ : EReal) + (⊥ - ⊥) = ⊥; simp
    · exact absurd hr hx
    · change ((r : ℝ) : EReal) + (((r : ℝ) : EReal) - ((r : ℝ) : EReal)) = ((r : ℝ) : EReal)
      rw [← EReal.coe_sub, sub_self, EReal.coe_zero, add_zero]
  · rw [if_neg h, if_neg h, mul_zero, mul_zero, add_zero]

/-- The carry of the blocks before block `n`, counted from the newest: the keys after it. -/
theorem carry_eq (g : ℕ → EReal) (n : ℕ) (hn : n ≤ 17) :
    ∑ m ∈ Finset.range n, ∑ k ∈ Finset.range 128, g ((16 - m) * 128 + k)
      = ∑ i ∈ Finset.Ico ((17 - n) * 128) 2176, g i := by
  induction n with
  | zero => simp
  | succ n ih =>
    rw [Finset.sum_range_succ, ih (by omega), sum_block, add_comm,
      show (16 - n) * 128 + 128 = (17 - n) * 128 by omega, show 17 - (n + 1) = 16 - n by omega,
      Finset.sum_Ico_consecutive _ (by omega) (by omega)]

theorem wBlk_sum (Z V : ℕ → EReal) (M N : ℕ) :
    ∑ n ∈ Finset.range 17, ∑ k ∈ Finset.range 128, wBlk Z M N ((16 - n) * 128 + k) * V ((16 - n) * 128 + k)
      = ∑ i ∈ Finset.range 2176, wBlk Z M N i * V i := by
  rw [carry_eq (fun i => wBlk Z M N i * V i) 17 le_rfl, Finset.range_eq_Ico]

/-- Keys past the last are not seen and leave nothing. -/
theorem sum_keep_trim (Z : ℕ → EReal) (M N N' s : ℕ) (h : M ≤ N) (h' : N ≤ N') (hs : s ≤ N) :
    ∑ i ∈ Finset.Ico s N', keep Z M i = ∑ i ∈ Finset.Ico s N, keep Z M i := by
  rw [← Finset.sum_Ico_consecutive _ hs h', Finset.sum_eq_zero (s := Finset.Ico N N') (f := keep Z M)
    (fun i hi => if_neg (by have := Finset.mem_Ico.mp hi; omega)), add_zero]

theorem wBlk_trim (Z : ℕ → EReal) (M N N' s : ℕ) (h : M ≤ N) (h' : N ≤ N') : wBlk Z M N' s = wBlk Z M N s := by
  unfold wBlk
  by_cases hs : s < M
  · rw [if_pos hs, if_pos hs, sum_keep_trim Z M N N' (s + 1) h h' (by omega)]
  · rw [if_neg hs, if_neg hs]

/-- The blocks, newest first, and the row, oldest first: one sum. -/
theorem blocks_eq_row (Z V : ℕ → EReal) (M : ℕ) (hM : M ≤ 2056) :
    ∑ n ∈ Finset.range 17, ∑ k ∈ Finset.range 128, wBlk Z M 2176 ((16 - n) * 128 + k) * V ((16 - n) * 128 + k)
      = ∑ s ∈ Finset.range 2056, V s * wRow Z M 2056 s := by
  rw [wBlk_sum, Finset.range_eq_Ico, ← Finset.sum_Ico_consecutive _ (Nat.zero_le 2056) (by omega : 2056 ≤ 2176),
    Finset.sum_eq_zero (s := Finset.Ico 2056 2176), add_zero, ← Finset.range_eq_Ico]
  · refine Finset.sum_congr rfl fun s hs => ?_
    rw [wBlk_trim Z M 2056 2176 s hM (by omega), wRow_eq Z M 2056 s (Finset.mem_range.mp hs), mul_comm]
  · intro i hi
    have := Finset.mem_Ico.mp hi
    rw [wBlk, if_neg (by omega), zero_mul]

/-- The sum over a block of the kept part and its remainder, against the columns of a block's strictly-later table. -/
theorem later_col (L : Fin 128 → EReal) (hL : ∀ k, L k ≠ ⊤) (p : Fin 128 → Prop) [DecidablePred p] :
    (∑ k, L k * (if p k then (1 : EReal) else 0)) + (∑ k, (L k - L k) * (if p k then (1 : EReal) else 0))
      = ∑ k, if p k then L k else 0 := by
  rw [← Finset.sum_add_distrib]
  exact Finset.sum_congr rfl fun k _ => split_mul (hL k) (p k)

/-- One block's weight, computed with its own later keys and the carry, is the blocked weight. -/
theorem wBlk_of_parts (Z : ℕ → EReal) (M n : ℕ) (hn : n ≤ 16) (j : Fin 128) (hs : (16 - n) * 128 + j.val < M) :
    Ideal.exp (((Z ((16 - n) * 128 + j.val) - sp (Z ((16 - n) * 128 + j.val)))
        + ∑ k : Fin 128, (if j.val < k.val then keep Z M ((16 - n) * 128 + k.val) else 0))
        + ∑ m ∈ Finset.range n, ∑ k ∈ Finset.range 128, keep Z M ((16 - m) * 128 + k))
      = wBlk Z M 2176 ((16 - n) * 128 + j.val) := by
  rw [wBlk, if_pos hs, carry_eq (keep Z M) n (by omega), add_assoc]
  congr 2
  have h := Fin.sum_univ_eq_sum_range (fun k => if j.val < k then keep Z M ((16 - n) * 128 + k) else 0) 128
  rw [h, sum_later (keep Z M) ((16 - n) * 128) j.val 128 j.isLt,
    show (16 - n) * 128 + 128 = (17 - n) * 128 by omega]
  have hj := j.isLt
  exact Finset.sum_Ico_consecutive _ (by omega) (by omega)

end Cert.Stick

end
-- ==== Proof.Stick.Keys.lean ====
/- The keys, values and scores of one head of one query of one sequence, by the key's place in the sequence: the
   past through the page table, then the new tokens. Places past the last key read something that nothing uses. -/
module

public import proofs.«01_k».proof.Proof.Stick.Row
public import Idealize.ShloMosaic.Lib.ValueIdxCore

@[expose] public section

noncomputable section

namespace Cert.Stick

open Idealize.ShloMosaic Idealize.ShloMosaic.ValueIdx

/-- A row of new tokens, the pool, the page table, a bias per head. -/
abbrev Toks := (⟨2, ![1024, 512]⟩ : Shape).Idx → EReal
abbrev Pool := (⟨5, ![2, 2560, 128, 8, 64]⟩ : Shape).Idx → EReal
abbrev Pages := (⟨2, ![128, 16]⟩ : Shape).Idx → BitVec 32
abbrev Bias := (⟨1, ![8]⟩ : Shape).Idx → EReal

/-- Every entry of the table names one of the pool's pages. -/
def InRange (T : Pages) : Prop := ∀ w, (T w).toNat < 2560

/-- The page that holds places `128 n` to `128 n + 127` of sequence `b`. -/
def page (T : Pages) (b : Fin 128) (n : Fin 16) : Fin 2560 := ⟨(T (ix2 b n)).toNat % 2560, Nat.mod_lt _ (by omega)⟩

/-- Column `h * 64 + d` of a row of 512. -/
abbrev col (h : Fin 8) (d : Fin 64) : Fin 512 := ⟨h.val * 64 + d.val, by omega⟩

/-- Row `b * 8 + q` of the 1024 new tokens. -/
abbrev row (b : Fin 128) (q : Fin 8) : Fin 1024 := ⟨b.val * 8 + q.val, by omega⟩

/-- Component `d` of head `h` of the key (or value) at place `s` of sequence `b`. -/
def kv (x : Toks) (P : Pool) (T : Pages) (b : Fin 128) (h : Fin 8) (d : Fin 64) (s : ℕ) : EReal :=
  if s < 2048 then P (ix5 (0 : Fin 2) (page T b ⟨s / 128 % 16, Nat.mod_lt _ (by omega)⟩) (⟨s % 128, Nat.mod_lt _ (by omega)⟩ : Fin 128) h d)
  else x (ix2 (row b ⟨(s - 2048) % 8, Nat.mod_lt _ (by omega)⟩) (col h d))

/-- The score of the key at place `s`. -/
def score (xq xk : Toks) (P : Pool) (T : Pages) (B : Bias) (b : Fin 128) (h q : Fin 8) (s : ℕ) : EReal :=
  (∑ d : Fin 64, xq (ix2 (row b q) (col h d)) * kv xk P T b h d s) + B (ix1 h)

/-- One component of the attention's output. -/
def out (xq xk xv : Toks) (PK PV : Pool) (T : Pages) (B : Bias) (b : Fin 128) (h q : Fin 8) (d : Fin 64) : EReal :=
  ∑ s ∈ Finset.range 2056, kv xv PV T b h d s * wRow (score xq xk PK T B b h q) (2048 + q.val) 2056 s

/-- A sum over the window that runs from `s` past the end, what is past the end counting nothing. -/
theorem sum_window (g : ℕ → EReal) (N s : ℕ) (hs : s ≤ N) :
    ∑ k ∈ Finset.range N, (if s + k < N then g (s + k) else 0) = ∑ i ∈ Finset.Ico s N, g i := by
  rw [Finset.sum_Ico_eq_sum_range, Finset.range_eq_Ico, ← Finset.sum_Ico_consecutive _ (Nat.zero_le (N - s)) (Nat.sub_le N s),
    Finset.sum_eq_zero (s := Finset.Ico (N - s) N) (fun k hk => if_neg (by have := Finset.mem_Ico.mp hk; omega)), add_zero,
    ← Finset.range_eq_Ico]
  exact Finset.sum_congr rfl fun k hk => if_pos (by have := Finset.mem_range.mp hk; omega)

theorem foldl_add_sum {α : Type} (l : List α) (f : α → EReal) (v : EReal) :
    l.foldl (fun r n => r + f n) v = v + (l.map f).sum := by
  induction l generalizing v with
  | nil => simp
  | cons a l ih => rw [List.foldl_cons, ih, List.map_cons, List.sum_cons, add_assoc]

end Cert.Stick

end
-- ==== Proof.Stick.Masks.lean ====
/- The kernel's integer masks at a row and a column: whose head a row and a column belong to, which new tokens a query
   sees, which keys come later than a key. -/
module

public import proofs.«01_k».proof.Proof.Gen.KernelIdeal.Skeleton
public import proofs.«01_k».proof.Proof.Stick.Keys
public import Idealize.ShloMosaic.Lib.ValueIdx

@[expose] public section

noncomputable section

namespace Cert.KernelIdeal.Gen

open Idealize.ShloMosaic Idealize.ShloMosaic.ValueIdx Cert.KernelIdeal

/-- Row `r` of the stacked queries belongs to the head that column `c` belongs to. -/
def headM : IVec S64x512 1 := k0_pay5 k0_pay1 k0_pay2 k0_pay3 k0_pay4

/-- New token `k` comes before the query of row `r`. -/
def newM : IVec S64x128 1 := k0_pay14 (iota .tc S64x128 32 [1] iota_S64x128_d1_w32) 8#32 k0_pay12 k0_pay13 0#32

theorem row_head (r : Fin 64) : k0_pay1 (ix2 r (0 : Fin 512)) = BitVec.ofNat 32 (r.val / 8) := by
  revert r; decide +kernel

theorem col_head (c : Fin 512) :
    Scalar.select (IntOp.andi (k0_pay3 (ix2 (0 : Fin 64) c)) (k0_pay4 (ix2 (0 : Fin 64) c))) (IntOp.subi (k0_pay2 (ix2 (0 : Fin 64) c)) 1#32) (k0_pay2 (ix2 (0 : Fin 64) c))
      = BitVec.ofNat 32 (c.val / 64) := by
  revert c; decide +kernel

theorem ofNat_eq_iff (a b : ℕ) (ha : a < 2 ^ 31) (hb : b < 2 ^ 31) : BitVec.ofNat 32 a = BitVec.ofNat 32 b ↔ a = b := by
  constructor
  · intro h
    have := congrArg BitVec.toNat h
    rw [BitVec.toNat_ofNat, BitVec.toNat_ofNat] at this
    omega
  · rintro rfl; rfl

theorem toInt_ofNat (a : ℕ) (ha : a < 2 ^ 31) : (BitVec.ofNat 32 a).toInt = a := by
  rw [BitVec.toInt_eq_toNat_cond, BitVec.toNat_ofNat]
  split <;> omega

theorem slt_ofNat (a b : ℕ) (ha : a < 2 ^ 31) (hb : b < 2 ^ 31) :
    IntOp.cmpi .slt (BitVec.ofNat 32 a) (BitVec.ofNat 32 b) = BitVec.ofBool (decide (a < b)) := by
  simp only [IntOp.cmpi, BitVec.slt, toInt_ofNat a ha, toInt_ofNat b hb, Nat.cast_lt]

theorem sgt_ofNat (a b : ℕ) (ha : a < 2 ^ 31) (hb : b < 2 ^ 31) :
    IntOp.cmpi .sgt (BitVec.ofNat 32 a) (BitVec.ofNat 32 b) = BitVec.ofBool (decide (b < a)) := by
  simp only [IntOp.cmpi, BitVec.slt, toInt_ofNat a ha, toInt_ofNat b hb, Nat.cast_lt]

theorem sge_ofNat (a b : ℕ) (ha : a < 2 ^ 31) (hb : b < 2 ^ 31) :
    IntOp.cmpi .sge (BitVec.ofNat 32 a) (BitVec.ofNat 32 b) = BitVec.ofBool (decide (b ≤ a)) := by
  simp only [IntOp.cmpi, BitVec.sle, toInt_ofNat a ha, toInt_ofNat b hb, Nat.cast_le]

theorem headM_apply (r : Fin 64) (c : Fin 512) : headM (ix2 r c) = BitVec.ofBool (decide (r.val / 8 = c.val / 64)) := by
  have h : headM (ix2 r c) = IntOp.cmpi .eq (k0_pay1 (ix2 r (0 : Fin 512)))
      (Scalar.select (IntOp.andi (k0_pay3 (ix2 (0 : Fin 64) c)) (k0_pay4 (ix2 (0 : Fin 64) c))) (IntOp.subi (k0_pay2 (ix2 (0 : Fin 64) c)) 1#32) (k0_pay2 (ix2 (0 : Fin 64) c))) := rfl
  have hr := r.isLt
  have hc := c.isLt
  rw [h, row_head, col_head]
  simp only [IntOp.cmpi]
  congr 1
  rw [beq_eq_decide]
  exact decide_eq_decide.mpr (ofNat_eq_iff _ _ (by omega) (by omega))

/-- The rest of a row modulo 8, as the kernel computes it. -/
def rowTok (r : Fin 64) : BitVec 32 :=
  Scalar.select (IntOp.andi (IntOp.xori (IntOp.cmpi .slt (k0_pay12 (ix2 r (0 : Fin 128))) 0#32) (Scalar.cmpi .slt 8#32 0#32)) (k0_pay13 (ix2 r (0 : Fin 128))))
    (IntOp.addi (k0_pay12 (ix2 r (0 : Fin 128))) 8#32) (k0_pay12 (ix2 r (0 : Fin 128)))

theorem rowTok_eq (r : Fin 64) : rowTok r = BitVec.ofNat 32 (r.val % 8) := by
  revert r; decide +kernel

theorem newM_apply (r : Fin 64) (k : Fin 128) : newM (ix2 r k) = BitVec.ofBool (decide (k.val < r.val % 8)) := by
  have h : newM (ix2 r k) = IntOp.cmpi .slt (BitVec.ofNat 32 (0 * 128 + k.val)) (rowTok r) := rfl
  have hk := k.isLt
  rw [h, rowTok_eq, Nat.zero_mul, Nat.zero_add, slt_ofNat _ _ (by omega) (by omega)]

/-- The matrix of ones that adds the later keys (columns below 128) and all keys (columns from 128 on). -/
theorem tri_apply (k : Fin 128) (j : Fin 256) :
    k0_pay7 (F := Ideal) (ix2 k j) = if j.val < k.val ∨ 128 ≤ j.val then (1 : EReal) else 0 := by
  have h : k0_pay7 (F := Ideal) (ix2 k j) = Scalar.select (IntOp.ori (IntOp.cmpi .sgt (BitVec.ofNat 32 (0 * 128 + k.val)) (BitVec.ofNat 32 (0 * 256 + j.val))) (IntOp.cmpi .sge (BitVec.ofNat 32 (0 * 256 + j.val)) (BitVec.ofNat 32 128)))
      (Ideal.ofBits .f32 0x3F800000#32) (Ideal.ofBits .f32 0x00000000#32) := rfl
  have hk := k.isLt
  have hj := j.isLt
  rw [h]; simp only [Nat.zero_mul, Nat.zero_add]; rw [show (128#32 : BitVec 32) = BitVec.ofNat 32 128 from rfl, sgt_ofNat _ _ (by omega) (by omega), sge_ofNat _ _ (by omega) (by omega)]
  have h1 : Ideal.ofBits .f32 0x3F800000#32 = (1 : EReal) := by
    simp [Ideal.ofBits, Ideal.ieee]
    rw [← EReal.coe_mul]
    norm_num
  have h0 : Ideal.ofBits .f32 0x00000000#32 = (0 : EReal) := by simp [Ideal.ofBits, Ideal.ieee]
  rw [h1, h0]
  by_cases a : j.val < k.val <;> by_cases b : 128 ≤ j.val <;> simp [a, b, IntOp.ori, Scalar.select]

end Cert.KernelIdeal.Gen

end
-- ==== Proof.Stick.Block.lean ====
/- One sequence of the attention kernel: its blocks of keys from the newest to the oldest, each with its weights and the
   sum carried to the next, and the sum of the weighted values. -/
module

public import proofs.«01_k».proof.Proof.Stick.Masks
public import Idealize.ShloMosaic.Lib.MatmulPlain
public import Idealize.ShloMosaic.Lib.Pipeline.Value

@[expose] public section

noncomputable section

namespace Cert.KernelIdeal.Gen

open Idealize.ShloMosaic Idealize.ShloMosaic.ValueIdx Cert.KernelIdeal

section vectors

variable {F : FTy → Type} [FloatOps F]

/-- The vector of zeros of the scores' shape. -/
def zeroV : FVec F S64x128 .f32 := broadcast S64x128 (Scalar.ofBits .f32 0x00000000#32)

/-- The softplus of the scores. -/
def spV (z : FVec F S64x128 .f32) : FVec F S64x128 .f32 :=
  addf (maximumf z zeroV) (log (addf (broadcast S64x128 (Scalar.ofBits .f32 0x3F800000#32)) (exp (subf zeroV (absf z)))))

/-- The logarithm of what a key leaves to the older keys. -/
def keepV (z : FVec F S64x128 .f32) : FVec F S64x128 .f32 := subf zeroV (spV z)

/-- A block's sums over the later keys and over all keys, from its high and its low part. -/
def sumsV (l : FVec F S64x128 .f32) : FVec F S64x256 .f32 :=
  addf (matmul dot_S64x128_S128x256_S64x256_1_0_0_1_n_n none (truncf .bf16 l bitsLt_bf16_f32) (k0_pay7 (F := F)) (constant S64x256 .f32 0x00000000#32))
    (matmul dot_S64x128_S128x256_S64x256_1_0_0_1_n_n none (truncf .bf16 (subf l (extf .f32 (truncf .bf16 l bitsLt_bf16_f32) bitsLt_bf16_f32)) bitsLt_bf16_f32) (k0_pay7 (F := F)) (constant S64x256 .f32 0x00000000#32))

/-- A block's logarithms of weights, without the carried sum. -/
def logwV (z l : FVec F S64x128 .f32) : FVec F S64x128 .f32 :=
  addf (subf z (spV z)) (extractStridedSlice S64x128 ![0, 0] (sumsV l) slices_S64x256_o0_0_S64x128)

/-- A block's whole sum, in every column. -/
def totV (l : FVec F S64x128 .f32) : FVec F S64x128 .f32 :=
  extractStridedSlice S64x128 ![0, 128] (sumsV l) slices_S64x256_o0_128_S64x128

/-- The queries stacked head by head, each row with its own head's columns only. -/
def stackV (q : FVec F S8x512 .f32) : FVec F S64x512 .bf16 :=
  truncf .bf16 (select headM (concatenate S64x512 0 [⟨S8x512, q⟩, ⟨S8x512, q⟩, ⟨S8x512, q⟩, ⟨S8x512, q⟩, ⟨S8x512, q⟩, ⟨S8x512, q⟩, ⟨S8x512, q⟩, ⟨S8x512, q⟩]
    concatenates_S8x512_S8x512_S8x512_S8x512_S8x512_S8x512_S8x512_S8x512_S64x512_d0) (broadcast S64x512 (Scalar.ofBits .f32 0x00000000#32))) bitsLt_bf16_f32

/-- The new tokens, padded to a block. -/
def padV (x : FVec F S8x512 .f32) : FVec F S128x512 .f32 :=
  concatenate S128x512 0 [⟨S8x512, x⟩, ⟨S120x512, broadcast S120x512 (Scalar.ofBits .f32 0x00000000#32)⟩] concatenates_S8x512_S120x512_S128x512_d0

variable (q kn vn : FVec F S8x512 .f32) (bias : FVec F S64x128 .f32) (K V : ℕ → FVec F S512x128 .f32)

/-- The scores of block `n`: the new tokens, then the pages from the last to the first. -/
def zV : ℕ → FVec F S64x128 .f32
  | 0 => addf (matmul dot_S64x512_S128x512_S64x128_1_1_0_0_n_n none (stackV q) (truncf .bf16 (padV kn) bitsLt_bf16_f32) (constant S64x128 .f32 0x00000000#32)) bias
  | n + 1 => addf (matmul dot_S64x512_S512x128_S64x128_1_0_0_1_n_n none (stackV q) (truncf .bf16 (K n) bitsLt_bf16_f32) (constant S64x128 .f32 0x00000000#32)) bias

/-- What the keys of block `n` leave to the older ones. -/
def lV : ℕ → FVec F S64x128 .f32
  | 0 => select newM (keepV (zV q kn bias K 0)) zeroV
  | n + 1 => keepV (zV q kn bias K (n + 1))

/-- The sum carried into block `n`. -/
def carryV : ℕ → FVec F S64x128 .f32
  | 0 => zeroV
  | n + 1 => addf (carryV n) (totV (lV q kn bias K n))

/-- The weights of block `n`, before the new tokens' mask. -/
def eV (n : ℕ) : FVec F S64x128 .f32 :=
  exp (addf (logwV (zV q kn bias K n) (lV q kn bias K n)) (carryV q kn bias K n))

/-- The weighted values of the blocks up to `n`. -/
def accV : ℕ → FVec F S64x512 .f32
  | 0 => matmul dot_S64x128_S128x512_S64x512_1_0_0_1_n_n none (truncf .bf16 (select newM (eV q kn bias K 0) zeroV) bitsLt_bf16_f32)
      (truncf .bf16 (padV vn) bitsLt_bf16_f32) (constant S64x512 .f32 0x00000000#32)
  | n + 1 => addf (accV n) (matmul dot_S64x128_S512x128_S64x512_1_1_0_0_n_n none (truncf .bf16 (eV q kn bias K (n + 1)) bitsLt_bf16_f32)
      (truncf .bf16 (V n) bitsLt_bf16_f32) (constant S64x512 .f32 0x00000000#32))

/-- The heads' own columns, added up. -/
def headsV (a : FVec F S64x512 .f32) : FVec F S8x512 .f32 :=
  have m : FVec F S64x512 .f32 := select headM a (broadcast S64x512 (Scalar.ofBits .f32 0x00000000#32))
  addf (addf (addf (addf (addf (addf (addf (extractStridedSlice S8x512 ![0, 0] m slices_S64x512_o0_0_S8x512)
    (extractStridedSlice S8x512 ![8, 0] m slices_S64x512_o8_0_S8x512)) (extractStridedSlice S8x512 ![16, 0] m slices_S64x512_o16_0_S8x512))
    (extractStridedSlice S8x512 ![24, 0] m slices_S64x512_o24_0_S8x512)) (extractStridedSlice S8x512 ![32, 0] m slices_S64x512_o32_0_S8x512))
    (extractStridedSlice S8x512 ![40, 0] m slices_S64x512_o40_0_S8x512)) (extractStridedSlice S8x512 ![48, 0] m slices_S64x512_o48_0_S8x512))
    (extractStridedSlice S8x512 ![56, 0] m slices_S64x512_o56_0_S8x512)

/-- The result of one sequence. -/
def seqV : FVec F S8x512 .f32 := headsV (accV q kn vn bias K V 16)

end vectors

end Cert.KernelIdeal.Gen

end
-- ==== Proof.Stick.BlockAt.lean ====
/- One sequence of the attention kernel, element by element: its result is the weighted sum of the values over the keys
   before the query. -/
module

public import proofs.«01_k».proof.Proof.Stick.Block

@[expose] public section

noncomputable section

namespace Cert.KernelIdeal.Gen

open Idealize.ShloMosaic Idealize.ShloMosaic.ValueIdx Cert.KernelIdeal Cert.Stick

/-- Row of the stacked queries: head `h`, token `t`. -/
abbrev hrow (h t : Fin 8) : Fin 64 := ⟨h.val * 8 + t.val, by omega⟩

theorem zero_word : (Scalar.ofBits .f32 0x00000000#32 : Ideal .f32) = (0 : EReal) := by
  show Ideal.ofBits .f32 0x00000000#32 = (0 : EReal)
  simp [Ideal.ofBits, Ideal.ieee]

theorem one_word : (Scalar.ofBits .f32 0x3F800000#32 : Ideal .f32) = (1 : EReal) := by
  show Ideal.ofBits .f32 0x3F800000#32 = (1 : EReal)
  simp [Ideal.ofBits, Ideal.ieee]
  rw [← EReal.coe_mul]
  norm_num

theorem select_dec {α : Type} (p : Prop) [Decidable p] (x y : α) : Scalar.select (BitVec.ofBool (decide p)) x y = if p then x else y := by
  by_cases h : p <;> simp [h, Scalar.select]

theorem spV_apply (z : FVec Ideal S64x128 .f32) (i : S64x128.Idx) : spV (F := Ideal) z i = sp (z i) := by
  show max (z i) (Scalar.ofBits .f32 0x00000000#32 : Ideal .f32) + Ideal.log ((Scalar.ofBits .f32 0x3F800000#32 : Ideal .f32)
    + Ideal.exp ((Scalar.ofBits .f32 0x00000000#32 : Ideal .f32) - max (z i) (-(z i)))) = _
  rw [zero_word, one_word]
  rfl

theorem keepV_apply (z : FVec Ideal S64x128 .f32) (i : S64x128.Idx) : keepV (F := Ideal) z i = 0 - sp (z i) := by
  show (Scalar.ofBits .f32 0x00000000#32 : Ideal .f32) - spV (F := Ideal) z i = _
  rw [zero_word, spV_apply]

theorem zero_const {φ : FTy} {s : Shape} (i : s.Idx) : constant (F := Ideal) s .f32 0x00000000#32 i = (0 : EReal) := zero_word

theorem sumsV_apply (l : FVec Ideal S64x128 .f32) (r : Fin 64) (j : Fin 256) (hl : ∀ k, l (ix2 r k) ≠ (⊤ : EReal)) :
    sumsV (F := Ideal) l (ix2 r j) = ∑ k : Fin 128, if j.val < k.val ∨ 128 ≤ j.val then (l (ix2 r k) : EReal) else 0 := by
  rw [← later_col (fun k => l (ix2 r k)) hl]
  unfold sumsV
  rw [addf_apply]
  unfold matmul
  rw [show dot_S64x128_S128x256_S64x256_1_0_0_1_n_n = DotDims.plain 64 128 256 from rfl, Ideal.matmul_plain_apply, Ideal.matmul_plain_apply,
    constant_apply, show Ideal.ofBits .f32 0x00000000#32 = (0 : EReal) from zero_word, zero_add, zero_add]
  simp only [tri_apply]
  rfl

theorem logwV_apply (z l : FVec Ideal S64x128 .f32) (r : Fin 64) (j : Fin 128) (hl : ∀ k, l (ix2 r k) ≠ (⊤ : EReal)) :
    logwV (F := Ideal) z l (ix2 r j) = (z (ix2 r j) - sp (z (ix2 r j))) + ∑ k : Fin 128, if j.val < k.val then (l (ix2 r k) : EReal) else 0 := by
  unfold logwV
  have hj := j.isLt
  rw [addf_apply, subf_apply, spV_apply,
    extractStridedSlice_apply _ _ _ _ (ix2 r (⟨j.val, by omega⟩ : Fin 256)) (fun a => match a with | ⟨0, _⟩ => (Nat.zero_add _).symm | ⟨1, _⟩ => (Nat.zero_add _).symm),
    sumsV_apply l r _ hl]
  congr 1
  refine Finset.sum_congr rfl fun k _ => if_congr ?_ rfl rfl
  show (j.val < k.val ∨ 128 ≤ j.val) ↔ _
  omega

theorem totV_apply (l : FVec Ideal S64x128 .f32) (r : Fin 64) (j : Fin 128) (hl : ∀ k, l (ix2 r k) ≠ (⊤ : EReal)) :
    totV (F := Ideal) l (ix2 r j) = ∑ k : Fin 128, (l (ix2 r k) : EReal) := by
  unfold totV
  have hj := j.isLt
  rw [extractStridedSlice_apply _ _ _ _ (ix2 r (⟨128 + j.val, by omega⟩ : Fin 256)) (fun a => match a with | ⟨0, _⟩ => (Nat.zero_add _).symm | ⟨1, _⟩ => rfl),
    sumsV_apply l r _ hl]
  refine Finset.sum_congr rfl fun k _ => if_pos (Or.inr ?_)
  show 128 ≤ 128 + j.val
  omega

theorem stackV_apply (q : FVec Ideal S8x512 .f32) (r : Fin 64) (c : Fin 512) :
    stackV (F := Ideal) q (ix2 r c) = if r.val / 8 = c.val / 64 then (q (ix2 (⟨r.val % 8, Nat.mod_lt _ (by omega)⟩ : Fin 8) c) : EReal) else 0 := by
  unfold stackV
  rw [truncf_apply, select_apply, headM_apply, select_dec]
  have hr := r.isLt
  congr 1
  · exact concatenate_ofFn_apply (t := S64x512) (s₁ := S8x512) 0 (N := 8) (fun _ => q) concatenates_S8x512_S8x512_S8x512_S8x512_S8x512_S8x512_S8x512_S8x512_S64x512_d0
      rfl 8 rfl (ix2 r c) (⟨r.val / 8, by omega⟩ : Fin 8) rfl (ix2 (⟨r.val % 8, Nat.mod_lt _ (by omega)⟩ : Fin 8) c) rfl
      (fun b => match b with | ⟨0, _⟩ => fun h => absurd rfl h | ⟨1, _⟩ => fun _ => rfl)
  · exact zero_word

/-- A stacked query against a key: the query's own head only. -/
theorem stack_dot (q : FVec Ideal S8x512 .f32) (k : Fin 512 → EReal) (h t : Fin 8) :
    ∑ c : Fin 512, stackV (F := Ideal) q (ix2 (hrow h t) c) * k c = ∑ d : Fin 64, q (ix2 t (col h d)) * k (col h d) := by
  rw [← (finProdFinEquiv (m := 8) (n := 64)).sum_comp, Fintype.sum_prod_type, Finset.sum_eq_single h]
  · refine Finset.sum_congr rfl fun d _ => ?_
    have hc : finProdFinEquiv (m := 8) (n := 64) (h, d) = col h d := Fin.ext (by simp [finProdFinEquiv]; omega)
    rw [hc, stackV_apply, if_pos (by show (h.val * 8 + t.val) / 8 = (h.val * 64 + d.val) / 64; omega)]
    congr 2
    refine congrArg (fun x => ix2 x (col h d)) (Fin.ext ?_)
    show (h.val * 8 + t.val) % 8 = t.val
    omega
  · intro g _ hg
    refine Finset.sum_eq_zero fun d _ => ?_
    have hc : finProdFinEquiv (m := 8) (n := 64) (g, d) = col g d := Fin.ext (by simp [finProdFinEquiv]; omega)
    rw [hc, stackV_apply, if_neg, zero_mul]
    intro e
    apply hg
    apply Fin.ext
    change (h.val * 8 + t.val) / 8 = (g.val * 64 + d.val) / 64 at e
    omega
  · intro hn; exact absurd (Finset.mem_univ _) hn

theorem padV_apply (x : FVec Ideal S8x512 .f32) (k : Fin 8) (c : Fin 512) :
    padV (F := Ideal) x (ix2 (⟨k.val, by omega⟩ : Fin 128) c) = x (ix2 k c) := by
  unfold padV
  exact concatenate_pair_apply_left (t := S128x512) (s₁ := S8x512) (s₂ := S120x512) 0 _ _ _ _ rfl (ix2 k c)
    (fun a => match a with | ⟨0, _⟩ => rfl | ⟨1, _⟩ => rfl)

section sequence

variable (q kn vn : FVec Ideal S8x512 .f32) (bias : FVec Ideal S64x128 .f32) (K V : ℕ → FVec Ideal S512x128 .f32)

theorem zV_new (h t k : Fin 8) :
    zV (F := Ideal) q kn bias K 0 (ix2 (hrow h t) (⟨k.val, by omega⟩ : Fin 128))
      = (∑ d : Fin 64, q (ix2 t (col h d)) * kn (ix2 k (col h d))) + bias (ix2 (hrow h t) (⟨k.val, by omega⟩ : Fin 128)) := by
  simp only [zV]
  rw [addf_apply]
  unfold matmul
  rw [show dot_S64x512_S128x512_S64x128_1_1_0_0_n_n = DotDims.transposedRhs 64 512 128 from rfl, Ideal.matmul_transposedRhs_apply,
    constant_apply, show Ideal.ofBits .f32 0x00000000#32 = (0 : EReal) from zero_word, zero_add]
  congr 1
  refine Eq.trans ?_ (stack_dot q (fun c => kn (ix2 k c)) h t)
  refine Finset.sum_congr rfl fun c _ => ?_
  rw [truncf_apply, padV_apply]

theorem zV_page (n : ℕ) (h t : Fin 8) (k : Fin 128) :
    zV (F := Ideal) q kn bias K (n + 1) (ix2 (hrow h t) k)
      = (∑ d : Fin 64, q (ix2 t (col h d)) * K n (ix2 (col h d) k)) + bias (ix2 (hrow h t) k) := by
  simp only [zV]
  rw [addf_apply]
  unfold matmul
  rw [show dot_S64x512_S512x128_S64x128_1_0_0_1_n_n = DotDims.plain 64 512 128 from rfl, Ideal.matmul_plain_apply,
    constant_apply, show Ideal.ofBits .f32 0x00000000#32 = (0 : EReal) from zero_word, zero_add]
  congr 1
  exact stack_dot q (fun c => K n (ix2 c k)) h t

variable (h t : Fin 8) (Z : ℕ → EReal)
  (hZ : ∀ n, n ≤ 16 → ∀ k : Fin 128, (16 - n) * 128 + k.val < 2048 + t.val → zV (F := Ideal) q kn bias K n (ix2 (hrow h t) k) = Z ((16 - n) * 128 + k.val))
include hZ

theorem lV_apply (n : ℕ) (hn : n ≤ 16) (k : Fin 128) :
    lV (F := Ideal) q kn bias K n (ix2 (hrow h t) k) = keep Z (2048 + t.val) ((16 - n) * 128 + k.val) := by
  have hk := k.isLt
  cases n with
  | zero =>
    simp only [lV, keep]
    rw [select_apply, newM_apply, select_dec, keepV_apply]
    have e : k.val < (hrow h t).val % 8 ↔ (16 - 0) * 128 + k.val < 2048 + t.val := by
      show k.val < (h.val * 8 + t.val) % 8 ↔ _
      omega
    by_cases c : (16 - 0) * 128 + k.val < 2048 + t.val
    · rw [if_pos (e.mpr c), if_pos c, hZ 0 (by omega) k c]
    · rw [if_neg (mt e.mp c), if_neg c]
      exact zero_word
  | succ n =>
    have c : (16 - (n + 1)) * 128 + k.val < 2048 + t.val := by omega
    simp only [lV, keep]
    rw [keepV_apply, if_pos c, hZ (n + 1) hn k c]

theorem lV_ne_top (n : ℕ) (hn : n ≤ 16) (k : Fin 128) : lV (F := Ideal) q kn bias K n (ix2 (hrow h t) k) ≠ (⊤ : EReal) := by
  rw [lV_apply q kn bias K h t Z hZ n hn k]
  exact keep_ne_top _ _ _

theorem carryV_apply (n : ℕ) (hn : n ≤ 17) (j : Fin 128) :
    carryV (F := Ideal) q kn bias K n (ix2 (hrow h t) j)
      = ∑ m ∈ Finset.range n, ∑ k ∈ Finset.range 128, keep Z (2048 + t.val) ((16 - m) * 128 + k) := by
  induction n with
  | zero => rw [Finset.sum_range_zero]; exact zero_word
  | succ n ih =>
    simp only [carryV]
    rw [addf_apply, ih (by omega), totV_apply _ _ _ (lV_ne_top q kn bias K h t Z hZ n (by omega)), Finset.sum_range_succ,
      ← Fin.sum_univ_eq_sum_range (fun k => keep Z (2048 + t.val) ((16 - n) * 128 + k)) 128]
    congr 1
    exact Finset.sum_congr rfl fun k _ => lV_apply q kn bias K h t Z hZ n (by omega) k

theorem eV_apply (n : ℕ) (hn : n ≤ 16) (k : Fin 128) (hk : (16 - n) * 128 + k.val < 2048 + t.val) :
    eV (F := Ideal) q kn bias K n (ix2 (hrow h t) k) = wBlk Z (2048 + t.val) 2176 ((16 - n) * 128 + k.val) := by
  rw [← wBlk_of_parts Z (2048 + t.val) n hn k hk]
  unfold eV
  show Ideal.exp (logwV (F := Ideal) _ _ (ix2 (hrow h t) k) + carryV (F := Ideal) q kn bias K n (ix2 (hrow h t) k)) = _
  rw [logwV_apply _ _ _ _ (lV_ne_top q kn bias K h t Z hZ n hn), carryV_apply q kn bias K h t Z hZ n (by omega), hZ n hn k hk]
  congr 3
  exact Finset.sum_congr rfl fun j _ => by rw [lV_apply q kn bias K h t Z hZ n hn j]

theorem accV_apply (c : Fin 512) (W : ℕ → EReal)
    (hv0 : ∀ k : Fin 8, vn (ix2 k c) = W (2048 + k.val))
    (hv : ∀ n, n < 16 → ∀ k : Fin 128, V n (ix2 c k) = W ((15 - n) * 128 + k.val)) (n : ℕ) (hn : n ≤ 16) :
    accV (F := Ideal) q kn vn bias K V n (ix2 (hrow h t) c)
      = ∑ m ∈ Finset.range (n + 1), ∑ k ∈ Finset.range 128, wBlk Z (2048 + t.val) 2176 ((16 - m) * 128 + k) * W ((16 - m) * 128 + k) := by
  induction n with
  | zero =>
    simp only [accV]
    unfold matmul
    rw [show dot_S64x128_S128x512_S64x512_1_0_0_1_n_n = DotDims.plain 64 128 512 from rfl, Ideal.matmul_plain_apply,
      constant_apply, show Ideal.ofBits .f32 0x00000000#32 = (0 : EReal) from zero_word, zero_add, Finset.sum_range_one,
      ← Fin.sum_univ_eq_sum_range (fun k => wBlk Z (2048 + t.val) 2176 ((16 - 0) * 128 + k) * W ((16 - 0) * 128 + k)) 128]
    refine Finset.sum_congr rfl fun k _ => ?_
    have e : k.val < (hrow h t).val % 8 ↔ (16 - 0) * 128 + k.val < 2048 + t.val := by
      show k.val < (h.val * 8 + t.val) % 8 ↔ _
      omega
    rw [truncf_apply, truncf_apply, select_apply, newM_apply, select_dec]
    by_cases hk : (16 - 0) * 128 + k.val < 2048 + t.val
    · have hk8 : k.val < 8 := by omega
      rw [if_pos (e.mpr hk), eV_apply q kn bias K h t Z hZ 0 (by omega) k hk]
      congr 1
      exact (padV_apply vn ⟨k.val, hk8⟩ c).trans (hv0 ⟨k.val, hk8⟩)
    · rw [if_neg (mt e.mp hk), wBlk, if_neg hk]
      rw [show zeroV (F := Ideal) (ix2 (hrow h t) k) = (0 : EReal) from zero_word, zero_mul, zero_mul]
  | succ n ih =>
    simp only [accV]
    unfold matmul
    rw [addf_apply, ih (by omega), show dot_S64x128_S512x128_S64x512_1_1_0_0_n_n = DotDims.transposedRhs 64 128 512 from rfl, Ideal.matmul_transposedRhs_apply,
      constant_apply, show Ideal.ofBits .f32 0x00000000#32 = (0 : EReal) from zero_word, zero_add, Finset.sum_range_succ _ (n + 1),
      ← Fin.sum_univ_eq_sum_range (fun k => wBlk Z (2048 + t.val) 2176 ((16 - (n + 1)) * 128 + k) * W ((16 - (n + 1)) * 128 + k)) 128]
    congr 1
    refine Finset.sum_congr rfl fun k _ => ?_
    have hk := k.isLt
    rw [truncf_apply, truncf_apply, eV_apply q kn bias K h t Z hZ (n + 1) hn k (by omega), hv n (by omega) k]
    rw [show 15 - n = 16 - (n + 1) by omega]

end sequence

theorem headsV_apply (a : FVec Ideal S64x512 .f32) (h t : Fin 8) (d : Fin 64) :
    headsV (F := Ideal) a (ix2 t (col h d)) = a (ix2 (hrow h t) (col h d)) := by
  have m : ∀ g : Fin 8, select headM a (broadcast S64x512 (Scalar.ofBits .f32 0x00000000#32 : Ideal .f32)) (ix2 (hrow g t) (col h d))
      = if g = h then (a (ix2 (hrow h t) (col h d)) : EReal) else 0 := by
    intro g
    rw [select_apply, headM_apply, select_dec]
    have e : ((hrow g t).val / 8 = (col h d).val / 64) ↔ g = h := by
      rw [Fin.ext_iff]
      show (g.val * 8 + t.val) / 8 = (h.val * 64 + d.val) / 64 ↔ _
      omega
    by_cases c : g = h
    · subst c; rw [if_pos (e.mpr rfl), if_pos rfl]
    · rw [if_neg (mt e.mp c), if_neg c]; exact zero_word
  have sl : ∀ (g : Fin 8) (o : ℕ) (hs : S64x512.Slices ![o, 0] S8x512) (h0 : o = 8 * g.val),
      extractStridedSlice S8x512 ![o, 0] (select headM a (broadcast S64x512 (Scalar.ofBits .f32 0x00000000#32 : Ideal .f32))) hs (ix2 t (col h d))
        = if g = h then (a (ix2 (hrow h t) (col h d)) : EReal) else 0 := by
    intro g o hs h0
    subst h0
    rw [← m g]
    exact extractStridedSlice_apply _ _ _ _ _ (fun b => match b with
      | ⟨0, _⟩ => (show g.val * 8 + t.val = 8 * g.val + t.val by omega)
      | ⟨1, _⟩ => (Nat.zero_add _).symm)
  unfold headsV
  simp only [addf_apply]
  rw [sl 0 0 _ rfl, sl 1 8 _ rfl, sl 2 16 _ rfl, sl 3 24 _ rfl, sl 4 32 _ rfl, sl 5 40 _ rfl, sl 6 48 _ rfl, sl 7 56 _ rfl]
  fin_cases h <;> simp

/-- One sequence's result: the values of the keys before the query, weighted. -/
theorem seqV_apply (q kn vn : FVec Ideal S8x512 .f32) (bias : FVec Ideal S64x128 .f32) (K V : ℕ → FVec Ideal S512x128 .f32)
    (h t : Fin 8) (d : Fin 64) (Z W : ℕ → EReal)
    (hz0 : ∀ k : Fin 8, (∑ d : Fin 64, q (ix2 t (col h d)) * kn (ix2 k (col h d))) + bias (ix2 (hrow h t) (⟨k.val, by omega⟩ : Fin 128)) = Z (2048 + k.val))
    (hz : ∀ n, n < 16 → ∀ k : Fin 128, (∑ d : Fin 64, q (ix2 t (col h d)) * K n (ix2 (col h d) k)) + bias (ix2 (hrow h t) k) = Z ((15 - n) * 128 + k.val))
    (hv0 : ∀ k : Fin 8, vn (ix2 k (col h d)) = W (2048 + k.val))
    (hv : ∀ n, n < 16 → ∀ k : Fin 128, V n (ix2 (col h d) k) = W ((15 - n) * 128 + k.val)) :
    seqV (F := Ideal) q kn vn bias K V (ix2 t (col h d)) = ∑ s ∈ Finset.range 2056, W s * wRow Z (2048 + t.val) 2056 s := by
  have ht := t.isLt
  have hZ : ∀ n, n ≤ 16 → ∀ k : Fin 128, (16 - n) * 128 + k.val < 2048 + t.val → zV (F := Ideal) q kn bias K n (ix2 (hrow h t) k) = Z ((16 - n) * 128 + k.val) := by
    intro n hn k hk
    cases n with
    | zero => exact (zV_new q kn bias K h t ⟨k.val, by omega⟩).trans (hz0 ⟨k.val, by omega⟩)
    | succ n =>
      rw [zV_page, hz n (by omega) k, show 15 - n = 16 - (n + 1) by omega]
  unfold seqV
  rw [headsV_apply, accV_apply q kn vn bias K V h t Z hZ (col h d) W hv0 hv 16 (by omega)]
  exact blocks_eq_row Z W (2048 + t.val) (by omega)

end Cert.KernelIdeal.Gen

end
-- ==== Proof.Stick.HostAt.lean ====
/- What the attention kernel's operands hold, element by element, in terms of the arguments: the host's reshapes, the
   caches' transposes and the rows of the bias. -/
module

public import proofs.«01_k».proof.Proof.Stick.BlockAt
public import proofs.«01_k».proof.Proof.Stick.Keys
public import proofs.«01_k».proof.Proof.Gen.KernelIdeal.Frame.Runs
public import Idealize.ShloMosaic.Lib.StableHlo.ReadAt
public import Idealize.ShloMosaic.Lib.Claim

@[expose] public section

noncomputable section

namespace Cert.KernelIdeal.Gen

open Idealize.ShloMosaic hiding ix1 ix2 ix3 ix4 ix5
open Idealize.ShloMosaic.ValueIdx Idealize.ShloMosaic.TcCoe Cert.KernelIdeal Cert.Stick

variable (m : (ℓ : Loc nD τ sig) → Buf (Elt Ideal) ℓ) (c : Dev nD)

theorem V_q (b : Fin 128) (t : Fin 8) (k : Fin 512) :
    V (F := Ideal) m c main_v8 (ix3 b t k) = m ((c : Thread nD τ).loc main_arg0) (ix2 (row b t) k) := by
  unfold V V0
  after_reads_at
  rfl

theorem V_kn (b : Fin 128) (t : Fin 8) (k : Fin 512) :
    V (F := Ideal) m c main_v9 (ix3 b t k) = m ((c : Thread nD τ).loc main_arg1) (ix2 (row b t) k) := by
  unfold V V0
  after_reads_at
  rfl

theorem V_vn (b : Fin 128) (t : Fin 8) (k : Fin 512) :
    V (F := Ideal) m c main_v10 (ix3 b t k) = m ((c : Thread nD τ).loc main_arg2) (ix2 (row b t) k) := by
  unfold V V0
  after_reads_at
  rfl

theorem V_pageK (l : Fin 2) (p : Fin 2560) (h : Fin 8) (d : Fin 64) (s : Fin 128) :
    V (F := Ideal) m c main_v1 (ix4 l p (col h d) s) = m ((c : Thread nD τ).loc main_arg3) (ix5 l p s h d) := by
  unfold V V0
  after_reads_at
  exact congrArg₂ (fun (x : Fin 8) (y : Fin 64) => m ((c : Thread nD τ).loc main_arg3) (ix5 l p s x y))
    (Fin.ext (show (h.val * 64 + d.val) / 64 = h.val by omega)) (Fin.ext (show (h.val * 64 + d.val) % 64 = d.val by omega))

theorem V_pageV (l : Fin 2) (p : Fin 2560) (h : Fin 8) (d : Fin 64) (s : Fin 128) :
    V (F := Ideal) m c main_v3 (ix4 l p (col h d) s) = m ((c : Thread nD τ).loc main_arg4) (ix5 l p s h d) := by
  unfold V V0
  after_reads_at
  exact congrArg₂ (fun (x : Fin 8) (y : Fin 64) => m ((c : Thread nD τ).loc main_arg4) (ix5 l p s x y))
    (Fin.ext (show (h.val * 64 + d.val) / 64 = h.val by omega)) (Fin.ext (show (h.val * 64 + d.val) % 64 = d.val by omega))

theorem V_bias (h t : Fin 8) (k : Fin 128) :
    V (F := Ideal) m c main_v7 (ix2 (hrow h t) k) = m ((c : Thread nD τ).loc main_arg6) (ix1 h) := by
  unfold V V0
  after_reads_at
  exact congrArg (fun x : Fin 8 => m ((c : Thread nD τ).loc main_arg6) (ix1 x))
    (Fin.ext (show (h.val * 8 + t.val) / 8 = h.val by omega))

end Cert.KernelIdeal.Gen

end
-- ==== Proof.Stick.Pieces.lean ====
/- What the run of the attention kernel stores: for each of its two sequences, the sequence's result. -/
module

public import proofs.«01_k».proof.Proof.Stick.RunKernelIdeal
public import proofs.«01_k».proof.Proof.Stick.Block
public import Idealize.ShloMosaic.Lib.Tactic.Stretches

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A sequence's rows of a block, as the body reads them. -/
def ld3 (o : Fin 3 → ℕ) (ho : ∀ a, o a + S1x8x512.size a ≤ S2x8x512.size a) (M : Memref sig .tc .vmem S2x8x512 .f32) (hM : M.IsWhole) (x : Vec F S2x8x512 .f32) : FVec F S8x512 .f32 :=
  shapeCast S8x512 (View.readAt (Elt F) M.view (Rect.unit (s := S2x8x512) o S1x8x512.size ho).toLoadRect (hM.unread x) : Vec F S1x8x512 .f32) shapeCasts_S1x8x512_S8x512

/-- The block of biases, as the body reads it. -/
def ld2 (M : Memref sig .tc .vmem S64x128 .f32) (hM : M.IsWhole) (x : Vec F S64x128 .f32) : FVec F S64x128 .f32 :=
  shapeCast S64x128 (View.readAt (Elt F) M.view (Rect.unit (s := S64x128) ![0, 0] S64x128.size inb_S64x128_S64x128_0_0).toLoadRect (hM.unread x) : Vec F S64x128 .f32) shapeCasts_S64x128_S64x128

/-- A page, as the body reads it. -/
def ld4 (M : Memref sig .tc .vmem S1x1x512x128 .f32) (hM : M.IsWhole) (x : Vec F S1x1x512x128 .f32) : FVec F S512x128 .f32 :=
  shapeCast S512x128 (View.readAt (Elt F) M.view (Rect.unit (s := S1x1x512x128) ![0, 0, 0, 0] S1x1x512x128.size inb_S1x1x512x128_S1x1x512x128_0_0_0_0).toLoadRect (hM.unread x) : Vec F S1x1x512x128 .f32) shapeCasts_S1x1x512x128_S512x128

/-- Sixteen pages, counted from the last. -/
def pageF (P : Fin 16 → FVec F S512x128 .f32) (n : ℕ) : FVec F S512x128 .f32 := P ⟨15 - n % 16, by omega⟩

set_option maxHeartbeats 2000000 in
/-- The two pieces of the output's block. -/
theorem pieces0_A (c : Dev nD) (i : grid0.Coords) (arg2 : Memref sig .tc .vmem S2x8x512 .f32) (harg2 : arg2.IsWhole) (arg3 : Memref sig .tc .vmem S64x128 .f32) (harg3 : arg3.IsWhole) (arg4 : Memref sig .tc .vmem S2x8x512 .f32) (harg4 : arg4.IsWhole) (arg5 : Memref sig .tc .vmem S2x8x512 .f32) (harg5 : arg5.IsWhole) (arg6 : Memref sig .tc .vmem S1x1x512x128 .f32) (harg6 : arg6.IsWhole) (arg7 : Memref sig .tc .vmem S1x1x512x128 .f32) (harg7 : arg7.IsWhole) (arg8 : Memref sig .tc .vmem S1x1x512x128 .f32) (harg8 : arg8.IsWhole) (arg9 : Memref sig .tc .vmem S1x1x512x128 .f32) (harg9 : arg9.IsWhole) (arg10 : Memref sig .tc .vmem S1x1x512x128 .f32) (harg10 : arg10.IsWhole) (arg11 : Memref sig .tc .vmem S1x1x512x128 .f32) (harg11 : arg11.IsWhole) (arg12 : Memref sig .tc .vmem S1x1x512x128 .f32) (harg12 : arg12.IsWhole) (arg13 : Memref sig .tc .vmem S1x1x512x128 .f32) (harg13 : arg13.IsWhole) (arg14 : Memref sig .tc .vmem S1x1x512x128 .f32) (harg14 : arg14.IsWhole) (arg15 : Memref sig .tc .vmem S1x1x512x128 .f32) (harg15 : arg15.IsWhole) (arg16 : Memref sig .tc .vmem S1x1x512x128 .f32) (harg16 : arg16.IsWhole) (arg17 : Memref sig .tc .vmem S1x1x512x128 .f32) (harg17 : arg17.IsWhole) (arg18 : Memref sig .tc .vmem S1x1x512x128 .f32) (harg18 : arg18.IsWhole) (arg19 : Memref sig .tc .vmem S1x1x512x128 .f32) (harg19 : arg19.IsWhole) (arg20 : Memref sig .tc .vmem S1x1x512x128 .f32) (harg20 : arg20.IsWhole) (arg21 : Memref sig .tc .vmem S1x1x512x128 .f32) (harg21 : arg21.IsWhole) (arg22 : Memref sig .tc .vmem S1x1x512x128 .f32) (harg22 : arg22.IsWhole) (arg23 : Memref sig .tc .vmem S1x1x512x128 .f32) (harg23 : arg23.IsWhole) (arg24 : Memref sig .tc .vmem S1x1x512x128 .f32) (harg24 : arg24.IsWhole) (arg25 : Memref sig .tc .vmem S1x1x512x128 .f32) (harg25 : arg25.IsWhole) (arg26 : Memref sig .tc .vmem S1x1x512x128 .f32) (harg26 : arg26.IsWhole) (arg27 : Memref sig .tc .vmem S1x1x512x128 .f32) (harg27 : arg27.IsWhole) (arg28 : Memref sig .tc .vmem S1x1x512x128 .f32) (harg28 : arg28.IsWhole) (arg29 : Memref sig .tc .vmem S1x1x512x128 .f32) (harg29 : arg29.IsWhole) (arg30 : Memref sig .tc .vmem S1x1x512x128 .f32) (harg30 : arg30.IsWhole) (arg31 : Memref sig .tc .vmem S1x1x512x128 .f32) (harg31 : arg31.IsWhole) (arg32 : Memref sig .tc .vmem S1x1x512x128 .f32) (harg32 : arg32.IsWhole) (arg33 : Memref sig .tc .vmem S1x1x512x128 .f32) (harg33 : arg33.IsWhole) (arg34 : Memref sig .tc .vmem S1x1x512x128 .f32) (harg34 : arg34.IsWhole) (arg35 : Memref sig .tc .vmem S1x1x512x128 .f32) (harg35 : arg35.IsWhole) (arg36 : Memref sig .tc .vmem S1x1x512x128 .f32) (harg36 : arg36.IsWhole) (arg37 : Memref sig .tc .vmem S1x1x512x128 .f32) (harg37 : arg37.IsWhole) (arg38 : Memref sig .tc .vmem S1x1x512x128 .f32) (harg38 : arg38.IsWhole) (arg39 : Memref sig .tc .vmem S1x1x512x128 .f32) (harg39 : arg39.IsWhole) (arg40 : Memref sig .tc .vmem S1x1x512x128 .f32) (harg40 : arg40.IsWhole) (arg41 : Memref sig .tc .vmem S1x1x512x128 .f32) (harg41 : arg41.IsWhole) (arg42 : Memref sig .tc .vmem S1x1x512x128 .f32) (harg42 : arg42.IsWhole) (arg43 : Memref sig .tc .vmem S1x1x512x128 .f32) (harg43 : arg43.IsWhole) (arg44 : Memref sig .tc .vmem S1x1x512x128 .f32) (harg44 : arg44.IsWhole) (arg45 : Memref sig .tc .vmem S1x1x512x128 .f32) (harg45 : arg45.IsWhole) (arg46 : Memref sig .tc .vmem S1x1x512x128 .f32) (harg46 : arg46.IsWhole) (arg47 : Memref sig .tc .vmem S1x1x512x128 .f32) (harg47 : arg47.IsWhole) (arg48 : Memref sig .tc .vmem S1x1x512x128 .f32) (harg48 : arg48.IsWhole) (arg49 : Memref sig .tc .vmem S1x1x512x128 .f32) (harg49 : arg49.IsWhole) (arg50 : Memref sig .tc .vmem S1x1x512x128 .f32) (harg50 : arg50.IsWhole) (arg51 : Memref sig .tc .vmem S1x1x512x128 .f32) (harg51 : arg51.IsWhole) (arg52 : Memref sig .tc .vmem S1x1x512x128 .f32) (harg52 : arg52.IsWhole) (arg53 : Memref sig .tc .vmem S1x1x512x128 .f32) (harg53 : arg53.IsWhole) (arg54 : Memref sig .tc .vmem S1x1x512x128 .f32) (harg54 : arg54.IsWhole) (arg55 : Memref sig .tc .vmem S1x1x512x128 .f32) (harg55 : arg55.IsWhole) (arg56 : Memref sig .tc .vmem S1x1x512x128 .f32) (harg56 : arg56.IsWhole) (arg57 : Memref sig .tc .vmem S1x1x512x128 .f32) (harg57 : arg57.IsWhole) (arg58 : Memref sig .tc .vmem S1x1x512x128 .f32) (harg58 : arg58.IsWhole) (arg59 : Memref sig .tc .vmem S1x1x512x128 .f32) (harg59 : arg59.IsWhole) (arg60 : Memref sig .tc .vmem S1x1x512x128 .f32) (harg60 : arg60.IsWhole) (arg61 : Memref sig .tc .vmem S1x1x512x128 .f32) (harg61 : arg61.IsWhole) (arg62 : Memref sig .tc .vmem S1x1x512x128 .f32) (harg62 : arg62.IsWhole) (arg63 : Memref sig .tc .vmem S1x1x512x128 .f32) (harg63 : arg63.IsWhole) (arg64 : Memref sig .tc .vmem S1x1x512x128 .f32) (harg64 : arg64.IsWhole) (arg65 : Memref sig .tc .vmem S1x1x512x128 .f32) (harg65 : arg65.IsWhole) (arg66 : Memref sig .tc .vmem S1x1x512x128 .f32) (harg66 : arg66.IsWhole) (arg67 : Memref sig .tc .vmem S1x1x512x128 .f32) (harg67 : arg67.IsWhole) (arg68 : Memref sig .tc .vmem S1x1x512x128 .f32) (harg68 : arg68.IsWhole) (arg69 : Memref sig .tc .vmem S1x1x512x128 .f32) (harg69 : arg69.IsWhole) (arg70 : Memref sig .tc .vmem S2x8x512 .f32) (harg70 : arg70.IsWhole)
    (x0 : Vec F S2x8x512 .f32) (x1 : Vec F S64x128 .f32) (x2 : Vec F S2x8x512 .f32) (x3 : Vec F S2x8x512 .f32) (x4 : Vec F S1x1x512x128 .f32) (x5 : Vec F S1x1x512x128 .f32) (x6 : Vec F S1x1x512x128 .f32) (x7 : Vec F S1x1x512x128 .f32) (x8 : Vec F S1x1x512x128 .f32) (x9 : Vec F S1x1x512x128 .f32) (x10 : Vec F S1x1x512x128 .f32) (x11 : Vec F S1x1x512x128 .f32) (x12 : Vec F S1x1x512x128 .f32) (x13 : Vec F S1x1x512x128 .f32) (x14 : Vec F S1x1x512x128 .f32) (x15 : Vec F S1x1x512x128 .f32) (x16 : Vec F S1x1x512x128 .f32) (x17 : Vec F S1x1x512x128 .f32) (x18 : Vec F S1x1x512x128 .f32) (x19 : Vec F S1x1x512x128 .f32) (x20 : Vec F S1x1x512x128 .f32) (x21 : Vec F S1x1x512x128 .f32) (x22 : Vec F S1x1x512x128 .f32) (x23 : Vec F S1x1x512x128 .f32) (x24 : Vec F S1x1x512x128 .f32) (x25 : Vec F S1x1x512x128 .f32) (x26 : Vec F S1x1x512x128 .f32) (x27 : Vec F S1x1x512x128 .f32) (x28 : Vec F S1x1x512x128 .f32) (x29 : Vec F S1x1x512x128 .f32) (x30 : Vec F S1x1x512x128 .f32) (x31 : Vec F S1x1x512x128 .f32) (x32 : Vec F S1x1x512x128 .f32) (x33 : Vec F S1x1x512x128 .f32) (x34 : Vec F S1x1x512x128 .f32) (x35 : Vec F S1x1x512x128 .f32) (x36 : Vec F S1x1x512x128 .f32) (x37 : Vec F S1x1x512x128 .f32) (x38 : Vec F S1x1x512x128 .f32) (x39 : Vec F S1x1x512x128 .f32) (x40 : Vec F S1x1x512x128 .f32) (x41 : Vec F S1x1x512x128 .f32) (x42 : Vec F S1x1x512x128 .f32) (x43 : Vec F S1x1x512x128 .f32) (x44 : Vec F S1x1x512x128 .f32) (x45 : Vec F S1x1x512x128 .f32) (x46 : Vec F S1x1x512x128 .f32) (x47 : Vec F S1x1x512x128 .f32) (x48 : Vec F S1x1x512x128 .f32) (x49 : Vec F S1x1x512x128 .f32) (x50 : Vec F S1x1x512x128 .f32) (x51 : Vec F S1x1x512x128 .f32) (x52 : Vec F S1x1x512x128 .f32) (x53 : Vec F S1x1x512x128 .f32) (x54 : Vec F S1x1x512x128 .f32) (x55 : Vec F S1x1x512x128 .f32) (x56 : Vec F S1x1x512x128 .f32) (x57 : Vec F S1x1x512x128 .f32) (x58 : Vec F S1x1x512x128 .f32) (x59 : Vec F S1x1x512x128 .f32) (x60 : Vec F S1x1x512x128 .f32) (x61 : Vec F S1x1x512x128 .f32) (x62 : Vec F S1x1x512x128 .f32) (x63 : Vec F S1x1x512x128 .f32) (x64 : Vec F S1x1x512x128 .f32) (x65 : Vec F S1x1x512x128 .f32) (x66 : Vec F S1x1x512x128 .f32) (x67 : Vec F S1x1x512x128 .f32) (xt0 : TbBuf0 (F := F) c tbM0_0)  :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66 x67 xt0).1 =
      [⟨Rect.unit ![1, 0, 0] S1x8x512.size inb_S2x8x512_S1x8x512_1_0_0,
        (shapeCast S1x8x512 (seqV (ld3 ![1, 0, 0] inb_S2x8x512_S1x8x512_1_0_0 arg2 harg2 x0) (ld3 ![1, 0, 0] inb_S2x8x512_S1x8x512_1_0_0 arg4 harg4 x2) (ld3 ![1, 0, 0] inb_S2x8x512_S1x8x512_1_0_0 arg5 harg5 x3) (ld2 arg3 harg3 x1)
        (pageF ![ld4 arg22 harg22 x20, ld4 arg23 harg23 x21, ld4 arg24 harg24 x22, ld4 arg25 harg25 x23, ld4 arg26 harg26 x24, ld4 arg27 harg27 x25, ld4 arg28 harg28 x26, ld4 arg29 harg29 x27, ld4 arg30 harg30 x28, ld4 arg31 harg31 x29, ld4 arg32 harg32 x30, ld4 arg33 harg33 x31, ld4 arg34 harg34 x32, ld4 arg35 harg35 x33, ld4 arg36 harg36 x34, ld4 arg37 harg37 x35])
        (pageF ![ld4 arg54 harg54 x52, ld4 arg55 harg55 x53, ld4 arg56 harg56 x54, ld4 arg57 harg57 x55, ld4 arg58 harg58 x56, ld4 arg59 harg59 x57, ld4 arg60 harg60 x58, ld4 arg61 harg61 x59, ld4 arg62 harg62 x60, ld4 arg63 harg63 x61, ld4 arg64 harg64 x62, ld4 arg65 harg65 x63, ld4 arg66 harg66 x64, ld4 arg67 harg67 x65, ld4 arg68 harg68 x66, ld4 arg69 harg69 x67])) shapeCasts_S8x512_S1x8x512)⟩,
       ⟨Rect.unit ![0, 0, 0] S1x8x512.size inb_S2x8x512_S1x8x512_0_0_0,
        (shapeCast S1x8x512 (seqV (ld3 ![0, 0, 0] inb_S2x8x512_S1x8x512_0_0_0 arg2 harg2 x0) (ld3 ![0, 0, 0] inb_S2x8x512_S1x8x512_0_0_0 arg4 harg4 x2) (ld3 ![0, 0, 0] inb_S2x8x512_S1x8x512_0_0_0 arg5 harg5 x3) (ld2 arg3 harg3 x1)
        (pageF ![ld4 arg6 harg6 x4, ld4 arg7 harg7 x5, ld4 arg8 harg8 x6, ld4 arg9 harg9 x7, ld4 arg10 harg10 x8, ld4 arg11 harg11 x9, ld4 arg12 harg12 x10, ld4 arg13 harg13 x11, ld4 arg14 harg14 x12, ld4 arg15 harg15 x13, ld4 arg16 harg16 x14, ld4 arg17 harg17 x15, ld4 arg18 harg18 x16, ld4 arg19 harg19 x17, ld4 arg20 harg20 x18, ld4 arg21 harg21 x19])
        (pageF ![ld4 arg38 harg38 x36, ld4 arg39 harg39 x37, ld4 arg40 harg40 x38, ld4 arg41 harg41 x39, ld4 arg42 harg42 x40, ld4 arg43 harg43 x41, ld4 arg44 harg44 x42, ld4 arg45 harg45 x43, ld4 arg46 harg46 x44, ld4 arg47 harg47 x45, ld4 arg48 harg48 x46, ld4 arg49 harg49 x47, ld4 arg50 harg50 x48, ld4 arg51 harg51 x49, ld4 arg52 harg52 x50, ld4 arg53 harg53 x51])) shapeCasts_S8x512_S1x8x512)⟩] := by
  unfold kernelRun0_A
  dsimp only
  sl_open_run
  sl_open_pay
  rfl

end Cert.KernelIdeal.Gen

end
-- ==== Proof.Stick.TablesKernelIdeal.lean ====
/- A page table whose entries name pages admits every page window of the call. -/
module

public import proofs.«01_k».proof.KernelIdeal
public import proofs.«01_k».proof.Proof.Gen.KernelIdeal

@[expose] public section

namespace Cert.KernelIdeal.Gen

open Idealize.ShloMosaic Cert.KernelIdeal

/-- A page inside the pool is a block inside the pool. -/
theorem page_block (x : ℕ) (h : x < 2560) :
    ∀ a, ((![0, x, 0, 0] : Fin 4 → ℕ) a + 1) * S1x1x512x128.size a ≤ S2x2560x512x128.size a := by
  intro a
  match a with
  | ⟨0, _⟩ => show (0 + 1) * 1 ≤ 2; omega
  | ⟨1, _⟩ => show (x + 1) * 1 ≤ 2560; omega
  | ⟨2, _⟩ => show (0 + 1) * 512 ≤ 512; omega
  | ⟨3, _⟩ => show (0 + 1) * 128 ≤ 128; omega

variable {F : FTy → Type} [FloatOps F]

set_option maxRecDepth 4000 in
theorem ok0_of_range (pf : pre0.Contents (Elt F)) (h : ∀ w : S128x16.Idx, BitVec.toNat (pf 0 w) < 2560) : ok0 pf := by
  unfold ok0
  repeat' apply And.intro
  all_goals exact fun i => ⟨page_block _ (h _), Or.inl rfl⟩

end Cert.KernelIdeal.Gen
-- ==== Proof.Stick.Entry.lean ====
/- The entries of the blocks that the attention kernel stages: the pages of the pool that the page table names, and the
   sequences' own rows. -/
module

public import proofs.«01_k».proof.Proof.Stick.HostAt
public import proofs.«01_k».proof.Proof.Stick.Pieces
public import proofs.«01_k».proof.Proof.Stick.TablesKernelIdeal
public import Idealize.ShloMosaic.Lib.Pipeline.Value
public import Idealize.ShloMosaic.Lib.WholeRead

@[expose] public section

set_option maxRecDepth 16384

noncomputable section

namespace Cert.KernelIdeal.Gen

open Idealize.ShloMosaic hiding ix1 ix2 ix3 ix4 ix5
open Idealize.ShloMosaic.ValueIdx Idealize.ShloMosaic.TcCoe Cert.KernelIdeal Cert.Stick

variable {F : FTy → Type} [FloatOps F]

/-- A table's word read through one of its cells. -/
theorem word_at (pf : pre0.Contents (Elt F)) (off : Fin 2 → ℕ) (ho : ∀ a, off a + S1x1.size a ≤ S128x16.size a) (b : Fin 128) (n : Fin 16)
    (h0 : off 0 = b.val) (h1 : off 1 = n.val) :
    pf.at 0 (Rect.unit (s := S128x16) off S1x1.size ho) numel1_S1x1 = pf 0 (ix2 b n) := by
  refine congrArg (pf 0) (funext fun a => Fin.ext ?_)
  match a with
  | ⟨0, _⟩ => exact (congrArg (· + 1 * 0) h0)
  | ⟨1, _⟩ => exact (congrArg (· + 1 * 0) h1)

/-- The sequence that a grid point's half works on. -/
theorem seq_word (i : Fin 64) (s : Fin 2) :
    (Scalar.indexCast (Scalar.addi (Scalar.muli (BitVec.ofNat 32 i.val) 2#32) (BitVec.ofNat 32 s.val))).toNat = 2 * i.val + s.val := by
  revert i s; decide +kernel

/-- A page's block lies at the page. -/
theorem page_emb (J : Fin 4 → ℕ) (hJ : ∀ a, (J a + 1) * S1x1x512x128.size a ≤ S2x2560x512x128.size a) (p : Fin 2560)
    (h0 : J 0 = 0) (h1 : J 1 = p.val) (h2 : J 2 = 0) (h3 : J 3 = 0) (r : Fin 512) (k : Fin 128) :
    (Rect.block (s := S2x2560x512x128) S1x1x512x128.size J hJ).emb (ix4 (0 : Fin 1) (0 : Fin 1) r k) = ix4 (0 : Fin 2) p r k := by
  funext a
  apply Fin.ext
  match a with
  | ⟨0, _⟩ => show J 0 * 1 + 1 * 0 = 0; omega
  | ⟨1, _⟩ => show J 1 * 1 + 1 * 0 = p.val; omega
  | ⟨2, _⟩ => show J 2 * 512 + 1 * r.val = r.val; omega
  | ⟨3, _⟩ => show J 3 * 128 + 1 * k.val = k.val; omega

/-- A block of two sequences' rows lies at the two sequences. -/
theorem rows_emb (J : Fin 3 → ℕ) (hJ : ∀ a, (J a + 1) * S2x8x512.size a ≤ S128x8x512.size a) (i : Fin 64)
    (h0 : J 0 = i.val) (h1 : J 1 = 0) (h2 : J 2 = 0) (s : Fin 2) (t : Fin 8) (k : Fin 512) :
    (Rect.block (s := S128x8x512) S2x8x512.size J hJ).emb (ix3 s t k) = ix3 (⟨2 * i.val + s.val, by omega⟩ : Fin 128) t k := by
  funext a
  apply Fin.ext
  match a with
  | ⟨0, _⟩ => show J 0 * 2 + 1 * s.val = 2 * i.val + s.val; omega
  | ⟨1, _⟩ => show J 1 * 8 + 1 * t.val = t.val; omega
  | ⟨2, _⟩ => show J 2 * 512 + 1 * k.val = k.val; omega

/-- What the body reads of a page's block. -/
theorem ld4_apply (M : Memref sig .tc .vmem S1x1x512x128 .f32) (hM : M.IsWhole) (x : Vec F S1x1x512x128 .f32) (r : Fin 512) (k : Fin 128) :
    ld4 M hM x (ix2 r k) = x (ix4 (0 : Fin 1) (0 : Fin 1) r k) := by
  unfold ld4
  rw [shapeCast_apply _ (j := ix2 r k) (k := ix4 (0 : Fin 1) (0 : Fin 1) r k)]
  · rw [hM.readAt_unread]
    congr 1
    funext a
    apply Fin.ext
    match a with
    | ⟨0, _⟩ => rfl
    | ⟨1, _⟩ => rfl
    | ⟨2, _⟩ => show 0 + 1 * r.val = r.val; omega
    | ⟨3, _⟩ => show 0 + 1 * k.val = k.val; omega
  · rw [Shape.rowMajor_val_two, Shape.rowMajor_val_four]; show ((0 * 1 + 0) * 512 + r.val) * 128 + k.val = r.val * 128 + k.val; omega

/-- What the body reads of the biases. -/
theorem ld2_apply (M : Memref sig .tc .vmem S64x128 .f32) (hM : M.IsWhole) (x : Vec F S64x128 .f32) (r : Fin 64) (k : Fin 128) :
    ld2 M hM x (ix2 r k) = x (ix2 r k) := by
  unfold ld2
  rw [shapeCast_apply _ (j := ix2 r k) (k := ix2 r k) ?_, hM.readAt_unread]
  rotate_left
  · first | rfl | exact shapeCasts_S64x128_S64x128
  · first | rfl | exact shapeCasts_S64x128_S64x128
  congr 1
  funext a
  apply Fin.ext
  match a with
  | ⟨0, _⟩ => show 0 + 1 * r.val = r.val; omega
  | ⟨1, _⟩ => show 0 + 1 * k.val = k.val; omega

/-- What the body reads of a sequence's rows. -/
theorem ld3_apply (o : Fin 3 → ℕ) (ho : ∀ a, o a + S1x8x512.size a ≤ S2x8x512.size a) (M : Memref sig .tc .vmem S2x8x512 .f32) (hM : M.IsWhole)
    (x : Vec F S2x8x512 .f32) (s : Fin 2) (h0 : o 0 = s.val) (h1 : o 1 = 0) (h2 : o 2 = 0) (t : Fin 8) (k : Fin 512) :
    ld3 o ho M hM x (ix2 t k) = x (ix3 s t k) := by
  unfold ld3
  rw [shapeCast_apply _ (j := ix2 t k) (k := ix3 (0 : Fin 1) t k)]
  · rw [hM.readAt_unread]
    congr 1
    funext a
    apply Fin.ext
    match a with
    | ⟨0, _⟩ => show o 0 + 1 * 0 = s.val; omega
    | ⟨1, _⟩ => show o 1 + 1 * t.val = t.val; omega
    | ⟨2, _⟩ => show o 2 + 1 * k.val = k.val; omega
  · rw [Shape.rowMajor_val_two, Shape.rowMajor_val_three]; show (0 * 8 + t.val) * 512 + k.val = t.val * 512 + k.val; omega

section windows

variable (m : (ℓ : Loc nD τ sig) → Buf (Elt F) ℓ) (hO : Ok m) (c : Dev nD) (t : Fin (cfgM m hO).N)

/-- The cell of the page table that a page window of a grid point reads. -/
theorem cell_of (T : Pages) (hT : InRange T) (pf : pre0.Contents (Elt F)) (hpf : pf 0 = T) (x : ℕ) (i : Fin 64) (hi : x = i.val) (s : Fin 2) (n : Fin 16)
    (off : Fin 2 → ℕ) (ho : ∀ a, off a + S1x1.size a ≤ S128x16.size a)
    (h0 : off 0 = (Scalar.indexCast (Scalar.addi (Scalar.muli (BitVec.ofNat 32 x) 2#32) (BitVec.ofNat 32 s.val))).toNat) (h1 : off 1 = n.val) :
    (pf.at 0 (Rect.unit (s := S128x16) off S1x1.size ho) numel1_S1x1).toNat = (page T (⟨2 * i.val + s.val, by omega⟩ : Fin 128) n).val := by
  subst hi hpf
  rw [word_at pf off ho (⟨2 * i.val + s.val, by omega⟩ : Fin 128) n (h0.trans (seq_word i s)) h1]
  exact (Nat.mod_eq_of_lt (hT _)).symm

-- sixteen windows, each with its own index map
set_option maxHeartbeats 1600000 in
/-- The sixteen pages of keys of the first sequence of a grid point. -/
theorem keys0 (hT : InRange (tbl m 0)) (i : Fin 64) (hi : (grid0.coords t 0).val = i.val) (n : Fin 16) (r : Fin 512) (k : Fin 128) :
    (![ld4 (ms0_4 m hO t) (hs0_4 m hO t) (iblk m hO c 4 t),
      ld4 (ms0_5 m hO t) (hs0_5 m hO t) (iblk m hO c 5 t),
      ld4 (ms0_6 m hO t) (hs0_6 m hO t) (iblk m hO c 6 t),
      ld4 (ms0_7 m hO t) (hs0_7 m hO t) (iblk m hO c 7 t),
      ld4 (ms0_8 m hO t) (hs0_8 m hO t) (iblk m hO c 8 t),
      ld4 (ms0_9 m hO t) (hs0_9 m hO t) (iblk m hO c 9 t),
      ld4 (ms0_10 m hO t) (hs0_10 m hO t) (iblk m hO c 10 t),
      ld4 (ms0_11 m hO t) (hs0_11 m hO t) (iblk m hO c 11 t),
      ld4 (ms0_12 m hO t) (hs0_12 m hO t) (iblk m hO c 12 t),
      ld4 (ms0_13 m hO t) (hs0_13 m hO t) (iblk m hO c 13 t),
      ld4 (ms0_14 m hO t) (hs0_14 m hO t) (iblk m hO c 14 t),
      ld4 (ms0_15 m hO t) (hs0_15 m hO t) (iblk m hO c 15 t),
      ld4 (ms0_16 m hO t) (hs0_16 m hO t) (iblk m hO c 16 t),
      ld4 (ms0_17 m hO t) (hs0_17 m hO t) (iblk m hO c 17 t),
      ld4 (ms0_18 m hO t) (hs0_18 m hO t) (iblk m hO c 18 t),
      ld4 (ms0_19 m hO t) (hs0_19 m hO t) (iblk m hO c 19 t)] : Fin 16 → FVec F S512x128 .f32) n (ix2 r k)
      = V m c main_v1 (ix4 (0 : Fin 2) (page (tbl m 0) (⟨2 * i.val + 0, by omega⟩ : Fin 128) n) r k) := by
  fin_cases n <;>
    exact (ld4_apply _ _ _ r k).trans (congrArg (V m c main_v1) (page_emb _ (by exact page_block _ (hT _)) _ rfl
      (cell_of (tbl m 0) hT (tbl m) rfl _ i hi 0 _ _ _ rfl rfl) rfl rfl r k))

-- sixteen windows, each with its own index map
set_option maxHeartbeats 1600000 in
/-- The sixteen pages of keys of the second sequence of a grid point. -/
theorem keys1 (hT : InRange (tbl m 0)) (i : Fin 64) (hi : (grid0.coords t 0).val = i.val) (n : Fin 16) (r : Fin 512) (k : Fin 128) :
    (![ld4 (ms0_20 m hO t) (hs0_20 m hO t) (iblk m hO c 20 t),
      ld4 (ms0_21 m hO t) (hs0_21 m hO t) (iblk m hO c 21 t),
      ld4 (ms0_22 m hO t) (hs0_22 m hO t) (iblk m hO c 22 t),
      ld4 (ms0_23 m hO t) (hs0_23 m hO t) (iblk m hO c 23 t),
      ld4 (ms0_24 m hO t) (hs0_24 m hO t) (iblk m hO c 24 t),
      ld4 (ms0_25 m hO t) (hs0_25 m hO t) (iblk m hO c 25 t),
      ld4 (ms0_26 m hO t) (hs0_26 m hO t) (iblk m hO c 26 t),
      ld4 (ms0_27 m hO t) (hs0_27 m hO t) (iblk m hO c 27 t),
      ld4 (ms0_28 m hO t) (hs0_28 m hO t) (iblk m hO c 28 t),
      ld4 (ms0_29 m hO t) (hs0_29 m hO t) (iblk m hO c 29 t),
      ld4 (ms0_30 m hO t) (hs0_30 m hO t) (iblk m hO c 30 t),
      ld4 (ms0_31 m hO t) (hs0_31 m hO t) (iblk m hO c 31 t),
      ld4 (ms0_32 m hO t) (hs0_32 m hO t) (iblk m hO c 32 t),
      ld4 (ms0_33 m hO t) (hs0_33 m hO t) (iblk m hO c 33 t),
      ld4 (ms0_34 m hO t) (hs0_34 m hO t) (iblk m hO c 34 t),
      ld4 (ms0_35 m hO t) (hs0_35 m hO t) (iblk m hO c 35 t)] : Fin 16 → FVec F S512x128 .f32) n (ix2 r k)
      = V m c main_v1 (ix4 (0 : Fin 2) (page (tbl m 0) (⟨2 * i.val + 1, by omega⟩ : Fin 128) n) r k) := by
  fin_cases n <;>
    exact (ld4_apply _ _ _ r k).trans (congrArg (V m c main_v1) (page_emb _ (by exact page_block _ (hT _)) _ rfl
      (cell_of (tbl m 0) hT (tbl m) rfl _ i hi 1 _ _ _ rfl rfl) rfl rfl r k))

-- sixteen windows, each with its own index map
set_option maxHeartbeats 1600000 in
/-- The sixteen pages of values of the first sequence of a grid point. -/
theorem values0 (hT : InRange (tbl m 0)) (i : Fin 64) (hi : (grid0.coords t 0).val = i.val) (n : Fin 16) (r : Fin 512) (k : Fin 128) :
    (![ld4 (ms0_36 m hO t) (hs0_36 m hO t) (iblk m hO c 36 t),
      ld4 (ms0_37 m hO t) (hs0_37 m hO t) (iblk m hO c 37 t),
      ld4 (ms0_38 m hO t) (hs0_38 m hO t) (iblk m hO c 38 t),
      ld4 (ms0_39 m hO t) (hs0_39 m hO t) (iblk m hO c 39 t),
      ld4 (ms0_40 m hO t) (hs0_40 m hO t) (iblk m hO c 40 t),
      ld4 (ms0_41 m hO t) (hs0_41 m hO t) (iblk m hO c 41 t),
      ld4 (ms0_42 m hO t) (hs0_42 m hO t) (iblk m hO c 42 t),
      ld4 (ms0_43 m hO t) (hs0_43 m hO t) (iblk m hO c 43 t),
      ld4 (ms0_44 m hO t) (hs0_44 m hO t) (iblk m hO c 44 t),
      ld4 (ms0_45 m hO t) (hs0_45 m hO t) (iblk m hO c 45 t),
      ld4 (ms0_46 m hO t) (hs0_46 m hO t) (iblk m hO c 46 t),
      ld4 (ms0_47 m hO t) (hs0_47 m hO t) (iblk m hO c 47 t),
      ld4 (ms0_48 m hO t) (hs0_48 m hO t) (iblk m hO c 48 t),
      ld4 (ms0_49 m hO t) (hs0_49 m hO t) (iblk m hO c 49 t),
      ld4 (ms0_50 m hO t) (hs0_50 m hO t) (iblk m hO c 50 t),
      ld4 (ms0_51 m hO t) (hs0_51 m hO t) (iblk m hO c 51 t)] : Fin 16 → FVec F S512x128 .f32) n (ix2 r k)
      = V m c main_v3 (ix4 (0 : Fin 2) (page (tbl m 0) (⟨2 * i.val + 0, by omega⟩ : Fin 128) n) r k) := by
  fin_cases n <;>
    exact (ld4_apply _ _ _ r k).trans (congrArg (V m c main_v3) (page_emb _ (by exact page_block _ (hT _)) _ rfl
      (cell_of (tbl m 0) hT (tbl m) rfl _ i hi 0 _ _ _ rfl rfl) rfl rfl r k))

-- sixteen windows, each with its own index map
set_option maxHeartbeats 1600000 in
/-- The sixteen pages of values of the second sequence of a grid point. -/
theorem values1 (hT : InRange (tbl m 0)) (i : Fin 64) (hi : (grid0.coords t 0).val = i.val) (n : Fin 16) (r : Fin 512) (k : Fin 128) :
    (![ld4 (ms0_52 m hO t) (hs0_52 m hO t) (iblk m hO c 52 t),
      ld4 (ms0_53 m hO t) (hs0_53 m hO t) (iblk m hO c 53 t),
      ld4 (ms0_54 m hO t) (hs0_54 m hO t) (iblk m hO c 54 t),
      ld4 (ms0_55 m hO t) (hs0_55 m hO t) (iblk m hO c 55 t),
      ld4 (ms0_56 m hO t) (hs0_56 m hO t) (iblk m hO c 56 t),
      ld4 (ms0_57 m hO t) (hs0_57 m hO t) (iblk m hO c 57 t),
      ld4 (ms0_58 m hO t) (hs0_58 m hO t) (iblk m hO c 58 t),
      ld4 (ms0_59 m hO t) (hs0_59 m hO t) (iblk m hO c 59 t),
      ld4 (ms0_60 m hO t) (hs0_60 m hO t) (iblk m hO c 60 t),
      ld4 (ms0_61 m hO t) (hs0_61 m hO t) (iblk m hO c 61 t),
      ld4 (ms0_62 m hO t) (hs0_62 m hO t) (iblk m hO c 62 t),
      ld4 (ms0_63 m hO t) (hs0_63 m hO t) (iblk m hO c 63 t),
      ld4 (ms0_64 m hO t) (hs0_64 m hO t) (iblk m hO c 64 t),
      ld4 (ms0_65 m hO t) (hs0_65 m hO t) (iblk m hO c 65 t),
      ld4 (ms0_66 m hO t) (hs0_66 m hO t) (iblk m hO c 66 t),
      ld4 (ms0_67 m hO t) (hs0_67 m hO t) (iblk m hO c 67 t)] : Fin 16 → FVec F S512x128 .f32) n (ix2 r k)
      = V m c main_v3 (ix4 (0 : Fin 2) (page (tbl m 0) (⟨2 * i.val + 1, by omega⟩ : Fin 128) n) r k) := by
  fin_cases n <;>
    exact (ld4_apply _ _ _ r k).trans (congrArg (V m c main_v3) (page_emb _ (by exact page_block _ (hT _)) _ rfl
      (cell_of (tbl m 0) hT (tbl m) rfl _ i hi 1 _ _ _ rfl rfl) rfl rfl r k))

end windows

end Cert.KernelIdeal.Gen

end
-- ==== Proof.Stick.OutAt.lean ====
/- What the attention kernel leaves in its output's block at a grid point: the two sequences' results. -/
module

public import proofs.«01_k».proof.Proof.Stick.FrameKernelIdeal
public import proofs.«01_k».proof.Proof.Stick.Entry
public import Idealize.ShloMosaic.Lib.Writes

@[expose] public section

set_option maxRecDepth 16384

noncomputable section

namespace Cert.KernelIdeal.Gen

open Idealize.ShloMosaic hiding ix1 ix2 ix3 ix4 ix5
open Idealize.ShloMosaic.ValueIdx Idealize.ShloMosaic.TcCoe Cert.KernelIdeal Cert.Stick

section windows

variable {F : FTy → Type} [FloatOps F]
variable (m : (ℓ : Loc nD τ sig) → Buf (Elt F) ℓ) (hO : Ok m) (c : Dev nD) (t : Fin (cfgM m hO).N)

/-- The first sequence's half of the block. -/
theorem half0 (r : Fin 8) (k : Fin 512) :
    outsAt0 m hO c t (ix3 (0 : Fin 2) r k) =
      seqV (ld3 ![0, 0, 0] inb_S2x8x512_S1x8x512_0_0_0 (ms0_0 m hO t) (hs0_0 m hO t) (iblk m hO c 0 t)) (ld3 ![0, 0, 0] inb_S2x8x512_S1x8x512_0_0_0 (ms0_2 m hO t) (hs0_2 m hO t) (iblk m hO c 2 t)) (ld3 ![0, 0, 0] inb_S2x8x512_S1x8x512_0_0_0 (ms0_3 m hO t) (hs0_3 m hO t) (iblk m hO c 3 t)) (ld2 (ms0_1 m hO t) (hs0_1 m hO t) (iblk m hO c 1 t))
      (pageF ![ld4 (ms0_4 m hO t) (hs0_4 m hO t) (iblk m hO c 4 t),
      ld4 (ms0_5 m hO t) (hs0_5 m hO t) (iblk m hO c 5 t),
      ld4 (ms0_6 m hO t) (hs0_6 m hO t) (iblk m hO c 6 t),
      ld4 (ms0_7 m hO t) (hs0_7 m hO t) (iblk m hO c 7 t),
      ld4 (ms0_8 m hO t) (hs0_8 m hO t) (iblk m hO c 8 t),
      ld4 (ms0_9 m hO t) (hs0_9 m hO t) (iblk m hO c 9 t),
      ld4 (ms0_10 m hO t) (hs0_10 m hO t) (iblk m hO c 10 t),
      ld4 (ms0_11 m hO t) (hs0_11 m hO t) (iblk m hO c 11 t),
      ld4 (ms0_12 m hO t) (hs0_12 m hO t) (iblk m hO c 12 t),
      ld4 (ms0_13 m hO t) (hs0_13 m hO t) (iblk m hO c 13 t),
      ld4 (ms0_14 m hO t) (hs0_14 m hO t) (iblk m hO c 14 t),
      ld4 (ms0_15 m hO t) (hs0_15 m hO t) (iblk m hO c 15 t),
      ld4 (ms0_16 m hO t) (hs0_16 m hO t) (iblk m hO c 16 t),
      ld4 (ms0_17 m hO t) (hs0_17 m hO t) (iblk m hO c 17 t),
      ld4 (ms0_18 m hO t) (hs0_18 m hO t) (iblk m hO c 18 t),
      ld4 (ms0_19 m hO t) (hs0_19 m hO t) (iblk m hO c 19 t)])
      (pageF ![ld4 (ms0_36 m hO t) (hs0_36 m hO t) (iblk m hO c 36 t),
      ld4 (ms0_37 m hO t) (hs0_37 m hO t) (iblk m hO c 37 t),
      ld4 (ms0_38 m hO t) (hs0_38 m hO t) (iblk m hO c 38 t),
      ld4 (ms0_39 m hO t) (hs0_39 m hO t) (iblk m hO c 39 t),
      ld4 (ms0_40 m hO t) (hs0_40 m hO t) (iblk m hO c 40 t),
      ld4 (ms0_41 m hO t) (hs0_41 m hO t) (iblk m hO c 41 t),
      ld4 (ms0_42 m hO t) (hs0_42 m hO t) (iblk m hO c 42 t),
      ld4 (ms0_43 m hO t) (hs0_43 m hO t) (iblk m hO c 43 t),
      ld4 (ms0_44 m hO t) (hs0_44 m hO t) (iblk m hO c 44 t),
      ld4 (ms0_45 m hO t) (hs0_45 m hO t) (iblk m hO c 45 t),
      ld4 (ms0_46 m hO t) (hs0_46 m hO t) (iblk m hO c 46 t),
      ld4 (ms0_47 m hO t) (hs0_47 m hO t) (iblk m hO c 47 t),
      ld4 (ms0_48 m hO t) (hs0_48 m hO t) (iblk m hO c 48 t),
      ld4 (ms0_49 m hO t) (hs0_49 m hO t) (iblk m hO c 49 t),
      ld4 (ms0_50 m hO t) (hs0_50 m hO t) (iblk m hO c 50 t),
      ld4 (ms0_51 m hO t) (hs0_51 m hO t) (iblk m hO c 51 t)]) (ix2 r k) := by
  unfold outsAt0 out0_A_68
  refine (congrArg (fun L => VO0_68.read (Elt F) (VO0_68.writes (Elt F) VO0_68.junk L) (ix3 (0 : Fin 2) r k)) (pieces0_A ..)).trans ?_
  dsimp only
  rw [View.read_writes_cons_miss_of_axis _ _ _ _ _ (0 : Fin 3) 1 1 rfl rfl rfl (Or.inl (show 0 < 1 by omega))]
  rw [View.read_writes_cons_hit_of_coords _ _ _ _ _ (ix3 (0 : Fin 1) r k) _ (fun a => by
    match a with
    | ⟨0, _⟩ => rfl
    | ⟨1, _⟩ => show r.val = 0 + 1 * r.val; omega
    | ⟨2, _⟩ => show k.val = 0 + 1 * k.val; omega)]
  exact shapeCast_apply _ _ _ _ (by
    rw [Shape.rowMajor_val_two, Shape.rowMajor_val_three]
    show r.val * 512 + k.val = (0 * 8 + r.val) * 512 + k.val
    omega)

/-- The second sequence's half of the block. -/
theorem half1 (r : Fin 8) (k : Fin 512) :
    outsAt0 m hO c t (ix3 (1 : Fin 2) r k) =
      seqV (ld3 ![1, 0, 0] inb_S2x8x512_S1x8x512_1_0_0 (ms0_0 m hO t) (hs0_0 m hO t) (iblk m hO c 0 t)) (ld3 ![1, 0, 0] inb_S2x8x512_S1x8x512_1_0_0 (ms0_2 m hO t) (hs0_2 m hO t) (iblk m hO c 2 t)) (ld3 ![1, 0, 0] inb_S2x8x512_S1x8x512_1_0_0 (ms0_3 m hO t) (hs0_3 m hO t) (iblk m hO c 3 t)) (ld2 (ms0_1 m hO t) (hs0_1 m hO t) (iblk m hO c 1 t))
      (pageF ![ld4 (ms0_20 m hO t) (hs0_20 m hO t) (iblk m hO c 20 t),
      ld4 (ms0_21 m hO t) (hs0_21 m hO t) (iblk m hO c 21 t),
      ld4 (ms0_22 m hO t) (hs0_22 m hO t) (iblk m hO c 22 t),
      ld4 (ms0_23 m hO t) (hs0_23 m hO t) (iblk m hO c 23 t),
      ld4 (ms0_24 m hO t) (hs0_24 m hO t) (iblk m hO c 24 t),
      ld4 (ms0_25 m hO t) (hs0_25 m hO t) (iblk m hO c 25 t),
      ld4 (ms0_26 m hO t) (hs0_26 m hO t) (iblk m hO c 26 t),
      ld4 (ms0_27 m hO t) (hs0_27 m hO t) (iblk m hO c 27 t),
      ld4 (ms0_28 m hO t) (hs0_28 m hO t) (iblk m hO c 28 t),
      ld4 (ms0_29 m hO t) (hs0_29 m hO t) (iblk m hO c 29 t),
      ld4 (ms0_30 m hO t) (hs0_30 m hO t) (iblk m hO c 30 t),
      ld4 (ms0_31 m hO t) (hs0_31 m hO t) (iblk m hO c 31 t),
      ld4 (ms0_32 m hO t) (hs0_32 m hO t) (iblk m hO c 32 t),
      ld4 (ms0_33 m hO t) (hs0_33 m hO t) (iblk m hO c 33 t),
      ld4 (ms0_34 m hO t) (hs0_34 m hO t) (iblk m hO c 34 t),
      ld4 (ms0_35 m hO t) (hs0_35 m hO t) (iblk m hO c 35 t)])
      (pageF ![ld4 (ms0_52 m hO t) (hs0_52 m hO t) (iblk m hO c 52 t),
      ld4 (ms0_53 m hO t) (hs0_53 m hO t) (iblk m hO c 53 t),
      ld4 (ms0_54 m hO t) (hs0_54 m hO t) (iblk m hO c 54 t),
      ld4 (ms0_55 m hO t) (hs0_55 m hO t) (iblk m hO c 55 t),
      ld4 (ms0_56 m hO t) (hs0_56 m hO t) (iblk m hO c 56 t),
      ld4 (ms0_57 m hO t) (hs0_57 m hO t) (iblk m hO c 57 t),
      ld4 (ms0_58 m hO t) (hs0_58 m hO t) (iblk m hO c 58 t),
      ld4 (ms0_59 m hO t) (hs0_59 m hO t) (iblk m hO c 59 t),
      ld4 (ms0_60 m hO t) (hs0_60 m hO t) (iblk m hO c 60 t),
      ld4 (ms0_61 m hO t) (hs0_61 m hO t) (iblk m hO c 61 t),
      ld4 (ms0_62 m hO t) (hs0_62 m hO t) (iblk m hO c 62 t),
      ld4 (ms0_63 m hO t) (hs0_63 m hO t) (iblk m hO c 63 t),
      ld4 (ms0_64 m hO t) (hs0_64 m hO t) (iblk m hO c 64 t),
      ld4 (ms0_65 m hO t) (hs0_65 m hO t) (iblk m hO c 65 t),
      ld4 (ms0_66 m hO t) (hs0_66 m hO t) (iblk m hO c 66 t),
      ld4 (ms0_67 m hO t) (hs0_67 m hO t) (iblk m hO c 67 t)]) (ix2 r k) := by
  unfold outsAt0 out0_A_68
  refine (congrArg (fun L => VO0_68.read (Elt F) (VO0_68.writes (Elt F) VO0_68.junk L) (ix3 (1 : Fin 2) r k)) (pieces0_A ..)).trans ?_
  dsimp only
  rw [View.read_writes_cons_hit_of_coords _ _ _ _ _ (ix3 (0 : Fin 1) r k) _ (fun a => by
    match a with
    | ⟨0, _⟩ => rfl
    | ⟨1, _⟩ => show r.val = 0 + 1 * r.val; omega
    | ⟨2, _⟩ => show k.val = 0 + 1 * k.val; omega)]
  exact shapeCast_apply _ _ _ _ (by
    rw [Shape.rowMajor_val_two, Shape.rowMajor_val_three]
    show r.val * 512 + k.val = (0 * 8 + r.val) * 512 + k.val
    omega)

end windows

end Cert.KernelIdeal.Gen

end
-- ==== Proof.Stick.Final.lean ====
/- The attention kernel's result, component by component, as a sum over the keys' places. -/
module

public import proofs.«01_k».proof.Proof.Stick.OutAt
public import proofs.«01_k».proof.Proof.Stick.BlockAt
public import Idealize.ShloMosaic.Lib.Pipeline.ValueKit
public import Idealize.ShloMosaic.Lib.StableHlo.ReadAt
public import Idealize.ShloMosaic.Lib.Claim

@[expose] public section

set_option maxRecDepth 16384

noncomputable section

namespace Cert.KernelIdeal.Gen

open Idealize.ShloMosaic hiding ix1 ix2 ix3 ix4 ix5
open Idealize.ShloMosaic.ValueIdx Idealize.ShloMosaic.TcCoe Cert.KernelIdeal Cert.Stick

variable (m : (ℓ : Loc nD τ sig) → Buf (Elt Ideal) ℓ) (hO : Ok m) (c : Dev nD)

/-- One component of the attention over the arguments as launched. -/
def outV (b : Fin 128) (h q : Fin 8) (d : Fin 64) : EReal :=
  out (m ((c : Thread nD τ).loc main_arg0)) (m ((c : Thread nD τ).loc main_arg1)) (m ((c : Thread nD τ).loc main_arg2))
    (m ((c : Thread nD τ).loc main_arg3)) (m ((c : Thread nD τ).loc main_arg4)) (tbl m 0) (m ((c : Thread nD τ).loc main_arg6)) b h q d

/-- A key (or value) on a page. -/
theorem kv_page (x : Toks) (P : Pool) (T : Pages) (b : Fin 128) (h : Fin 8) (d : Fin 64) (n : ℕ) (hn : n < 16) (k : Fin 128) :
    kv x P T b h d ((15 - n) * 128 + k.val) = P (ix5 (0 : Fin 2) (page T b ⟨15 - n, by omega⟩) k h d) := by
  unfold kv
  rw [if_pos (by omega)]
  have e1 : (⟨((15 - n) * 128 + k.val) / 128 % 16, Nat.mod_lt _ (by omega)⟩ : Fin 16) = ⟨15 - n, by omega⟩ := Fin.ext (by show _ % 16 = 15 - n; omega)
  have e2 : (⟨((15 - n) * 128 + k.val) % 128, Nat.mod_lt _ (by omega)⟩ : Fin 128) = k := Fin.ext (by show _ % 128 = k.val; omega)
  rw [e1, e2]

/-- A new key (or value). -/
theorem kv_new (x : Toks) (P : Pool) (T : Pages) (b : Fin 128) (h : Fin 8) (d : Fin 64) (k : Fin 8) :
    kv x P T b h d (2048 + k.val) = x (ix2 (row b k) (col h d)) := by
  unfold kv
  rw [if_neg (by omega)]
  have e : (⟨(2048 + k.val - 2048) % 8, Nat.mod_lt _ (by omega)⟩ : Fin 8) = k := Fin.ext (by show _ % 8 = k.val; omega)
  rw [e]

/-- A sequence's result from what its operands read. -/
theorem seq_out (b : Fin 128) (q kn vn : FVec Ideal S8x512 .f32) (bias : FVec Ideal S64x128 .f32) (K W : Fin 16 → FVec Ideal S512x128 .f32)
    (xq xk xv : Toks) (PK PV : Pool) (T : Pages) (B : Bias)
    (hq : ∀ t k, q (ix2 t k) = xq (ix2 (row b t) k)) (hk : ∀ t k, kn (ix2 t k) = xk (ix2 (row b t) k)) (hv : ∀ t k, vn (ix2 t k) = xv (ix2 (row b t) k))
    (hb : ∀ (h t : Fin 8) (k : Fin 128), bias (ix2 (hrow h t) k) = B (ix1 h))
    (hK : ∀ n (h : Fin 8) (d : Fin 64) k, K n (ix2 (col h d) k) = PK (ix5 (0 : Fin 2) (page T b n) k h d))
    (hW : ∀ n (h : Fin 8) (d : Fin 64) k, W n (ix2 (col h d) k) = PV (ix5 (0 : Fin 2) (page T b n) k h d))
    (h t : Fin 8) (d : Fin 64) :
    seqV (F := Ideal) q kn vn bias (pageF K) (pageF W) (ix2 t (col h d)) = out xq xk xv PK PV T B b h t d := by
  have en (n : ℕ) (hn : n < 16) : (⟨15 - n % 16, by omega⟩ : Fin 16) = ⟨15 - n, by omega⟩ := Fin.ext (by show 15 - n % 16 = 15 - n; omega)
  refine seqV_apply q kn vn bias _ _ h t d (score xq xk PK T B b h t) (kv xv PV T b h d) ?_ ?_ ?_ ?_
  · intro k
    unfold score
    rw [hb]
    refine congrArg (· + _) (Finset.sum_congr rfl fun d _ => ?_)
    rw [hq, hk, kv_new]
  · intro n hn k
    unfold score pageF
    rw [hb]
    refine congrArg (· + _) (Finset.sum_congr rfl fun d _ => ?_)
    rw [hq, en n hn, hK, kv_page _ _ _ _ _ _ n hn]
  · intro k
    rw [hv, kv_new]
  · intro n hn k
    unfold pageF
    rw [en n hn, hW, kv_page _ _ _ _ _ _ n hn]

/-- A grid point's word. -/
theorem point_word (x : ℕ) (i : Fin 64) (hx : x = i.val) : (BitVec.ofNat 32 x).toNat = i.val := by
  subst hx
  rw [BitVec.toNat_ofNat]
  omega

section windows

variable (t : Fin (cfgM m hO).N) (i : Fin 64) (hi : (grid0.coords t 0).val = i.val)

include hi

/-- The queries' block. -/
theorem rows_q (s : Fin 2) (r : Fin 8) (k : Fin 512) :
    iblk m hO c 0 t (ix3 s r k) = m ((c : Thread nD τ).loc main_arg0) (ix2 (row (⟨2 * i.val + s.val, by omega⟩ : Fin 128) r) k) :=
  (congrArg (V m c main_v8) (rows_emb (((cfgM m hO).win 0).index t) (hinb0_0 _) i (point_word _ i hi) rfl rfl s r k)).trans (V_q m c _ r k)

/-- The new keys' block. -/
theorem rows_kn (s : Fin 2) (r : Fin 8) (k : Fin 512) :
    iblk m hO c 2 t (ix3 s r k) = m ((c : Thread nD τ).loc main_arg1) (ix2 (row (⟨2 * i.val + s.val, by omega⟩ : Fin 128) r) k) :=
  (congrArg (V m c main_v9) (rows_emb (((cfgM m hO).win 2).index t) (hinb0_2 _) i (point_word _ i hi) rfl rfl s r k)).trans (V_kn m c _ r k)

/-- The new values' block. -/
theorem rows_vn (s : Fin 2) (r : Fin 8) (k : Fin 512) :
    iblk m hO c 3 t (ix3 s r k) = m ((c : Thread nD τ).loc main_arg2) (ix2 (row (⟨2 * i.val + s.val, by omega⟩ : Fin 128) r) k) :=
  (congrArg (V m c main_v10) (rows_emb (((cfgM m hO).win 3).index t) (hinb0_3 _) i (point_word _ i hi) rfl rfl s r k)).trans (V_vn m c _ r k)

omit hi in
/-- The biases' block. -/
theorem rows_bias (h r : Fin 8) (k : Fin 128) :
    iblk m hO c 1 t (ix2 (hrow h r) k) = m ((c : Thread nD τ).loc main_arg6) (ix1 h) := by
  refine (congrArg (V m c main_v7) (funext fun a => Fin.ext ?_)).trans (V_bias m c h r k)
  match a with
  | ⟨0, _⟩ => show 0 * 64 + 1 * (hrow h r).val = (hrow h r).val; omega
  | ⟨1, _⟩ => show 0 * 128 + 1 * k.val = k.val; omega

/-- What a grid point leaves in the output's block. -/
theorem outs_apply (hT : InRange (tbl m 0)) (s : Fin 2) (r h : Fin 8) (d : Fin 64) :
    outsAt0 m hO c t (ix3 s r (col h d)) = outV m c (⟨2 * i.val + s.val, by omega⟩ : Fin 128) h r d := by
  fin_cases s
  · refine (half0 m hO c t r (col h d)).trans (seq_out (⟨2 * i.val + 0, by omega⟩ : Fin 128) _ _ _ _ _ _ _ _ _ _ _ _ _ ?_ ?_ ?_ ?_ ?_ ?_ h r d)
    · exact fun t' k => (ld3_apply _ _ _ _ _ 0 rfl rfl rfl t' k).trans (rows_q m hO c t i hi 0 t' k)
    · exact fun t' k => (ld3_apply _ _ _ _ _ 0 rfl rfl rfl t' k).trans (rows_kn m hO c t i hi 0 t' k)
    · exact fun t' k => (ld3_apply _ _ _ _ _ 0 rfl rfl rfl t' k).trans (rows_vn m hO c t i hi 0 t' k)
    · exact fun h' t' k => (ld2_apply _ _ _ _ k).trans (rows_bias m hO c t h' t' k)
    · exact fun n h' d' k => (keys0 m hO c t hT i hi n (col h' d') k).trans (V_pageK m c _ _ h' d' k)
    · exact fun n h' d' k => (values0 m hO c t hT i hi n (col h' d') k).trans (V_pageV m c _ _ h' d' k)
  · refine (half1 m hO c t r (col h d)).trans (seq_out (⟨2 * i.val + 1, by omega⟩ : Fin 128) _ _ _ _ _ _ _ _ _ _ _ _ _ ?_ ?_ ?_ ?_ ?_ ?_ h r d)
    · exact fun t' k => (ld3_apply _ _ _ _ _ 1 rfl rfl rfl t' k).trans (rows_q m hO c t i hi 1 t' k)
    · exact fun t' k => (ld3_apply _ _ _ _ _ 1 rfl rfl rfl t' k).trans (rows_kn m hO c t i hi 1 t' k)
    · exact fun t' k => (ld3_apply _ _ _ _ _ 1 rfl rfl rfl t' k).trans (rows_vn m hO c t i hi 1 t' k)
    · exact fun h' t' k => (ld2_apply _ _ _ _ k).trans (rows_bias m hO c t h' t' k)
    · exact fun n h' d' k => (keys1 m hO c t hT i hi n (col h' d') k).trans (V_pageK m c _ _ h' d' k)
    · exact fun n h' d' k => (values1 m hO c t hT i hi n (col h' d') k).trans (V_pageV m c _ _ h' d' k)

end windows

/-- The output's array. -/
def arrV : FVec Ideal S128x8x512 .f32 := fun y => outV m c (y 0) ⟨(y 2).val / 64, Nat.div_lt_of_lt_mul (show (y 2).val < 64 * 8 from (y 2).isLt)⟩ (y 1) ⟨(y 2).val % 64, Nat.mod_lt _ (by omega)⟩

/-- Where the output's block lies. -/
theorem out_emb (t : Fin (cfgM m hO).N) (i : Fin 64) (hi : (grid0.coords t 0).val = i.val) (s : Fin 2) (r : Fin 8) (k : Fin 512) :
    (((cfgM m hO).win 68).blk t).view.emb (ix3 s r k) = ix3 (⟨2 * i.val + s.val, by omega⟩ : Fin 128) r k :=
  rows_emb (((cfgM m hO).win 68).index t) (hinb0_68 _) i (point_word _ i hi) rfl rfl s r k

/-- The grid's points count its coordinates. -/
theorem point_val (i : Fin grid0.N) : (grid0.coords i 0).val = i.val := by
  revert i; decide +kernel

theorem idx_cases (y : S2x8x512.Idx) : ∃ (s : Fin 2) (r : Fin 8) (k : Fin 512), y = ix3 s r k :=
  ⟨y 0, y 1, y 2, funext fun a => by match a with | ⟨0, _⟩ => rfl | ⟨1, _⟩ => rfl | ⟨2, _⟩ => rfl⟩

/-- Every place of the output's array lies in some grid point's block. -/
theorem out_cover (y : S128x8x512.Idx) :
    ∃ t : Fin (cfgM m hO).N, ((cfgM m hO).win 68).flush t = true ∧ y ∈ (((cfgM m hO).win 68).blk t).view.set := by
  have hy : (y 0).val < 128 := (y 0).isLt
  have hi : (y 0).val / 2 < 64 := by omega
  refine ⟨(⟨(y 0).val / 2, hi⟩ : Fin grid0.N), flush0_68 _ _, ?_⟩
  have e : (((cfgM m hO).win 68).blk (⟨(y 0).val / 2, hi⟩ : Fin grid0.N)).view.emb (ix3 (⟨(y 0).val % 2, by omega⟩ : Fin 2) (y 1) (y 2)) = y := by
    refine (out_emb m hO (⟨(y 0).val / 2, hi⟩ : Fin grid0.N) ⟨(y 0).val / 2, hi⟩ (point_val _) _ _ _).trans (funext fun a => Fin.ext ?_)
    match a with
    | ⟨0, _⟩ => show 2 * ((y 0).val / 2) + (y 0).val % 2 = (y 0).val; omega
    | ⟨1, _⟩ => rfl
    | ⟨2, _⟩ => rfl
  have h := View.emb_mem_set (((cfgM m hO).win 68).blk (⟨(y 0).val / 2, hi⟩ : Fin grid0.N)).view (ix3 (⟨(y 0).val % 2, by omega⟩ : Fin 2) (y 1) (y 2))
  exact (congrArg (· ∈ (((cfgM m hO).win 68).blk (⟨(y 0).val / 2, hi⟩ : Fin grid0.N)).view.set) e).mp h

/-- What a grid point leaves in the output's block, as the output's array. -/
theorem outs_arr (hT : InRange (tbl m 0)) (t : Fin (cfgM m hO).N) (y : S2x8x512.Idx) :
    outsAt0 m hO c t y = arrV m c ((((cfgM m hO).win 68).blk t).view.emb y) := by
  have hi : (grid0.coords t 0).val < 64 := (grid0.coords t 0).isLt
  obtain ⟨s, r, k, rfl⟩ := idx_cases y
  refine Eq.trans ?_ (congrArg (arrV m c) (out_emb m hO t ⟨_, hi⟩ rfl s r k)).symm
  have hk : k = col (⟨k.val / 64, by omega⟩ : Fin 8) (⟨k.val % 64, by omega⟩ : Fin 64) := Fin.ext (by show k.val = k.val / 64 * 64 + k.val % 64; omega)
  refine (congrArg (fun x => outsAt0 m hO c t (ix3 s r x)) hk).trans ?_
  exact outs_apply m hO c t ⟨_, hi⟩ rfl hT s r _ _

/-- The output's array after the run. -/
theorem arr_out (hT : InRange (tbl m 0)) : (dats m hO 0 c).arrAt 68 (cfgM m hO).N = arrV m c :=
  (dats m hO 0 c).arrAt_eq_of_emb 68 (arrV m c) (fun t _ y => (congrFun (after0_68 m hO c t) y).trans (outs_arr m hO c hT t y)) (out_cover m hO)

/-- The output's array as the lines after the region find it. -/
theorem exit_out (hT : InRange (tbl m 0)) :
    Pipeline.withArrays (Pipeline.pin pcfgs (fun _ => adm m hO) 0).spec c (V0 m c)
      (fun w => (dats m hO 0 c).arrAt w (Pipeline.pin pcfgs (fun _ => adm m hO) 0).N) (Proc.tc.devRef main_v11) = arrV m c :=
  ((dats m hO 0 c).withArrays_arrAt (launch₀0 (F := Ideal)).sharedIn (V0 m c) (A_eq m hO c) 68).trans (arr_out m hO c hT)

/-- The result after the lines that follow the region. -/
theorem tail_out (hT : InRange (tbl m 0)) (b : Fin 128) (q : Fin 8) (h : Fin 8) (d : Fin 64) :
    Pipeline.afterTail pcfgs (fun _ => adm m hO) (dats m hO) 0 (V0 m) [hostOps1] c main_v12 (ix2 (row b q) (col h d)) = outV m c b h q d := by
  unfold Pipeline.afterTail
  after_reads_at
  refine (congrFun (exit_out m hO c hT) _).trans ?_
  unfold arrV
  have e (x x' : Fin 128) (y y' z z' : Fin 8) (w w' : Fin 64) (hx : x = x') (hz : z = z') (hy : y = y') (hw : w = w') :
      outV m c x z y w = outV m c x' z' y' w' := by subst hx hy hz hw; rfl
  exact e _ _ _ _ _ _ _ _ (Fin.ext (show (b.val * 8 + q.val) / 8 = b.val by omega)) (Fin.ext (show (h.val * 64 + d.val) / 64 = h.val by omega))
    (Fin.ext (show (b.val * 8 + q.val) % 8 = q.val by omega)) (Fin.ext (show (h.val * 64 + d.val) % 64 = d.val by omega))

end Cert.KernelIdeal.Gen

end
-- ==== Proof.Stick.Ref.lean ====
/- The reference's result, element by element. -/
module

public import proofs.«01_k».proof.Proof.Stick.Keys
public import proofs.«01_k».proof.Proof.Gen.ReferenceIdeal.Read
public import Idealize.ShloMosaic.Lib.Pipeline.Value

@[expose] public section

noncomputable section

namespace Cert.ReferenceIdeal.Gen

open Idealize.ShloMosaic Idealize.ShloMosaic.ValueIdx Cert.ReferenceIdeal Cert.Stick Cert.ReferenceIdeal.Read

theorem toInt_of_lt {x : BitVec 32} (h : x.toNat < 2560) : x.toInt = (x.toNat : ℤ) := by
  rw [BitVec.toInt_eq_toNat_cond, if_pos (by omega)]

theorem slt_zero_of_lt {x : BitVec 32} (h : x.toNat < 2560) : IntOp.cmpi .slt x 0#32 = 0#1 := by
  simp only [IntOp.cmpi]
  rw [BitVec.slt, toInt_of_lt h, show decide ((x.toNat : ℤ) < (0#32).toInt) = false from decide_eq_false (by simp)]; rfl

/-- A table's entry, when it names a page, is taken as it is. -/
theorem wrap_eq (T : Pages) (hT : InRange T) (w : S128x16.Idx) :
    val_main_v7 (F := Ideal) T w = T w ∧ val_main_v17 (F := Ideal) T w = T w := by
  constructor
  · rw [val_main_v7_apply, val_main_v4_apply, val_main_v3_apply, val_main_c_apply, slt_zero_of_lt (hT w)]; rfl
  · rw [val_main_v17_apply, val_main_v14_apply, val_main_v13_apply, val_main_c_1_apply, slt_zero_of_lt (hT w)]; rfl

/-- The gather of whole pages, read at an index. -/
theorem gather_page (x : S2560x128x8x64.Idx → EReal) (idx : IVec S128x16x1 32) (b : Fin 128) (n : Fin 16) (j : Fin 128) (h : Fin 8)
    (d : Fin 64) (hx : (idx (ix3 b n (0 : Fin 1))).toNat < 2560) :
    Host.gather gather_S2560x128x8x64_S128x16x1_S128x16x128x8x64_234_0_n_n_0_2_1128864 x idx (ix5 b n j h d)
      = x (ix4 (⟨(idx (ix3 b n (0 : Fin 1))).toNat % 2560, Nat.mod_lt _ (by omega)⟩ : Fin 2560) j h d) := by
  set D := gather_S2560x128x8x64_S128x16x1_S128x16x128x8x64_234_0_n_n_0_2_1128864 with hD
  unfold Host.gather
  congr 1
  funext a
  refine Fin.ext ?_
  show D.start (ix5 b n j h d) idx a + D.batchCoord (ix5 b n j h d) a + D.offCoord (ix5 b n j h d) a = _
  rw [GatherDims.batchCoord_eq_zero _ _ _ (by rw [hD]; exact List.not_mem_nil), Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, _⟩ : Fin 4) ∈ D.startIndexMap from List.mem_singleton.mpr rfl)]
    have hsi : D.siIdx (ix5 b n j h d) ⟨List.idxOf (0 : Fin 4) D.startIndexMap,
        List.idxOf_lt_length_iff.2 (List.mem_singleton.mpr rfl)⟩ = ix3 b n (0 : Fin 1) := by
      funext c; refine Fin.ext ?_
      match c with
      | ⟨0, _⟩ => rfl
      | ⟨1, _⟩ => rfl
      | ⟨2, _⟩ => rfl
    show min (idx (D.siIdx (ix5 b n j h d) ⟨List.idxOf (0 : Fin 4) D.startIndexMap, _⟩)).toInt.toNat (2560 - 1) = _ % 2560
    rw [hsi, toInt_of_lt hx]
    show min (idx (ix3 b n (0 : Fin 1))).toNat (2560 - 1) = (idx (ix3 b n (0 : Fin 1))).toNat % 2560
    omega
  | ⟨1, _⟩ =>
    unfold GatherDims.start
    rw [dif_neg (fun h => by revert h; rw [hD]; simp [gather_S2560x128x8x64_S128x16x1_S128x16x128x8x64_234_0_n_n_0_2_1128864]), Nat.zero_add]; rfl
  | ⟨2, _⟩ =>
    unfold GatherDims.start
    rw [dif_neg (fun h => by revert h; rw [hD]; simp [gather_S2560x128x8x64_S128x16x1_S128x16x128x8x64_234_0_n_n_0_2_1128864]), Nat.zero_add]; rfl
  | ⟨3, _⟩ =>
    unfold GatherDims.start
    rw [dif_neg (fun h => by revert h; rw [hD]; simp [gather_S2560x128x8x64_S128x16x1_S128x16x128x8x64_234_0_n_n_0_2_1128864]), Nat.zero_add]; rfl

theorem v9_apply (P : Pool) (T : Pages) (hT : InRange T) (b : Fin 128) (n : Fin 16) (j : Fin 128) (h : Fin 8) (d : Fin 64) :
    val_main_v9 (F := Ideal) P T (ix5 b n j h d) = P (ix5 (0 : Fin 2) (page T b n) j h d) := by
  have e : val_main_v8 (F := Ideal) T (ix3 b n (0 : Fin 1)) = T (ix2 b n) := by
    rw [val_main_v8_apply]
    exact (wrap_eq T hT _).1.trans (congrArg T (funext fun a => match a with | ⟨0, _⟩ => rfl | ⟨1, _⟩ => rfl))
  rw [val_main_v9, gather_page _ _ b n j h d (by rw [e]; exact hT _), val_main_v2_apply, val_main_v1_apply]
  congr 1
  funext a
  refine Fin.ext ?_
  match a with
  | ⟨0, _⟩ => rfl
  | ⟨1, _⟩ => show _ = (T (ix2 b n)).toNat % 2560; rw [← e]; rcases b with ⟨b, hb⟩; rcases j with ⟨j, hj⟩; rcases h with ⟨h, hh⟩; rcases d with ⟨d, hd⟩; simp; omega
  | ⟨2, _⟩ => rcases b with ⟨b, hb⟩; rcases j with ⟨j, hj⟩; rcases h with ⟨h, hh⟩; rcases d with ⟨d, hd⟩; simp; omega
  | ⟨3, _⟩ => rcases b with ⟨b, hb⟩; rcases j with ⟨j, hj⟩; rcases h with ⟨h, hh⟩; rcases d with ⟨d, hd⟩; simp; omega
  | ⟨4, _⟩ => rcases b with ⟨b, hb⟩; rcases j with ⟨j, hj⟩; rcases h with ⟨h, hh⟩; rcases d with ⟨d, hd⟩; simp; omega

theorem v19_apply (P : Pool) (T : Pages) (hT : InRange T) (b : Fin 128) (n : Fin 16) (j : Fin 128) (h : Fin 8) (d : Fin 64) :
    val_main_v19 (F := Ideal) P T (ix5 b n j h d) = P (ix5 (0 : Fin 2) (page T b n) j h d) := by
  have e : val_main_v18 (F := Ideal) T (ix3 b n (0 : Fin 1)) = T (ix2 b n) := by
    rw [val_main_v18_apply]
    exact (wrap_eq T hT _).2.trans (congrArg T (funext fun a => match a with | ⟨0, _⟩ => rfl | ⟨1, _⟩ => rfl))
  rw [val_main_v19, gather_page _ _ b n j h d (by rw [e]; exact hT _), val_main_v12_apply, val_main_v11_apply]
  congr 1
  funext a
  refine Fin.ext ?_
  match a with
  | ⟨0, _⟩ => rfl
  | ⟨1, _⟩ => show _ = (T (ix2 b n)).toNat % 2560; rw [← e]; rcases b with ⟨b, hb⟩; rcases j with ⟨j, hj⟩; rcases h with ⟨h, hh⟩; rcases d with ⟨d, hd⟩; simp; omega
  | ⟨2, _⟩ => rcases b with ⟨b, hb⟩; rcases j with ⟨j, hj⟩; rcases h with ⟨h, hh⟩; rcases d with ⟨d, hd⟩; simp; omega
  | ⟨3, _⟩ => rcases b with ⟨b, hb⟩; rcases j with ⟨j, hj⟩; rcases h with ⟨h, hh⟩; rcases d with ⟨d, hd⟩; simp; omega
  | ⟨4, _⟩ => rcases b with ⟨b, hb⟩; rcases j with ⟨j, hj⟩; rcases h with ⟨h, hh⟩; rcases d with ⟨d, hd⟩; simp; omega

theorem v10_apply (P : Pool) (T : Pages) (hT : InRange T) (b : Fin 128) (s : Fin 2048) (h : Fin 8) (d : Fin 64) :
    val_main_v10 (F := Ideal) P T (ix4 b s h d)
        = P (ix5 (0 : Fin 2) (page T b ⟨s.val / 128 % 16, Nat.mod_lt _ (by omega)⟩) (⟨s.val % 128, Nat.mod_lt _ (by omega)⟩ : Fin 128) h d)
    ∧ val_main_v20 (F := Ideal) P T (ix4 b s h d)
        = P (ix5 (0 : Fin 2) (page T b ⟨s.val / 128 % 16, Nat.mod_lt _ (by omega)⟩) (⟨s.val % 128, Nat.mod_lt _ (by omega)⟩ : Fin 128) h d) := by
  have e : idx_main_v10 (ix4 b s h d)
      = ix5 b (⟨s.val / 128 % 16, Nat.mod_lt _ (by omega)⟩ : Fin 16) (⟨s.val % 128, Nat.mod_lt _ (by omega)⟩ : Fin 128) h d := by
    funext a
    refine Fin.ext ?_
    rcases b with ⟨b, hb⟩; rcases s with ⟨s, hs⟩; rcases h with ⟨h, hh⟩; rcases d with ⟨d, hd⟩
    match a with
    | ⟨0, _⟩ => simp; omega
    | ⟨1, _⟩ => simp; omega
    | ⟨2, _⟩ => simp; omega
    | ⟨3, _⟩ => simp; omega
    | ⟨4, _⟩ => simp; omega
  constructor
  · rw [val_main_v10_apply, e, v9_apply P T hT]
  · rw [val_main_v20_apply, show idx_main_v20 (ix4 b s h d) = idx_main_v10 (ix4 b s h d) from rfl, e, v19_apply P T hT]

theorem toks_apply (x : Toks) (b : Fin 128) (q h : Fin 8) (d : Fin 64) :
    val_main_v0 (F := Ideal) x (ix4 b q h d) = x (ix2 (row b q) (col h d)) := by
  rw [val_main_v0_apply]
  congr 1
  funext a
  refine Fin.ext ?_
  rcases b with ⟨b, hb⟩; rcases q with ⟨q, hq⟩; rcases h with ⟨h, hh⟩; rcases d with ⟨d, hd⟩
  match a with
  | ⟨0, _⟩ => simp; omega
  | ⟨1, _⟩ => simp; omega

theorem v22_apply (x : Toks) (P : Pool) (T : Pages) (hT : InRange T) (b : Fin 128) (s : Fin 2056) (h : Fin 8) (d : Fin 64) :
    val_main_v22 (F := Ideal) x P T (ix4 b s h d) = kv x P T b h d s.val
    ∧ val_main_v24 (F := Ideal) x P T (ix4 b s h d) = kv x P T b h d s.val := by
  unfold val_main_v22 val_main_v24 kv
  by_cases hs : s.val < 2048
  · rw [if_pos hs]
    constructor
    · rw [concatenate_pair_apply_left (t := S128x2056x8x64) (s₁ := S128x2048x8x64) (s₂ := S128x8x8x64) 1 _ _ _ (ix4 b s h d) rfl (ix4 b (⟨s.val, hs⟩ : Fin 2048) h d)
        (fun a => match a with | ⟨0, _⟩ => rfl | ⟨1, _⟩ => rfl | ⟨2, _⟩ => rfl | ⟨3, _⟩ => rfl)]
      exact (v10_apply P T hT b ⟨s.val, hs⟩ h d).1
    · rw [concatenate_pair_apply_left (t := S128x2056x8x64) (s₁ := S128x2048x8x64) (s₂ := S128x8x8x64) 1 _ _ _ (ix4 b s h d) rfl (ix4 b (⟨s.val, hs⟩ : Fin 2048) h d)
        (fun a => match a with | ⟨0, _⟩ => rfl | ⟨1, _⟩ => rfl | ⟨2, _⟩ => rfl | ⟨3, _⟩ => rfl)]
      exact (v10_apply P T hT b ⟨s.val, hs⟩ h d).2
  · rw [if_neg hs]
    have hs' := s.isLt
    have hq : (s.val - 2048) % 8 = s.val - 2048 := by omega
    constructor
    · rw [concatenate_pair_apply_right (t := S128x2056x8x64) (s₁ := S128x2048x8x64) (s₂ := S128x8x8x64) 1 _ _ _ (ix4 b s h d) rfl rfl (ix4 b (⟨(s.val - 2048) % 8, Nat.mod_lt _ (by omega)⟩ : Fin 8) h d)
        (fun a => match a with | ⟨0, _⟩ => fun _ => rfl | ⟨1, _⟩ => fun h => absurd rfl h | ⟨2, _⟩ => fun _ => rfl | ⟨3, _⟩ => fun _ => rfl)
        (by show (s.val - 2048) % 8 + 2048 = s.val; omega)]
      exact toks_apply x b _ h d
    · rw [concatenate_pair_apply_right (t := S128x2056x8x64) (s₁ := S128x2048x8x64) (s₂ := S128x8x8x64) 1 _ _ _ (ix4 b s h d) rfl rfl (ix4 b (⟨(s.val - 2048) % 8, Nat.mod_lt _ (by omega)⟩ : Fin 8) h d)
        (fun a => match a with | ⟨0, _⟩ => fun _ => rfl | ⟨1, _⟩ => fun h => absurd rfl h | ⟨2, _⟩ => fun _ => rfl | ⟨3, _⟩ => fun _ => rfl)
        (by show (s.val - 2048) % 8 + 2048 = s.val; omega)]
      exact toks_apply x b _ h d

theorem v28_apply (xq xk : Toks) (P : Pool) (T : Pages) (B : Bias) (hT : InRange T) (b : Fin 128) (h q : Fin 8) (s : Fin 2056) :
    val_main_v28 (F := Ideal) xq xk P T B (ix4 b h q s) = score xq xk P T B b h q s.val := by
  rw [val_main_v28_apply, Ideal.addf_def, val_main_v25_apply, val_main_v27_apply, val_main_v26_apply, score]
  congr 1
  · refine Finset.sum_congr rfl fun d _ => ?_
    rw [show lidx_main_v25 (ix4 b h q s) d = ix4 b q h d from funext fun a => match a with
        | ⟨0, _⟩ => rfl | ⟨1, _⟩ => rfl | ⟨2, _⟩ => rfl | ⟨3, _⟩ => rfl,
      show ridx_main_v25 (ix4 b h q s) d = ix4 b s h d from funext fun a => match a with
        | ⟨0, _⟩ => rfl | ⟨1, _⟩ => rfl | ⟨2, _⟩ => rfl | ⟨3, _⟩ => rfl,
      toks_apply, (v22_apply xk P T hT b s h d).1]
  · exact congrArg B (funext fun a => match a with | ⟨0, _⟩ => rfl)

/-- The mask: a key is seen when it comes before the query's own place. -/
theorem v37_apply (q : Fin 8) (s : Fin 2056) :
    val_main_v37 (F := Ideal) (ix2 q s) = BitVec.ofBool (decide (s.val < 2048 + q.val)) := by
  have hq := q.isLt
  have hs := s.isLt
  rw [val_main_v37_apply, val_main_v35_apply, val_main_v30_apply, val_main_v29_apply, val_main_v36_apply, val_main_v34_apply,
    val_main_v33_apply, val_main_v32_apply, val_main_c_3_apply, val_main_v31_apply]
  show BitVec.ofBool (BitVec.slt (BitVec.ofNat 32 s.val) (2048#32 + BitVec.ofNat 32 q.val)) = _
  congr 1
  have e : (2048#32 + BitVec.ofNat 32 q.val) = BitVec.ofNat 32 (2048 + q.val) := by
    apply BitVec.eq_of_toNat_eq; simp
  have t (n : ℕ) (h : n < 4096) : (BitVec.ofNat 32 n).toInt = (n : ℤ) := by
    rw [BitVec.toInt_eq_toNat_cond, BitVec.toNat_ofNat, Nat.mod_eq_of_lt (by omega), if_pos (by omega)]
  rw [e, BitVec.slt, t _ (by omega), t _ (by omega)]
  simp only [Nat.cast_lt, decide_eq_decide]

theorem select_of (p : Prop) [Decidable p] {α : Type} (x y : α) : Scalar.select (BitVec.ofBool (decide p)) x y = if p then x else y := by
  by_cases h : p
  · simp [Scalar.select, h]
  · simp [Scalar.select, h]

theorem ofBits_zero : (FloatOps.ofBits .f32 0x00000000#32 : Ideal .f32) = 0 := by
  simp [Ideal.ofBits_def]

theorem ofBits_bot : (FloatOps.ofBits .f32 0xFF800000#32 : Ideal .f32) = ⊥ := by
  simp [Ideal.ofBits_def, Ideal.ofBits, Ideal.ieee]

theorem cmp_une_self (x : EReal) : (FloatOps.cmpf (F := Ideal) (φ := .f32) .une x x) = 0#1 := by
  show Ideal.cmp .une x x = 0#1
  simp [Ideal.cmp]

theorem v38_apply (xq xk : Toks) (P : Pool) (T : Pages) (B : Bias) (i : S128x8x8x2056.Idx) :
    val_main_v38 (F := Ideal) xq xk P T B i = -(sp (-(val_main_v28 (F := Ideal) xq xk P T B i))) := by
  rw [val_main_v38_apply, val_main_call0_v1_apply, val_main_call0_call0_v4_apply, cmp_une_self]
  rw [show ∀ x y : Ideal .f32, Scalar.select 0#1 x y = y from fun _ _ => rfl,
    val_main_call0_call0_v11_apply, val_main_call0_call0_v1_apply, val_main_call0_call0_v10_apply, val_main_call0_call0_v9_apply,
    val_main_call0_call0_v8_apply, val_main_call0_call0_v7_apply, val_main_call0_call0_v3_apply, val_main_call0_call0_v2_apply,
    val_main_call0_call0_v0_apply, val_main_call0_call0_cst_apply, val_main_call0_v0_apply, ofBits_zero, ← sp_host]
  rfl

theorem v41_apply (xq xk : Toks) (P : Pool) (T : Pages) (B : Bias) (i : S128x8x8x2056.Idx) :
    val_main_v41 (F := Ideal) xq xk P T B i = -(sp (val_main_v28 (F := Ideal) xq xk P T B i)) := by
  rw [val_main_v41_apply, val_main_call2_v1_apply, val_main_call2_call0_v4_apply, cmp_une_self]
  rw [show ∀ x y : Ideal .f32, Scalar.select 0#1 x y = y from fun _ _ => rfl,
    val_main_call2_call0_v11_apply, val_main_call2_call0_v1_apply, val_main_call2_call0_v10_apply, val_main_call2_call0_v9_apply,
    val_main_call2_call0_v8_apply, val_main_call2_call0_v7_apply, val_main_call2_call0_v3_apply, val_main_call2_call0_v2_apply,
    val_main_call2_call0_v0_apply, val_main_call2_call0_cst_apply, val_main_call2_v0_apply, val_main_v40_apply, ofBits_zero,
    show ∀ x : Ideal .f32, FloatOps.hostNegf (FloatOps.hostNegf x) = x from fun x => neg_neg (a := (x : EReal)),
    ← sp_host]
  rfl

theorem v39_apply (xq xk : Toks) (P : Pool) (T : Pages) (B : Bias) (hT : InRange T) (b : Fin 128) (h q : Fin 8) (s : Fin 2056) :
    val_main_v39 (F := Ideal) xq xk P T B (ix4 b h q s)
      = if s.val < 2048 + q.val then -(sp (-(score xq xk P T B b h q s.val))) else ⊥ := by
  rw [val_main_v39_apply, val_main_call1_v1_apply, show idx_main_call1_v1 (ix4 b h q s) = ix2 q s from
      funext fun a => match a with | ⟨0, _⟩ => rfl | ⟨1, _⟩ => rfl, v37_apply, select_of, v38_apply, v28_apply xq xk P T B hT,
    val_main_call1_v2_apply, val_main_call1_v0_apply, val_main_cst_apply, ofBits_bot]

theorem v42_apply (xq xk : Toks) (P : Pool) (T : Pages) (B : Bias) (hT : InRange T) (b : Fin 128) (h q : Fin 8) (s : Fin 2056) :
    val_main_v42 (F := Ideal) xq xk P T B (ix4 b h q s) = keep (score xq xk P T B b h q) (2048 + q.val) s.val := by
  rw [val_main_v42_apply, val_main_call3_v1_apply, show idx_main_call3_v1 (ix4 b h q s) = ix2 q s from
      funext fun a => match a with | ⟨0, _⟩ => rfl | ⟨1, _⟩ => rfl, v37_apply, select_of, v41_apply, v28_apply xq xk P T B hT,
    val_main_call3_v2_apply, keep, zero_sub]
  congr 1
  exact ofBits_zero

/-- The sum from an index on, as the window fold computes it. -/
theorem window_sum (X : S128x8x8x2056.Idx → EReal) (G : ℕ → EReal) (b : Fin 128) (h q : Fin 8) (s : Fin 2056)
    (hX : ∀ i : Fin 2056, X (ix4 b h q i) = G i.val) (hw : S128x8x8x2056.ReduceWindows ![1, 1, 1, 2056] ![1, 1, 1, 1] ![0, 0, 0, 0] ![0, 0, 0, 2055] S128x8x8x2056) :
    Ideal.hostReduceWindowAdd ![1, 1, 1, 2056] ![1, 1, 1, 1] ![0, 0, 0, 0] ![0, 0, 0, 2055] hw X 0 (ix4 b h q s)
      = ∑ i ∈ Finset.Ico s.val 2056, G i := by
  unfold Ideal.hostReduceWindowAdd Host.reduceWindow
  simp only []
  rw [foldl_add_sum, zero_add, ← Fin.sum_univ_def, ← sum_window G 2056 s.val (by omega)]
  have hn : (⟨4, ![1, 1, 1, 2056]⟩ : Shape).numel = 2056 := by simp [Shape.numel, Fin.prod_univ_four]
  refine Eq.trans (Finset.sum_congr rfl (fun n _ => ?_)) ((Fin.sum_univ_eq_sum_range (fun k => if s.val + k < 2056 then G (s.val + k) else 0) _).trans (by rw [hn]))
  have hr := Shape.rowMajor_val_four ((⟨4, ![1, 1, 1, 2056]⟩ : Shape).rowMajor.symm n)
  rw [Equiv.apply_symm_apply] at hr
  have k0 : ((⟨4, ![1, 1, 1, 2056]⟩ : Shape).rowMajor.symm n 0).val = 0 := Nat.lt_one_iff.1 (Fin.isLt _)
  have k1 : ((⟨4, ![1, 1, 1, 2056]⟩ : Shape).rowMajor.symm n 1).val = 0 := Nat.lt_one_iff.1 (Fin.isLt _)
  have k2 : ((⟨4, ![1, 1, 1, 2056]⟩ : Shape).rowMajor.symm n 2).val = 0 := Nat.lt_one_iff.1 (Fin.isLt _)
  have k3 : ((⟨4, ![1, 1, 1, 2056]⟩ : Shape).rowMajor.symm n 3).val = n.val := by
    rw [k0, k1, k2] at hr
    simpa using hr.symm
  by_cases hs : s.val + n.val < 2056
  · rw [if_pos hs, dif_pos]
    · rw [← hX ⟨s.val + n.val, hs⟩]
      refine congrArg X (funext fun a => Fin.ext ?_)
      match a with
      | ⟨0, _⟩ => show b.val * 1 + (Shape.rowMajor _ |>.symm n 0).val - 0 = b.val; rw [k0]; omega
      | ⟨1, _⟩ => show h.val * 1 + (Shape.rowMajor _ |>.symm n 1).val - 0 = h.val; rw [k1]; omega
      | ⟨2, _⟩ => show q.val * 1 + (Shape.rowMajor _ |>.symm n 2).val - 0 = q.val; rw [k2]; omega
      | ⟨3, _⟩ => show s.val * 1 + (Shape.rowMajor _ |>.symm n 3).val - 0 = s.val + n.val; rw [k3]; omega
    · intro a
      match a with
      | ⟨0, _⟩ => show 0 ≤ b.val * 1 + (Shape.rowMajor _ |>.symm n 0).val ∧ b.val * 1 + (Shape.rowMajor _ |>.symm n 0).val - 0 < 128; rw [k0]; omega
      | ⟨1, _⟩ => show 0 ≤ h.val * 1 + (Shape.rowMajor _ |>.symm n 1).val ∧ h.val * 1 + (Shape.rowMajor _ |>.symm n 1).val - 0 < 8; rw [k1]; omega
      | ⟨2, _⟩ => show 0 ≤ q.val * 1 + (Shape.rowMajor _ |>.symm n 2).val ∧ q.val * 1 + (Shape.rowMajor _ |>.symm n 2).val - 0 < 8; rw [k2]; omega
      | ⟨3, _⟩ => show 0 ≤ s.val * 1 + (Shape.rowMajor _ |>.symm n 3).val ∧ s.val * 1 + (Shape.rowMajor _ |>.symm n 3).val - 0 < 2056; rw [k3]; omega
  · rw [if_neg hs, dif_neg]
    intro hall
    have := (hall 3).2
    change s.val * 1 + (Shape.rowMajor _ |>.symm n 3).val - 0 < 2056 at this
    rw [k3] at this
    omega

theorem v46_apply (xq xk : Toks) (P : Pool) (T : Pages) (B : Bias) (hT : InRange T) (b : Fin 128) (h q : Fin 8) (s : Fin 2056) :
    val_main_v46 (F := Ideal) xq xk P T B (ix4 b h q s) = wRow (score xq xk P T B b h q) (2048 + q.val) 2056 s.val := by
  have hz : (val_main_call4_v0 (F := Ideal)) (Shape.Idx.first h_S_) = (0 : EReal) := by
    rw [val_main_call4_v0_apply, val_main_call4_cst_apply]; exact ofBits_zero
  have h43 : val_main_v43 (F := Ideal) xq xk P T B (ix4 b h q s)
      = ∑ i ∈ Finset.Ico s.val 2056, keep (score xq xk P T B b h q) (2048 + q.val) i := by
    unfold val_main_v43 Host.reduceWindowAdd
    rw [hz]
    exact window_sum (val_main_v42 (F := Ideal) xq xk P T B) _ b h q s (v42_apply xq xk P T B hT b h q) reduceWindows_S128x8x8x2056_S128x8x8x2056_w1s1p0_0_w1s1p0_0_w1s1p0_0_w2056s1p0_2055
  rw [val_main_v46_apply, val_main_v45_apply, val_main_v44_apply, h43, v42_apply xq xk P T B hT, v39_apply xq xk P T B hT]
  rfl

/-- The reference's result at a token of a sequence and a dimension of a head. -/
theorem ref_apply (xq xk xv : Toks) (PK PV : Pool) (T : Pages) (B : Bias) (hT : InRange T) (b : Fin 128) (q h : Fin 8) (d : Fin 64) :
    val_main_v49 (F := Ideal) xq xk xv PK PV T B (ix2 (row b q) (col h d)) = out xq xk xv PK PV T B b h q d := by
  have hi : idx_main_v49 (ix2 (row b q) (col h d)) = ix4 b q h d := by
    funext a
    refine Fin.ext ?_
    rcases b with ⟨b, hb⟩; rcases q with ⟨q, hq⟩; rcases h with ⟨h, hh⟩; rcases d with ⟨d, hd⟩
    match a with
    | ⟨0, _⟩ => simp [row, col]; omega
    | ⟨1, _⟩ => simp [row, col]; omega
    | ⟨2, _⟩ => simp [row, col]; omega
    | ⟨3, _⟩ => simp [row, col]; omega
  rw [val_main_v49_apply, hi, val_main_v48_apply, show idx_main_v48 (ix4 b q h d) = ix4 b h d q from
      funext fun a => match a with | ⟨0, _⟩ => rfl | ⟨1, _⟩ => rfl | ⟨2, _⟩ => rfl | ⟨3, _⟩ => rfl, val_main_v47_apply]
  unfold out
  rw [← Fin.sum_univ_eq_sum_range (fun s => kv xv PV T b h d s * wRow (score xq xk PK T B b h q) (2048 + q.val) 2056 s) 2056]
  refine Finset.sum_congr rfl fun k _ => ?_
  rw [show lidx_main_v47 (ix4 b h d q) k = ix4 b k h d from
      funext fun a => match a with | ⟨0, _⟩ => rfl | ⟨1, _⟩ => rfl | ⟨2, _⟩ => rfl | ⟨3, _⟩ => rfl,
    show ridx_main_v47 (ix4 b h d q) k = ix4 b h q k from
      funext fun a => match a with | ⟨0, _⟩ => rfl | ⟨1, _⟩ => rfl | ⟨2, _⟩ => rfl | ⟨3, _⟩ => rfl,
    v46_apply xq xk PK T B hT, (v22_apply xv PV T hT b k h d).2]

end Cert.ReferenceIdeal.Gen

end
-- ==== Proof.Stick.End.lean ====
/- The claims about the attention over pages, from the runs of its programs. -/
module

public import proofs.«01_k».proof.Defs
public import proofs.«01_k».proof.Proof.Stick.Pre
public import proofs.«01_k».proof.Proof.Stick.TablesKernel
public import proofs.«01_k».proof.Proof.Stick.FrameKernel
public import proofs.«01_k».proof.Proof.Stick.Final
public import proofs.«01_k».proof.Proof.Stick.Ref
public import proofs.«01_k».proof.Proof.Gen.ReferenceIdeal.Run

@[expose] public section

noncomputable section

namespace Cert.Stick

open Idealize.ShloMosaic hiding ix1 ix2 ix3 ix4 ix5
open Idealize.ShloMosaic.ValueIdx Idealize.ShloMosaic.TcCoe Idealize.SL.Sem

attribute [local instance] Cert.Pre_pages_in_range.facts Cert.Kernel.Gen.facts Cert.KernelIdeal.Gen.facts Cert.ReferenceIdeal.Gen.facts

/-- The precondition on the printed program's arguments admits every page window. -/
theorem ok_kernel (m : (ℓ : Loc Cert.Kernel.nD Cert.Kernel.τ Cert.Kernel.sig) → Buf (Elt Bits) ℓ) (h : Cert.Pre_Kernel m) :
    Cert.Kernel.Gen.Ok m :=
  Cert.Kernel.Gen.ok0_of_range _ fun w =>
    (congrArg (fun T : IVec Cert.Kernel.S128x16 32 => (T w).toNat) (Cert.Kernel.Gen.V_main_arg5 m 0)).trans_lt (Cert.Pre_pages_in_range.page_lt (h 0) w)

/-- The precondition makes every page of the table lie in the pool. -/
theorem pages_ideal (m : (ℓ : Loc Cert.KernelIdeal.nD Cert.KernelIdeal.τ Cert.KernelIdeal.sig) → Buf (Elt Ideal) ℓ) (h : Cert.Pre_KernelIdeal m) :
    InRange (Cert.KernelIdeal.Gen.tbl m 0) := fun w =>
  (congrArg (fun T : IVec Cert.KernelIdeal.S128x16 32 => (T w).toNat) (Cert.KernelIdeal.Gen.V_main_arg5 m 0)).trans_lt (Cert.Pre_pages_in_range.page_lt (h 0) w)

/-- The printed program runs within the precondition. -/
theorem kernel_runs : Cert.quiescent_Kernel := fun m g h => Cert.Kernel.Gen.frame m g (ok_kernel m h)

/-- The idealized program runs within the precondition. -/
theorem ideal_runs : Cert.quiescent_KernelIdeal := fun m g h =>
  Cert.KernelIdeal.Gen.frame m g (Cert.KernelIdeal.Gen.ok0_of_range _ (pages_ideal m h))

/-- The reference runs from every memory. -/
theorem reference_runs : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The two results agree, row by row and column by column. -/
theorem results_eq (m : (ℓ : Loc Cert.KernelIdeal.nD Cert.KernelIdeal.τ Cert.KernelIdeal.sig) → Buf (Elt Ideal) ℓ) (hO : Cert.KernelIdeal.Gen.Ok m)
    (hT : InRange (Cert.KernelIdeal.Gen.tbl m 0)) (c : Dev Cert.KernelIdeal.nD)
    (xq xk xv : Toks) (PK PV : Pool) (T : Pages) (B : Bias)
    (h0 : xq = m ((c : Thread Cert.KernelIdeal.nD Cert.KernelIdeal.τ).loc Cert.KernelIdeal.main_arg0))
    (h1 : xk = m ((c : Thread Cert.KernelIdeal.nD Cert.KernelIdeal.τ).loc Cert.KernelIdeal.main_arg1))
    (h2 : xv = m ((c : Thread Cert.KernelIdeal.nD Cert.KernelIdeal.τ).loc Cert.KernelIdeal.main_arg2))
    (h3 : PK = m ((c : Thread Cert.KernelIdeal.nD Cert.KernelIdeal.τ).loc Cert.KernelIdeal.main_arg3))
    (h4 : PV = m ((c : Thread Cert.KernelIdeal.nD Cert.KernelIdeal.τ).loc Cert.KernelIdeal.main_arg4))
    (h5 : T = m ((c : Thread Cert.KernelIdeal.nD Cert.KernelIdeal.τ).loc Cert.KernelIdeal.main_arg5))
    (h6 : B = m ((c : Thread Cert.KernelIdeal.nD Cert.KernelIdeal.τ).loc Cert.KernelIdeal.main_arg6)) :
    Pipeline.afterTail Cert.KernelIdeal.pcfgs (fun _ => Cert.KernelIdeal.Gen.adm m hO) (Cert.KernelIdeal.Gen.dats m hO) 0 (Cert.KernelIdeal.Gen.V0 m)
        [Cert.KernelIdeal.Gen.hostOps1] c Cert.KernelIdeal.main_v12
      = Cert.ReferenceIdeal.Read.val_main_v49 (F := Ideal) xq xk xv PK PV T B := by
  funext y
  have hy0 : (y 0).val < 1024 := (y 0).isLt
  have hy1 : (y 1).val < 512 := (y 1).isLt
  have hy : y = ix2 (row (⟨(y 0).val / 8, by omega⟩ : Fin 128) (⟨(y 0).val % 8, by omega⟩ : Fin 8))
      (col (⟨(y 1).val / 64, by omega⟩ : Fin 8) (⟨(y 1).val % 64, by omega⟩ : Fin 64)) := by
    funext a
    match a with
    | ⟨0, _⟩ => exact Fin.ext (show (y 0).val = (y 0).val / 8 * 8 + (y 0).val % 8 by omega)
    | ⟨1, _⟩ => exact Fin.ext (show (y 1).val = (y 1).val / 64 * 64 + (y 1).val % 64 by omega)
  have hTT : Cert.KernelIdeal.Gen.tbl m 0 = T := by
    obtain rfl : c = 0 := Subsingleton.elim _ _
    exact (Cert.KernelIdeal.Gen.V_main_arg5 m 0).trans h5.symm
  rw [hy, Cert.ReferenceIdeal.Gen.ref_apply xq xk xv PK PV T B (hTT ▸ hT)]
  refine (Cert.KernelIdeal.Gen.tail_out m hO c hT _ _ _ _).trans ?_
  unfold Cert.KernelIdeal.Gen.outV
  rw [hTT, h0, h1, h2, h3, h4, h6]

/-- Within the precondition the idealized kernel and the reference end with equal results. -/
theorem values : Cert.algebraic_KernelIdeal_ReferenceIdeal := by
  intro m g m' g' hpre hag
  have hT := pages_ideal m hpre
  have hO := Cert.KernelIdeal.Gen.ok0_of_range _ hT
  refine ⟨fun c => Cert.ReferenceIdeal.Value.res_main_v49 m' c, ?_, Cert.ReferenceIdeal.Value.run (F := Ideal) m' g'⟩
  refine (θ_run Cert.KernelIdeal.defs _ _).mono (fun r h c => ⟨?_, h.2 c⟩)
    (θ_run_and (Cert.KernelIdeal.Gen.run_main m g hO) (Cert.KernelIdeal.Gen.unchanged m g hO))
  refine ((h.1 c).2 Cert.KernelIdeal.main_v12 (by decide : Cert.KernelIdeal.main_v12 ∈ Pipeline.restRefs Cert.KernelIdeal.sig Cert.KernelIdeal.spec0)).trans ?_
  refine Eq.trans ?_ (Cert.ReferenceIdeal.Read.val_main_v49_eq m' c).symm
  obtain ⟨h0, h1, h2, h3, h4, h5, h6⟩ := hag c
  exact results_eq m hO hT c _ _ _ _ _ _ _ h0 h1 h2 h3 h4 h5 h6

end Cert.Stick

end
-- ==== Proof.Tail.Pre.lean ====
/- The precondition on the recurrence's outputs, read row by row: every one is a real number. -/
module

public import proofs.«01_k».proof.Pre_states_finite
public import Idealize.ShloMosaic.PureOps.Ideal
public import Idealize.ShloMosaic.Lib.ValueIdxCore

@[expose] public section

namespace Cert.Pre_states_finite

open Idealize.ShloMosaic

/-- The facts the predicate states. -/
theorem facts : Facts where
  bcast_S_S16384x256 := ⟨fun a => a.elim0, fun a => a.elim0⟩

theorem top_word : Ideal.ofBits .f32 0x7F800000#32 = (⊤ : EReal) := by
  simp [Ideal.ofBits, Ideal.ieee]

/-- A number whose size is below the greatest is real. -/
theorem real_of_abs_lt (x : EReal) (h : max x (-x) < ⊤) : ∃ v : ℝ, x = (v : EReal) := by
  induction x with
  | bot => exact absurd h (by simp)
  | coe v => exact ⟨v, rfl⟩
  | top => exact absurd h (by simp)

theorem finite [Facts] {a0 : FVec Ideal S16384x1024 .f32} {y a2 a3 : FVec Ideal S16384x256 .f32} {a4 : FVec Ideal S16384x768 .f32} {a5 : FVec Ideal S4x2x256 .f32}
    {a6 : FVec Ideal S4x16x512x256 .f32} {a7 : FVec Ideal S2x16384x256 .f32} {a8 a9 : FVec Ideal S256 .f32} {a10 : FVec Ideal S3x256 .f32} {a11 a12 : FVec Ideal S1024 .f32}
    {a13 : FVec Ideal S1024x1024 .f32} {a14 : FVec Ideal S1024x4096 .f32} {a15 : FVec Ideal S4096x1024 .f32} {a16 : FVec Ideal S1024x1024 .f32} {a17 : FVec Ideal S256x1024 .f32}
    (h : fn (F := Ideal) a0 y a2 a3 a4 a5 a6 a7 a8 a9 a10 a11 a12 a13 a14 a15 a16 a17 = fun _ => 1#1) (n : Fin 16384) :
    ∃ v : Fin 256 → ℝ, (fun j => y (ValueIdx.ix2 n j)) = fun j => (v j : EReal) := by
  have one (p : Bool) : (BitVec.ofBool p = 1#1) ↔ p = true := by cases p <;> decide
  have key (w : S16384x256.Idx) : ∃ v : ℝ, y w = (v : EReal) := by
    have pre : BitVec.ofBool (decide (max (y w) (-(y w)) < Ideal.ofBits .f32 0x7F800000#32)) = 1#1 := congrFun h w
    rw [top_word, one, decide_eq_true_eq] at pre
    exact real_of_abs_lt _ pre
  exact ⟨fun j => (key (ValueIdx.ix2 n j)).choose, funext fun j => (key (ValueIdx.ix2 n j)).choose_spec⟩

end Cert.Pre_states_finite
-- ==== Proof.Tail.Row.lean ====
/- The rest of a layer on one row: the normalised heads, the short convolution, the projection, the gated products. -/
module

public import Idealize.ShloMosaic.PureOps.Ideal

@[expose] public section

noncomputable section

namespace Cert.Tail

open Idealize.ShloMosaic

/-- Place `e` of the head that column `k` belongs to. -/
def lane (k : Fin 256) (e : Fin 64) : Fin 256 := ⟨k.val / 64 * 64 + e.val, by omega⟩

/-- The mean over the head of column `k`. -/
def headMean (y : Fin 256 → EReal) (k : Fin 256) : EReal := Ideal.div (∑ e : Fin 64, y (lane k e)) (Ideal.ofBits .f32 0x42800000#32)

/-- A row less its heads' means. -/
def dev (y : Fin 256 → EReal) (k : Fin 256) : EReal := y k - headMean y k

/-- A row normalised head by head. -/
def normed (y : Fin 256 → EReal) (k : Fin 256) : EReal :=
  dev y k * Ideal.rsqrt (headMean (fun j => dev y j * dev y j) k + Ideal.ofBits .f32 0x3A27C5AC#32)

/-- The recurrence's part of the mixed row. -/
def heads (y gw gb bonus g : Fin 256 → EReal) (k : Fin 256) : EReal := (normed y k * gw k + gb k + bonus k) * g k

/-- The convolution's part of the mixed row, from a row's gated input and the two rows before it. -/
def conv (cb w0 w1 w2 u2 u1 u : Fin 256 → EReal) (k : Fin 256) : EReal := cb k * (w0 k * u2 k + w1 k * u1 k + w2 k * u k)

/-- The mixed row: the recurrence, the convolution, the attention. -/
def mixed (a b : Fin 256 → EReal) (s : Fin 512 → EReal) (k : Fin 1024) : EReal :=
  if h : k.val < 256 then a ⟨k.val, h⟩ else if h' : k.val < 512 then b ⟨k.val - 256, by omega⟩ else s ⟨k.val - 512, by omega⟩

/-- A row times a matrix. -/
def dot {n p : ℕ} (x : Fin n → EReal) (w : Fin n → Fin p → EReal) (c : Fin p) : EReal := ∑ k, x k * w k c

/-- A row of 1024 over its root mean square, times a gain. -/
def rms (x gain : Fin 1024 → EReal) (c : Fin 1024) : EReal :=
  x c * Ideal.rsqrt (Ideal.div (∑ k, x k * x k) (Ideal.ofBits .f32 0x44800000#32) + Ideal.ofBits .f32 0x358637BD#32) * gain c

/-- The positive part, squared. -/
def relu2 (z : EReal) : EReal := max z 0 * max z 0

/-- The feed-forward part added to a row. -/
def mlp (x gain : Fin 1024 → EReal) (up : Fin 1024 → Fin 4096 → EReal) (down : Fin 4096 → Fin 1024 → EReal) (c : Fin 1024) : EReal :=
  x c + dot (fun f => relu2 (dot (rms x gain) up f)) down c

/-- The gated embedding added to a row. -/
def gated (x gain : Fin 1024 → EReal) (wg : Fin 1024 → Fin 1024 → EReal) (p : Fin 256 → EReal) (wp : Fin 256 → Fin 1024 → EReal) (c : Fin 1024) : EReal :=
  x c + Ideal.div 1 (1 + Ideal.exp (-(dot (rms x gain) wg c))) * dot p wp c

/-- The whole row. -/
def row (x : Fin 1024 → EReal) (m : Fin 1024 → EReal) (wo : Fin 1024 → Fin 1024 → EReal) (g1 : Fin 1024 → EReal)
    (up : Fin 1024 → Fin 4096 → EReal) (down : Fin 4096 → Fin 1024 → EReal) (g2 : Fin 1024 → EReal) (wg : Fin 1024 → Fin 1024 → EReal)
    (p : Fin 256 → EReal) (wp : Fin 256 → Fin 1024 → EReal) : Fin 1024 → EReal :=
  gated (mlp (fun c => x c + dot m wo c) g1 up down) g2 wg p wp

theorem word64 : Ideal.ofBits .f32 0x42800000#32 = ((64 : ℝ) : EReal) := by
  simp [Ideal.ofBits, Ideal.ieee]
  rw [← EReal.coe_mul]
  norm_num

theorem word64th : Ideal.ofBits .f32 0x3C800000#32 = (((64 : ℝ)⁻¹ : ℝ) : EReal) := by
  simp [Ideal.ofBits, Ideal.ieee]
  rw [← EReal.coe_mul]
  norm_num

theorem coe_sum {n : ℕ} (f : Fin n → ℝ) : ((∑ k, f k : ℝ) : EReal) = ∑ k, (f k : EReal) :=
  map_sum (⟨⟨fun x : ℝ => (x : EReal), EReal.coe_zero⟩, EReal.coe_add⟩ : ℝ →+ EReal) f Finset.univ

theorem headMean_coe (r : Fin 256 → ℝ) (k : Fin 256) :
    headMean (fun j => (r j : EReal)) k = (((∑ e : Fin 64, r (lane k e)) * (64 : ℝ)⁻¹ : ℝ) : EReal) := by
  unfold headMean Ideal.div
  rw [word64, if_neg (by norm_cast), ← EReal.coe_inv, EReal.coe_mul, coe_sum]

/-- A sum over the columns of one head. -/
theorem head_sum (f : Fin 256 → ℝ) (k : Fin 256) (s : ℝ) :
    (∑ j : Fin 256, f j * (if j.val / 64 = k.val / 64 then s else 0)) = (∑ e : Fin 64, f (lane k e)) * s := by
  rw [← (finProdFinEquiv (m := 4) (n := 64)).sum_comp, Fintype.sum_prod_type, Finset.sum_eq_single (⟨k.val / 64, by omega⟩ : Fin 4), Finset.sum_mul]
  · refine Finset.sum_congr rfl fun e _ => ?_
    have he : finProdFinEquiv (m := 4) (n := 64) (⟨k.val / 64, by omega⟩, e) = lane k e := Fin.ext (by simp [finProdFinEquiv, lane]; omega)
    rw [he, if_pos (by show (k.val / 64 * 64 + e.val) / 64 = k.val / 64; omega)]
  · intro g _ hg
    refine Finset.sum_eq_zero fun e _ => ?_
    rw [if_neg, mul_zero]
    intro h
    apply hg
    apply Fin.ext
    show g.val = k.val / 64
    have : ((finProdFinEquiv (m := 4) (n := 64) (g, e)).val) / 64 = g.val := by simp [finProdFinEquiv]; omega
    omega
  · intro hn; exact absurd (Finset.mem_univ _) hn

/-- The kernel's matrix of head means: a 64th between columns of one head. -/
def ones (j k : Fin 256) : EReal := if j.val / 64 = k.val / 64 then (((64 : ℝ)⁻¹ : ℝ) : EReal) else 0

/-- The product of a finite row with the means' matrix, taken in three parts, is the heads' means. -/
theorem parts_mean (a : Fin 256 → EReal) (ha : ∃ r : Fin 256 → ℝ, a = fun j => (r j : EReal)) (k : Fin 256) :
    (∑ j, a j * ones j k) + (∑ j, (a j - a j) * ones j k) + (∑ j, (a j - a j - (a j - a j)) * ones j k) = headMean a k := by
  obtain ⟨r, rfl⟩ := ha
  have z (j : Fin 256) : ((r j : EReal) - (r j : EReal)) = 0 := by rw [← EReal.coe_sub, sub_self, EReal.coe_zero]
  simp only [z, sub_zero, zero_mul, Finset.sum_const_zero, add_zero]
  rw [headMean_coe, ← head_sum, coe_sum]
  refine Finset.sum_congr rfl fun j _ => ?_
  unfold ones
  split <;> simp

/-- A finite row's deviations are finite. -/
theorem dev_finite (a : Fin 256 → EReal) (ha : ∃ r : Fin 256 → ℝ, a = fun j => (r j : EReal)) : ∃ r : Fin 256 → ℝ, dev a = fun j => (r j : EReal) := by
  obtain ⟨r, rfl⟩ := ha
  refine ⟨fun k => r k - (∑ e : Fin 64, r (lane k e)) * (64 : ℝ)⁻¹, funext fun k => ?_⟩
  unfold dev
  rw [headMean_coe, EReal.coe_sub]

theorem dev_sq_finite (a : Fin 256 → EReal) (ha : ∃ r : Fin 256 → ℝ, a = fun j => (r j : EReal)) :
    ∃ r : Fin 256 → ℝ, (fun j => dev a j * dev a j) = fun j => (r j : EReal) := by
  obtain ⟨r, hr⟩ := dev_finite a ha
  exact ⟨fun j => r j * r j, funext fun j => by rw [hr, EReal.coe_mul]⟩

/-- The mixed row times the projection, part by part. -/
theorem dot_mixed (a b : Fin 256 → EReal) (s : Fin 512 → EReal) (w : Fin 1024 → Fin 1024 → EReal) (c : Fin 1024) :
    dot (mixed a b s) w c = (∑ k : Fin 256, a k * w ⟨k.val, by omega⟩ c) + (∑ k : Fin 256, b k * w ⟨256 + k.val, by omega⟩ c)
      + ∑ k : Fin 512, s k * w ⟨512 + k.val, by omega⟩ c := by
  unfold dot
  rw [show (∑ k : Fin 1024, mixed a b s k * w k c) = _ from Fin.sum_univ_add (a := 512) (b := 512) (fun k : Fin (512 + 512) => mixed a b s k * w k c),
    Fin.sum_univ_add (a := 256) (b := 256) (fun k : Fin (256 + 256) => mixed a b s (Fin.castAdd 512 k) * w (Fin.castAdd 512 k) c)]
  refine congr (congrArg _ (congr (congrArg _ ?_) ?_)) ?_
  · refine Finset.sum_congr rfl fun k _ => congrArg (· * _) ?_
    unfold mixed
    exact dif_pos (show k.val < 256 from k.isLt)
  · refine Finset.sum_congr rfl fun k _ => congrArg (· * _) ?_
    unfold mixed
    refine (dif_neg (show ¬ (256 + k.val < 256) by omega)).trans ((dif_pos (show 256 + k.val < 512 by omega)).trans (congrArg b (Fin.ext ?_)))
    show 256 + k.val - 256 = k.val
    omega
  · refine Finset.sum_congr rfl fun k _ => congrArg (· * _) ?_
    unfold mixed
    refine (dif_neg (show ¬ (512 + k.val < 256) by omega)).trans ((dif_neg (show ¬ (512 + k.val < 512) by omega)).trans (congrArg s (Fin.ext ?_)))
    show 512 + k.val - 512 = k.val
    omega

/-- A sum over 4096 hidden columns, 1024 at a time. -/
theorem sum_chunks (f : Fin 4096 → EReal) :
    ∑ k, f k = (∑ k : Fin 1024, f ⟨k.val, by omega⟩) + (∑ k : Fin 1024, f ⟨1024 + k.val, by omega⟩) + (∑ k : Fin 1024, f ⟨2048 + k.val, by omega⟩)
      + ∑ k : Fin 1024, f ⟨3072 + k.val, by omega⟩ := by
  rw [show (∑ k, f k) = _ from Fin.sum_univ_add (a := 3072) (b := 1024) (fun k : Fin (3072 + 1024) => f k),
    Fin.sum_univ_add (a := 2048) (b := 1024) (fun k : Fin (2048 + 1024) => f (Fin.castAdd 1024 k)),
    Fin.sum_univ_add (a := 1024) (b := 1024) (fun k : Fin (1024 + 1024) => f (Fin.castAdd 1024 (Fin.castAdd 1024 k)))]
  rfl

end Cert.Tail

end
-- ==== Proof.Tail.Block.lean ====
/- The tail kernel's block, payload by payload, read at a row and a column. -/
module

public import proofs.«01_k».proof.Proof.Gen.Kernel2Ideal.Skeleton
public import proofs.«01_k».proof.Proof.Tail.Row
public import Idealize.ShloMosaic.Lib.ValueIdx
public import Idealize.ShloMosaic.Lib.ValueLayout
public import Idealize.ShloMosaic.Lib.MatmulPlain
public import Idealize.ShloMosaic.Lib.Pipeline.Value
public import Idealize.ShloMosaic.Lib.KernelVsHost

@[expose] public section

noncomputable section

namespace Cert.Kernel2Ideal.Gen

open Idealize.ShloMosaic Idealize.ShloMosaic.ValueIdx Cert.Kernel2Ideal Cert.Tail

theorem zero_word : (Scalar.ofBits .f32 0x00000000#32 : Ideal .f32) = (0 : EReal) := by
  show Ideal.ofBits .f32 0x00000000#32 = (0 : EReal)
  simp [Ideal.ofBits, Ideal.ieee]

theorem one_word : (Scalar.ofBits .f32 0x3F800000#32 : Ideal .f32) = (1 : EReal) := by
  show Ideal.ofBits .f32 0x3F800000#32 = (1 : EReal)
  simp [Ideal.ofBits, Ideal.ieee]
  rw [← EReal.coe_mul]
  norm_num

theorem zero_bits : Ideal.ofBits .f32 0x00000000#32 = (0 : EReal) := zero_word

/-- A product with nothing added, at a row and a column. -/
theorem mm {M K N : ℕ} (x : FVec Ideal ⟨2, ![M, K]⟩ .bf16) (w : FVec Ideal ⟨2, ![K, N]⟩ .bf16) (r : Fin M) (c : Fin N) :
    matmul (F := Ideal) (DotDims.plain M K N) none x w (constant ⟨2, ![M, N]⟩ .f32 0x00000000#32) (ix2 r c) = ∑ k : Fin K, x (ix2 r k) * w (ix2 k c) := by
  unfold matmul
  rw [Ideal.matmul_plain_apply, constant_apply, zero_bits, zero_add]

theorem mm_head (x : FVec Ideal S512x256 .bf16) (w : FVec Ideal S256x256 .bf16) (r : Fin 512) (c : Fin 256) :
    matmul (F := Ideal) dot_S512x256_S256x256_S512x256_1_0_0_1_n_n none x w (constant S512x256 .f32 0x00000000#32) (ix2 r c)
      = ∑ k : Fin 256, x (ix2 r k) * w (ix2 k c) := mm x w r c

theorem mm_narrow (x : FVec Ideal S512x256 .bf16) (w : FVec Ideal S256x1024 .bf16) (r : Fin 512) (c : Fin 1024) :
    matmul (F := Ideal) dot_S512x256_S256x1024_S512x1024_1_0_0_1_n_n none x w (constant S512x1024 .f32 0x00000000#32) (ix2 r c)
      = ∑ k : Fin 256, x (ix2 r k) * w (ix2 k c) := mm x w r c

theorem mm_half (x : FVec Ideal S256x512 .bf16) (w : FVec Ideal S512x1024 .bf16) (r : Fin 256) (c : Fin 1024) :
    matmul (F := Ideal) dot_S256x512_S512x1024_S256x1024_1_0_0_1_n_n none x w (constant S256x1024 .f32 0x00000000#32) (ix2 r c)
      = ∑ k : Fin 512, x (ix2 r k) * w (ix2 k c) := mm x w r c

theorem mm_wide (x : FVec Ideal S512x1024 .bf16) (w : FVec Ideal S1024x1024 .bf16) (r : Fin 512) (c : Fin 1024) :
    matmul (F := Ideal) dot_S512x1024_S1024x1024_S512x1024_1_0_0_1_n_n none x w (constant S512x1024 .f32 0x00000000#32) (ix2 r c)
      = ∑ k : Fin 1024, x (ix2 r k) * w (ix2 k c) := mm x w r c

/-- A row repeated down a block. -/
theorem row256 (v : FVec Ideal S1x256 .f32) (r : Fin 512) (k : Fin 256) :
    broadcastTo S512x256 v broadcasts_S1x256_S512x256 (ix2 r k) = v (ix2 (0 : Fin 1) k) := broadcastTo_1b_ab_apply v _ r k

theorem row1024 (v : FVec Ideal S1x1024 .f32) (r : Fin 512) (k : Fin 1024) :
    broadcastTo S512x1024 v broadcasts_S1x1024_S512x1024 (ix2 r k) = v (ix2 (0 : Fin 1) k) := broadcastTo_1b_ab_apply v _ r k

/-- The means of a block's heads, as a product in three parts. -/
def partsV (a : FVec Ideal S512x256 .f32) (w : FVec Ideal S256x256 .bf16) : FVec Ideal S512x256 .f32 :=
  have hi := truncf .bf16 a bitsLt_bf16_f32
  have rest := subf a (extf .f32 hi bitsLt_bf16_f32)
  have mid := truncf .bf16 rest bitsLt_bf16_f32
  have lo := truncf .bf16 (subf rest (extf .f32 mid bitsLt_bf16_f32)) bitsLt_bf16_f32
  addf (addf (matmul dot_S512x256_S256x256_S512x256_1_0_0_1_n_n none hi w (constant S512x256 .f32 0x00000000#32))
    (matmul dot_S512x256_S256x256_S512x256_1_0_0_1_n_n none mid w (constant S512x256 .f32 0x00000000#32)))
    (matmul dot_S512x256_S256x256_S512x256_1_0_0_1_n_n none lo w (constant S512x256 .f32 0x00000000#32))

theorem partsV_apply (a : FVec Ideal S512x256 .f32) (w : FVec Ideal S256x256 .bf16) (hw : ∀ j k : Fin 256, w (ix2 j k) = ones j k) (r : Fin 512)
    (ha : ∃ y : Fin 256 → ℝ, (fun j => a (ix2 r j)) = fun j => (y j : EReal)) (k : Fin 256) : partsV a w (ix2 r k) = headMean (fun j => a (ix2 r j)) k := by
  rw [← parts_mean _ ha k]
  simp only [partsV]
  rw [addf_apply, addf_apply, mm_head, mm_head, mm_head]
  simp only [hw]
  rfl

/-- A block's rows normalised head by head, given the matrix of head means and a finite row. -/
theorem pay2_apply (v0 : Vec Ideal S512x256 .f32) (v1 v17 : Vec Ideal S256x256 .bf16) (v35 : Vec Ideal S1x256 .f32)
    (h1 : ∀ j k : Fin 256, v1 (ix2 j k) = ones j k) (h17 : ∀ j k : Fin 256, v17 (ix2 j k) = ones j k) (r : Fin 512)
    (hv : ∃ y : Fin 256 → ℝ, (fun j => v0 (ix2 r j)) = fun j => (y j : EReal)) (k : Fin 256) :
    k0_pay2 (F := Ideal) v0 v1 v17 v35 (ix2 r k) = normed (fun j => v0 (ix2 r j)) k * v35 (ix2 (0 : Fin 1) k) := by
  have e : k0_pay2 (F := Ideal) v0 v1 v17 v35 = mulf (mulf (subf v0 (partsV v0 v1)) (rsqrt (addf (partsV (mulf (subf v0 (partsV v0 v1)) (subf v0 (partsV v0 v1))) v17)
      (broadcast S512x256 (Scalar.ofBits .f32 0x3A27C5AC#32))))) (broadcastTo S512x256 v35 broadcasts_S1x256_S512x256) := by
    unfold k0_pay2
    simp only [shapeCast_self]
    rfl
  have hd (j : Fin 256) : subf v0 (partsV v0 v1) (ix2 r j) = dev (fun j => v0 (ix2 r j)) j := by
    rw [subf_apply, partsV_apply v0 v1 h1 r hv]; rfl
  have hs : (fun j : Fin 256 => mulf (subf v0 (partsV v0 v1)) (subf v0 (partsV v0 v1)) (ix2 r j)) = fun j => dev (fun j => v0 (ix2 r j)) j * dev (fun j => v0 (ix2 r j)) j :=
    funext fun j => by rw [mulf_apply, hd]
  rw [e, mulf_apply, mulf_apply, row256, hd]
  refine congrArg (· * _) (congrArg (_ * ·) (congrArg Ideal.rsqrt (congrArg (· + _) ?_)))
  rw [partsV_apply _ v17 h17 r (by rw [hs]; exact dev_sq_finite _ hv) k, hs]

theorem pay4_apply (v38 : FVec Ideal S512x256 .f32) (v40 : FVec Ideal S1x256 .f32) (v43 v45 : Vec Ideal S512x256 .f32) (r : Fin 512) (k : Fin 256) :
    k0_pay4 (F := Ideal) v38 (k0_pay3 v40) v43 v45 (ix2 r k) = (v38 (ix2 r k) + v40 (ix2 (0 : Fin 1) k) + v43 (ix2 r k)) * v45 (ix2 r k) := by
  unfold k0_pay4 k0_pay3
  rw [mulf_apply, addf_apply, addf_apply, row256, shapeCast_self]

/-- The row two before, from the block, the rows kept from before the block, or the sequence's kept rows. -/
def back2 (b : BitVec 1) (cp : Fin 2 → Fin 256 → EReal) (halo : Fin 8 → Fin 256 → EReal) (u : Fin 512 → Fin 256 → EReal) (r : Fin 512) (k : Fin 256) : EReal :=
  if r.val = 1 then Scalar.select b (cp 1 k) (halo 7 k) else if r.val = 0 then Scalar.select b (cp 0 k) (halo 6 k) else u ⟨r.val - 2, by omega⟩ k

/-- The row before. -/
def back1 (b : BitVec 1) (cp : Fin 2 → Fin 256 → EReal) (halo : Fin 8 → Fin 256 → EReal) (u : Fin 512 → Fin 256 → EReal) (r : Fin 512) (k : Fin 256) : EReal :=
  if r.val = 0 then Scalar.select b (cp 1 k) (halo 7 k) else u ⟨r.val - 1, by omega⟩ k

theorem select_dec {α : Type} (p : Prop) [Decidable p] (x y : α) : Scalar.select (BitVec.ofBool (decide p)) x y = if p then x else y := by
  by_cases h : p <;> simp [h, Scalar.select]

theorem select_at {s : Shape} (b : BitVec 1) (x y : FVec Ideal s .f32) (i : s.Idx) : Scalar.select b x y i = Scalar.select b (x i) (y i) := by
  unfold Scalar.select
  split <;> rfl

/-- Whether a row is the block's row `n`. -/
theorem row_is (n : ℕ) (hn : n < 512) (r : Fin 512) (k : Fin 256) :
    cmpi (s := S512x256) .eq (iota .tc S512x256 32 [0] iota_S512x256_d0_w32) (broadcast S512x256 (BitVec.ofNat 32 n)) (ix2 r k) = BitVec.ofBool (decide (r.val = n)) := by
  show BitVec.ofBool (BitVec.ofNat 32 (0 * 512 + r.val) == BitVec.ofNat 32 n) = _
  have hr := r.isLt
  congr 1
  rw [Bool.eq_iff_iff, beq_iff_eq, decide_eq_true_iff, Nat.zero_mul, Nat.zero_add]
  constructor
  · intro h
    have := congrArg BitVec.toNat h
    simp only [BitVec.toNat_ofNat] at this
    omega
  · intro h; rw [h]

theorem rot_apply (n : ℕ) (hn : n < 512) (x : FVec Ideal S512x256 .f32) (r : Fin 512) (k : Fin 256) (h : n ≤ r.val) :
    dynamicRotate 0 (BitVec.ofNat 32 n) none x rotates_S512x256_d0 (ix2 r k) = x (ix2 (⟨r.val - n, by omega⟩ : Fin 512) k) := by
  refine dynamicRotate_apply (s := S512x256) 0 _ x _ _ _ fun b => ?_
  match b with
  | ⟨0, _⟩ =>
    show r.val - n = (r.val + 512 - (BitVec.ofNat 32 n).toNat % 512) % 512
    have hr := r.isLt
    rw [BitVec.toNat_ofNat]
    omega
  | ⟨1, _⟩ => rfl

theorem slice2 (n : Fin 2) (v : FVec Ideal S2x256 .f32) (h) (k : Fin 256) :
    extractStridedSlice S1x256 ![n.val, 0] v h (ix2 (0 : Fin 1) k) = v (ix2 n k) :=
  extractStridedSlice_apply _ _ _ _ (ix2 n k) (fun a => match a with | ⟨0, _⟩ => rfl | ⟨1, _⟩ => (Nat.zero_add _).symm)

theorem slice3 (n : Fin 3) (v : FVec Ideal S3x256 .f32) (h) (k : Fin 256) :
    extractStridedSlice S1x256 ![n.val, 0] v h (ix2 (0 : Fin 1) k) = v (ix2 n k) :=
  extractStridedSlice_apply _ _ _ _ (ix2 n k) (fun a => match a with | ⟨0, _⟩ => rfl | ⟨1, _⟩ => (Nat.zero_add _).symm)

theorem slice8 (n : Fin 8) (v : FVec Ideal S8x256 .f32) (h) (k : Fin 256) :
    extractStridedSlice S1x256 ![n.val, 0] v h (ix2 (0 : Fin 1) k) = v (ix2 n k) :=
  extractStridedSlice_apply _ _ _ _ (ix2 n k) (fun a => match a with | ⟨0, _⟩ => rfl | ⟨1, _⟩ => (Nat.zero_add _).symm)

theorem kept_apply (v : FVec Ideal S1x2x256 .f32) (n : Fin 2) (k : Fin 256) :
    shapeCast S2x256 v shapeCasts_S1x2x256_S2x256 (ix2 n k) = v (ix3 (0 : Fin 1) n k) :=
  shapeCast_apply _ _ _ _ (by rw [Shape.rowMajor_val_two, Shape.rowMajor_val_three]; show (0 * 2 + n.val) * 256 + k.val = n.val * 256 + k.val; omega)

/-- The kept rows, the rows before the block and the block's gated inputs. -/
abbrev kept (v : Vec Ideal S1x2x256 .f32) (n : Fin 2) (k : Fin 256) : EReal := v (ix3 (0 : Fin 1) n k)
abbrev rows8 (v : FVec Ideal S8x256 .f32) (n : Fin 8) (k : Fin 256) : EReal := v (ix2 n k)
abbrev rows512 (v : FVec Ideal S512x256 .f32) (n : Fin 512) (k : Fin 256) : EReal := v (ix2 n k)

/-- The bit that says a block is its sequence's first. -/
def firstBit (a : BitVec 32) : BitVec 1 :=
  Scalar.cmpi .eq (Scalar.select (Scalar.andi (Scalar.xori (Scalar.cmpi .slt (Scalar.remsi a (Scalar.select (Scalar.cmpi .eq 8#32 0#32) 1#32 8#32)) 0#32) (Scalar.cmpi .slt (Scalar.select (Scalar.cmpi .eq 8#32 0#32) 1#32 8#32) 0#32)) (Scalar.cmpi .ne (Scalar.remsi a (Scalar.select (Scalar.cmpi .eq 8#32 0#32) 1#32 8#32)) 0#32))
    (Scalar.addi (Scalar.remsi a (Scalar.select (Scalar.cmpi .eq 8#32 0#32) 1#32 8#32)) (Scalar.select (Scalar.cmpi .eq 8#32 0#32) 1#32 8#32)) (Scalar.remsi a (Scalar.select (Scalar.cmpi .eq 8#32 0#32) 1#32 8#32))) 0#32

theorem firstBit_eq : ∀ n : Fin 32, firstBit (BitVec.ofNat 32 n.val) = BitVec.ofBool (decide (n.val % 8 = 0)) := by decide

theorem pay9_apply (a : BitVec 32) (v51 v52 : Vec Ideal S8x256 .f32) (v65 : Vec Ideal S1x2x256 .f32) (k : Fin 256) :
    k0_pay9 (F := Ideal) a v51 v52 v65 (ix2 (0 : Fin 1) k) = Scalar.select (firstBit a) (kept v65 1 k) (rows8 (k0_pay6 v51 v52) 7 k) := by
  unfold k0_pay9
  simp only [shapeCast_self]
  rw [select_at]
  refine congr (congrArg _ ?_) ?_
  · exact (slice2 1 _ slices_S2x256_o1_0_S1x256 k).trans (kept_apply v65 1 k)
  · exact slice8 7 _ slices_S8x256_o7_0_S1x256 k

theorem pay10_apply (a : BitVec 32) (v46 : FVec Ideal S512x256 .f32) (v47 : Vec Ideal S3x256 .f32) (v48 v49 : Vec Ideal S512x256 .f32) (v51 v52 : Vec Ideal S8x256 .f32)
    (v77 : Vec Ideal S1x2x256 .f32) (v97 : Vec Ideal S512x256 .f32) (v110 v114 : Vec Ideal S256x1024 .bf16) (r : Fin 512) (c : Fin 1024) :
    k0_pay10 (F := Ideal) v46 v47 (k0_pay5 v48 v49) (k0_pay6 v51 v52) (firstBit a) (k0_pay7 v48 v49) k0_pay8 (k0_pay9 a v51 v52 v77) v77 v97 v110 v114 (ix2 r c)
      = (∑ k : Fin 256, v46 (ix2 r k) * v110 (ix2 k c))
        + ∑ k : Fin 256, conv (fun k => v97 (ix2 r k)) (fun k => v47 (ix2 (0 : Fin 3) k)) (fun k => v47 (ix2 (1 : Fin 3) k)) (fun k => v47 (ix2 (2 : Fin 3) k))
          (back2 (firstBit a) (kept v77) (rows8 (k0_pay6 v51 v52)) (rows512 (k0_pay5 v48 v49)) r)
          (back1 (firstBit a) (kept v77) (rows8 (k0_pay6 v51 v52)) (rows512 (k0_pay5 v48 v49)) r) (fun k => k0_pay5 (F := Ideal) v48 v49 (ix2 r k)) k * v114 (ix2 k c) := by
  unfold k0_pay10
  simp only [shapeCast_self]
  rw [addf_apply, mm_narrow, mm_narrow]
  refine congr (congrArg _ (Finset.sum_congr rfl fun k _ => rfl)) (Finset.sum_congr rfl fun k _ => congrArg (· * _) ?_)
  rw [truncf_apply, mulf_apply, addf_apply, addf_apply, mulf_apply, mulf_apply, mulf_apply, row256, row256, row256]
  unfold conv
  refine congrArg _ (congr (congrArg _ (congr (congrArg _ (congr (congrArg _ ?_) ?_)) (congr (congrArg _ ?_) ?_))) (congrArg (· * _) ?_))
  · exact slice3 0 _ slices_S3x256_o0_0_S1x256 k
  · rw [select_apply, select_apply, row256, row256, select_at, select_at, show cmpi (s := S512x256) .eq _ _ (ix2 r k) = _ from row_is 1 (by omega) r k,
      show cmpi (s := S512x256) .eq _ _ (ix2 r k) = _ from row_is 0 (by omega) r k, select_dec, select_dec]
    unfold back2
    refine ite_congr rfl (fun _ => congr (congrArg _ ?_) ?_) fun h1 => ite_congr rfl (fun _ => congr (congrArg _ ?_) ?_) fun h0 => ?_
    · exact (slice2 1 _ slices_S2x256_o1_0_S1x256 k).trans (kept_apply v77 1 k)
    · exact slice8 7 _ slices_S8x256_o7_0_S1x256 k
    · exact (slice2 0 _ slices_S2x256_o0_0_S1x256 k).trans (kept_apply v77 0 k)
    · exact slice8 6 _ slices_S8x256_o6_0_S1x256 k
    · exact rot_apply 2 (by omega) _ r k (by omega)
  · exact slice3 1 _ slices_S3x256_o1_0_S1x256 k
  · rw [select_apply, row256, pay9_apply, show k0_pay8 (ix2 r k) = _ from row_is 0 (by omega) r k, select_dec]
    unfold back1
    exact ite_congr rfl (fun _ => rfl) fun h0 => rot_apply 1 (by omega) (k0_pay5 v48 v49) r k (by omega)
  · exact slice3 2 _ slices_S3x256_o2_0_S1x256 k

end Cert.Kernel2Ideal.Gen

end
-- ==== Proof.Tail.Block2.lean ====
/- The tail kernel's block after the convolution: the projection's sum, the feed-forward part in four chunks, the gate. -/
module

public import proofs.«01_k».proof.Proof.Tail.Block
public import Idealize.ShloMosaic.PureOps.Ideal.Laws

@[expose] public section

noncomputable section

namespace Cert.Kernel2Ideal.Gen

open Idealize.ShloMosaic Idealize.ShloMosaic.ValueIdx Cert.Kernel2Ideal Cert.Tail

theorem turned_apply (v : Vec Ideal S1x1x512x256 .f32) (t : Fin 256) (k : Fin 512) :
    truncf (F := Ideal) .bf16 (transpose S256x512 [1, 0] (shapeCast S512x256 v shapeCasts_S1x1x512x256_S512x256) transposes_S512x256_p1_0_S256x512) bitsLt_bf16_f32 (ix2 t k)
      = v (ix4 (0 : Fin 1) (0 : Fin 1) k t) := by
  rw [truncf_apply, transpose_apply _ _ _ _ (ix2 k t) (fun a => match a with | ⟨0, _⟩ => rfl | ⟨1, _⟩ => rfl)]
  exact shapeCast_apply _ _ _ _ (by
    rw [Shape.rowMajor_val_two, Shape.rowMajor_val_four]; show ((0 * 1 + 0) * 512 + k.val) * 256 + t.val = k.val * 256 + t.val; omega)

/-- The attention's row of a block, from the two halves of its columns. -/
def attn (a b : Vec Ideal S1x1x512x256 .f32) (r : Fin 512) (k : Fin 512) : EReal :=
  if h : r.val < 256 then a (ix4 (0 : Fin 1) (0 : Fin 1) k ⟨r.val, h⟩) else b (ix4 (0 : Fin 1) (0 : Fin 1) k ⟨r.val - 256, by omega⟩)

theorem pay11_apply (v118 : FVec Ideal S512x1024 .f32) (v119 : Vec Ideal S512x1024 .bf16) (v121 v126 : Vec Ideal S1x1x512x256 .f32) (v133 : Vec Ideal S512x1024 .f32)
    (r : Fin 512) (c : Fin 1024) :
    k0_pay11 (F := Ideal) v118 v119 v121 v126 v133 (ix2 r c) = v133 (ix2 r c) + (v118 (ix2 r c) + ∑ k : Fin 512, attn v121 v126 r k * v119 (ix2 k c)) := by
  unfold k0_pay11
  simp only [shapeCast_self]
  rw [addf_apply, addf_apply]
  refine congrArg (_ + ·) (congrArg (_ + ·) ?_)
  have hr := r.isLt
  unfold attn
  by_cases h : r.val < 256
  · refine (concatenate_pair_apply_left (t := S512x1024) (s₁ := S256x1024) (s₂ := S256x1024) 0 _ _ _ _ rfl (ix2 (⟨r.val, h⟩ : Fin 256) c)
      (fun a => match a with | ⟨0, _⟩ => rfl | ⟨1, _⟩ => rfl)).trans ?_
    rw [mm_half]
    exact Finset.sum_congr rfl fun k _ => congrArg₂ (· * ·) ((turned_apply v121 _ k).trans (by rw [dif_pos h])) (congrFun (shapeCast_self v119 _) _)
  · refine (concatenate_pair_apply_right (t := S512x1024) (s₁ := S256x1024) (s₂ := S256x1024) 0 _ _ _ _ rfl rfl (ix2 (⟨r.val - 256, by omega⟩ : Fin 256) c)
      (fun a => match a with | ⟨0, _⟩ => fun e => absurd rfl e | ⟨1, _⟩ => fun _ => rfl) (by show r.val - 256 + 256 = r.val; omega)).trans ?_
    rw [mm_half]
    exact Finset.sum_congr rfl fun k _ => congrArg₂ (· * ·) ((turned_apply v126 _ k).trans (by rw [dif_neg h])) (congrFun (shapeCast_self v119 _) _)

/-- A block's rows over their root mean squares, times a gain. -/
def rmsV (x : FVec Ideal S512x1024 .f32) (gain : FVec Ideal S1x1024 .f32) : FVec Ideal S512x1024 .f32 :=
  mulf (mulf x (broadcastTo S512x1024 (rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024))
    (broadcastTo S512x1024 gain broadcasts_S1x1024_S512x1024)

theorem rmsV_apply (x : FVec Ideal S512x1024 .f32) (gain : FVec Ideal S1x1024 .f32) (r : Fin 512) (c : Fin 1024) :
    rmsV x gain (ix2 r c) = rms (fun c => x (ix2 r c)) (fun c => gain (ix2 (0 : Fin 1) c)) c := by
  unfold rmsV rms
  rw [mulf_apply, mulf_apply, row1024, broadcastTo_apply _ _ _ (ix2 r (0 : Fin 1)) (fun a => match a with | ⟨0, _⟩ => rfl | ⟨1, _⟩ => rfl)]
  refine congrArg (· * _) (congrArg (_ * ·) (congrArg Ideal.rsqrt (congrArg (· + _) (congrArg (Ideal.div · _) ?_))))
  refine (shapeCast_apply _ shapeCasts_S512_S512x1 (ix2 r (0 : Fin 1)) (ix1 r) (by
    rw [Shape.rowMajor_val_two, Shape.rowMajor_val_one]; show r.val = r.val * 1 + 0; omega)).trans ?_
  refine (Ideal.multiReduction_add_single (mulf x x) _ reduces_S512x1024_S512 _ _ (ix1 r)).trans ?_
  refine Finset.sum_congr rfl fun k _ => ?_
  have e : reduces_S512x1024_S512.lift (ix1 r) k = ix2 r k := by
    funext a
    match a with
    | ⟨0, _⟩ => rfl
    | ⟨1, _⟩ => rfl
  rw [e]
  rfl

/-- A hidden chunk of a block: the rows' products with a chunk of columns, their positive parts squared. -/
def hidV (h : FVec Ideal S512x1024 .bf16) (w : FVec Ideal S1024x1024 .bf16) : FVec Ideal S512x1024 .f32 :=
  mulf (maximumf (matmul dot_S512x1024_S1024x1024_S512x1024_1_0_0_1_n_n none h w (constant S512x1024 .f32 0x00000000#32)) (broadcast S512x1024 (Scalar.ofBits .f32 0x00000000#32)))
    (maximumf (matmul dot_S512x1024_S1024x1024_S512x1024_1_0_0_1_n_n none h w (constant S512x1024 .f32 0x00000000#32)) (broadcast S512x1024 (Scalar.ofBits .f32 0x00000000#32)))

theorem hidV_apply (h : FVec Ideal S512x1024 .bf16) (w : FVec Ideal S1024x1024 .bf16) (r : Fin 512) (f : Fin 1024) :
    hidV h w (ix2 r f) = relu2 (∑ k : Fin 1024, h (ix2 r k) * w (ix2 k f)) := by
  unfold hidV relu2
  rw [mulf_apply, maximumf_apply, mm_wide, broadcast_apply, zero_word]

theorem pay14_apply (x : FVec Ideal S512x1024 .f32) (h : FVec Ideal S512x1024 .bf16) (w1 d1 w2 d2 w3 d3 w4 d4 : Vec Ideal S1024x1024 .bf16) (r : Fin 512) (c : Fin 1024) :
    k0_pay14 (F := Ideal) x h (hidV h w1) d1 w2 d2 w3 d3 w4 d4 (ix2 r c)
      = x (ix2 r c) + (∑ f : Fin 1024, hidV h w1 (ix2 r f) * d1 (ix2 f c)) + (∑ f : Fin 1024, hidV h w2 (ix2 r f) * d2 (ix2 f c))
        + (∑ f : Fin 1024, hidV h w3 (ix2 r f) * d3 (ix2 f c)) + ∑ f : Fin 1024, hidV h w4 (ix2 r f) * d4 (ix2 f c) := by
  unfold k0_pay14
  simp only [shapeCast_self]
  rw [addf_apply, addf_apply, addf_apply, addf_apply]
  refine congr (congrArg _ (congr (congrArg _ (congr (congrArg _ (congrArg (_ + ·) ?_)) ?_)) ?_)) ?_ <;> exact mm_wide _ _ r c

/-- The feed-forward part of a block, from the four chunks of its weights. -/
theorem mlp_apply (x : FVec Ideal S512x1024 .f32) (gain : FVec Ideal S1x1024 .f32) (w1 d1 w2 d2 w3 d3 w4 d4 : Vec Ideal S1024x1024 .bf16)
    (up : Fin 1024 → Fin 4096 → EReal) (down : Fin 4096 → Fin 1024 → EReal)
    (hw1 : ∀ k f : Fin 1024, w1 (ix2 k f) = up k ⟨f.val, by omega⟩) (hw2 : ∀ k f : Fin 1024, w2 (ix2 k f) = up k ⟨1024 + f.val, by omega⟩)
    (hw3 : ∀ k f : Fin 1024, w3 (ix2 k f) = up k ⟨2048 + f.val, by omega⟩) (hw4 : ∀ k f : Fin 1024, w4 (ix2 k f) = up k ⟨3072 + f.val, by omega⟩)
    (hd1 : ∀ f c : Fin 1024, d1 (ix2 f c) = down ⟨f.val, by omega⟩ c) (hd2 : ∀ f c : Fin 1024, d2 (ix2 f c) = down ⟨1024 + f.val, by omega⟩ c)
    (hd3 : ∀ f c : Fin 1024, d3 (ix2 f c) = down ⟨2048 + f.val, by omega⟩ c) (hd4 : ∀ f c : Fin 1024, d4 (ix2 f c) = down ⟨3072 + f.val, by omega⟩ c)
    (r : Fin 512) (c : Fin 1024) :
    k0_pay14 (F := Ideal) x (truncf .bf16 (rmsV x gain) bitsLt_bf16_f32) (hidV (truncf .bf16 (rmsV x gain) bitsLt_bf16_f32) w1) d1 w2 d2 w3 d3 w4 d4 (ix2 r c)
      = mlp (fun c => x (ix2 r c)) (fun c => gain (ix2 (0 : Fin 1) c)) up down c := by
  have hh (k : Fin 1024) : truncf (F := Ideal) .bf16 (rmsV x gain) bitsLt_bf16_f32 (ix2 r k) = rms (fun c => x (ix2 r c)) (fun c => gain (ix2 (0 : Fin 1) c)) k := rmsV_apply x gain r k
  rw [pay14_apply]
  unfold mlp dot
  rw [sum_chunks]
  simp only [hidV_apply, hh, hw1, hw2, hw3, hw4, hd1, hd2, hd3, hd4, ← add_assoc]

/-- The gated embedding added to a block. -/
theorem pay1_apply (x : FVec Ideal S512x1024 .f32) (gain : Vec Ideal S1x1024 .f32) (wg : Vec Ideal S1024x1024 .bf16) (p : Vec Ideal S1x512x256 .f32) (wp : Vec Ideal S256x1024 .bf16)
    (r : Fin 512) (c : Fin 1024) :
    k0_pay1 (F := Ideal) x gain wg p wp (ix2 r c) = gated (fun c => x (ix2 r c)) (fun c => gain (ix2 (0 : Fin 1) c)) (fun k c => wg (ix2 k c))
      (fun k => p (ix3 (0 : Fin 1) r k)) (fun k c => wp (ix2 k c)) c := by
  have e : k0_pay1 (F := Ideal) x gain wg p wp = addf x (mulf (divf (broadcast S512x1024 (Scalar.ofBits .f32 0x3F800000#32)) (addf (broadcast S512x1024 (Scalar.ofBits .f32 0x3F800000#32))
      (exp (subf (broadcast S512x1024 (Scalar.ofBits .f32 0x00000000#32)) (matmul (φ₂ := .bf16) dot_S512x1024_S1024x1024_S512x1024_1_0_0_1_n_n none (truncf .bf16 (rmsV x gain) bitsLt_bf16_f32) wg (constant S512x1024 .f32 0x00000000#32))))))
      (matmul (φ₂ := .bf16) dot_S512x256_S256x1024_S512x1024_1_0_0_1_n_n none (truncf .bf16 (shapeCast S512x256 p shapeCasts_S1x512x256_S512x256) bitsLt_bf16_f32) wp (constant S512x1024 .f32 0x00000000#32))) := by
    unfold k0_pay1
    simp only [shapeCast_self]
    rfl
  rw [e, addf_apply, mulf_apply, divf_apply, addf_apply, mm_narrow, broadcast_apply, one_word]
  unfold gated
  refine congrArg (_ + ·) (congr (congrArg _ (congrArg (Ideal.div 1) (congrArg (1 + ·) ?_))) (Finset.sum_congr rfl fun k _ => congrArg (· * _) ?_))
  · show Ideal.exp (subf (F := Ideal) _ _ (ix2 r c)) = _
    rw [subf_apply, mm_wide, broadcast_apply, zero_word, zero_sub]
    refine congrArg (fun z => Ideal.exp (-z)) (Finset.sum_congr rfl fun k _ => congrArg (· * _) (rmsV_apply x gain r k))
  · exact shapeCast_apply _ shapeCasts_S1x512x256_S512x256 (ix2 r k) (ix3 (0 : Fin 1) r k) (by
      rw [Shape.rowMajor_val_two, Shape.rowMajor_val_three]; show (0 * 512 + r.val) * 256 + k.val = r.val * 256 + k.val; omega)

theorem pay12_eq (v118 : FVec Ideal S512x1024 .f32) (v119 : Vec Ideal S512x1024 .bf16) (v121 v126 : Vec Ideal S1x1x512x256 .f32) (v133 : Vec Ideal S512x1024 .f32) (v135 : Vec Ideal S1x1024 .f32) :
    k0_pay12 (F := Ideal) v118 v119 v121 v126 v133 v135 = truncf .bf16 (rmsV (k0_pay11 v118 v119 v121 v126 v133) v135) bitsLt_bf16_f32 := by
  unfold k0_pay12
  simp only [shapeCast_self]
  rfl

theorem pay13_eq (v118 : FVec Ideal S512x1024 .f32) (v119 : Vec Ideal S512x1024 .bf16) (v121 v126 : Vec Ideal S1x1x512x256 .f32) (v133 : Vec Ideal S512x1024 .f32) (v135 : Vec Ideal S1x1024 .f32)
    (v150 : Vec Ideal S1024x1024 .bf16) :
    k0_pay13 (F := Ideal) v118 v119 v121 v126 v133 v135 v150 = hidV (truncf .bf16 (rmsV (k0_pay11 v118 v119 v121 v126 v133) v135) bitsLt_bf16_f32) v150 := by
  unfold k0_pay13
  rw [pay12_eq]
  simp only [shapeCast_self]
  rfl

end Cert.Kernel2Ideal.Gen

end
-- ==== Proof.Tail.Host.lean ====
/- What the tail kernel's operands hold in terms of the arguments: the weights, the gains as rows, the matrix of head means. -/
module

public import proofs.«01_k».proof.Proof.Tail.Block2
public import proofs.«01_k».proof.Proof.Gen.Kernel2Ideal.Frame
public import Idealize.ShloMosaic.Lib.StableHlo.ReadAt
public import Idealize.ShloMosaic.Lib.Claim

@[expose] public section

set_option maxRecDepth 16384

noncomputable section

namespace Cert.Kernel2Ideal.Gen

open Idealize.ShloMosaic hiding ix1 ix2 ix3 ix4 ix5
open Idealize.ShloMosaic.ValueIdx Idealize.ShloMosaic.TcCoe Cert.Kernel2Ideal Cert.Tail

variable (m : (ℓ : Loc nD τ sig) → Buf (Elt Ideal) ℓ) (c : Dev nD)

theorem V_wo (k f : Fin 1024) : V (F := Ideal) m c main_v0 (ix2 k f) = m ((c : Thread nD τ).loc main_arg13) (ix2 k f) := by
  unfold V
  after_reads_at
  rfl

theorem V_up (k : Fin 1024) (f : Fin 4096) : V (F := Ideal) m c main_v1 (ix2 k f) = m ((c : Thread nD τ).loc main_arg14) (ix2 k f) := by
  unfold V
  after_reads_at
  rfl

theorem V_down (f : Fin 4096) (k : Fin 1024) : V (F := Ideal) m c main_v2 (ix2 f k) = m ((c : Thread nD τ).loc main_arg15) (ix2 f k) := by
  unfold V
  after_reads_at
  rfl

theorem V_gate (k f : Fin 1024) : V (F := Ideal) m c main_v3 (ix2 k f) = m ((c : Thread nD τ).loc main_arg16) (ix2 k f) := by
  unfold V
  after_reads_at
  rfl

theorem V_proj (k : Fin 256) (f : Fin 1024) : V (F := Ideal) m c main_v4 (ix2 k f) = m ((c : Thread nD τ).loc main_arg17) (ix2 k f) := by
  unfold V
  after_reads_at
  rfl

theorem V_gnw (k : Fin 256) : V (F := Ideal) m c main_v14 (ix2 (0 : Fin 1) k) = m ((c : Thread nD τ).loc main_arg8) (ix1 k) := by
  unfold V
  after_reads_at
  rfl

theorem V_gnb (k : Fin 256) : V (F := Ideal) m c main_v15 (ix2 (0 : Fin 1) k) = m ((c : Thread nD τ).loc main_arg9) (ix1 k) := by
  unfold V
  after_reads_at
  rfl

theorem V_g1 (k : Fin 1024) : V (F := Ideal) m c main_v16 (ix2 (0 : Fin 1) k) = m ((c : Thread nD τ).loc main_arg11) (ix1 k) := by
  unfold V
  after_reads_at
  rfl

theorem V_g2 (k : Fin 1024) : V (F := Ideal) m c main_v17 (ix2 (0 : Fin 1) k) = m ((c : Thread nD τ).loc main_arg12) (ix1 k) := by
  unfold V
  after_reads_at
  rfl

/-- The head of a column, as a word: the quotient by the heads' width, rounded down. -/
def headWord (n : ℕ) : BitVec 32 :=
  Scalar.select
    (IntOp.andi
      (IntOp.cmpi .ne (if BitVec.ofNat 32 n = 0 then 0 else if (BitVec.ofNat 32 n).msb = true then -1 else 1)
        (if 64#32 = 0 then (0 : BitVec 32) else if BitVec.msb 64#32 = true then -1 else 1))
      (IntOp.cmpi .ne (IntOp.remsi ArithUnit.host (BitVec.ofNat 32 n) 64#32) 0#32))
    (IntOp.subi (IntOp.divsi ArithUnit.host (BitVec.ofNat 32 n) 64#32) 1#32)
    (IntOp.divsi ArithUnit.host (BitVec.ofNat 32 n) 64#32)

theorem headWord_eq : ∀ j : Fin 256, headWord j.val = BitVec.ofNat 32 (j.val / 64) := by decide +kernel

theorem V_ones (j k : Fin 256) : V (F := Ideal) m c main_v13 (ix2 j k) = ones j k := by
  unfold V
  after_reads_at
  show Scalar.select (BitVec.ofBool (headWord j.val == headWord k.val)) (Ideal.ofBits .f32 0x3C800000#32) (Ideal.ofBits .f32 0x00000000#32) = _
  rw [headWord_eq, headWord_eq, word64th, zero_bits]
  have e : (BitVec.ofNat 32 (j.val / 64) == BitVec.ofNat 32 (k.val / 64)) = decide (j.val / 64 = k.val / 64) := by
    have hj := j.isLt
    have hk := k.isLt
    rw [Bool.eq_iff_iff, beq_iff_eq, decide_eq_true_iff]
    constructor
    · intro h
      have := congrArg BitVec.toNat h
      simp only [BitVec.toNat_ofNat] at this
      omega
    · intro h; rw [h]
  rw [e, select_dec]
  rfl

end Cert.Kernel2Ideal.Gen

end
-- ==== Proof.Tail.Spec.lean ====
/- The rest of a layer over whole arrays: one row of the result from the arguments. -/
module

public import proofs.«01_k».proof.Proof.Tail.Row
public import Idealize.ShloMosaic.Lib.ValueIdxCore

@[expose] public section

noncomputable section

namespace Cert.Tail

open Idealize.ShloMosaic Idealize.ShloMosaic.ValueIdx

/-- An array of two axes. -/
abbrev Mat (a b : ℕ) := (⟨2, ![a, b]⟩ : Shape).Idx → EReal

variable (P : Mat 16384 768) (cp : (⟨3, ![4, 2, 256]⟩ : Shape).Idx → EReal)

/-- The convolution's gated input at a row. -/
def gin (n : Fin 16384) (k : Fin 256) : EReal := P (ix2 n ⟨256 + k.val, by omega⟩) * P (ix2 n ⟨512 + k.val, by omega⟩)

/-- The gated input one row before, the kept rows at a sequence's start. -/
def gin1 (n : Fin 16384) (k : Fin 256) : EReal :=
  if n.val % 4096 = 0 then cp (ix3 (⟨n.val / 4096, by omega⟩ : Fin 4) (1 : Fin 2) k) else gin P ⟨n.val - 1, by omega⟩ k

/-- The gated input two rows before. -/
def gin2 (n : Fin 16384) (k : Fin 256) : EReal :=
  if n.val % 4096 = 1 then cp (ix3 (⟨n.val / 4096, by omega⟩ : Fin 4) (1 : Fin 2) k)
  else if n.val % 4096 = 0 then cp (ix3 (⟨n.val / 4096, by omega⟩ : Fin 4) (0 : Fin 2) k) else gin P ⟨n.val - 2, by omega⟩ k

/-- The convolution's part of a row. -/
def cvRow (w : Mat 3 256) (n : Fin 16384) : Fin 256 → EReal :=
  conv (fun k => P (ix2 n ⟨k.val, by omega⟩)) (fun k => w (ix2 (0 : Fin 3) k)) (fun k => w (ix2 (1 : Fin 3) k)) (fun k => w (ix2 (2 : Fin 3) k)) (gin2 P cp n) (gin1 P cp n) (gin P n)

/-- The attention's part of a row. -/
def sbRow (o : (⟨4, ![4, 16, 512, 256]⟩ : Shape).Idx → EReal) (n : Fin 16384) (k : Fin 512) : EReal :=
  o (ix4 (⟨n.val / 4096, by omega⟩ : Fin 4) (⟨n.val % 4096 / 256, by omega⟩ : Fin 16) k (⟨n.val % 256, by omega⟩ : Fin 256))

/-- One element of the rest of a layer. -/
def out (x : Mat 16384 1024) (y bonus g : Mat 16384 256) (o : (⟨4, ![4, 16, 512, 256]⟩ : Shape).Idx → EReal) (p : (⟨3, ![2, 16384, 256]⟩ : Shape).Idx → EReal)
    (gw gb : (⟨1, ![256]⟩ : Shape).Idx → EReal) (w : Mat 3 256) (g1 g2 : (⟨1, ![1024]⟩ : Shape).Idx → EReal) (wo : Mat 1024 1024) (up : Mat 1024 4096) (down : Mat 4096 1024)
    (wg : Mat 1024 1024) (wp : Mat 256 1024) (n : Fin 16384) (c : Fin 1024) : EReal :=
  row (fun c => x (ix2 n c))
    (mixed (heads (fun k => y (ix2 n k)) (fun k => gw (ix1 k)) (fun k => gb (ix1 k)) (fun k => bonus (ix2 n k)) (fun k => g (ix2 n k))) (cvRow P cp w n) (sbRow o n))
    (fun k c => wo (ix2 k c)) (fun c => g1 (ix1 c)) (fun k f => up (ix2 k f)) (fun f c => down (ix2 f c)) (fun c => g2 (ix1 c)) (fun k c => wg (ix2 k c))
    (fun k => p (ix3 (0 : Fin 2) n k)) (fun k c => wp (ix2 k c)) c

end Cert.Tail

end
-- ==== Proof.Tail.Out.lean ====
/- The tail kernel's block of results from what its operands' blocks hold. -/
module

public import proofs.«01_k».proof.Proof.Tail.Host
public import proofs.«01_k».proof.Proof.Tail.Spec
public import Idealize.ShloMosaic.Lib.Pipeline.ValueKit

@[expose] public section

set_option maxRecDepth 16384
set_option backward.proofsInPublic true

noncomputable section

namespace Cert.Kernel2Ideal.Gen

open Idealize.ShloMosaic hiding ix1 ix2 ix3 ix4 ix5
open Idealize.ShloMosaic.ValueIdx Idealize.ShloMosaic.TcCoe Cert.Kernel2Ideal Cert.Tail

/-- A row of a block. -/
abbrev at512 (i : Fin 32) (r : Fin 512) : Fin 16384 := ⟨i.val * 512 + r.val, by omega⟩

/-- A column of the first part of the convolution's input. -/
abbrev colA (k : Fin 256) : Fin 768 := ⟨k.val, by omega⟩
/-- A column of the second part. -/
abbrev colB (k : Fin 256) : Fin 768 := ⟨256 + k.val, by omega⟩
/-- A column of the third part. -/
abbrev colC (k : Fin 256) : Fin 768 := ⟨512 + k.val, by omega⟩
/-- A row of the eight before a block. -/
abbrev before8 (i : Fin 32) (r : Fin 8) : Fin 16384 := ⟨i.val * 512 - 8 + r.val, by omega⟩
/-- The sequence of a block. -/
abbrev seqOf (i : Fin 32) : Fin 4 := ⟨i.val / 8, by omega⟩
/-- The place of a half block in its sequence. -/
abbrev halfOf (i : Fin 32) (s : Fin 2) : Fin 16 := ⟨2 * (i.val % 8) + s.val, by omega⟩

/-- A load of part of a matrix reads the matrix at the part's offset. -/
theorem ld2 {A B a b : ℕ} {e : EltTy} (X : (⟨2, ![A, B]⟩ : Shape).Idx → Elt Ideal e) (off : Fin 2 → ℕ) (inb : ∀ d, off d + (⟨2, ![a, b]⟩ : Shape).size d ≤ (⟨2, ![A, B]⟩ : Shape).size d)
    (r : Fin a) (c : Fin b) (hr : off 0 + r.val < A) (hc : off 1 + c.val < B) :
    View.ld X (Rect.unit (s := ⟨2, ![A, B]⟩) off (⟨2, ![a, b]⟩ : Shape).size inb) (ix2 r c) = X (ix2 (⟨off 0 + r.val, hr⟩ : Fin A) (⟨off 1 + c.val, hc⟩ : Fin B)) := by
  refine congrArg X (funext fun d => Fin.ext ?_)
  match d with
  | ⟨0, _⟩ => show off 0 + 1 * r.val = off 0 + r.val; omega
  | ⟨1, _⟩ => show off 1 + 1 * c.val = off 1 + c.val; omega

/-- A load of one half of the attention's block. -/
theorem ld_half (X : Vec Ideal S1x2x512x256 .f32) (h : Fin 2) (inb) (k : Fin 512) (t : Fin 256) :
    View.ld X (Rect.unit (s := S1x2x512x256) ![0, h.val, 0, 0] S1x1x512x256.size inb) (ix4 (0 : Fin 1) (0 : Fin 1) k t) = X (ix4 (0 : Fin 1) h k t) := by
  refine congrArg X (funext fun d => Fin.ext ?_)
  match d with
  | ⟨0, _⟩ => rfl
  | ⟨1, _⟩ => show h.val + 1 * 0 = h.val; omega
  | ⟨2, _⟩ => show 0 + 1 * k.val = k.val; omega
  | ⟨3, _⟩ => show 0 + 1 * t.val = t.val; omega

theorem ix4_congr {A B C D : ℕ} {a a' : Fin A} {b b' : Fin B} {c c' : Fin C} {d d' : Fin D} (ha : a.val = a'.val) (hb : b.val = b'.val) (hc : c.val = c'.val) (hd : d.val = d'.val) :
    ix4 a b c d = ix4 a' b' c' d' := by
  rw [Fin.ext ha, Fin.ext hb, Fin.ext hc, Fin.ext hd]

/-- The rest of a block once the projection is added: the feed-forward part and the gated embedding. -/
theorem rest_block (p : (⟨3, ![2, 16384, 256]⟩ : Shape).Idx → EReal) (g1 g2 : (⟨1, ![1024]⟩ : Shape).Idx → EReal) (up : Mat 1024 4096) (down : Mat 4096 1024) (wg : Mat 1024 1024) (wp : Mat 256 1024)
    (X : FVec Ideal S512x1024 .f32) (x17 : Vec Ideal S1x1024 .f32) (x18 : Vec Ideal S1024x4096 .bf16)
    (x19 : Vec Ideal S4096x1024 .bf16) (x20 : Vec Ideal S1x1024 .f32) (x21 : Vec Ideal S1024x1024 .bf16) (x22 : Vec Ideal S256x1024 .bf16) (x11 : Vec Ideal S1x512x256 .f32) (n : Fin 16384)
    (h17 : ∀ k, x17 (ix2 (0 : Fin 1) k) = g1 (ix1 k)) (h18 : ∀ (k : Fin 1024) (f : Fin 4096), x18 (ix2 k f) = up (ix2 k f)) (h19 : ∀ (f : Fin 4096) (k : Fin 1024), x19 (ix2 f k) = down (ix2 f k))
    (h20 : ∀ k, x20 (ix2 (0 : Fin 1) k) = g2 (ix1 k)) (h21 : ∀ k f : Fin 1024, x21 (ix2 k f) = wg (ix2 k f)) (h22 : ∀ (k : Fin 256) (f : Fin 1024), x22 (ix2 k f) = wp (ix2 k f))
    (r : Fin 512) (h11 : ∀ k, x11 (ix3 (0 : Fin 1) r k) = p (ix3 (0 : Fin 2) n k)) (R : Fin 1024 → EReal) (hX : ∀ c, X (ix2 r c) = R c) (c : Fin 1024) :
    k0_pay1 (F := Ideal) (k0_pay14 X (truncf .bf16 (rmsV X x17) bitsLt_bf16_f32) (hidV (truncf .bf16 (rmsV X x17) bitsLt_bf16_f32) (View.ld x18 r0_13)) (View.ld x19 r0_14) (View.ld x18 r0_15) (View.ld x19 r0_16)
        (View.ld x18 r0_17) (View.ld x19 r0_18) (View.ld x18 r0_19) (View.ld x19 r0_20)) x20 x21 x11 x22 (ix2 r c)
      = gated (mlp R (fun c => g1 (ix1 c)) (fun k f => up (ix2 k f)) (fun f c => down (ix2 f c))) (fun c => g2 (ix1 c)) (fun k c => wg (ix2 k c)) (fun k => p (ix3 (0 : Fin 2) n k)) (fun k c => wp (ix2 k c)) c := by
  have hup (o : ℕ) (ho : o + 1024 ≤ 4096) (inb) (k f : Fin 1024) :
      View.ld x18 (Rect.unit (s := S1024x4096) ![0, o] S1024x1024.size inb) (ix2 k f) = up (ix2 k ⟨o + f.val, by omega⟩) :=
    (ld2 x18 ![0, o] inb k f (by show 0 + k.val < 1024; omega) (by show o + f.val < 4096; omega)).trans ((h18 _ _).trans (congrArg (fun a => up (ix2 a _)) (Fin.ext (Nat.zero_add _))))
  have hdown (o : ℕ) (ho : o + 1024 ≤ 4096) (inb) (f k : Fin 1024) :
      View.ld x19 (Rect.unit (s := S4096x1024) ![o, 0] S1024x1024.size inb) (ix2 f k) = down (ix2 ⟨o + f.val, by omega⟩ k) :=
    (ld2 x19 ![o, 0] inb f k (by show o + f.val < 4096; omega) (by show 0 + k.val < 1024; omega)).trans ((h19 _ _).trans (congrArg (fun a => down (ix2 _ a)) (Fin.ext (Nat.zero_add _))))
  rw [pay1_apply]
  have hm : (fun c => k0_pay14 (F := Ideal) X (truncf .bf16 (rmsV X x17) bitsLt_bf16_f32) (hidV (truncf .bf16 (rmsV X x17) bitsLt_bf16_f32) (View.ld x18 r0_13)) (View.ld x19 r0_14) (View.ld x18 r0_15) (View.ld x19 r0_16)
        (View.ld x18 r0_17) (View.ld x19 r0_18) (View.ld x18 r0_19) (View.ld x19 r0_20) (ix2 r c)) = mlp R (fun c => g1 (ix1 c)) (fun k f => up (ix2 k f)) (fun f c => down (ix2 f c)) := funext fun c => by
    rw [mlp_apply X x17 _ _ _ _ _ _ _ _ (fun k f => up (ix2 k f)) (fun f c => down (ix2 f c))
      (fun k f => (hup 0 (by omega) _ k f).trans (congrArg (fun a => up (ix2 k a)) (Fin.ext (Nat.zero_add _)))) (hup 1024 (by omega) _) (hup 2048 (by omega) _) (hup 3072 (by omega) _)
      (fun f k => (hdown 0 (by omega) _ f k).trans (congrArg (fun a => down (ix2 a k)) (Fin.ext (Nat.zero_add _)))) (hdown 1024 (by omega) _) (hdown 2048 (by omega) _) (hdown 3072 (by omega) _) r c]
    simp only [hX, h17]
  rw [hm]
  simp only [h20, h21, h22, h11]

section block

variable (i : Fin 32) (x : Mat 16384 1024) (y bonus g : Mat 16384 256) (P : Mat 16384 768) (cp : (⟨3, ![4, 2, 256]⟩ : Shape).Idx → EReal)
  (o : (⟨4, ![4, 16, 512, 256]⟩ : Shape).Idx → EReal) (p : (⟨3, ![2, 16384, 256]⟩ : Shape).Idx → EReal)
  (gw gb : (⟨1, ![256]⟩ : Shape).Idx → EReal) (w : Mat 3 256) (g1 g2 : (⟨1, ![1024]⟩ : Shape).Idx → EReal) (wo : Mat 1024 1024) (up : Mat 1024 4096) (down : Mat 4096 1024)
  (wg : Mat 1024 1024) (wp : Mat 256 1024)
  (x5 x6 : Vec Ideal S512x256 .f32) (x7 x8 : Vec Ideal S8x256 .f32) (x9 : Vec Ideal S1x2x256 .f32)
  (h5 : ∀ r k, x5 (ix2 r k) = P (ix2 (at512 i r) (colB k))) (h6 : ∀ r k, x6 (ix2 r k) = P (ix2 (at512 i r) (colC k)))
  (h7 : ∀ (hi : i.val % 8 ≠ 0) (r : Fin 8) k, x7 (ix2 r k) = P (ix2 (before8 i r) (colB k)))
  (h8 : ∀ (hi : i.val % 8 ≠ 0) (r : Fin 8) k, x8 (ix2 r k) = P (ix2 (before8 i r) (colC k)))
  (h9 : ∀ s k, x9 (ix3 (0 : Fin 1) s k) = cp (ix3 (seqOf i) s k))

include h5 h6 in
theorem u_apply (r : Fin 512) (k : Fin 256) : k0_pay5 (F := Ideal) x5 x6 (ix2 r k) = gin P (at512 i r) k := by
  show x5 (ix2 r k) * x6 (ix2 r k) = _
  rw [h5, h6]
  rfl

include h7 h8 in
theorem halo_apply (hi : i.val % 8 ≠ 0) (r : Fin 8) (k : Fin 256) : k0_pay6 (F := Ideal) x7 x8 (ix2 r k) = gin P (before8 i r) k := by
  show x7 (ix2 r k) * x8 (ix2 r k) = _
  rw [h7 hi, h8 hi]
  rfl

include h5 h6 h7 h8 h9

theorem back1_eq (r : Fin 512) :
    back1 (firstBit (BitVec.ofNat 32 i.val)) (kept x9) (rows8 (k0_pay6 x7 x8)) (rows512 (k0_pay5 x5 x6)) r = gin1 P cp (at512 i r) := by
  funext k
  unfold back1 gin1
  rw [firstBit_eq, select_dec]
  have hb : (⟨(at512 i r).val / 4096, by omega⟩ : Fin 4) = ⟨i.val / 8, by omega⟩ := Fin.ext (by show (i.val * 512 + r.val) / 4096 = i.val / 8; omega)
  by_cases hr : r.val = 0
  · rw [if_pos hr]
    by_cases h : i.val % 8 = 0
    · rw [if_pos h, if_pos (by show (i.val * 512 + r.val) % 4096 = 0; omega), hb]
      exact h9 1 k
    · rw [if_neg h, if_neg (by show ¬ (i.val * 512 + r.val) % 4096 = 0; omega)]
      exact (halo_apply i P x7 x8 h7 h8 h 7 k).trans (congrArg (gin P · k) (Fin.ext (by show i.val * 512 - 8 + 7 = i.val * 512 + r.val - 1; omega)))
  · rw [if_neg hr, if_neg (by show ¬ (i.val * 512 + r.val) % 4096 = 0; omega)]
    exact (u_apply i P x5 x6 h5 h6 _ k).trans (congrArg (gin P · k) (Fin.ext (by show i.val * 512 + (r.val - 1) = i.val * 512 + r.val - 1; omega)))

theorem back2_eq (r : Fin 512) :
    back2 (firstBit (BitVec.ofNat 32 i.val)) (kept x9) (rows8 (k0_pay6 x7 x8)) (rows512 (k0_pay5 x5 x6)) r = gin2 P cp (at512 i r) := by
  funext k
  unfold back2 gin2
  rw [firstBit_eq, select_dec, select_dec]
  have hb : (⟨(at512 i r).val / 4096, by omega⟩ : Fin 4) = ⟨i.val / 8, by omega⟩ := Fin.ext (by show (i.val * 512 + r.val) / 4096 = i.val / 8; omega)
  by_cases hr : r.val = 1
  · rw [if_pos hr]
    by_cases h : i.val % 8 = 0
    · rw [if_pos h, if_pos (by show (i.val * 512 + r.val) % 4096 = 1; omega), hb]
      exact h9 1 k
    · rw [if_neg h, if_neg (by show ¬ (i.val * 512 + r.val) % 4096 = 1; omega), if_neg (by show ¬ (i.val * 512 + r.val) % 4096 = 0; omega)]
      exact (halo_apply i P x7 x8 h7 h8 h 7 k).trans (congrArg (gin P · k) (Fin.ext (by show i.val * 512 - 8 + 7 = i.val * 512 + r.val - 2; omega)))
  · have h1 : ¬ (at512 i r).val % 4096 = 1 := by show ¬ (i.val * 512 + r.val) % 4096 = 1; omega
    by_cases hz : r.val = 0
    · rw [if_neg hr, if_pos hz, if_neg h1]
      by_cases h : i.val % 8 = 0
      · rw [if_pos h, if_pos (by show (i.val * 512 + r.val) % 4096 = 0; omega), hb]
        exact h9 0 k
      · rw [if_neg h, if_neg (by show ¬ (i.val * 512 + r.val) % 4096 = 0; omega)]
        exact (halo_apply i P x7 x8 h7 h8 h 6 k).trans (congrArg (gin P · k) (Fin.ext (by show i.val * 512 - 8 + 6 = i.val * 512 + r.val - 2; omega)))
    · rw [if_neg hr, if_neg hz, if_neg h1, if_neg (by show ¬ (i.val * 512 + r.val) % 4096 = 0; omega)]
      exact (u_apply i P x5 x6 h5 h6 _ k).trans (congrArg (gin P · k) (Fin.ext (by show i.val * 512 + (r.val - 2) = i.val * 512 + r.val - 2; omega)))

/-- A block's results are the rows' of the whole. -/
theorem block_out (t : grid0.Coords) (ht : (t 0).val = i.val)
    (x0 : Vec Ideal S512x1024 .f32) (x1 x2 x3 x4 : Vec Ideal S512x256 .f32) (x10 : Vec Ideal S1x2x512x256 .f32) (x11 : Vec Ideal S1x512x256 .f32) (x12 x13 : Vec Ideal S1x256 .f32)
    (x14 : Vec Ideal S3x256 .f32) (x15 : Vec Ideal S256x256 .bf16) (x16 : Vec Ideal S1024x1024 .bf16) (x17 : Vec Ideal S1x1024 .f32) (x18 : Vec Ideal S1024x4096 .bf16)
    (x19 : Vec Ideal S4096x1024 .bf16) (x20 : Vec Ideal S1x1024 .f32) (x21 : Vec Ideal S1024x1024 .bf16) (x22 : Vec Ideal S256x1024 .bf16)
    (h0 : ∀ r k, x0 (ix2 r k) = x (ix2 (at512 i r) k)) (h1 : ∀ r k, x1 (ix2 r k) = y (ix2 (at512 i r) k)) (h2 : ∀ r k, x2 (ix2 r k) = bonus (ix2 (at512 i r) k))
    (h3 : ∀ r k, x3 (ix2 r k) = g (ix2 (at512 i r) k)) (h4 : ∀ (r : Fin 512) (k : Fin 256), x4 (ix2 r k) = P (ix2 (at512 i r) (colA k)))
    (h10 : ∀ (s : Fin 2) (k : Fin 512) (d : Fin 256), x10 (ix4 (0 : Fin 1) s k d) = o (ix4 (seqOf i) (halfOf i s) k d))
    (h11 : ∀ r k, x11 (ix3 (0 : Fin 1) r k) = p (ix3 (0 : Fin 2) (at512 i r) k)) (h12 : ∀ k, x12 (ix2 (0 : Fin 1) k) = gw (ix1 k)) (h13 : ∀ k, x13 (ix2 (0 : Fin 1) k) = gb (ix1 k))
    (h14 : ∀ (s : Fin 3) (k : Fin 256), x14 (ix2 s k) = w (ix2 s k)) (h15 : ∀ j k : Fin 256, x15 (ix2 j k) = ones j k) (h16 : ∀ k f : Fin 1024, x16 (ix2 k f) = wo (ix2 k f))
    (h17 : ∀ k, x17 (ix2 (0 : Fin 1) k) = g1 (ix1 k)) (h18 : ∀ (k : Fin 1024) (f : Fin 4096), x18 (ix2 k f) = up (ix2 k f)) (h19 : ∀ (f : Fin 4096) (k : Fin 1024), x19 (ix2 f k) = down (ix2 f k))
    (h20 : ∀ k, x20 (ix2 (0 : Fin 1) k) = g2 (ix1 k)) (h21 : ∀ k f : Fin 1024, x21 (ix2 k f) = wg (ix2 k f)) (h22 : ∀ (k : Fin 256) (f : Fin 1024), x22 (ix2 k f) = wp (ix2 k f))
    (r : Fin 512) (hy : ∃ v : Fin 256 → ℝ, (fun j => y (ix2 (at512 i r) j)) = fun j => (v j : EReal)) (c : Fin 1024) :
    out0_23 (F := Ideal) t x0 x1 x2 x3 x4 x5 x6 x7 x8 x9 x10 x11 x12 x13 x14 x15 x16 x17 x18 x19 x20 x21 x22 (ix2 r c)
      = out P cp x y bonus g o p gw gb w g1 g2 wo up down wg wp (at512 i r) c := by
  have hy1 : (fun j => x1 (ix2 r j)) = fun j => y (ix2 (at512 i r) j) := funext fun j => h1 r j
  unfold out0_23 k0_pay15
  simp (disch := decide) only [View.canon_cons_unit_lit', View.ld_unit_lit']
  rw [ht]
  rw [pay12_eq, pay13_eq]
  refine rest_block p g1 g2 up down wg wp _ x17 x18 x19 x20 x21 x22 x11 (at512 i r) h17 h18 h19 h20 h21 h22 r (h11 r) _ (fun c => ?_) c
  rw [pay11_apply, dot_mixed, h0]
  refine congrArg (_ + ·) (congr (congrArg _ ?_) ?_)
  · refine (pay10_apply (BitVec.ofNat 32 i.val) (k0_pay4 (k0_pay2 x1 x15 x15 x12) (k0_pay3 x13) x2 x3) x14 x5 x6 x7 x8 x9 x4 (View.ld x16 r0_6) (View.ld x16 r0_7) r c).trans ?_
    refine congr (congrArg _ (Finset.sum_congr rfl fun k _ => congrArg₂ (· * ·) ?_ ?_)) (Finset.sum_congr rfl fun k _ => congrArg₂ (· * ·) ?_ ?_)
    · rw [pay4_apply, pay2_apply x1 x15 x15 x12 h15 h15 r (by rw [hy1]; exact hy) k, hy1, h12, h13, h2, h3]
      rfl
    · exact (ld2 x16 ![0, 0] inb_S1024x1024_S256x1024_0_0 k c (by show 0 + k.val < 1024; omega) (by show 0 + c.val < 1024; omega)).trans
        ((h16 _ _).trans (congrArg₂ (fun a b => wo (ix2 a b)) (Fin.ext (Nat.zero_add _)) (Fin.ext (Nat.zero_add _))))
    · rw [back1_eq i P cp x5 x6 x7 x8 x9 h5 h6 h7 h8 h9 r, back2_eq i P cp x5 x6 x7 x8 x9 h5 h6 h7 h8 h9 r]
      unfold cvRow conv
      simp only [h4, h14, u_apply i P x5 x6 h5 h6 r k]
    · exact (ld2 x16 ![256, 0] inb_S1024x1024_S256x1024_256_0 k c (by show 256 + k.val < 1024; omega) (by show 0 + c.val < 1024; omega)).trans
        ((h16 _ _).trans (congrArg (fun b => wo (ix2 _ b)) (Fin.ext (Nat.zero_add _))))
  · refine Finset.sum_congr rfl fun k _ => congrArg₂ (· * ·) ?_ ?_
    · unfold attn sbRow
      by_cases h : r.val < 256
      · rw [dif_pos h]
        refine (ld_half x10 0 inb_S1x2x512x256_S1x1x512x256_0_0_0_0 k _).trans ((h10 0 k _).trans (congrArg o ?_))
        exact ix4_congr (by show i.val / 8 = (i.val * 512 + r.val) / 4096; omega) (by show 2 * (i.val % 8) + 0 = (i.val * 512 + r.val) % 4096 / 256; omega) rfl
          (by show r.val = (i.val * 512 + r.val) % 256; omega)
      · rw [dif_neg h]
        refine (ld_half x10 1 inb_S1x2x512x256_S1x1x512x256_0_1_0_0 k _).trans ((h10 1 k _).trans (congrArg o ?_))
        exact ix4_congr (by show i.val / 8 = (i.val * 512 + r.val) / 4096; omega) (by show 2 * (i.val % 8) + 1 = (i.val * 512 + r.val) % 4096 / 256; omega) rfl
          (by show r.val - 256 = (i.val * 512 + r.val) % 256; omega)
    · exact (ld2 x16 ![512, 0] inb_S1024x1024_S512x1024_512_0 k c (by show 512 + k.val < 1024; omega) (by show 0 + c.val < 1024; omega)).trans
        ((h16 _ _).trans (congrArg (fun b => wo (ix2 _ b)) (Fin.ext (Nat.zero_add _))))

end block

end Cert.Kernel2Ideal.Gen

end
-- ==== Proof.Tail.Final.lean ====
/- The tail kernel's result over the whole arrays: every block is read from the arguments, and the blocks cover the result. -/
module

public import proofs.«01_k».proof.Proof.Tail.Host
public import proofs.«01_k».proof.Proof.Tail.Out
public import proofs.«01_k».proof.Proof.Gen.Kernel2Ideal.Value
public import Idealize.ShloMosaic.Lib.Pipeline.ValueKit

@[expose] public section

set_option maxRecDepth 16384

noncomputable section

namespace Cert.Kernel2Ideal.Gen

open Idealize.ShloMosaic hiding ix1 ix2 ix3 ix4 ix5
open Idealize.ShloMosaic.ValueIdx Idealize.ShloMosaic.TcCoe Cert.Kernel2Ideal Cert.Tail

/-- A place of a two-axis array from its block's position and its place in the block. -/
theorem at2 {A B a b p q : ℕ} (I : Fin 2 → ℕ) (hI : I = ![p, q]) (e : (⟨2, ![A, B]⟩ : Shape).Idx) (r : Fin a) (k : Fin b)
    (h0 : (e 0).val = I 0 * a + 1 * r.val) (h1 : (e 1).val = I 1 * b + 1 * k.val) (u : Fin A) (v : Fin B) (hu : p * a + r.val = u.val) (hv : q * b + k.val = v.val) :
    e = ix2 u v := by
  subst hI
  funext ax
  match ax with
  | ⟨0, _⟩ => exact Fin.ext (h0.trans ((by rw [Nat.one_mul]; rfl : _ = p * a + r.val).trans hu))
  | ⟨1, _⟩ => exact Fin.ext (h1.trans ((by rw [Nat.one_mul]; rfl : _ = q * b + k.val).trans hv))

/-- The same of three axes. -/
theorem at3 {A B C a b d p q s : ℕ} (I : Fin 3 → ℕ) (hI : I = ![p, q, s]) (e : (⟨3, ![A, B, C]⟩ : Shape).Idx) (r : Fin a) (k : Fin b) (l : Fin d)
    (h0 : (e 0).val = I 0 * a + 1 * r.val) (h1 : (e 1).val = I 1 * b + 1 * k.val) (h2 : (e 2).val = I 2 * d + 1 * l.val) (u : Fin A) (v : Fin B) (w : Fin C)
    (hu : p * a + r.val = u.val) (hv : q * b + k.val = v.val) (hw : s * d + l.val = w.val) : e = ix3 u v w := by
  subst hI
  funext ax
  match ax with
  | ⟨0, _⟩ => exact Fin.ext (h0.trans ((by rw [Nat.one_mul]; rfl : _ = p * a + r.val).trans hu))
  | ⟨1, _⟩ => exact Fin.ext (h1.trans ((by rw [Nat.one_mul]; rfl : _ = q * b + k.val).trans hv))
  | ⟨2, _⟩ => exact Fin.ext (h2.trans ((by rw [Nat.one_mul]; rfl : _ = s * d + l.val).trans hw))

/-- Where each window's block lies at a grid point. -/
theorem idx_rows : ∀ t : Fin cfg0.N, win0_0.index t = ![(grid0.coords t 0).val, 0] ∧ win0_1.index t = ![(grid0.coords t 0).val, 0] ∧ win0_2.index t = ![(grid0.coords t 0).val, 0]
      ∧ win0_3.index t = ![(grid0.coords t 0).val, 0] ∧ win0_4.index t = ![(grid0.coords t 0).val, 0] ∧ win0_5.index t = ![(grid0.coords t 0).val, 1]
      ∧ win0_6.index t = ![(grid0.coords t 0).val, 2] ∧ win0_23.index t = ![(grid0.coords t 0).val, 0] :=
  (by decide +kernel : ∀ t : Fin grid0.N, _)

theorem idx_before : ∀ t : Fin cfg0.N, win0_7.index t = ![(grid0.coords t 0).val * 64 - 1, 1] ∧ win0_8.index t = ![(grid0.coords t 0).val * 64 - 1, 2] :=
  (by decide +kernel : ∀ t : Fin grid0.N, _)

theorem idx_seq : ∀ t : Fin cfg0.N, win0_9.index t = ![(grid0.coords t 0).val / 8, 0, 0] ∧ win0_10.index t = ![(grid0.coords t 0).val / 8, (grid0.coords t 0).val % 8, 0, 0]
      ∧ win0_11.index t = ![0, (grid0.coords t 0).val, 0] :=
  (by decide +kernel : ∀ t : Fin grid0.N, _)

theorem idx_whole : ∀ t : Fin cfg0.N, win0_12.index t = ![0, 0] ∧ win0_13.index t = ![0, 0] ∧ win0_14.index t = ![0, 0] ∧ win0_15.index t = ![0, 0] ∧ win0_16.index t = ![0, 0]
      ∧ win0_17.index t = ![0, 0] ∧ win0_18.index t = ![0, 0] ∧ win0_19.index t = ![0, 0] ∧ win0_20.index t = ![0, 0] ∧ win0_21.index t = ![0, 0] ∧ win0_22.index t = ![0, 0] :=
  (by decide +kernel : ∀ t : Fin grid0.N, _)

variable (m : (ℓ : Loc nD τ sig) → Buf (Elt Ideal) ℓ) (c : Dev nD)

/-- The result's array by rows and columns, from the arguments. -/
def outV (n : Fin 16384) (k : Fin 1024) : EReal :=
  out (m ((c : Thread nD τ).loc main_arg4)) (m ((c : Thread nD τ).loc main_arg5)) (m ((c : Thread nD τ).loc main_arg0)) (m ((c : Thread nD τ).loc main_arg1)) (m ((c : Thread nD τ).loc main_arg2))
    (m ((c : Thread nD τ).loc main_arg3)) (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17)) n k

variable (t : Fin cfg0.N)

set_option maxHeartbeats 2000000 in
/-- What a grid point leaves in the result's block. -/
theorem block_at (i : Fin 32) (hi : (grid0.coords t 0).val = i.val)
    (hy : ∀ n : Fin 16384, ∃ v : Fin 256 → ℝ, (fun j => (m ((c : Thread nD τ).loc main_arg1) : Mat 16384 256) (ix2 n j)) = fun j => (v j : EReal)) (r : Fin 512) (k : Fin 1024) :
    (dats m 0 c).after 23 t (ix2 r k) = outV m c (at512 i r) k := by
  obtain ⟨e0, e1, e2, e3, e4, e5, e6, -⟩ := idx_rows t
  obtain ⟨e7, e8⟩ := idx_before t
  obtain ⟨e9, e10, e11⟩ := idx_seq t
  obtain ⟨e12, e13, e14, e15, e16, e17, e18, e19, e20, e21, e22⟩ := idx_whole t
  rw [hi] at e0 e1 e2 e3 e4 e5 e6 e7 e8 e9 e10 e11
  rw [after0_23]
  unfold outV
  refine block_out i _ _ _ _ _ _ _ _ _ _ _ _ _ _ _ _ _ _ (iblk m c 5 t) (iblk m c 6 t) (iblk m c 7 t) (iblk m c 8 t) (iblk m c 9 t) ?_ ?_ ?_ ?_ ?_
    (grid0.coords t) hi _ _ _ _ _ _ _ _ _ _ _ _ _ _ _ _ _ _ ?_ ?_ ?_ ?_ ?_ ?_ ?_ ?_ ?_ ?_ ?_ ?_ ?_ ?_ ?_ ?_ ?_ ?_ r (hy _) k
  · exact fun r k => (congrArg (V m c main_arg4) (at2 _ e5 _ r k rfl rfl (at512 i r) (colB k) rfl (by show 1 * 256 + k.val = 256 + k.val; omega))).trans (congrFun (V_main_arg4 m c) _)
  · exact fun r k => (congrArg (V m c main_arg4) (at2 _ e6 _ r k rfl rfl (at512 i r) (colC k) rfl (by show 2 * 256 + k.val = 512 + k.val; omega))).trans (congrFun (V_main_arg4 m c) _)
  · exact fun h r k => (congrArg (V m c main_arg4) (at2 _ e7 _ r k rfl rfl (before8 i r) (colB k)
      (by show (i.val * 64 - 1) * 8 + r.val = i.val * 512 - 8 + r.val; omega) (by show 1 * 256 + k.val = 256 + k.val; omega))).trans (congrFun (V_main_arg4 m c) _)
  · exact fun h r k => (congrArg (V m c main_arg4) (at2 _ e8 _ r k rfl rfl (before8 i r) (colC k)
      (by show (i.val * 64 - 1) * 8 + r.val = i.val * 512 - 8 + r.val; omega) (by show 2 * 256 + k.val = 512 + k.val; omega))).trans (congrFun (V_main_arg4 m c) _)
  · exact fun s k => (congrArg (V m c main_arg5) (at3 _ e9 _ (0 : Fin 1) s k rfl rfl rfl (seqOf i) s k
      (by show i.val / 8 * 1 + 0 = i.val / 8; omega) (by omega) (by omega))).trans (congrFun (V_main_arg5 m c) _)
  · exact fun r k => (congrArg (V m c main_arg0) (at2 _ e0 _ r k rfl rfl (at512 i r) k rfl (by omega))).trans (congrFun (V_main_arg0 m c) _)
  · exact fun r k => (congrArg (V m c main_arg1) (at2 _ e1 _ r k rfl rfl (at512 i r) k rfl (by omega))).trans (congrFun (V_main_arg1 m c) _)
  · exact fun r k => (congrArg (V m c main_arg2) (at2 _ e2 _ r k rfl rfl (at512 i r) k rfl (by omega))).trans (congrFun (V_main_arg2 m c) _)
  · exact fun r k => (congrArg (V m c main_arg3) (at2 _ e3 _ r k rfl rfl (at512 i r) k rfl (by omega))).trans (congrFun (V_main_arg3 m c) _)
  · exact fun r k => (congrArg (V m c main_arg4) (at2 _ e4 _ r k rfl rfl (at512 i r) (colA k) rfl (by show 0 * 256 + k.val = k.val; omega))).trans (congrFun (V_main_arg4 m c) _)
  · intro s k d
    refine (congrArg (V m c main_arg6) (funext fun ax => Fin.ext ?_)).trans (congrFun (V_main_arg6 m c) _)
    match ax with
    | ⟨0, _⟩ => exact (congrArg (· * 1 + 1 * 0) (congrFun e10 0)).trans (by show i.val / 8 * 1 + 1 * 0 = i.val / 8; omega)
    | ⟨1, _⟩ => exact (congrArg (· * 2 + 1 * s.val) (congrFun e10 1)).trans (by show i.val % 8 * 2 + 1 * s.val = 2 * (i.val % 8) + s.val; omega)
    | ⟨2, _⟩ => exact (congrArg (· * 512 + 1 * k.val) (congrFun e10 2)).trans (by show 0 * 512 + 1 * k.val = k.val; omega)
    | ⟨3, _⟩ => exact (congrArg (· * 256 + 1 * d.val) (congrFun e10 3)).trans (by show 0 * 256 + 1 * d.val = d.val; omega)
  · exact fun r k => (congrArg (V m c main_arg7) (at3 _ e11 _ (0 : Fin 1) r k rfl rfl rfl (0 : Fin 2) (at512 i r) k rfl rfl (by omega))).trans (congrFun (V_main_arg7 m c) _)
  · exact fun k => (congrArg (V m c main_v14) (at2 _ e12 _ (0 : Fin 1) k rfl rfl (0 : Fin 1) k rfl (by omega))).trans (V_gnw m c k)
  · exact fun k => (congrArg (V m c main_v15) (at2 _ e13 _ (0 : Fin 1) k rfl rfl (0 : Fin 1) k rfl (by omega))).trans (V_gnb m c k)
  · exact fun s k => (congrArg (V m c main_arg10) (at2 _ e14 _ s k rfl rfl s k (by omega) (by omega))).trans (congrFun (V_main_arg10 m c) _)
  · exact fun j k => (congrArg (V m c main_v13) (at2 _ e15 _ j k rfl rfl j k (by omega) (by omega))).trans (V_ones m c j k)
  · exact fun j k => (congrArg (V m c main_v0) (at2 _ e16 _ j k rfl rfl j k (by omega) (by omega))).trans (V_wo m c j k)
  · exact fun k => (congrArg (V m c main_v16) (at2 _ e17 _ (0 : Fin 1) k rfl rfl (0 : Fin 1) k rfl (by omega))).trans (V_g1 m c k)
  · exact fun j k => (congrArg (V m c main_v1) (at2 _ e18 _ j k rfl rfl j k (by omega) (by omega))).trans (V_up m c j k)
  · exact fun j k => (congrArg (V m c main_v2) (at2 _ e19 _ j k rfl rfl j k (by omega) (by omega))).trans (V_down m c j k)
  · exact fun k => (congrArg (V m c main_v17) (at2 _ e20 _ (0 : Fin 1) k rfl rfl (0 : Fin 1) k rfl (by omega))).trans (V_g2 m c k)
  · exact fun j k => (congrArg (V m c main_v3) (at2 _ e21 _ j k rfl rfl j k (by omega) (by omega))).trans (V_gate m c j k)
  · exact fun j k => (congrArg (V m c main_v4) (at2 _ e22 _ j k rfl rfl j k (by omega) (by omega))).trans (V_proj m c j k)

/-- The result's array after the run. -/
theorem arr_out (hy : ∀ n : Fin 16384, ∃ v : Fin 256 → ℝ, (fun j => (m ((c : Thread nD τ).loc main_arg1) : Mat 16384 256) (ix2 n j)) = fun j => (v j : EReal)) :
    (dats m 0 c).arrAt 23 cfg0.N = (fun y => outV m c (y 0) (y 1) : Mat 16384 1024) :=
  (dats m 0 c).arrAt_eq_of_covers 23 _ (by decide +kernel) fun t _ y => by
    have hi : (grid0.coords t 0).val < 32 := (grid0.coords t 0).isLt
    have hyy : ∃ (r : Fin 512) (k : Fin 1024), y = ix2 r k := ⟨y 0, y 1, funext fun a => by match a with | ⟨0, _⟩ => rfl | ⟨1, _⟩ => rfl⟩
    obtain ⟨r, k, rfl⟩ := hyy
    refine (block_at m c t ⟨_, hi⟩ rfl hy r k).trans ?_
    exact (congrArg (fun y : (⟨2, ![16384, 1024]⟩ : Shape).Idx => outV m c (y 0) (y 1))
      (at2 _ (idx_rows t).2.2.2.2.2.2.2 _ r k rfl rfl (at512 ⟨_, hi⟩ r) k rfl (by omega) :
        (((cfg0.win 23).blk t).view.emb (ix2 r k) : (⟨2, ![16384, 1024]⟩ : Shape).Idx) = ix2 (at512 ⟨_, hi⟩ r) k)).symm

end Cert.Kernel2Ideal.Gen

end
-- ==== Proof.Tail.Ref.lean ====
/- The tail reference's result, element by element. -/
module

public import proofs.«01_k».proof.Proof.Tail.Spec
public import proofs.«01_k».proof.Proof.Gen.Reference2Ideal.Read
public import Idealize.ShloMosaic.Lib.Pipeline.Value

@[expose] public section

set_option maxRecDepth 16384
set_option backward.proofsInPublic true

noncomputable section

namespace Cert.Reference2Ideal.Gen

open Idealize.ShloMosaic Idealize.ShloMosaic.ValueIdx Cert.Reference2Ideal Cert.Tail Cert.Reference2Ideal.Read

theorem eq_ix1 {A : ℕ} (i : (⟨1, ![A]⟩ : Shape).Idx) (a : Fin A) (h0 : (i 0).val = a.val) : i = ix1 a :=
  funext fun ax => by match ax with | ⟨0, _⟩ => exact Fin.ext h0

theorem eq_ix2 {A B : ℕ} (i : (⟨2, ![A, B]⟩ : Shape).Idx) (a : Fin A) (b : Fin B) (h0 : (i 0).val = a.val) (h1 : (i 1).val = b.val) : i = ix2 a b :=
  funext fun ax => by match ax with | ⟨0, _⟩ => exact Fin.ext h0 | ⟨1, _⟩ => exact Fin.ext h1

theorem eq_ix3 {A B C : ℕ} (i : (⟨3, ![A, B, C]⟩ : Shape).Idx) (a : Fin A) (b : Fin B) (c : Fin C) (h0 : (i 0).val = a.val) (h1 : (i 1).val = b.val) (h2 : (i 2).val = c.val) :
    i = ix3 a b c :=
  funext fun ax => by match ax with | ⟨0, _⟩ => exact Fin.ext h0 | ⟨1, _⟩ => exact Fin.ext h1 | ⟨2, _⟩ => exact Fin.ext h2

theorem eq_ix4 {A B C D : ℕ} (i : (⟨4, ![A, B, C, D]⟩ : Shape).Idx) (a : Fin A) (b : Fin B) (c : Fin C) (d : Fin D) (h0 : (i 0).val = a.val) (h1 : (i 1).val = b.val)
    (h2 : (i 2).val = c.val) (h3 : (i 3).val = d.val) : i = ix4 a b c d :=
  funext fun ax => by match ax with | ⟨0, _⟩ => exact Fin.ext h0 | ⟨1, _⟩ => exact Fin.ext h1 | ⟨2, _⟩ => exact Fin.ext h2 | ⟨3, _⟩ => exact Fin.ext h3

theorem word_zero : Ideal.ofBits .f32 0x00000000#32 = 0 := by simp [Ideal.ofBits, Ideal.ieee]

theorem word_one : Ideal.ofBits .f32 0x3F800000#32 = 1 := by
  simp [Ideal.ofBits, Ideal.ieee]
  rw [← EReal.coe_mul]
  norm_num

/-! ### The normalised heads -/

section heads
variable (x1 x2 x3 : Mat 16384 256) (x8 x9 : (⟨1, ![256]⟩ : Shape).Idx → EReal) (n : Fin 16384) (k : Fin 256)

/-- The head of a column. -/
abbrev hd (k : Fin 256) : Fin 4 := ⟨k.val / 64, by omega⟩

theorem headMean_lane (y : Fin 256 → EReal) (e : Fin 64) : headMean y (lane k e) = headMean y k := by
  unfold headMean
  exact congrArg (Ideal.div · _) (Finset.sum_congr rfl fun e' _ => congrArg y (Fin.ext (by show (k.val / 64 * 64 + e.val) / 64 * 64 + e'.val = k.val / 64 * 64 + e'.val; omega)))

theorem v0_at (e : Fin 64) : val_main_v0 (F := Ideal) x1 (ix3 n (hd k) e) = x1 (ix2 n (lane k e)) := by
  rw [val_main_v0_apply]
  exact (congrArg x1 (eq_ix2 _ _ _ (by show ((n.val * 4 + k.val / 64) * 64 + e.val) / 256 = n.val; omega)
    (by show ((n.val * 4 + k.val / 64) * 64 + e.val) % 256 = k.val / 64 * 64 + e.val; omega)))

theorem v4_at (i : S16384x4x1.Idx) (h0 : (i 0).val = n.val) (h1 : (i 1).val = k.val / 64) : val_main_v4 (F := Ideal) x1 i = headMean (fun j => x1 (ix2 n j)) k := by
  rw [val_main_v4_apply, val_main_v2_apply, val_main_v1_apply, val_main_v3_apply]
  refine congrArg (Ideal.div · (Ideal.ofBits .f32 0x42800000#32)) (((congrArg (· + _) word_zero).trans (zero_add _)).trans ?_)
  exact Finset.sum_congr rfl fun e _ => (congrArg (val_main_v0 (F := Ideal) x1) (eq_ix3 _ n (hd k) e h0 h1 rfl)).trans (v0_at x1 n k e)

theorem v6_at (e : Fin 64) : val_main_v6 (F := Ideal) x1 (ix3 n (hd k) e) = dev (fun j => x1 (ix2 n j)) (lane k e) := by
  rw [val_main_v6_apply, val_main_v5_apply, v0_at, v4_at x1 n k _ rfl rfl]
  unfold dev
  rw [headMean_lane]
  rfl

theorem v11_at (i : S16384x4x1.Idx) (h0 : (i 0).val = n.val) (h1 : (i 1).val = k.val / 64) :
    val_main_v11 (F := Ideal) x1 i = headMean (fun j => dev (fun j => x1 (ix2 n j)) j * dev (fun j => x1 (ix2 n j)) j) k := by
  rw [val_main_v11_apply, val_main_v9_apply, val_main_v8_apply, val_main_v10_apply]
  refine congrArg (Ideal.div · (Ideal.ofBits .f32 0x42800000#32)) (((congrArg (· + _) word_zero).trans (zero_add _)).trans ?_)
  refine Finset.sum_congr rfl fun e _ => (congrArg (val_main_v7 (F := Ideal) x1) (eq_ix3 _ n (hd k) e h0 h1 rfl)).trans ?_
  rw [val_main_v7_apply, v6_at]
  rfl

theorem v19_at : val_main_v19 (F := Ideal) x1 (ix2 n k) = normed (fun j => x1 (ix2 n j)) k := by
  have hl : lane k (⟨k.val % 64, by omega⟩ : Fin 64) = k := Fin.ext (by show k.val / 64 * 64 + k.val % 64 = k.val; omega)
  rw [val_main_v19_apply, eq_ix3 (idx_main_v19 (ix2 n k)) n (hd k) ⟨k.val % 64, by omega⟩ (by show (n.val * 256 + k.val) / 256 = n.val; omega)
    (by show (n.val * 256 + k.val) / 64 % 4 = k.val / 64; omega) (by show (n.val * 256 + k.val) % 64 = k.val % 64; omega)]
  rw [val_main_v18_apply, val_main_v13_apply, val_main_v12_apply, v0_at, v4_at x1 n k _ rfl rfl, val_main_v17_apply, val_main_v16_apply, val_main_v15_apply, v11_at x1 n k _ rfl rfl,
    val_main_v14_apply, hl]
  rfl

theorem v27_at : val_main_v27 (F := Ideal) x1 x2 x3 x8 x9 (ix2 n k)
    = heads (fun j => x1 (ix2 n j)) (fun j => x8 (ix1 j)) (fun j => x9 (ix1 j)) (fun j => x2 (ix2 n j)) (fun j => x3 (ix2 n j)) k := by
  rw [val_main_v27_apply, val_main_v26_apply, val_main_v25_apply, val_main_v22_apply, v19_at, val_main_v21_apply, val_main_v20_apply, val_main_v24_apply, val_main_v23_apply,
    eq_ix1 (idx_main_v20 _) k rfl, eq_ix1 (idx_main_v23 _) k rfl]
  rfl

end heads

/-! ### The short convolution -/

section conv
variable (x4 : Mat 16384 768) (x5 : (⟨3, ![4, 2, 256]⟩ : Shape).Idx → EReal) (x10 : Mat 3 256) (n : Fin 16384) (k : Fin 256)

/-- The sequence of a row. -/
abbrev sq (n : Fin 16384) : Fin 4 := ⟨n.val / 4096, by omega⟩
/-- The place of a row in its sequence. -/
abbrev pl (n : Fin 16384) : Fin 4096 := ⟨n.val % 4096, by omega⟩

theorem v28_at (o : Fin 768) : val_main_v28 (F := Ideal) x4 (ix3 (sq n) (pl n) o) = x4 (ix2 n o) := by
  rw [val_main_v28_apply]
  exact (congrArg x4 (eq_ix2 _ _ _ (by show ((n.val / 4096 * 4096 + n.val % 4096) * 768 + o.val) / 768 = n.val; omega)
    (by show ((n.val / 4096 * 4096 + n.val % 4096) * 768 + o.val) % 768 = o.val; omega)))

theorem v29_at : val_main_v29 (F := Ideal) x4 (ix3 (sq n) (pl n) k) = x4 (ix2 n ⟨k.val, by omega⟩) := by
  rw [val_main_v29_apply, eq_ix3 (idx_main_v29 _) (sq n) (pl n) ⟨k.val, by omega⟩ rfl rfl rfl, v28_at]

theorem v32_at : val_main_v32 (F := Ideal) x4 (ix3 (sq n) (pl n) k) = gin x4 n k := by
  rw [val_main_v32_apply, val_main_v30_apply, val_main_v31_apply, eq_ix3 (idx_main_v30 _) (sq n) (pl n) ⟨256 + k.val, by omega⟩ rfl rfl rfl,
    eq_ix3 (idx_main_v31 _) (sq n) (pl n) ⟨512 + k.val, by omega⟩ rfl rfl rfl, v28_at, v28_at]
  rfl

/-- The two kept rows before a sequence. -/
theorem v33_kept (b : Fin 4) (s : Fin 2) (i : S4x4098x256.Idx) (h0 : (i 0).val = b.val) (h1 : (i 1).val = s.val) (h2 : (i 2).val = k.val) :
    val_main_v33 (F := Ideal) x4 x5 i = x5 (ix3 b s k) := by
  unfold val_main_v33
  refine concatenate_apply_piece _ _ _ i 0 (by simp) S4x2x256 x5 rfl rfl 0 rfl (ix3 b s k) (fun a h => ?_) (by show 0 + s.val = (i 1).val; omega)
  match a with
  | ⟨0, _⟩ => exact h0.symm
  | ⟨1, _⟩ => exact absurd rfl h
  | ⟨2, _⟩ => exact h2.symm

/-- A sequence's own rows after the kept two. -/
theorem v33_own (i : S4x4098x256.Idx) (h0 : (i 0).val = n.val / 4096) (h1 : (i 1).val = 2 + n.val % 4096) (h2 : (i 2).val = k.val) :
    val_main_v33 (F := Ideal) x4 x5 i = gin x4 n k := by
  unfold val_main_v33
  refine (concatenate_apply_piece _ _ _ i 1 (by simp) S4x4096x256 (val_main_v32 (F := Ideal) x4) rfl rfl 2 rfl (ix3 (sq n) (pl n) k) (fun a h => ?_)
    (by show 2 + n.val % 4096 = (i 1).val; omega)).trans (v32_at x4 n k)
  match a with
  | ⟨0, _⟩ => exact h0.symm
  | ⟨1, _⟩ => exact absurd rfl h
  | ⟨2, _⟩ => exact h2.symm

theorem v36_at : val_main_v36 (F := Ideal) x4 x5 (ix3 (sq n) (pl n) k) = gin2 x4 x5 n k := by
  rw [val_main_v36_apply]
  unfold gin2
  by_cases h1 : n.val % 4096 = 1
  · rw [if_pos h1]; exact v33_kept x4 x5 k _ _ _ rfl h1 rfl
  · rw [if_neg h1]
    by_cases hz : n.val % 4096 = 0
    · rw [if_pos hz]; exact v33_kept x4 x5 k _ _ _ rfl hz rfl
    · rw [if_neg hz]
      exact v33_own x4 x5 ⟨n.val - 2, by omega⟩ k _ (by show n.val / 4096 = (n.val - 2) / 4096; omega) (by show n.val % 4096 = 2 + (n.val - 2) % 4096; omega) rfl

theorem v42_at : val_main_v42 (F := Ideal) x4 x5 (ix3 (sq n) (pl n) k) = gin1 x4 x5 n k := by
  rw [val_main_v42_apply]
  unfold gin1
  by_cases hz : n.val % 4096 = 0
  · rw [if_pos hz]; exact v33_kept x4 x5 k _ _ _ rfl (by show 1 + n.val % 4096 = 1; omega) rfl
  · rw [if_neg hz]
    exact v33_own x4 x5 ⟨n.val - 1, by omega⟩ k _ (by show n.val / 4096 = (n.val - 1) / 4096; omega) (by show 1 + n.val % 4096 = 2 + (n.val - 1) % 4096; omega) rfl

theorem v49_at : val_main_v49 (F := Ideal) x4 x5 (ix3 (sq n) (pl n) k) = gin x4 n k := by
  rw [val_main_v49_apply]
  exact v33_own x4 x5 n k _ rfl rfl rfl

theorem v55_at : val_main_v55 (F := Ideal) x4 x5 x10 (ix2 n k) = cvRow x4 x5 x10 n k := by
  have hk : k.val % 256 = k.val := by omega
  rw [val_main_v55_apply, eq_ix3 (idx_main_v55 (ix2 n k)) (sq n) (pl n) k (by show (n.val * 256 + k.val) / 1048576 = n.val / 4096; omega)
    (by show (n.val * 256 + k.val) / 256 % 4096 = n.val % 4096; omega) (by show (n.val * 256 + k.val) % 256 = k.val; omega)]
  rw [val_main_v54_apply, val_main_v53_apply, val_main_v46_apply, val_main_v39_apply, val_main_v45_apply, val_main_v52_apply, v29_at, v36_at, v42_at, v49_at,
    val_main_v38_apply, val_main_v37_apply, val_main_v35_apply, val_main_v34_apply, val_main_v44_apply, val_main_v43_apply, val_main_v41_apply, val_main_v40_apply,
    val_main_v51_apply, val_main_v50_apply, val_main_v48_apply, val_main_v47_apply,
    eq_ix2 (idx_main_v34 _) (0 : Fin 3) k rfl hk, eq_ix2 (idx_main_v40 _) (1 : Fin 3) k rfl hk, eq_ix2 (idx_main_v47 _) (2 : Fin 3) k rfl hk]
  rfl

end conv

/-- The attention's columns. -/
theorem v57_at (x6 : (⟨4, ![4, 16, 512, 256]⟩ : Shape).Idx → EReal) (n : Fin 16384) (k : Fin 512) : val_main_v57 (F := Ideal) x6 (ix2 n k) = sbRow x6 n k := by
  rw [val_main_v57_apply, val_main_v56_apply]
  exact congrArg x6 (eq_ix4 _ _ _ _ _ (by show (n.val * 512 + k.val) / 2097152 = n.val / 4096; omega) (by show (n.val * 512 + k.val) / 131072 % 16 = n.val % 4096 / 256; omega)
    (by show (n.val * 512 + k.val) % 512 = k.val; omega) (by show (n.val * 512 + k.val) / 512 % 256 = n.val % 256; omega))

section whole
variable (x0 : Mat 16384 1024) (x1 x2 x3 : Mat 16384 256) (x4 : Mat 16384 768) (x5 : (⟨3, ![4, 2, 256]⟩ : Shape).Idx → EReal) (x6 : (⟨4, ![4, 16, 512, 256]⟩ : Shape).Idx → EReal)
  (x7 : (⟨3, ![2, 16384, 256]⟩ : Shape).Idx → EReal) (x8 x9 : (⟨1, ![256]⟩ : Shape).Idx → EReal) (x10 : Mat 3 256) (x11 x12 : (⟨1, ![1024]⟩ : Shape).Idx → EReal) (x13 : Mat 1024 1024)
  (x14 : Mat 1024 4096) (x15 : Mat 4096 1024) (x16 : Mat 1024 1024) (x17 : Mat 256 1024) (n : Fin 16384)

/-- The mixed row of the reference. -/
abbrev mx : Fin 1024 → EReal :=
  mixed (heads (fun k => x1 (ix2 n k)) (fun k => x8 (ix1 k)) (fun k => x9 (ix1 k)) (fun k => x2 (ix2 n k)) (fun k => x3 (ix2 n k))) (cvRow x4 x5 x10 n) (sbRow x6 n)

theorem v58_at (k : Fin 1024) : val_main_v58 (F := Ideal) x1 x2 x3 x4 x5 x6 x8 x9 x10 (ix2 n k) = mx x1 x2 x3 x4 x5 x6 x8 x9 x10 n k := by
  unfold val_main_v58 mx mixed
  by_cases h : k.val < 256
  · rw [dif_pos h]
    refine (concatenate_apply_piece _ _ _ (ix2 n k) 0 (by simp) S16384x256 (val_main_v27 (F := Ideal) x1 x2 x3 x8 x9) rfl rfl 0 rfl (ix2 n ⟨k.val, h⟩) (fun a h => ?_)
      (by show 0 + k.val = k.val; omega)).trans (v27_at x1 x2 x3 x8 x9 n _)
    match a with
    | ⟨0, _⟩ => rfl
    | ⟨1, _⟩ => exact absurd rfl h
  · rw [dif_neg h]
    by_cases h' : k.val < 512
    · rw [dif_pos h']
      refine (concatenate_apply_piece _ _ _ (ix2 n k) 1 (by simp) S16384x256 (val_main_v55 (F := Ideal) x4 x5 x10) rfl rfl 256 rfl (ix2 n ⟨k.val - 256, by omega⟩) (fun a h => ?_)
        (by show 256 + (k.val - 256) = k.val; omega)).trans (v55_at x4 x5 x10 n _)
      match a with
      | ⟨0, _⟩ => rfl
      | ⟨1, _⟩ => exact absurd rfl h
    · rw [dif_neg h']
      refine (concatenate_apply_piece _ _ _ (ix2 n k) 2 (by simp) S16384x512 (val_main_v57 (F := Ideal) x6) rfl rfl 512 rfl (ix2 n ⟨k.val - 512, by omega⟩) (fun a h => ?_)
        (by show 512 + (k.val - 512) = k.val; omega)).trans (v57_at x6 n _)
      match a with
      | ⟨0, _⟩ => rfl
      | ⟨1, _⟩ => exact absurd rfl h

/-- The row once the projection is added. -/
abbrev r1 : Fin 1024 → EReal := fun c => x0 (ix2 n c) + dot (mx x1 x2 x3 x4 x5 x6 x8 x9 x10 n) (fun k c => x13 (ix2 k c)) c

theorem v60_at (c : Fin 1024) : val_main_v60 (F := Ideal) x0 x1 x2 x3 x4 x5 x6 x8 x9 x10 x13 (ix2 n c) = r1 x0 x1 x2 x3 x4 x5 x6 x8 x9 x10 x13 n c := by
  rw [val_main_v60_apply, val_main_v59_apply]
  refine congrArg (x0 (ix2 n c) + ·) (Finset.sum_congr rfl fun k _ => ?_)
  rw [eq_ix2 (lidx_main_v59 _ k) n k rfl rfl, eq_ix2 (ridx_main_v59 _ k) k c rfl rfl, v58_at]

theorem v73_at (c : Fin 1024) : val_main_v73 (F := Ideal) x0 x1 x2 x3 x4 x5 x6 x8 x9 x10 x11 x13 (ix2 n c)
    = rms (r1 x0 x1 x2 x3 x4 x5 x6 x8 x9 x10 x13 n) (fun c => x11 (ix1 c)) c := by
  rw [val_main_v73_apply, val_main_v70_apply, v60_at, val_main_v69_apply, val_main_v68_apply, val_main_v67_apply, val_main_v65_apply, val_main_v63_apply, val_main_v62_apply,
    val_main_v64_apply, val_main_v66_apply, val_main_v72_apply, val_main_v71_apply, eq_ix1 (idx_main_v71 _) c rfl]
  have hs : (val_main_cst_4 (F := Ideal)) (Shape.Idx.first h_S_) + ∑ k : Fin 1024, val_main_v61 (F := Ideal) x0 x1 x2 x3 x4 x5 x6 x8 x9 x10 x13 (idx_main_v62 (idx_main_v63 (idx_main_v69 (ix2 n c))) k)
      = ∑ k, r1 x0 x1 x2 x3 x4 x5 x6 x8 x9 x10 x13 n k * r1 x0 x1 x2 x3 x4 x5 x6 x8 x9 x10 x13 n k := by
    refine ((congrArg (· + _) word_zero).trans (zero_add _)).trans (Finset.sum_congr rfl fun k _ => ?_)
    rw [val_main_v61_apply, eq_ix2 (idx_main_v62 _ k) n k rfl rfl, v60_at]
    rfl
  rw [hs]
  rfl

/-- The row after the feed-forward part. -/
abbrev r2 : Fin 1024 → EReal := mlp (r1 x0 x1 x2 x3 x4 x5 x6 x8 x9 x10 x13 n) (fun c => x11 (ix1 c)) (fun k f => x14 (ix2 k f)) (fun f c => x15 (ix2 f c))

theorem v76_at (f : Fin 4096) : val_main_v76 (F := Ideal) x0 x1 x2 x3 x4 x5 x6 x8 x9 x10 x11 x13 x14 (ix2 n f)
    = relu2 (dot (rms (r1 x0 x1 x2 x3 x4 x5 x6 x8 x9 x10 x13 n) (fun c => x11 (ix1 c))) (fun k f => x14 (ix2 k f)) f) := by
  have hd : val_main_v74 (F := Ideal) x0 x1 x2 x3 x4 x5 x6 x8 x9 x10 x11 x13 x14 (ix2 n f)
      = dot (rms (r1 x0 x1 x2 x3 x4 x5 x6 x8 x9 x10 x13 n) (fun c => x11 (ix1 c))) (fun k f => x14 (ix2 k f)) f := by
    rw [val_main_v74_apply]
    refine Finset.sum_congr rfl fun k _ => ?_
    rw [eq_ix2 (lidx_main_v74 _ k) n k rfl rfl, eq_ix2 (ridx_main_v74 _ k) k f rfl rfl, v73_at]
  rw [val_main_v76_apply, val_main_v75_apply, hd, val_main_call0_v0_apply, val_main_call0_cst_apply]
  show max _ (Ideal.ofBits .f32 0x00000000#32) * max _ (Ideal.ofBits .f32 0x00000000#32) = _
  rw [word_zero]
  rfl

theorem v78_at (c : Fin 1024) : val_main_v78 (F := Ideal) x0 x1 x2 x3 x4 x5 x6 x8 x9 x10 x11 x13 x14 x15 (ix2 n c) = r2 x0 x1 x2 x3 x4 x5 x6 x8 x9 x10 x11 x13 x14 x15 n c := by
  rw [val_main_v78_apply, v60_at, val_main_v77_apply]
  refine congrArg (r1 x0 x1 x2 x3 x4 x5 x6 x8 x9 x10 x13 n c + ·) (Finset.sum_congr rfl fun f _ => ?_)
  rw [eq_ix2 (lidx_main_v77 _ f) n f rfl rfl, eq_ix2 (ridx_main_v77 _ f) f c rfl rfl, v76_at]

theorem v91_at (c : Fin 1024) : val_main_v91 (F := Ideal) x0 x1 x2 x3 x4 x5 x6 x8 x9 x10 x11 x12 x13 x14 x15 (ix2 n c)
    = rms (r2 x0 x1 x2 x3 x4 x5 x6 x8 x9 x10 x11 x13 x14 x15 n) (fun c => x12 (ix1 c)) c := by
  rw [val_main_v91_apply, val_main_v88_apply, v78_at, val_main_v87_apply, val_main_v86_apply, val_main_v85_apply, val_main_v83_apply, val_main_v81_apply, val_main_v80_apply,
    val_main_v82_apply, val_main_v84_apply, val_main_v90_apply, val_main_v89_apply, eq_ix1 (idx_main_v89 _) c rfl]
  have hs : (val_main_cst_7 (F := Ideal)) (Shape.Idx.first h_S_) + ∑ k : Fin 1024, val_main_v79 (F := Ideal) x0 x1 x2 x3 x4 x5 x6 x8 x9 x10 x11 x13 x14 x15 (idx_main_v80 (idx_main_v81 (idx_main_v87 (ix2 n c))) k)
      = ∑ k, r2 x0 x1 x2 x3 x4 x5 x6 x8 x9 x10 x11 x13 x14 x15 n k * r2 x0 x1 x2 x3 x4 x5 x6 x8 x9 x10 x11 x13 x14 x15 n k := by
    refine ((congrArg (· + _) word_zero).trans (zero_add _)).trans (Finset.sum_congr rfl fun k _ => ?_)
    rw [val_main_v79_apply, eq_ix2 (idx_main_v80 _ k) n k rfl rfl, v78_at]
    rfl
  rw [hs]
  rfl

/-- The reference's result at a row and a column. -/
theorem ref_apply (c : Fin 1024) : val_main_v103 (F := Ideal) x0 x1 x2 x3 x4 x5 x6 x7 x8 x9 x10 x11 x12 x13 x14 x15 x16 x17 (ix2 n c)
    = out x4 x5 x0 x1 x2 x3 x6 x7 x8 x9 x10 x11 x12 x13 x14 x15 x16 x17 n c := by
  have hg : val_main_v92 (F := Ideal) x0 x1 x2 x3 x4 x5 x6 x8 x9 x10 x11 x12 x13 x14 x15 x16 (ix2 n c)
      = dot (rms (r2 x0 x1 x2 x3 x4 x5 x6 x8 x9 x10 x11 x13 x14 x15 n) (fun c => x12 (ix1 c))) (fun k c => x16 (ix2 k c)) c := by
    rw [val_main_v92_apply]
    refine Finset.sum_congr rfl fun k _ => ?_
    rw [eq_ix2 (lidx_main_v92 _ k) n k rfl rfl, eq_ix2 (ridx_main_v92 _ k) k c rfl rfl, v91_at]
  have hp : val_main_v101 (F := Ideal) x7 x17 (ix2 n c) = dot (fun k => x7 (ix3 (0 : Fin 2) n k)) (fun k c => x17 (ix2 k c)) c := by
    rw [val_main_v101_apply]
    refine Finset.sum_congr rfl fun k _ => ?_
    rw [eq_ix2 (lidx_main_v101 _ k) n k rfl rfl, eq_ix2 (ridx_main_v101 _ k) k c rfl rfl, val_main_v100_apply, val_main_v99_apply,
      eq_ix3 (idx_main_v99 _) (0 : Fin 2) n k rfl (by show (n.val * 256 + k.val) / 256 % 16384 = n.val; omega) (by show (n.val * 256 + k.val) % 256 = k.val; omega)]
  rw [val_main_v103_apply, v78_at, val_main_v102_apply, hp, val_main_v98_apply, val_main_v97_apply, val_main_v96_apply, val_main_v95_apply, val_main_v94_apply, val_main_v93_apply, hg,
    val_main_cst_10_apply, val_main_cst_11_apply]
  show r2 x0 x1 x2 x3 x4 x5 x6 x8 x9 x10 x11 x13 x14 x15 n c + Ideal.div (Ideal.ofBits .f32 0x3F800000#32) (Ideal.ofBits .f32 0x3F800000#32 + Ideal.exp (-_)) * _ = _
  rw [word_one]
  rfl

end whole

end Cert.Reference2Ideal.Gen

end
-- ==== Proof.Tail.End.lean ====
/- The claims about the rest of a layer, from the runs of its programs. -/
module

public import proofs.«01_k».proof.Defs
public import proofs.«01_k».proof.Proof.Tail.Pre
public import proofs.«01_k».proof.Proof.Tail.Final
public import proofs.«01_k».proof.Proof.Tail.Ref
public import proofs.«01_k».proof.Proof.Gen.Kernel2.Frame
public import proofs.«01_k».proof.Proof.Gen.Reference2Ideal.Run

@[expose] public section

noncomputable section

namespace Cert.Tail

open Idealize.ShloMosaic hiding ix1 ix2 ix3 ix4 ix5
open Idealize.ShloMosaic.ValueIdx Idealize.ShloMosaic.TcCoe Idealize.SL.Sem Idealize.ShloMosaic.StableHlo

attribute [local instance] Cert.Pre_states_finite.facts Cert.Kernel2.Gen.facts Cert.Kernel2Ideal.Gen.facts Cert.Reference2Ideal.Gen.facts

/-- The printed program runs from every memory. -/
theorem kernel_runs : Cert.quiescent_Kernel2 := fun m g _ => Cert.Kernel2.Gen.frame m g

/-- The idealized program runs from every memory. -/
theorem ideal_runs : Cert.quiescent_Kernel2Ideal := fun m g _ => Cert.Kernel2Ideal.Gen.frame m g

/-- The reference runs from every memory. -/
theorem reference_runs : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The reference's result as a function of its arguments. -/
def refV (m : (ℓ : Loc Cert.Reference2Ideal.nD Cert.Reference2Ideal.τ Cert.Reference2Ideal.sig) → Buf (Elt Ideal) ℓ) (c : Dev Cert.Reference2Ideal.nD) :=
  Cert.Reference2Ideal.Read.val_main_v103 (F := Ideal)
    (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))
    (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))
    (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17))

/-- Within the precondition the idealized kernel and the reference end with equal results. -/
theorem values : Cert.algebraic_Kernel2Ideal_Reference2Ideal_pre_states_finite := by
  intro m g m' g' hpre hag
  refine ⟨fun c => refV m' c, ?_, (θ_run Cert.Reference2Ideal.defs _ _).mono (fun r h c => ⟨(h c).1.trans (Cert.Reference2Ideal.Read.val_main_v103_eq (launchContents m' c)), (h c).2⟩) (Cert.Reference2Ideal.Value.run (F := Ideal) m' g')⟩
  refine (θ_run Cert.Kernel2Ideal.defs _ _).mono (fun r h c => ⟨(h c).1.trans ?_, (h c).2⟩) (Cert.Kernel2Ideal.Value.run_blocks (F := Ideal) m g)
  rw [Cert.Kernel2Ideal.Gen.arr_out m c (fun n => Cert.Pre_states_finite.finite (hpre c) n)]
  obtain ⟨h0, h1, h2, h3, h4, h5, h6, h7, h8, h9, h10, h11, h12, h13, h14, h15, h16, h17⟩ := hag c
  funext y
  have hy : y = ix2 (y 0 : Fin 16384) (y 1 : Fin 1024) := Cert.Reference2Ideal.Gen.eq_ix2 _ _ _ rfl rfl
  refine Eq.trans ?_ (congrArg _ hy).symm
  refine Eq.trans ?_ (Cert.Reference2Ideal.Gen.ref_apply _ _ _ _ _ _ _ _ _ _ _ _ _ _ _ _ _ _ _ _).symm
  show Cert.Kernel2Ideal.Gen.outV m c (y 0) (y 1) = _
  unfold Cert.Kernel2Ideal.Gen.outV
  rw [← h0, ← h1, ← h2, ← h3, ← h4, ← h5, ← h6, ← h7, ← h8, ← h9, ← h10, ← h11, ← h12, ← h13, ← h14, ← h15, ← h16, ← h17]

end Cert.Tail

end
-- ==== Proof.Conv.End.lean ====
/- The convolution's kept rows: the last eight gated inputs of each sequence, and the claims about the call that computes them. -/
module

public import proofs.«01_k».proof.Defs
public import proofs.«01_k».proof.Proof.Tail.Final
public import proofs.«01_k».proof.Proof.Tail.Ref
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Reference3Ideal.Run
public import Idealize.ShloMosaic.Lib.StableHlo.ReadAt

@[expose] public section

set_option maxRecDepth 16384

noncomputable section

/-- The gated input at place `r` of the last eight of sequence `s`: the product of two columns of the projections. -/
def Cert.Conv.kept (p : (⟨2, ![16384, 768]⟩ : Idealize.ShloMosaic.Shape).Idx → EReal) (s : Fin 4) (r : Fin 8) (k : Fin 256) : EReal :=
  p (Idealize.ShloMosaic.ValueIdx.ix2 (⟨s.val * 4096 + (4088 + r.val), by omega⟩ : Fin 16384) (⟨256 + k.val, by omega⟩ : Fin 768))
    * p (Idealize.ShloMosaic.ValueIdx.ix2 (⟨s.val * 4096 + (4088 + r.val), by omega⟩ : Fin 16384) (⟨512 + k.val, by omega⟩ : Fin 768))

namespace Cert.Kernel3Ideal.Gen

open Idealize.ShloMosaic hiding ix1 ix2 ix3 ix4 ix5
open Idealize.ShloMosaic.ValueIdx Idealize.ShloMosaic.TcCoe Cert.Kernel3Ideal

attribute [local instance] Cert.Kernel3Ideal.Gen.facts

variable (m : (ℓ : Loc nD τ sig) → Buf (Elt Ideal) ℓ) (c : Dev nD)

/-- The projections by sequence, place and column. -/
theorem V_proj (s : Fin 4) (n : Fin 4096) (o : Fin 768) :
    V (F := Ideal) m c main_v0 (ix3 s n o) = m ((c : Thread nD τ).loc main_arg0) (ix2 (⟨s.val * 4096 + n.val, by omega⟩ : Fin 16384) o) := by
  unfold V
  after_reads_at
  rfl

/-- The block taken from the projections is each sequence's last eight rows; the result is one block. -/
theorem idx_last : ∀ t : Fin cfg0.N, win0_0.index t = ![0, 511, 0] ∧ win0_1.index t = ![0, 0, 0] :=
  (by decide +kernel : ∀ t : Fin grid0.N, _)

/-- A load of part of the projections' block reads it at the part's first column on. -/
theorem ld_cols (X : Vec Ideal S4x8x768 .f32) (o : ℕ) (inb) (s : Fin 4) (r : Fin 8) (k : Fin 256) (h : o + k.val < 768) :
    View.ld X (Rect.unit (s := S4x8x768) ![0, 0, o] S4x8x256.size inb) (ix3 s r k) = X (ix3 s r (⟨o + k.val, h⟩ : Fin 768)) := by
  refine congrArg X (funext fun d => Fin.ext ?_)
  match d with
  | ⟨0, _⟩ => show 0 + 1 * s.val = s.val; omega
  | ⟨1, _⟩ => show 0 + 1 * r.val = r.val; omega
  | ⟨2, _⟩ => show o + 1 * k.val = o + k.val; omega

/-- An element of the projections' block. -/
theorem blk_at (t : Fin cfg0.N) (s : Fin 4) (r : Fin 8) (o : Fin 768) :
    iblk m c 0 t (ix3 s r o) = m ((c : Thread nD τ).loc main_arg0) (ix2 (⟨s.val * 4096 + (4088 + r.val), by omega⟩ : Fin 16384) o) :=
  (congrArg (V m c main_v0) (Cert.Kernel2Ideal.Gen.at3 _ (idx_last t).1 _ s r o rfl rfl rfl s (⟨4088 + r.val, by omega⟩ : Fin 4096) o
    (by omega) (by show 511 * 8 + r.val = 4088 + r.val; omega) (by omega))).trans (V_proj m c s _ o)

theorem block_at (t : Fin cfg0.N) (s : Fin 4) (r : Fin 8) (k : Fin 256) :
    (dats m 0 c).after 1 t (ix3 s r k) = Cert.Conv.kept (m ((c : Thread nD τ).loc main_arg0)) s r k := by
  rw [after0_1]
  unfold out0_1
  rw [show (ix3 s r k : S4x8x256.Idx) = r0_2.idx (ix3 s r k) from
    funext fun d => Fin.ext (by match d with | ⟨0, _⟩ => show s.val = 0 + 1 * s.val; omega | ⟨1, _⟩ => show r.val = 0 + 1 * r.val; omega | ⟨2, _⟩ => show k.val = 0 + 1 * k.val; omega)]
  rw [Cert.Kernel3Ideal.Value.canon1_eq]
  show @HMul.hMul EReal EReal EReal _ (View.ld (iblk m c 0 t) r0_0 _) (View.ld (iblk m c 0 t) r0_1 _) = _
  unfold Cert.Conv.kept
  refine congr (congrArg _ ?_) ?_
  · refine (congrArg _ (Cert.Reference2Ideal.Gen.eq_ix3 _ s r k ?_ ?_ ?_)).trans ((ld_cols _ 256 _ s r k (by omega)).trans (blk_at m c t s r _))
    · show 0 + 1 * s.val = s.val; omega
    · show 0 + 1 * r.val = r.val; omega
    · show 0 + 1 * k.val = k.val; omega
  · refine (congrArg _ (Cert.Reference2Ideal.Gen.eq_ix3 _ s r k ?_ ?_ ?_)).trans ((ld_cols _ 512 _ s r k (by omega)).trans (blk_at m c t s r _))
    · show 0 + 1 * s.val = s.val; omega
    · show 0 + 1 * r.val = r.val; omega
    · show 0 + 1 * k.val = k.val; omega

/-- The result's array after the run. -/
theorem arr_out : (dats m 0 c).arrAt 1 cfg0.N = (fun y => Cert.Conv.kept (m ((c : Thread nD τ).loc main_arg0)) (y 0) (y 1) (y 2) : (⟨3, ![4, 8, 256]⟩ : Shape).Idx → EReal) :=
  (dats m 0 c).arrAt_eq_of_covers 1 _ (by decide +kernel) fun t _ y => by
    have hyy : ∃ (s : Fin 4) (r : Fin 8) (k : Fin 256), y = ix3 s r k :=
      ⟨y 0, y 1, y 2, funext fun a => by match a with | ⟨0, _⟩ => rfl | ⟨1, _⟩ => rfl | ⟨2, _⟩ => rfl⟩
    obtain ⟨s, r, k, rfl⟩ := hyy
    refine (block_at m c t s r k).trans ?_
    exact (congrArg (fun y : (⟨3, ![4, 8, 256]⟩ : Shape).Idx => Cert.Conv.kept (m ((c : Thread nD τ).loc main_arg0)) (y 0) (y 1) (y 2))
      (Cert.Kernel2Ideal.Gen.at3 _ (idx_last t).2 _ s r k rfl rfl rfl s r k (by omega) (by omega) (by omega) :
        (((cfg0.win 1).blk t).view.emb (ix3 s r k) : (⟨3, ![4, 8, 256]⟩ : Shape).Idx) = ix3 s r k)).symm

end Cert.Kernel3Ideal.Gen

namespace Cert.Conv

open Idealize.ShloMosaic hiding ix1 ix2 ix3 ix4 ix5
open Idealize.ShloMosaic.ValueIdx Idealize.ShloMosaic.TcCoe Idealize.SL.Sem Idealize.ShloMosaic.StableHlo Cert.Reference3Ideal.Read

attribute [local instance] Cert.Kernel3.Gen.facts Cert.Kernel3Ideal.Gen.facts Cert.Reference3Ideal.Gen.facts

/-- The reference's result, element by element. -/
theorem ref_apply (p : (⟨2, ![16384, 768]⟩ : Shape).Idx → EReal) (s : Fin 4) (r : Fin 8) (k : Fin 256) :
    val_main_v5 (F := Ideal) p (ix3 s r k) = kept p s r k := by
  rw [val_main_v5_apply, val_main_v4_apply, val_main_v2_apply, val_main_v3_apply, val_main_v0_apply, val_main_v0_apply]
  refine congr (congrArg _ (congrArg p ?_)) (congrArg p ?_)
  · refine Cert.Reference2Ideal.Gen.eq_ix2 _ _ _ ?_ ?_
    · show ((s.val * 4096 + (4088 + r.val)) * 768 + (256 + k.val)) / 768 = s.val * 4096 + (4088 + r.val); omega
    · show ((s.val * 4096 + (4088 + r.val)) * 768 + (256 + k.val)) % 768 = 256 + k.val; omega
  · refine Cert.Reference2Ideal.Gen.eq_ix2 _ _ _ ?_ ?_
    · show ((s.val * 4096 + (4088 + r.val)) * 768 + (512 + k.val)) / 768 = s.val * 4096 + (4088 + r.val); omega
    · show ((s.val * 4096 + (4088 + r.val)) * 768 + (512 + k.val)) % 768 = 512 + k.val; omega

/-- The printed program runs from every memory. -/
theorem kernel_runs : Cert.quiescent_Kernel3 := fun m g _ => Cert.Kernel3.Gen.frame m g

/-- The idealized program runs from every memory. -/
theorem ideal_runs : Cert.quiescent_Kernel3Ideal := fun m g _ => Cert.Kernel3Ideal.Gen.frame m g

/-- The reference runs from every memory. -/
theorem reference_runs : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The reference's result as a function of its argument. -/
def refV (m : (ℓ : Loc Cert.Reference3Ideal.nD Cert.Reference3Ideal.τ Cert.Reference3Ideal.sig) → Buf (Elt Ideal) ℓ) (c : Dev Cert.Reference3Ideal.nD) :=
  val_main_v5 (F := Ideal) (m ((c.tc : Thread Cert.Reference3Ideal.nD Cert.Reference3Ideal.τ).loc Cert.Reference3Ideal.main_arg0))

/-- The idealized kernel and the reference end with equal results. -/
theorem values : Cert.algebraic_Kernel3Ideal_Reference3Ideal := by
  intro m g m' g' _ hag
  refine ⟨fun c => refV m' c, ?_, (θ_run Cert.Reference3Ideal.defs _ _).mono
    (fun r h c => ⟨(h c).1.trans (val_main_v5_eq (m' ((c.tc : Thread Cert.Reference3Ideal.nD Cert.Reference3Ideal.τ).loc Cert.Reference3Ideal.main_arg0))), (h c).2⟩) (Cert.Reference3Ideal.Value.run (F := Ideal) m' g')⟩
  refine (θ_run Cert.Kernel3Ideal.defs _ _).mono (fun r h c => ⟨(h c).1.trans ?_, (h c).2⟩) (Cert.Kernel3Ideal.Value.run_blocks (F := Ideal) m g)
  rw [Cert.Kernel3Ideal.Gen.arr_out m c]
  funext y
  have hy : y = ix3 (y 0 : Fin 4) (y 1 : Fin 8) (y 2 : Fin 256) := Cert.Reference2Ideal.Gen.eq_ix3 _ _ _ _ rfl rfl rfl
  refine Eq.trans ?_ (congrArg _ hy).symm
  refine Eq.trans ?_ (ref_apply _ _ _ _).symm
  rw [← hag c]

end Cert.Conv

end
-- ==== Proof.Proj.Same.lean ====
/-
The printed projection call and the one read over the extended reals are the same program, so what is shown of the one
holds of the other.
-/
module

public import proofs.«01_k».proof.Proof.Gen.Kernel4
public import proofs.«01_k».proof.Proof.Gen.Kernel4Ideal
public import proofs.«01_k».proof.Defs
public import Idealize.ShloMosaic.Lib.Tactic

@[expose] public section

open Idealize.ShloMosaic Idealize.ShloMosaic.TcCoe Idealize.SL.Sem Cert.Kernel4.Gen Cert.Kernel4Ideal.Gen
open Idealize.ShloMosaic.Tactic

namespace Cert.Proj

def RunsK : Prop :=
  ∀ (m : (ℓ : Loc Cert.Kernel4.nD Cert.Kernel4.τ Cert.Kernel4.sig) → Buf (Elt Bits) ℓ) (g : Dev Cert.Kernel4.nD → PrngReg),
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16))
      ∧ r.2.sem = fun _ => 0)

def RunsI : Prop :=
  ∀ (m : (ℓ : Loc Cert.Kernel4Ideal.nD Cert.Kernel4Ideal.τ Cert.Kernel4Ideal.sig) → Buf (Elt Bits) ℓ) (g : Dev Cert.Kernel4Ideal.nD → PrngReg),
    θ_run (Cert.Kernel4Ideal.defs (F := Bits)) (onTc (τ := Cert.Kernel4Ideal.τ) (Cert.Kernel4Ideal.main (F := Bits))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16))
      ∧ r.2.sem = fun _ => 0)

theorem same : RunsI = RunsK := by sl_kernel_rfl

end Cert.Proj
-- ==== Proof.Proj.RunAKernel4Ideal.lean ====
/- The body of the projection call, run once at the first point of the grid: what it stores into each result and into the rows it keeps. -/
module

public import proofs.«01_k».proof.Proof.Gen.Kernel4Ideal.Frame.Runs

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- What the body stores at the first point of the grid, newest first for each result and for the kept rows, with the proof that it runs: the inputs are
    left as they were, and each result's buffer ends with these pieces written. -/
noncomputable def kernelRun0_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3328 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S128x512 .bf16) (harg14 : arg14.IsWhole) (arg15 : Memref sig .tc .vmem S128x256 .bf16) (harg15 : arg15.IsWhole) (arg16 : Memref sig .tc .vmem S256x256 .bf16) (harg16 : arg16.IsWhole) (arg17 : Memref sig .tc .vmem S2x512x512 .f32) (harg17 : arg17.IsWhole) (arg18 : Memref sig .tc .vmem S2x512x512 .f32) (harg18 : arg18.IsWhole) (arg19 : Memref sig .tc .vmem S512x1024 .f32) (harg19 : arg19.IsWhole) (arg20 : Memref sig .tc .vmem S512x768 .f32) (harg20 : arg20.IsWhole) (arg21 : Memref sig .tc .vmem S2x512x512 .f32) (harg21 : arg21.IsWhole) (arg22 : Memref sig .tc .vmem S2x512x512 .f32) (harg22 : arg22.IsWhole) (arg23 : Memref sig .tc .vmem S512x256 .f32) (harg23 : arg23.IsWhole) (arg24 : Memref sig .tc .vmem S512x256 .f32) (harg24 : arg24.IsWhole) (arg25 : Memref sig .tc .vmem S512x256 .f32) (harg25 : arg25.IsWhole) (arg26 : Memref sig .tc .vmem S512x256 .f32) (harg26 : arg26.IsWhole) (arg27 : Memref sig .tc .vmem S512x256 .f32) (harg27 : arg27.IsWhole) (arg28 : Memref sig .tc .vmem S512x256 .f32) (harg28 : arg28.IsWhole) (arg29 : Memref sig .tc .vmem S512x256 .f32) (harg29 : arg29.IsWhole) (arg30 : Memref sig .tc .vmem S512x256 .f32) (harg30 : arg30.IsWhole) (arg31 : Memref sig .tc .vmem S1x2x512x256 .bf16) (harg31 : arg31.IsWhole) (arg32 : Memref sig .tc .vmem S512x512 .bf16) (harg32 : arg32.IsWhole) (arg33 : Memref sig .tc .vmem S1x2x512x256 .bf16) (harg33 : arg33.IsWhole) (arg34 : Memref sig .tc .vmem S8x1024 .f32) (harg34 : arg34.IsWhole) (hc0 : cond0_0 i)
    (x0 : Vec F S512x1024 .f32) (x1 : Vec F S1x1024 .f32) (x2 : Vec F S1024x3328 .bf16) (x3 : Vec F S512x512 .bf16) (x4 : Vec F S1x512 .f32) (x5 : Vec F S1x512 .f32) (x6 : Vec F S1x1x1024 .f32) (x7 : Vec F S1x1024 .f32) (x8 : Vec F S1x256 .f32) (x9 : Vec F S1x256 .f32) (x10 : Vec F S1x256 .f32) (x11 : Vec F S1x256 .f32) (x12 : Vec F S1x256 .f32) (x13 : Vec F S128x512 .bf16) (x14 : Vec F S128x256 .bf16) (x15 : Vec F S256x256 .bf16) (x16 : Vec F S2x512x512 .f32) (x17 : Vec F S2x512x512 .f32) :
    Σ' (L18 : List (View.Piece (Elt F) S512x1024 .f32)), Σ' (L19 : List (View.Piece (Elt F) S512x768 .f32)), Σ' (L20 : List (View.Piece (Elt F) S2x512x512 .f32)), Σ' (L21 : List (View.Piece (Elt F) S2x512x512 .f32)), Σ' (L22 : List (View.Piece (Elt F) S512x256 .f32)), Σ' (L23 : List (View.Piece (Elt F) S512x256 .f32)), Σ' (L24 : List (View.Piece (Elt F) S512x256 .f32)), Σ' (L25 : List (View.Piece (Elt F) S512x256 .f32)), Σ' (L26 : List (View.Piece (Elt F) S512x256 .f32)), Σ' (L27 : List (View.Piece (Elt F) S512x256 .f32)), Σ' (L28 : List (View.Piece (Elt F) S512x256 .f32)), Σ' (L29 : List (View.Piece (Elt F) S512x256 .f32)), Σ' (L30 : List (View.Piece (Elt F) S1x2x512x256 .bf16)), Σ' (L31 : List (View.Piece (Elt F) S512x512 .bf16)), Σ' (L32 : List (View.Piece (Elt F) S1x2x512x256 .bf16)), { LS0 : List (View.Piece (Elt F) S8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f L29) ∗ (∃ f, arg31.view.loc (c : Thread nD τ) ↦[arg31.view.set]{fullShare} arg31.view.writes (Elt F) f L30) ∗ (∃ f, arg32.view.loc (c : Thread nD τ) ↦[arg32.view.set]{fullShare} arg32.view.writes (Elt F) f L31) ∗ (∃ f, arg33.view.loc (c : Thread nD τ) ↦[arg33.view.set]{fullShare} arg33.view.writes (Elt F) f L32) ∗ (∃ f, arg34.view.loc (c : Thread nD τ) ↦[arg34.view.set]{fullShare} arg34.view.writes (Elt F) f LS0)) -∗ K ⟨⟩))
          ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K } := by
  refine ⟨?_, ?_, ?_, ?_, ?_, ?_, ?_, ?_, ?_, ?_, ?_, ?_, ?_, ?_, ?_, ?_, fun E K => ?run⟩
  case run =>
    simp only [cc0_in_proj_eq_skeleton]; unfold cc0_in_proj_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    iexists _; iexact HS0

end Cert.Kernel4Ideal.Gen

end
-- ==== Proof.Proj.RunBKernel4Ideal.lean ====
/- The body of the projection call, run once at a later point of the grid: what it stores into each result and into the rows it keeps. -/
module

public import proofs.«01_k».proof.Proof.Proj.RunAKernel4Ideal

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- What the body stores at a later point of the grid, newest first for each result and for the kept rows, with the proof that it runs: the inputs are
    left as they were, and each result's buffer ends with these pieces written. -/
noncomputable def kernelRun0_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3328 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S128x512 .bf16) (harg14 : arg14.IsWhole) (arg15 : Memref sig .tc .vmem S128x256 .bf16) (harg15 : arg15.IsWhole) (arg16 : Memref sig .tc .vmem S256x256 .bf16) (harg16 : arg16.IsWhole) (arg17 : Memref sig .tc .vmem S2x512x512 .f32) (harg17 : arg17.IsWhole) (arg18 : Memref sig .tc .vmem S2x512x512 .f32) (harg18 : arg18.IsWhole) (arg19 : Memref sig .tc .vmem S512x1024 .f32) (harg19 : arg19.IsWhole) (arg20 : Memref sig .tc .vmem S512x768 .f32) (harg20 : arg20.IsWhole) (arg21 : Memref sig .tc .vmem S2x512x512 .f32) (harg21 : arg21.IsWhole) (arg22 : Memref sig .tc .vmem S2x512x512 .f32) (harg22 : arg22.IsWhole) (arg23 : Memref sig .tc .vmem S512x256 .f32) (harg23 : arg23.IsWhole) (arg24 : Memref sig .tc .vmem S512x256 .f32) (harg24 : arg24.IsWhole) (arg25 : Memref sig .tc .vmem S512x256 .f32) (harg25 : arg25.IsWhole) (arg26 : Memref sig .tc .vmem S512x256 .f32) (harg26 : arg26.IsWhole) (arg27 : Memref sig .tc .vmem S512x256 .f32) (harg27 : arg27.IsWhole) (arg28 : Memref sig .tc .vmem S512x256 .f32) (harg28 : arg28.IsWhole) (arg29 : Memref sig .tc .vmem S512x256 .f32) (harg29 : arg29.IsWhole) (arg30 : Memref sig .tc .vmem S512x256 .f32) (harg30 : arg30.IsWhole) (arg31 : Memref sig .tc .vmem S1x2x512x256 .bf16) (harg31 : arg31.IsWhole) (arg32 : Memref sig .tc .vmem S512x512 .bf16) (harg32 : arg32.IsWhole) (arg33 : Memref sig .tc .vmem S1x2x512x256 .bf16) (harg33 : arg33.IsWhole) (arg34 : Memref sig .tc .vmem S8x1024 .f32) (harg34 : arg34.IsWhole) (hc0 : ¬cond0_0 i)
    (x0 : Vec F S512x1024 .f32) (x1 : Vec F S1x1024 .f32) (x2 : Vec F S1024x3328 .bf16) (x3 : Vec F S512x512 .bf16) (x4 : Vec F S1x512 .f32) (x5 : Vec F S1x512 .f32) (x6 : Vec F S1x1x1024 .f32) (x7 : Vec F S1x1024 .f32) (x8 : Vec F S1x256 .f32) (x9 : Vec F S1x256 .f32) (x10 : Vec F S1x256 .f32) (x11 : Vec F S1x256 .f32) (x12 : Vec F S1x256 .f32) (x13 : Vec F S128x512 .bf16) (x14 : Vec F S128x256 .bf16) (x15 : Vec F S256x256 .bf16) (x16 : Vec F S2x512x512 .f32) (x17 : Vec F S2x512x512 .f32) (xs0 : Vec F S8x1024 .f32) :
    Σ' (L18 : List (View.Piece (Elt F) S512x1024 .f32)), Σ' (L19 : List (View.Piece (Elt F) S512x768 .f32)), Σ' (L20 : List (View.Piece (Elt F) S2x512x512 .f32)), Σ' (L21 : List (View.Piece (Elt F) S2x512x512 .f32)), Σ' (L22 : List (View.Piece (Elt F) S512x256 .f32)), Σ' (L23 : List (View.Piece (Elt F) S512x256 .f32)), Σ' (L24 : List (View.Piece (Elt F) S512x256 .f32)), Σ' (L25 : List (View.Piece (Elt F) S512x256 .f32)), Σ' (L26 : List (View.Piece (Elt F) S512x256 .f32)), Σ' (L27 : List (View.Piece (Elt F) S512x256 .f32)), Σ' (L28 : List (View.Piece (Elt F) S512x256 .f32)), Σ' (L29 : List (View.Piece (Elt F) S512x256 .f32)), Σ' (L30 : List (View.Piece (Elt F) S1x2x512x256 .bf16)), Σ' (L31 : List (View.Piece (Elt F) S512x512 .bf16)), Σ' (L32 : List (View.Piece (Elt F) S1x2x512x256 .bf16)), { LS0 : List (View.Piece (Elt F) S8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ owns (c : Thread nD τ) arg34 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f L29) ∗ (∃ f, arg31.view.loc (c : Thread nD τ) ↦[arg31.view.set]{fullShare} arg31.view.writes (Elt F) f L30) ∗ (∃ f, arg32.view.loc (c : Thread nD τ) ↦[arg32.view.set]{fullShare} arg32.view.writes (Elt F) f L31) ∗ (∃ f, arg33.view.loc (c : Thread nD τ) ↦[arg33.view.set]{fullShare} arg33.view.writes (Elt F) f L32) ∗ (∃ f, arg34.view.loc (c : Thread nD τ) ↦[arg34.view.set]{fullShare} arg34.view.writes (Elt F) f LS0)) -∗ K ⟨⟩))
          ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K } := by
  refine ⟨?_, ?_, ?_, ?_, ?_, ?_, ?_, ?_, ?_, ?_, ?_, ?_, ?_, ?_, ?_, ?_, fun E K => ?run⟩
  case run =>
    simp only [cc0_in_proj_eq_skeleton]; unfold cc0_in_proj_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg34.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    iexists _; iexact HS0

end Cert.Kernel4Ideal.Gen

end
-- ==== Proof.Proj.FrameKernel4Ideal.lean ====
/-
What the projection call leaves in its windows, point by point, and the statement that it runs to the end from any memory,
changes none of its arguments and leaves no signal behind.  The two runs of its body are in the modules imported here.
-/
module

public import proofs.«01_k».proof.Proof.Proj.RunBKernel4Ideal
public import Idealize.ShloMosaic.Lib.Claim

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at the first point of the grid. -/
def ra (c : Dev nD) (t : Fin cfg0.N) (h0 : t.val % 32 = 0) := kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)

/-- The body's run at a later point, from the rows `xs` kept by the point before. -/
def rb (c : Dev nD) (t : Fin cfg0.N) (h0 : ¬t.val % 32 = 0) (xs : Vec F S8x1024 .f32) := kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs

/-- Everything the body leaves at one point: the outputs in order, then the rows kept for the next point. -/
abbrev Left (F : FTy → Type) [FloatOps F] := Vec F S512x1024 .f32 × Vec F S512x768 .f32 × Vec F S2x512x512 .f32 × Vec F S2x512x512 .f32 × Vec F S512x256 .f32 × Vec F S512x256 .f32 × Vec F S512x256 .f32 × Vec F S512x256 .f32 × Vec F S512x256 .f32 × Vec F S512x256 .f32 × Vec F S512x256 .f32 × Vec F S512x256 .f32 × Vec F S1x2x512x256 .bf16 × Vec F S512x512 .bf16 × Vec F S1x2x512x256 .bf16 × Vec F S8x1024 .f32

theorem coverA_18 (c : Dev nD) (t : Fin cfg0.N) (h0 : t.val % 32 = 0) (y : S512x1024.Idx) :
    ∃ pc ∈ (ra m c t h0).1, y ∈ pc.1.set :=
  View.cover_of_tiledL (ra m c t h0).1 S512x1024.size (by sl_kernel_rfl) y

theorem coverA_19 (c : Dev nD) (t : Fin cfg0.N) (h0 : t.val % 32 = 0) (y : S512x768.Idx) :
    ∃ pc ∈ (ra m c t h0).2.1, y ∈ pc.1.set :=
  View.cover_of_tiledL (ra m c t h0).2.1 S512x768.size (by sl_kernel_rfl) y

theorem coverA_20 (c : Dev nD) (t : Fin cfg0.N) (h0 : t.val % 32 = 0) (y : S2x512x512.Idx) :
    ∃ pc ∈ (ra m c t h0).2.2.1, y ∈ pc.1.set :=
  View.cover_of_tiledL (ra m c t h0).2.2.1 S1x512x512.size (by sl_kernel_rfl) y

theorem coverA_21 (c : Dev nD) (t : Fin cfg0.N) (h0 : t.val % 32 = 0) (y : S2x512x512.Idx) :
    ∃ pc ∈ (ra m c t h0).2.2.2.1, y ∈ pc.1.set :=
  View.cover_of_tiledL (ra m c t h0).2.2.2.1 S1x512x512.size (by sl_kernel_rfl) y

theorem coverA_22 (c : Dev nD) (t : Fin cfg0.N) (h0 : t.val % 32 = 0) (y : S512x256.Idx) :
    ∃ pc ∈ (ra m c t h0).2.2.2.2.1, y ∈ pc.1.set :=
  View.cover_of_tiledL (ra m c t h0).2.2.2.2.1 S512x256.size (by sl_kernel_rfl) y

theorem coverA_23 (c : Dev nD) (t : Fin cfg0.N) (h0 : t.val % 32 = 0) (y : S512x256.Idx) :
    ∃ pc ∈ (ra m c t h0).2.2.2.2.2.1, y ∈ pc.1.set :=
  View.cover_of_tiledL (ra m c t h0).2.2.2.2.2.1 S512x256.size (by sl_kernel_rfl) y

theorem coverA_24 (c : Dev nD) (t : Fin cfg0.N) (h0 : t.val % 32 = 0) (y : S512x256.Idx) :
    ∃ pc ∈ (ra m c t h0).2.2.2.2.2.2.1, y ∈ pc.1.set :=
  View.cover_of_tiledL (ra m c t h0).2.2.2.2.2.2.1 S512x256.size (by sl_kernel_rfl) y

theorem coverA_25 (c : Dev nD) (t : Fin cfg0.N) (h0 : t.val % 32 = 0) (y : S512x256.Idx) :
    ∃ pc ∈ (ra m c t h0).2.2.2.2.2.2.2.1, y ∈ pc.1.set :=
  View.cover_of_tiledL (ra m c t h0).2.2.2.2.2.2.2.1 S512x256.size (by sl_kernel_rfl) y

theorem coverA_26 (c : Dev nD) (t : Fin cfg0.N) (h0 : t.val % 32 = 0) (y : S512x256.Idx) :
    ∃ pc ∈ (ra m c t h0).2.2.2.2.2.2.2.2.1, y ∈ pc.1.set :=
  View.cover_of_tiledL (ra m c t h0).2.2.2.2.2.2.2.2.1 S512x256.size (by sl_kernel_rfl) y

theorem coverA_27 (c : Dev nD) (t : Fin cfg0.N) (h0 : t.val % 32 = 0) (y : S512x256.Idx) :
    ∃ pc ∈ (ra m c t h0).2.2.2.2.2.2.2.2.2.1, y ∈ pc.1.set :=
  View.cover_of_tiledL (ra m c t h0).2.2.2.2.2.2.2.2.2.1 S512x256.size (by sl_kernel_rfl) y

theorem coverA_28 (c : Dev nD) (t : Fin cfg0.N) (h0 : t.val % 32 = 0) (y : S512x256.Idx) :
    ∃ pc ∈ (ra m c t h0).2.2.2.2.2.2.2.2.2.2.1, y ∈ pc.1.set :=
  View.cover_of_tiledL (ra m c t h0).2.2.2.2.2.2.2.2.2.2.1 S512x256.size (by sl_kernel_rfl) y

theorem coverA_29 (c : Dev nD) (t : Fin cfg0.N) (h0 : t.val % 32 = 0) (y : S512x256.Idx) :
    ∃ pc ∈ (ra m c t h0).2.2.2.2.2.2.2.2.2.2.2.1, y ∈ pc.1.set :=
  View.cover_of_tiledL (ra m c t h0).2.2.2.2.2.2.2.2.2.2.2.1 S512x256.size (by sl_kernel_rfl) y

theorem coverA_30 (c : Dev nD) (t : Fin cfg0.N) (h0 : t.val % 32 = 0) (y : S1x2x512x256.Idx) :
    ∃ pc ∈ (ra m c t h0).2.2.2.2.2.2.2.2.2.2.2.2.1, y ∈ pc.1.set :=
  View.cover_of_tiledL (ra m c t h0).2.2.2.2.2.2.2.2.2.2.2.2.1 S1x1x512x256.size (by sl_kernel_rfl) y

theorem coverA_31 (c : Dev nD) (t : Fin cfg0.N) (h0 : t.val % 32 = 0) (y : S512x512.Idx) :
    ∃ pc ∈ (ra m c t h0).2.2.2.2.2.2.2.2.2.2.2.2.2.1, y ∈ pc.1.set :=
  View.cover_of_tiledL (ra m c t h0).2.2.2.2.2.2.2.2.2.2.2.2.2.1 S512x512.size (by sl_kernel_rfl) y

theorem coverA_32 (c : Dev nD) (t : Fin cfg0.N) (h0 : t.val % 32 = 0) (y : S1x2x512x256.Idx) :
    ∃ pc ∈ (ra m c t h0).2.2.2.2.2.2.2.2.2.2.2.2.2.2.1, y ∈ pc.1.set :=
  View.cover_of_tiledL (ra m c t h0).2.2.2.2.2.2.2.2.2.2.2.2.2.2.1 S1x1x512x256.size (by sl_kernel_rfl) y

theorem coverA_33 (c : Dev nD) (t : Fin cfg0.N) (h0 : t.val % 32 = 0) (y : S8x1024.Idx) :
    ∃ pc ∈ (ra m c t h0).2.2.2.2.2.2.2.2.2.2.2.2.2.2.2.1, y ∈ pc.1.set :=
  View.cover_of_tiledL (ra m c t h0).2.2.2.2.2.2.2.2.2.2.2.2.2.2.2.1 S8x1024.size (by sl_kernel_rfl) y

/-- What a point of this kind leaves. -/
def outA (c : Dev nD) (t : Fin cfg0.N) (h0 : t.val % 32 = 0) : Left F :=
  (VO0_18.read (Elt F) (VO0_18.writes (Elt F) VO0_18.junk (ra m c t h0).1),
   VO0_19.read (Elt F) (VO0_19.writes (Elt F) VO0_19.junk (ra m c t h0).2.1),
   VO0_20.read (Elt F) (VO0_20.writes (Elt F) VO0_20.junk (ra m c t h0).2.2.1),
   VO0_21.read (Elt F) (VO0_21.writes (Elt F) VO0_21.junk (ra m c t h0).2.2.2.1),
   VO0_22.read (Elt F) (VO0_22.writes (Elt F) VO0_22.junk (ra m c t h0).2.2.2.2.1),
   VO0_23.read (Elt F) (VO0_23.writes (Elt F) VO0_23.junk (ra m c t h0).2.2.2.2.2.1),
   VO0_24.read (Elt F) (VO0_24.writes (Elt F) VO0_24.junk (ra m c t h0).2.2.2.2.2.2.1),
   VO0_25.read (Elt F) (VO0_25.writes (Elt F) VO0_25.junk (ra m c t h0).2.2.2.2.2.2.2.1),
   VO0_26.read (Elt F) (VO0_26.writes (Elt F) VO0_26.junk (ra m c t h0).2.2.2.2.2.2.2.2.1),
   VO0_27.read (Elt F) (VO0_27.writes (Elt F) VO0_27.junk (ra m c t h0).2.2.2.2.2.2.2.2.2.1),
   VO0_28.read (Elt F) (VO0_28.writes (Elt F) VO0_28.junk (ra m c t h0).2.2.2.2.2.2.2.2.2.2.1),
   VO0_29.read (Elt F) (VO0_29.writes (Elt F) VO0_29.junk (ra m c t h0).2.2.2.2.2.2.2.2.2.2.2.1),
   VO0_30.read (Elt F) (VO0_30.writes (Elt F) VO0_30.junk (ra m c t h0).2.2.2.2.2.2.2.2.2.2.2.2.1),
   VO0_31.read (Elt F) (VO0_31.writes (Elt F) VO0_31.junk (ra m c t h0).2.2.2.2.2.2.2.2.2.2.2.2.2.1),
   VO0_32.read (Elt F) (VO0_32.writes (Elt F) VO0_32.junk (ra m c t h0).2.2.2.2.2.2.2.2.2.2.2.2.2.2.1),
   VS0_0.read (Elt F) (VS0_0.writes (Elt F) VS0_0.junk (ra m c t h0).2.2.2.2.2.2.2.2.2.2.2.2.2.2.2.1))

theorem coverB_18 (c : Dev nD) (t : Fin cfg0.N) (h0 : ¬t.val % 32 = 0) (xs : Vec F S8x1024 .f32) (y : S512x1024.Idx) :
    ∃ pc ∈ (rb m c t h0 xs).1, y ∈ pc.1.set :=
  View.cover_of_tiledL (rb m c t h0 xs).1 S512x1024.size (by sl_kernel_rfl) y

theorem coverB_19 (c : Dev nD) (t : Fin cfg0.N) (h0 : ¬t.val % 32 = 0) (xs : Vec F S8x1024 .f32) (y : S512x768.Idx) :
    ∃ pc ∈ (rb m c t h0 xs).2.1, y ∈ pc.1.set :=
  View.cover_of_tiledL (rb m c t h0 xs).2.1 S512x768.size (by sl_kernel_rfl) y

theorem coverB_20 (c : Dev nD) (t : Fin cfg0.N) (h0 : ¬t.val % 32 = 0) (xs : Vec F S8x1024 .f32) (y : S2x512x512.Idx) :
    ∃ pc ∈ (rb m c t h0 xs).2.2.1, y ∈ pc.1.set :=
  View.cover_of_tiledL (rb m c t h0 xs).2.2.1 S1x512x512.size (by sl_kernel_rfl) y

theorem coverB_21 (c : Dev nD) (t : Fin cfg0.N) (h0 : ¬t.val % 32 = 0) (xs : Vec F S8x1024 .f32) (y : S2x512x512.Idx) :
    ∃ pc ∈ (rb m c t h0 xs).2.2.2.1, y ∈ pc.1.set :=
  View.cover_of_tiledL (rb m c t h0 xs).2.2.2.1 S1x512x512.size (by sl_kernel_rfl) y

theorem coverB_22 (c : Dev nD) (t : Fin cfg0.N) (h0 : ¬t.val % 32 = 0) (xs : Vec F S8x1024 .f32) (y : S512x256.Idx) :
    ∃ pc ∈ (rb m c t h0 xs).2.2.2.2.1, y ∈ pc.1.set :=
  View.cover_of_tiledL (rb m c t h0 xs).2.2.2.2.1 S512x256.size (by sl_kernel_rfl) y

theorem coverB_23 (c : Dev nD) (t : Fin cfg0.N) (h0 : ¬t.val % 32 = 0) (xs : Vec F S8x1024 .f32) (y : S512x256.Idx) :
    ∃ pc ∈ (rb m c t h0 xs).2.2.2.2.2.1, y ∈ pc.1.set :=
  View.cover_of_tiledL (rb m c t h0 xs).2.2.2.2.2.1 S512x256.size (by sl_kernel_rfl) y

theorem coverB_24 (c : Dev nD) (t : Fin cfg0.N) (h0 : ¬t.val % 32 = 0) (xs : Vec F S8x1024 .f32) (y : S512x256.Idx) :
    ∃ pc ∈ (rb m c t h0 xs).2.2.2.2.2.2.1, y ∈ pc.1.set :=
  View.cover_of_tiledL (rb m c t h0 xs).2.2.2.2.2.2.1 S512x256.size (by sl_kernel_rfl) y

theorem coverB_25 (c : Dev nD) (t : Fin cfg0.N) (h0 : ¬t.val % 32 = 0) (xs : Vec F S8x1024 .f32) (y : S512x256.Idx) :
    ∃ pc ∈ (rb m c t h0 xs).2.2.2.2.2.2.2.1, y ∈ pc.1.set :=
  View.cover_of_tiledL (rb m c t h0 xs).2.2.2.2.2.2.2.1 S512x256.size (by sl_kernel_rfl) y

theorem coverB_26 (c : Dev nD) (t : Fin cfg0.N) (h0 : ¬t.val % 32 = 0) (xs : Vec F S8x1024 .f32) (y : S512x256.Idx) :
    ∃ pc ∈ (rb m c t h0 xs).2.2.2.2.2.2.2.2.1, y ∈ pc.1.set :=
  View.cover_of_tiledL (rb m c t h0 xs).2.2.2.2.2.2.2.2.1 S512x256.size (by sl_kernel_rfl) y

theorem coverB_27 (c : Dev nD) (t : Fin cfg0.N) (h0 : ¬t.val % 32 = 0) (xs : Vec F S8x1024 .f32) (y : S512x256.Idx) :
    ∃ pc ∈ (rb m c t h0 xs).2.2.2.2.2.2.2.2.2.1, y ∈ pc.1.set :=
  View.cover_of_tiledL (rb m c t h0 xs).2.2.2.2.2.2.2.2.2.1 S512x256.size (by sl_kernel_rfl) y

theorem coverB_28 (c : Dev nD) (t : Fin cfg0.N) (h0 : ¬t.val % 32 = 0) (xs : Vec F S8x1024 .f32) (y : S512x256.Idx) :
    ∃ pc ∈ (rb m c t h0 xs).2.2.2.2.2.2.2.2.2.2.1, y ∈ pc.1.set :=
  View.cover_of_tiledL (rb m c t h0 xs).2.2.2.2.2.2.2.2.2.2.1 S512x256.size (by sl_kernel_rfl) y

theorem coverB_29 (c : Dev nD) (t : Fin cfg0.N) (h0 : ¬t.val % 32 = 0) (xs : Vec F S8x1024 .f32) (y : S512x256.Idx) :
    ∃ pc ∈ (rb m c t h0 xs).2.2.2.2.2.2.2.2.2.2.2.1, y ∈ pc.1.set :=
  View.cover_of_tiledL (rb m c t h0 xs).2.2.2.2.2.2.2.2.2.2.2.1 S512x256.size (by sl_kernel_rfl) y

theorem coverB_30 (c : Dev nD) (t : Fin cfg0.N) (h0 : ¬t.val % 32 = 0) (xs : Vec F S8x1024 .f32) (y : S1x2x512x256.Idx) :
    ∃ pc ∈ (rb m c t h0 xs).2.2.2.2.2.2.2.2.2.2.2.2.1, y ∈ pc.1.set :=
  View.cover_of_tiledL (rb m c t h0 xs).2.2.2.2.2.2.2.2.2.2.2.2.1 S1x1x512x256.size (by sl_kernel_rfl) y

theorem coverB_31 (c : Dev nD) (t : Fin cfg0.N) (h0 : ¬t.val % 32 = 0) (xs : Vec F S8x1024 .f32) (y : S512x512.Idx) :
    ∃ pc ∈ (rb m c t h0 xs).2.2.2.2.2.2.2.2.2.2.2.2.2.1, y ∈ pc.1.set :=
  View.cover_of_tiledL (rb m c t h0 xs).2.2.2.2.2.2.2.2.2.2.2.2.2.1 S512x512.size (by sl_kernel_rfl) y

theorem coverB_32 (c : Dev nD) (t : Fin cfg0.N) (h0 : ¬t.val % 32 = 0) (xs : Vec F S8x1024 .f32) (y : S1x2x512x256.Idx) :
    ∃ pc ∈ (rb m c t h0 xs).2.2.2.2.2.2.2.2.2.2.2.2.2.2.1, y ∈ pc.1.set :=
  View.cover_of_tiledL (rb m c t h0 xs).2.2.2.2.2.2.2.2.2.2.2.2.2.2.1 S1x1x512x256.size (by sl_kernel_rfl) y

theorem coverB_33 (c : Dev nD) (t : Fin cfg0.N) (h0 : ¬t.val % 32 = 0) (xs : Vec F S8x1024 .f32) (y : S8x1024.Idx) :
    ∃ pc ∈ (rb m c t h0 xs).2.2.2.2.2.2.2.2.2.2.2.2.2.2.2.1, y ∈ pc.1.set :=
  View.cover_of_tiledL (rb m c t h0 xs).2.2.2.2.2.2.2.2.2.2.2.2.2.2.2.1 S8x1024.size (by sl_kernel_rfl) y

/-- What a point of this kind leaves. -/
def outB (c : Dev nD) (t : Fin cfg0.N) (h0 : ¬t.val % 32 = 0) (xs : Vec F S8x1024 .f32) : Left F :=
  (VO0_18.read (Elt F) (VO0_18.writes (Elt F) VO0_18.junk (rb m c t h0 xs).1),
   VO0_19.read (Elt F) (VO0_19.writes (Elt F) VO0_19.junk (rb m c t h0 xs).2.1),
   VO0_20.read (Elt F) (VO0_20.writes (Elt F) VO0_20.junk (rb m c t h0 xs).2.2.1),
   VO0_21.read (Elt F) (VO0_21.writes (Elt F) VO0_21.junk (rb m c t h0 xs).2.2.2.1),
   VO0_22.read (Elt F) (VO0_22.writes (Elt F) VO0_22.junk (rb m c t h0 xs).2.2.2.2.1),
   VO0_23.read (Elt F) (VO0_23.writes (Elt F) VO0_23.junk (rb m c t h0 xs).2.2.2.2.2.1),
   VO0_24.read (Elt F) (VO0_24.writes (Elt F) VO0_24.junk (rb m c t h0 xs).2.2.2.2.2.2.1),
   VO0_25.read (Elt F) (VO0_25.writes (Elt F) VO0_25.junk (rb m c t h0 xs).2.2.2.2.2.2.2.1),
   VO0_26.read (Elt F) (VO0_26.writes (Elt F) VO0_26.junk (rb m c t h0 xs).2.2.2.2.2.2.2.2.1),
   VO0_27.read (Elt F) (VO0_27.writes (Elt F) VO0_27.junk (rb m c t h0 xs).2.2.2.2.2.2.2.2.2.1),
   VO0_28.read (Elt F) (VO0_28.writes (Elt F) VO0_28.junk (rb m c t h0 xs).2.2.2.2.2.2.2.2.2.2.1),
   VO0_29.read (Elt F) (VO0_29.writes (Elt F) VO0_29.junk (rb m c t h0 xs).2.2.2.2.2.2.2.2.2.2.2.1),
   VO0_30.read (Elt F) (VO0_30.writes (Elt F) VO0_30.junk (rb m c t h0 xs).2.2.2.2.2.2.2.2.2.2.2.2.1),
   VO0_31.read (Elt F) (VO0_31.writes (Elt F) VO0_31.junk (rb m c t h0 xs).2.2.2.2.2.2.2.2.2.2.2.2.2.1),
   VO0_32.read (Elt F) (VO0_32.writes (Elt F) VO0_32.junk (rb m c t h0 xs).2.2.2.2.2.2.2.2.2.2.2.2.2.2.1),
   VS0_0.read (Elt F) (VS0_0.writes (Elt F) VS0_0.junk (rb m c t h0 xs).2.2.2.2.2.2.2.2.2.2.2.2.2.2.2.1))

/-- What is left after the point at position `n`. -/
def outsAt0 (c : Dev nD) : (n : ℕ) → n < cfg0.N → Left F
  | 0, hn => outA m c ⟨0, hn⟩ (Nat.zero_mod _)
  | n + 1, hn =>
    if h0 : (n + 1) % 32 = 0 then outA m c ⟨n + 1, hn⟩ h0
    else outB m c ⟨n + 1, hn⟩ h0 (outsAt0 c n (Nat.lt_of_succ_lt hn)).2.2.2.2.2.2.2.2.2.2.2.2.2.2.2

theorem outsAt0_A (c : Dev nD) (t : Fin cfg0.N) (h0 : t.val % 32 = 0) : outsAt0 m c t.val t.isLt = outA m c t h0 := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt = outB m c t h0 (outsAt0 m c (t.val - 1) (Nat.lt_of_le_of_lt (Nat.sub_le _ _) t.isLt)).2.2.2.2.2.2.2.2.2.2.2.2.2.2.2 := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.2.2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.2.2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t.val t.isLt).1
    | ⟨19, _⟩ => (outsAt0 m c t.val t.isLt).2.1
    | ⟨20, _⟩ => (outsAt0 m c t.val t.isLt).2.2.1
    | ⟨21, _⟩ => (outsAt0 m c t.val t.isLt).2.2.2.1
    | ⟨22, _⟩ => (outsAt0 m c t.val t.isLt).2.2.2.2.1
    | ⟨23, _⟩ => (outsAt0 m c t.val t.isLt).2.2.2.2.2.1
    | ⟨24, _⟩ => (outsAt0 m c t.val t.isLt).2.2.2.2.2.2.1
    | ⟨25, _⟩ => (outsAt0 m c t.val t.isLt).2.2.2.2.2.2.2.1
    | ⟨26, _⟩ => (outsAt0 m c t.val t.isLt).2.2.2.2.2.2.2.2.1
    | ⟨27, _⟩ => (outsAt0 m c t.val t.isLt).2.2.2.2.2.2.2.2.2.1
    | ⟨28, _⟩ => (outsAt0 m c t.val t.isLt).2.2.2.2.2.2.2.2.2.2.1
    | ⟨29, _⟩ => (outsAt0 m c t.val t.isLt).2.2.2.2.2.2.2.2.2.2.2.1
    | ⟨30, _⟩ => (outsAt0 m c t.val t.isLt).2.2.2.2.2.2.2.2.2.2.2.2.1
    | ⟨31, _⟩ => (outsAt0 m c t.val t.isLt).2.2.2.2.2.2.2.2.2.2.2.2.2.1
    | ⟨32, _⟩ => (outsAt0 m c t.val t.isLt).2.2.2.2.2.2.2.2.2.2.2.2.2.2.1
    | ⟨_ + 33, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = (outsAt0 m c t.val t.isLt).1 := by dsimp only [dats]
theorem after0_19 (c : Dev nD) (t : Fin cfg0.N) : (dats m 0 c).after 19 t = (outsAt0 m c t.val t.isLt).2.1 := by dsimp only [dats]
theorem after0_20 (c : Dev nD) (t : Fin cfg0.N) : (dats m 0 c).after 20 t = (outsAt0 m c t.val t.isLt).2.2.1 := by dsimp only [dats]
theorem after0_21 (c : Dev nD) (t : Fin cfg0.N) : (dats m 0 c).after 21 t = (outsAt0 m c t.val t.isLt).2.2.2.1 := by dsimp only [dats]
theorem after0_22 (c : Dev nD) (t : Fin cfg0.N) : (dats m 0 c).after 22 t = (outsAt0 m c t.val t.isLt).2.2.2.2.1 := by dsimp only [dats]
theorem after0_23 (c : Dev nD) (t : Fin cfg0.N) : (dats m 0 c).after 23 t = (outsAt0 m c t.val t.isLt).2.2.2.2.2.1 := by dsimp only [dats]
theorem after0_24 (c : Dev nD) (t : Fin cfg0.N) : (dats m 0 c).after 24 t = (outsAt0 m c t.val t.isLt).2.2.2.2.2.2.1 := by dsimp only [dats]
theorem after0_25 (c : Dev nD) (t : Fin cfg0.N) : (dats m 0 c).after 25 t = (outsAt0 m c t.val t.isLt).2.2.2.2.2.2.2.1 := by dsimp only [dats]
theorem after0_26 (c : Dev nD) (t : Fin cfg0.N) : (dats m 0 c).after 26 t = (outsAt0 m c t.val t.isLt).2.2.2.2.2.2.2.2.1 := by dsimp only [dats]
theorem after0_27 (c : Dev nD) (t : Fin cfg0.N) : (dats m 0 c).after 27 t = (outsAt0 m c t.val t.isLt).2.2.2.2.2.2.2.2.2.1 := by dsimp only [dats]
theorem after0_28 (c : Dev nD) (t : Fin cfg0.N) : (dats m 0 c).after 28 t = (outsAt0 m c t.val t.isLt).2.2.2.2.2.2.2.2.2.2.1 := by dsimp only [dats]
theorem after0_29 (c : Dev nD) (t : Fin cfg0.N) : (dats m 0 c).after 29 t = (outsAt0 m c t.val t.isLt).2.2.2.2.2.2.2.2.2.2.2.1 := by dsimp only [dats]
theorem after0_30 (c : Dev nD) (t : Fin cfg0.N) : (dats m 0 c).after 30 t = (outsAt0 m c t.val t.isLt).2.2.2.2.2.2.2.2.2.2.2.2.1 := by dsimp only [dats]
theorem after0_31 (c : Dev nD) (t : Fin cfg0.N) : (dats m 0 c).after 31 t = (outsAt0 m c t.val t.isLt).2.2.2.2.2.2.2.2.2.2.2.2.2.1 := by dsimp only [dats]
theorem after0_32 (c : Dev nD) (t : Fin cfg0.N) : (dats m 0 c).after 32 t = (outsAt0 m c t.val t.isLt).2.2.2.2.2.2.2.2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t))

set_option maxHeartbeats 25600000 in
/-- The body at the first point. -/
theorem sound_A (c : Dev nD) (t : Fin cfg0.N) (h0 : t.val % 32 = 0) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32]
  rw [show (dats m 0 c).Φ t.succ = PhiS m c (t.val + 1) t.isLt from rfl, PhiS_succ]
  rw [PhiS_castSucc m c t, PhiS_zero m c _ _ hz, PhiA0_eq]
  rw [outsAt0_A m c t h0]; unfold outA; dsimp only
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩⟩
  iapply ((ra m c t h0).2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [HS0]; · iexact HS0
  iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩, ⟨%e31, H31⟩, ⟨%e32, H32⟩, ⟨%es0, HS0⟩⟩
  isplitl [HS0 Hg]
  · isplitl [HS0]
    · unfold owns; iexists _; isplitr
      swap; · iexact HS0
      ipureintro; exact View.read_writes_of_cover _ _ _ _ _ (coverA_33 m c t h0)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_of_cover _ _ _ _ _ (coverA_18 m c t h0)
  isplitl [H19]
  · unfold owns; iexists _; isplitr
    swap; · iexact H19
    ipureintro; exact View.read_writes_of_cover _ _ _ _ _ (coverA_19 m c t h0)
  isplitl [H20]
  · unfold owns; iexists _; isplitr
    swap; · iexact H20
    ipureintro; exact View.read_writes_of_cover _ _ _ _ _ (coverA_20 m c t h0)
  isplitl [H21]
  · unfold owns; iexists _; isplitr
    swap; · iexact H21
    ipureintro; exact View.read_writes_of_cover _ _ _ _ _ (coverA_21 m c t h0)
  isplitl [H22]
  · unfold owns; iexists _; isplitr
    swap; · iexact H22
    ipureintro; exact View.read_writes_of_cover _ _ _ _ _ (coverA_22 m c t h0)
  isplitl [H23]
  · unfold owns; iexists _; isplitr
    swap; · iexact H23
    ipureintro; exact View.read_writes_of_cover _ _ _ _ _ (coverA_23 m c t h0)
  isplitl [H24]
  · unfold owns; iexists _; isplitr
    swap; · iexact H24
    ipureintro; exact View.read_writes_of_cover _ _ _ _ _ (coverA_24 m c t h0)
  isplitl [H25]
  · unfold owns; iexists _; isplitr
    swap; · iexact H25
    ipureintro; exact View.read_writes_of_cover _ _ _ _ _ (coverA_25 m c t h0)
  isplitl [H26]
  · unfold owns; iexists _; isplitr
    swap; · iexact H26
    ipureintro; exact View.read_writes_of_cover _ _ _ _ _ (coverA_26 m c t h0)
  isplitl [H27]
  · unfold owns; iexists _; isplitr
    swap; · iexact H27
    ipureintro; exact View.read_writes_of_cover _ _ _ _ _ (coverA_27 m c t h0)
  isplitl [H28]
  · unfold owns; iexists _; isplitr
    swap; · iexact H28
    ipureintro; exact View.read_writes_of_cover _ _ _ _ _ (coverA_28 m c t h0)
  isplitl [H29]
  · unfold owns; iexists _; isplitr
    swap; · iexact H29
    ipureintro; exact View.read_writes_of_cover _ _ _ _ _ (coverA_29 m c t h0)
  isplitl [H30]
  · unfold owns; iexists _; isplitr
    swap; · iexact H30
    ipureintro; exact View.read_writes_of_cover _ _ _ _ _ (coverA_30 m c t h0)
  isplitl [H31]
  · unfold owns; iexists _; isplitr
    swap; · iexact H31
    ipureintro; exact View.read_writes_of_cover _ _ _ _ _ (coverA_31 m c t h0)
  unfold owns; iexists _; isplitr
  swap; · iexact H32
  ipureintro; exact View.read_writes_of_cover _ _ _ _ _ (coverA_32 m c t h0)

set_option maxHeartbeats 25600000 in
/-- The body at a later point. -/
theorem sound_B (c : Dev nD) (t : Fin cfg0.N) (h0 : ¬t.val % 32 = 0) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32]
  rw [show (dats m 0 c).Φ t.succ = PhiS m c (t.val + 1) t.isLt from rfl, PhiS_succ]
  rw [PhiS_castSucc m c t, PhiS_pos m c _ _ hz]
  rw [outsAt0_B m c t h0]; unfold outB; dsimp only
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩⟩
  iapply ((rb m c t h0 _).2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [HS0]; · iexact HS0
  iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩, ⟨%e31, H31⟩, ⟨%e32, H32⟩, ⟨%es0, HS0⟩⟩
  isplitl [HS0 Hg]
  · isplitl [HS0]
    · unfold owns; iexists _; isplitr
      swap; · iexact HS0
      ipureintro; exact View.read_writes_of_cover _ _ _ _ _ (coverB_33 m c t h0 _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_of_cover _ _ _ _ _ (coverB_18 m c t h0 _)
  isplitl [H19]
  · unfold owns; iexists _; isplitr
    swap; · iexact H19
    ipureintro; exact View.read_writes_of_cover _ _ _ _ _ (coverB_19 m c t h0 _)
  isplitl [H20]
  · unfold owns; iexists _; isplitr
    swap; · iexact H20
    ipureintro; exact View.read_writes_of_cover _ _ _ _ _ (coverB_20 m c t h0 _)
  isplitl [H21]
  · unfold owns; iexists _; isplitr
    swap; · iexact H21
    ipureintro; exact View.read_writes_of_cover _ _ _ _ _ (coverB_21 m c t h0 _)
  isplitl [H22]
  · unfold owns; iexists _; isplitr
    swap; · iexact H22
    ipureintro; exact View.read_writes_of_cover _ _ _ _ _ (coverB_22 m c t h0 _)
  isplitl [H23]
  · unfold owns; iexists _; isplitr
    swap; · iexact H23
    ipureintro; exact View.read_writes_of_cover _ _ _ _ _ (coverB_23 m c t h0 _)
  isplitl [H24]
  · unfold owns; iexists _; isplitr
    swap; · iexact H24
    ipureintro; exact View.read_writes_of_cover _ _ _ _ _ (coverB_24 m c t h0 _)
  isplitl [H25]
  · unfold owns; iexists _; isplitr
    swap; · iexact H25
    ipureintro; exact View.read_writes_of_cover _ _ _ _ _ (coverB_25 m c t h0 _)
  isplitl [H26]
  · unfold owns; iexists _; isplitr
    swap; · iexact H26
    ipureintro; exact View.read_writes_of_cover _ _ _ _ _ (coverB_26 m c t h0 _)
  isplitl [H27]
  · unfold owns; iexists _; isplitr
    swap; · iexact H27
    ipureintro; exact View.read_writes_of_cover _ _ _ _ _ (coverB_27 m c t h0 _)
  isplitl [H28]
  · unfold owns; iexists _; isplitr
    swap; · iexact H28
    ipureintro; exact View.read_writes_of_cover _ _ _ _ _ (coverB_28 m c t h0 _)
  isplitl [H29]
  · unfold owns; iexists _; isplitr
    swap; · iexact H29
    ipureintro; exact View.read_writes_of_cover _ _ _ _ _ (coverB_29 m c t h0 _)
  isplitl [H30]
  · unfold owns; iexists _; isplitr
    swap; · iexact H30
    ipureintro; exact View.read_writes_of_cover _ _ _ _ _ (coverB_30 m c t h0 _)
  isplitl [H31]
  · unfold owns; iexists _; isplitr
    swap; · iexact H31
    ipureintro; exact View.read_writes_of_cover _ _ _ _ _ (coverB_31 m c t h0 _)
  unfold owns; iexists _; isplitr
  swap; · iexact H32
  ipureintro; exact View.read_writes_of_cover _ _ _ _ _ (coverB_32 m c t h0 _)

theorem sound_body (c : Dev nD) (t : Fin cfg0.N) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  by_cases h0 : t.val % 32 = 0
  · exact sound_A m c t h0 (by omega)
  · exact sound_B m c t h0 (by omega)

theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.Kernel4Ideal.Gen

end
-- ==== Proof.Proj.Pieces.lean ====
/- What the two runs of the projection's body store in the outputs read by their values, and what a grid point leaves in them. -/
module

public import proofs.«01_k».proof.Proof.Proj.FrameKernel4Ideal
public import Idealize.ShloMosaic.Lib.Writes
public import Idealize.ShloMosaic.Lib.Tactic

@[expose] public section

set_option maxRecDepth 16384

noncomputable section

namespace Cert.Kernel4Ideal.Gen

open Idealize.ShloMosaic Idealize.ShloMosaic.TcCoe Idealize.ShloMosaic.Tactic Cert.Kernel4Ideal

variable {F : FTy → Type} [FloatOps F]
variable (m : (ℓ : Loc nD τ sig) → Buf (Elt F) ℓ) (c : Dev nD) (t : Fin cfg0.N)

/-- The block of rows, as the body reads it. -/
def bX : Vec F S512x1024 .f32 := View.readAt (Elt F) (ms0_0 t).view (Rect.unit (s := S512x1024) ![0, 0] S512x1024.size inb_S512x1024_S512x1024_0_0).toLoadRect ((hs0_0 t).unread (iblk m c 0 t))
/-- The gain of the rows. -/
def bG : Vec F S1x1024 .f32 := View.readAt (Elt F) (ms0_1 t).view (Rect.unit (s := S1x1024) ![0, 0] S1x1024.size inb_S1x1024_S1x1024_0_0).toLoadRect ((hs0_1 t).unread (iblk m c 1 t))
/-- The weights' columns of the recurrence. -/
def bWr : Vec F S1024x1024 .bf16 := View.readAt (Elt F) (ms0_2 t).view (Rect.unit (s := S1024x3328) ![0, 0] S1024x1024.size inb_S1024x3328_S1024x1024_0_0).toLoadRect ((hs0_2 t).unread (iblk m c 2 t))
/-- The weights' columns of the convolution. -/
def bWc : Vec F S1024x768 .bf16 := View.readAt (Elt F) (ms0_2 t).view (Rect.unit (s := S1024x3328) ![0, 1024] S1024x768.size inb_S1024x3328_S1024x768_0_1024).toLoadRect ((hs0_2 t).unread (iblk m c 2 t))
/-- The weights' columns of the queries. -/
def bWq : Vec F S1024x512 .bf16 := View.readAt (Elt F) (ms0_2 t).view (Rect.unit (s := S1024x3328) ![0, 1792] S1024x512.size inb_S1024x3328_S1024x512_0_1792).toLoadRect ((hs0_2 t).unread (iblk m c 2 t))
/-- The weights' columns of the keys. -/
def bWk : Vec F S1024x512 .bf16 := View.readAt (Elt F) (ms0_2 t).view (Rect.unit (s := S1024x3328) ![0, 2304] S1024x512.size inb_S1024x3328_S1024x512_0_2304).toLoadRect ((hs0_2 t).unread (iblk m c 2 t))
/-- The weights' columns of the values. -/
def bWv : Vec F S1024x512 .bf16 := View.readAt (Elt F) (ms0_2 t).view (Rect.unit (s := S1024x3328) ![0, 2816] S1024x512.size inb_S1024x3328_S1024x512_0_2816).toLoadRect ((hs0_2 t).unread (iblk m c 2 t))
/-- The matrix of head means. -/
def bE : Vec F S512x512 .bf16 := View.readAt (Elt F) (ms0_3 t).view (Rect.unit (s := S512x512) ![0, 0] S512x512.size inb_S512x512_S512x512_0_0).toLoadRect ((hs0_3 t).unread (iblk m c 3 t))
/-- The gain of the queries. -/
def bQ : Vec F S1x512 .f32 := View.readAt (Elt F) (ms0_4 t).view (Rect.unit (s := S1x512) ![0, 0] S1x512.size inb_S1x512_S1x512_0_0).toLoadRect ((hs0_4 t).unread (iblk m c 4 t))
/-- The gain of the keys. -/
def bK : Vec F S1x512 .f32 := View.readAt (Elt F) (ms0_5 t).view (Rect.unit (s := S1x512) ![0, 0] S1x512.size inb_S1x512_S1x512_0_0).toLoadRect ((hs0_5 t).unread (iblk m c 5 t))
/-- The keys of the layer before. -/
def bKp : Vec F S1x512x512 .f32 := View.readAt (Elt F) (ms0_16 t).view (Rect.unit (s := S2x512x512) ![0, 0, 0] S1x512x512.size inb_S2x512x512_S1x512x512_0_0_0).toLoadRect ((hs0_16 t).unread (iblk m c 16 t))
/-- The values of the layer before. -/
def bVp : Vec F S1x512x512 .f32 := View.readAt (Elt F) (ms0_17 t).view (Rect.unit (s := S2x512x512) ![0, 0, 0] S1x512x512.size inb_S2x512x512_S1x512x512_0_0_0).toLoadRect ((hs0_17 t).unread (iblk m c 17 t))

/-- The normalised rows. -/
def bH : FVec F S512x1024 .bf16 := k0_pay5 (bX m c t) (bG m c t)
/-- The queries. -/
def bq : FVec F S512x512 .f32 := k0_pay28 (bH m c t) (bWq m c t) (bQ m c t) (bE m c t)

/-- The pieces of output 0. -/
def pieces18 : List (View.Piece (Elt F) S512x1024 .f32) :=
  [⟨Rect.unit (s := S512x1024) ![0, 0] S512x1024.size inb_S512x1024_S512x1024_0_0, k0_pay6 (bX m c t) (bG m c t) (bWr m c t)⟩]

theorem piecesA_18 (h0 : t.val % 32 = 0) : (ra m c t h0).1 = pieces18 m c t := by sl_kernel_rfl

theorem piecesB_18 (h0 : ¬t.val % 32 = 0) (xs : Vec F S8x1024 .f32) : (rb m c t h0 xs).1 = pieces18 m c t := by sl_kernel_rfl

theorem left18 : (dats m 0 c).after 18 t = VO0_18.read (Elt F) (VO0_18.writes (Elt F) VO0_18.junk (pieces18 m c t)) := by
  rw [after0_18]
  by_cases h0 : t.val % 32 = 0
  · rw [outsAt0_A m c t h0]; unfold outA; dsimp only; rw [piecesA_18]
  · rw [outsAt0_B m c t h0]; unfold outB; dsimp only; rw [piecesB_18]

/-- The pieces of output 1. -/
def pieces19 : List (View.Piece (Elt F) S512x768 .f32) :=
  [⟨Rect.unit (s := S512x768) ![0, 0] S512x768.size inb_S512x768_S512x768_0_0, k0_pay27 (bH m c t) (bWc m c t)⟩]

theorem piecesA_19 (h0 : t.val % 32 = 0) : (ra m c t h0).2.1 = pieces19 m c t := by sl_kernel_rfl

theorem piecesB_19 (h0 : ¬t.val % 32 = 0) (xs : Vec F S8x1024 .f32) : (rb m c t h0 xs).2.1 = pieces19 m c t := by sl_kernel_rfl

theorem left19 : (dats m 0 c).after 19 t = VO0_19.read (Elt F) (VO0_19.writes (Elt F) VO0_19.junk (pieces19 m c t)) := by
  rw [after0_19]
  by_cases h0 : t.val % 32 = 0
  · rw [outsAt0_A m c t h0]; unfold outA; dsimp only; rw [piecesA_19]
  · rw [outsAt0_B m c t h0]; unfold outB; dsimp only; rw [piecesB_19]

/-- The pieces of output 2. -/
def pieces20 : List (View.Piece (Elt F) S2x512x512 .f32) :=
  [⟨Rect.unit (s := S2x512x512) ![1, 0, 0] S1x512x512.size inb_S2x512x512_S1x512x512_1_0_0, k0_pay34 (k0_pay29 (bH m c t) (bWk m c t)) (k0_pay30 (bK m c t)) (k0_pay31 (bH m c t) (bWk m c t)) (k0_pay32 (bE m c t)) (constant S512x512 .f32 0x00000000#32)⟩,
   ⟨Rect.unit (s := S2x512x512) ![0, 0, 0] S1x512x512.size inb_S2x512x512_S1x512x512_0_0_0, k0_pay3 (bKp m c t)⟩]

theorem piecesA_20 (h0 : t.val % 32 = 0) : (ra m c t h0).2.2.1 = pieces20 m c t := by sl_kernel_rfl

theorem piecesB_20 (h0 : ¬t.val % 32 = 0) (xs : Vec F S8x1024 .f32) : (rb m c t h0 xs).2.2.1 = pieces20 m c t := by sl_kernel_rfl

theorem left20 : (dats m 0 c).after 20 t = VO0_20.read (Elt F) (VO0_20.writes (Elt F) VO0_20.junk (pieces20 m c t)) := by
  rw [after0_20]
  by_cases h0 : t.val % 32 = 0
  · rw [outsAt0_A m c t h0]; unfold outA; dsimp only; rw [piecesA_20]
  · rw [outsAt0_B m c t h0]; unfold outB; dsimp only; rw [piecesB_20]

/-- The pieces of output 3. -/
def pieces21 : List (View.Piece (Elt F) S2x512x512 .f32) :=
  [⟨Rect.unit (s := S2x512x512) ![1, 0, 0] S1x512x512.size inb_S2x512x512_S1x512x512_1_0_0, k0_pay36 (bH m c t) (bWv m c t)⟩,
   ⟨Rect.unit (s := S2x512x512) ![0, 0, 0] S1x512x512.size inb_S2x512x512_S1x512x512_0_0_0, k0_pay4 (bVp m c t)⟩]

theorem piecesA_21 (h0 : t.val % 32 = 0) : (ra m c t h0).2.2.2.1 = pieces21 m c t := by sl_kernel_rfl

theorem piecesB_21 (h0 : ¬t.val % 32 = 0) (xs : Vec F S8x1024 .f32) : (rb m c t h0 xs).2.2.2.1 = pieces21 m c t := by sl_kernel_rfl

theorem left21 : (dats m 0 c).after 21 t = VO0_21.read (Elt F) (VO0_21.writes (Elt F) VO0_21.junk (pieces21 m c t)) := by
  rw [after0_21]
  by_cases h0 : t.val % 32 = 0
  · rw [outsAt0_A m c t h0]; unfold outA; dsimp only; rw [piecesA_21]
  · rw [outsAt0_B m c t h0]; unfold outB; dsimp only; rw [piecesB_21]

/-- The pieces of output 12. -/
def pieces30 : List (View.Piece (Elt F) S1x2x512x256 .bf16) :=
  [⟨Rect.unit (s := S1x2x512x256) ![0, 1, 0, 0] S1x1x512x256.size inb_S1x2x512x256_S1x1x512x256_0_1_0_0, k0_pay1 (k0_pay42 (bq m c t))⟩,
   ⟨Rect.unit (s := S1x2x512x256) ![0, 0, 0, 0] S1x1x512x256.size inb_S1x2x512x256_S1x1x512x256_0_0_0_0, k0_pay40 (bq m c t)⟩]

theorem piecesA_30 (h0 : t.val % 32 = 0) : (ra m c t h0).2.2.2.2.2.2.2.2.2.2.2.2.1 = pieces30 m c t := by sl_kernel_rfl

theorem piecesB_30 (h0 : ¬t.val % 32 = 0) (xs : Vec F S8x1024 .f32) : (rb m c t h0 xs).2.2.2.2.2.2.2.2.2.2.2.2.1 = pieces30 m c t := by sl_kernel_rfl

set_option maxHeartbeats 2000000 in
theorem left30 : (dats m 0 c).after 30 t = VO0_30.read (Elt F) (VO0_30.writes (Elt F) VO0_30.junk (pieces30 m c t)) := by
  rw [after0_30]
  by_cases h0 : t.val % 32 = 0
  · rw [outsAt0_A m c t h0]; unfold outA; dsimp only; rw [piecesA_30]
  · rw [outsAt0_B m c t h0]; unfold outB; dsimp only; rw [piecesB_30]

/-- The pieces of output 13. -/
def pieces31 : List (View.Piece (Elt F) S512x512 .bf16) :=
  [⟨Rect.unit (s := S512x512) ![0, 0] S512x512.size inb_S512x512_S512x512_0_0, k0_pay37 (k0_pay29 (bH m c t) (bWk m c t)) (k0_pay30 (bK m c t)) (k0_pay31 (bH m c t) (bWk m c t)) (k0_pay32 (bE m c t)) (constant S512x512 .f32 0x00000000#32)⟩]

theorem piecesA_31 (h0 : t.val % 32 = 0) : (ra m c t h0).2.2.2.2.2.2.2.2.2.2.2.2.2.1 = pieces31 m c t := by sl_kernel_rfl

theorem piecesB_31 (h0 : ¬t.val % 32 = 0) (xs : Vec F S8x1024 .f32) : (rb m c t h0 xs).2.2.2.2.2.2.2.2.2.2.2.2.2.1 = pieces31 m c t := by sl_kernel_rfl

set_option maxHeartbeats 2000000 in
theorem left31 : (dats m 0 c).after 31 t = VO0_31.read (Elt F) (VO0_31.writes (Elt F) VO0_31.junk (pieces31 m c t)) := by
  rw [after0_31]
  by_cases h0 : t.val % 32 = 0
  · rw [outsAt0_A m c t h0]; unfold outA; dsimp only; rw [piecesA_31]
  · rw [outsAt0_B m c t h0]; unfold outB; dsimp only; rw [piecesB_31]

/-- The pieces of output 14. -/
def pieces32 : List (View.Piece (Elt F) S1x2x512x256 .bf16) :=
  [⟨Rect.unit (s := S1x2x512x256) ![0, 1, 0, 0] S1x1x512x256.size inb_S1x2x512x256_S1x1x512x256_0_1_0_0, k0_pay2 (k0_pay39 (bH m c t) (bWv m c t))⟩,
   ⟨Rect.unit (s := S1x2x512x256) ![0, 0, 0, 0] S1x1x512x256.size inb_S1x2x512x256_S1x1x512x256_0_0_0_0, k0_pay41 (bH m c t) (bWv m c t)⟩]

theorem piecesA_32 (h0 : t.val % 32 = 0) : (ra m c t h0).2.2.2.2.2.2.2.2.2.2.2.2.2.2.1 = pieces32 m c t := by sl_kernel_rfl

theorem piecesB_32 (h0 : ¬t.val % 32 = 0) (xs : Vec F S8x1024 .f32) : (rb m c t h0 xs).2.2.2.2.2.2.2.2.2.2.2.2.2.2.1 = pieces32 m c t := by sl_kernel_rfl

set_option maxHeartbeats 2000000 in
theorem left32 : (dats m 0 c).after 32 t = VO0_32.read (Elt F) (VO0_32.writes (Elt F) VO0_32.junk (pieces32 m c t)) := by
  rw [after0_32]
  by_cases h0 : t.val % 32 = 0
  · rw [outsAt0_A m c t h0]; unfold outA; dsimp only; rw [piecesA_32]
  · rw [outsAt0_B m c t h0]; unfold outB; dsimp only; rw [piecesB_32]

end Cert.Kernel4Ideal.Gen

end
-- ==== Proof.Proj.Row.lean ====
/- One row of the projection: the normalised row times columns of the weights, and queries and keys normalised head by head. -/
module

public import proofs.«01_k».proof.Proof.Tail.Row

@[expose] public section

noncomputable section

namespace Cert.Proj

open Idealize.ShloMosaic Cert.Tail

/-- Place `e` of the head that column `k` belongs to, among eight heads. -/
def lane8 (k : Fin 512) (e : Fin 64) : Fin 512 := ⟨k.val / 64 * 64 + e.val, by omega⟩

/-- The mean over the head of column `k`. -/
def headMean8 (y : Fin 512 → EReal) (k : Fin 512) : EReal := Ideal.div (∑ e : Fin 64, y (lane8 k e)) (Ideal.ofBits .f32 0x42800000#32)

/-- The kernel's matrix of head means over eight heads. -/
def ones8 (j k : Fin 512) : EReal := if j.val / 64 = k.val / 64 then (((64 : ℝ)⁻¹ : ℝ) : EReal) else 0

/-- A row over the root mean squares of its heads, times a gain. -/
def headRms (y gain : Fin 512 → EReal) (k : Fin 512) : EReal :=
  y k * Ideal.rsqrt (headMean8 (fun j => y j * y j) k + Ideal.ofBits .f32 0x358637BD#32) * gain k

/-- A normalised row times the columns of the weights from `o` on. -/
def part (x g : Fin 1024 → EReal) (w : Fin 1024 → Fin 3328 → EReal) (o n : ℕ) (h : o + n ≤ 3328) (c : Fin n) : EReal :=
  ∑ k : Fin 1024, rms x g k * w k ⟨o + c.val, by omega⟩

theorem square_nonneg (a : EReal) : 0 ≤ a * a := by
  rcases le_total 0 a with h | h
  · exact EReal.mul_nonneg h h
  · have h' : 0 ≤ -a := EReal.neg_nonneg.mpr h
    have := EReal.mul_nonneg h' h'
    rwa [EReal.neg_mul, mul_comm, EReal.neg_mul, neg_neg] at this

theorem sum_mul_nonneg {n : ℕ} (f : Fin n → EReal) (hf : ∀ i, 0 ≤ f i) (s : EReal) : ∑ i, f i * s = (∑ i, f i) * s := by
  have key (t : Finset (Fin n)) : ∑ i ∈ t, f i * s = (∑ i ∈ t, f i) * s := by
    induction t using Finset.induction_on with
    | empty => rw [Finset.sum_empty, Finset.sum_empty, zero_mul]
    | insert a t ha ih =>
      rw [Finset.sum_insert ha, Finset.sum_insert ha, ih, EReal.right_distrib_of_nonneg (hf a) (Finset.sum_nonneg fun i _ => hf i)]
  exact key Finset.univ

/-- The squares of a row times the means' matrix are the heads' mean squares. -/
theorem mean8 (y : Fin 512 → EReal) (k : Fin 512) : ∑ j, y j * y j * ones8 j k = headMean8 (fun j => y j * y j) k := by
  unfold headMean8 Ideal.div
  rw [word64, if_neg (by norm_cast), ← EReal.coe_inv, ← sum_mul_nonneg _ (fun e => square_nonneg _)]
  rw [← (finProdFinEquiv (m := 8) (n := 64)).sum_comp, Fintype.sum_prod_type, Finset.sum_eq_single (⟨k.val / 64, by omega⟩ : Fin 8)]
  · refine Finset.sum_congr rfl fun e _ => ?_
    have he : finProdFinEquiv (m := 8) (n := 64) (⟨k.val / 64, by omega⟩, e) = lane8 k e := Fin.ext (by simp [finProdFinEquiv, lane8]; omega)
    rw [he]
    unfold ones8
    rw [if_pos (by show (k.val / 64 * 64 + e.val) / 64 = k.val / 64; omega)]
  · intro g _ hg
    refine Finset.sum_eq_zero fun e _ => ?_
    unfold ones8
    rw [if_neg, mul_zero]
    intro h
    apply hg
    apply Fin.ext
    show g.val = k.val / 64
    have : ((finProdFinEquiv (m := 8) (n := 64) (g, e)).val) / 64 = g.val := by simp [finProdFinEquiv]; omega
    omega
  · intro hn; exact absurd (Finset.mem_univ _) hn

end Cert.Proj

end
-- ==== Proof.Proj.Block.lean ====
/- The projection kernel's block, payload by payload, read at a row and a column. -/
module

public import proofs.«01_k».proof.Proof.Gen.Kernel4Ideal.Skeleton
public import proofs.«01_k».proof.Proof.Proj.Row
public import proofs.«01_k».proof.Proof.Tail.Block2

@[expose] public section

noncomputable section

namespace Cert.Kernel4Ideal.Gen

open Idealize.ShloMosaic Idealize.ShloMosaic.ValueIdx Cert.Kernel4Ideal Cert.Tail Cert.Proj

theorem mm_one (x : FVec Ideal S512x1024 .bf16) (w : FVec Ideal S1024x512 .bf16) (r : Fin 512) (c : Fin 512) :
    matmul (F := Ideal) dot_S512x1024_S1024x512_S512x512_1_0_0_1_n_n none x w (constant S512x512 .f32 0x00000000#32) (ix2 r c)
      = ∑ k : Fin 1024, x (ix2 r k) * w (ix2 k c) := Cert.Kernel2Ideal.Gen.mm x w r c

theorem mm_mean (x : FVec Ideal S512x512 .bf16) (w : FVec Ideal S512x512 .bf16) (r : Fin 512) (c : Fin 512) :
    matmul (F := Ideal) dot_S512x512_S512x512_S512x512_1_0_0_1_n_n none x w (constant S512x512 .f32 0x00000000#32) (ix2 r c)
      = ∑ k : Fin 512, x (ix2 r k) * w (ix2 k c) := Cert.Kernel2Ideal.Gen.mm x w r c

theorem row512 (v : FVec Ideal S1x512 .f32) (r : Fin 512) (k : Fin 512) :
    broadcastTo S512x512 v broadcasts_S1x512_S512x512 (ix2 r k) = v (ix2 (0 : Fin 1) k) := broadcastTo_1b_ab_apply v _ r k

theorem pay5_apply (x : Vec Ideal S512x1024 .f32) (g : Vec Ideal S1x1024 .f32) (r : Fin 512) (c : Fin 1024) :
    k0_pay5 (F := Ideal) x g (ix2 r c) = rms (fun c => x (ix2 r c)) (fun c => g (ix2 (0 : Fin 1) c)) c := by
  unfold k0_pay5
  simp only [shapeCast_self]
  exact Cert.Kernel2Ideal.Gen.rmsV_apply x g r c

theorem pay6_apply (x : Vec Ideal S512x1024 .f32) (g : Vec Ideal S1x1024 .f32) (w : Vec Ideal S1024x1024 .bf16) (r : Fin 512) (c : Fin 1024) :
    k0_pay6 (F := Ideal) x g w (ix2 r c) = ∑ k : Fin 1024, rms (fun c => x (ix2 r c)) (fun c => g (ix2 (0 : Fin 1) c)) k * w (ix2 k c) := by
  unfold k0_pay6
  simp only [shapeCast_self]
  refine (Cert.Kernel2Ideal.Gen.mm (k0_pay5 x g) w r c).trans (Finset.sum_congr rfl fun k _ => congrArg (· * _) (pay5_apply x g r k))

theorem pay27_apply (x : Vec Ideal S512x1024 .f32) (g : Vec Ideal S1x1024 .f32) (w : Vec Ideal S1024x768 .bf16) (r : Fin 512) (c : Fin 768) :
    k0_pay27 (F := Ideal) (k0_pay5 x g) w (ix2 r c) = ∑ k : Fin 1024, rms (fun c => x (ix2 r c)) (fun c => g (ix2 (0 : Fin 1) c)) k * w (ix2 k c) := by
  unfold k0_pay27
  simp only [shapeCast_self]
  refine (Cert.Kernel2Ideal.Gen.mm (k0_pay5 x g) w r c).trans (Finset.sum_congr rfl fun k _ => congrArg (· * _) (pay5_apply x g r k))

theorem pay29_apply (x : Vec Ideal S512x1024 .f32) (g : Vec Ideal S1x1024 .f32) (w : Vec Ideal S1024x512 .bf16) (r : Fin 512) (c : Fin 512) :
    k0_pay29 (F := Ideal) (k0_pay5 x g) w (ix2 r c) = ∑ k : Fin 1024, rms (fun c => x (ix2 r c)) (fun c => g (ix2 (0 : Fin 1) c)) k * w (ix2 k c) := by
  unfold k0_pay29
  simp only [shapeCast_self]
  refine (mm_one (k0_pay5 x g) w r c).trans (Finset.sum_congr rfl fun k _ => congrArg (· * _) (pay5_apply x g r k))

theorem pay35_apply (x : Vec Ideal S512x1024 .f32) (g : Vec Ideal S1x1024 .f32) (w : Vec Ideal S1024x512 .bf16) (r : Fin 512) (c : Fin 512) :
    k0_pay35 (F := Ideal) (k0_pay5 x g) w (ix2 r c) = ∑ k : Fin 1024, rms (fun c => x (ix2 r c)) (fun c => g (ix2 (0 : Fin 1) c)) k * w (ix2 k c) := pay29_apply x g w r c

/-- A block over the root mean squares of its heads, times a gain. -/
def headV (t : FVec Ideal S512x512 .f32) (gain : FVec Ideal S1x512 .f32) (e : FVec Ideal S512x512 .bf16) : FVec Ideal S512x512 .f32 :=
  mulf (mulf t (rsqrt (addf (matmul (φ₁ := .bf16) (φ₂ := .bf16) dot_S512x512_S512x512_S512x512_1_0_0_1_n_n none (truncf .bf16 (mulf t t) bitsLt_bf16_f32) e (constant S512x512 .f32 0x00000000#32))
    (broadcast S512x512 (Scalar.ofBits .f32 0x358637BD#32))))) (broadcastTo S512x512 gain broadcasts_S1x512_S512x512)

theorem headV_apply (t : FVec Ideal S512x512 .f32) (gain : FVec Ideal S1x512 .f32) (e : FVec Ideal S512x512 .bf16) (he : ∀ j k : Fin 512, e (ix2 j k) = ones8 j k)
    (r c : Fin 512) : headV t gain e (ix2 r c) = headRms (fun j => t (ix2 r j)) (fun j => gain (ix2 (0 : Fin 1) j)) c := by
  unfold headV headRms
  rw [mulf_apply, mulf_apply, row512]
  refine congrArg (· * _) (congrArg (_ * ·) (congrArg Ideal.rsqrt (congrArg (· + _) ?_)))
  rw [← mean8, mm_mean]
  simp only [he]
  rfl

theorem pay28_eq (v25 : FVec Ideal S512x1024 .bf16) (w : Vec Ideal S1024x512 .bf16) (g : Vec Ideal S1x512 .f32) (e : Vec Ideal S512x512 .bf16) :
    k0_pay28 (F := Ideal) v25 w g e = mulf (headV (k0_pay29 v25 w) g e) (broadcast S512x512 (Scalar.ofBits .f32 0x3E000000#32)) := by
  unfold k0_pay28 k0_pay29
  simp only [shapeCast_self]
  rfl

theorem pay33_eq (v25 : FVec Ideal S512x1024 .bf16) (w : Vec Ideal S1024x512 .bf16) (g : Vec Ideal S1x512 .f32) (e : Vec Ideal S512x512 .bf16) :
    k0_pay33 (F := Ideal) (k0_pay29 v25 w) (k0_pay30 g) (k0_pay31 v25 w) (k0_pay32 e) (constant S512x512 .f32 0x00000000#32) = headV (k0_pay29 v25 w) g e := by
  unfold k0_pay33 k0_pay31 k0_pay30 k0_pay32
  simp only [shapeCast_self]
  rfl

section halves
variable (v : FVec Ideal S512x512 .f32) (k : Fin 512) (t : Fin 256)

theorem cast4 (u : FVec Ideal S512x256 .bf16) : shapeCast S1x1x512x256 u shapeCasts_S512x256_S1x1x512x256 (ix4 (0 : Fin 1) (0 : Fin 1) k t) = u (ix2 k t) :=
  shapeCast_apply _ _ _ _ (by
    rw [Shape.rowMajor_val_two, Shape.rowMajor_val_four]; show k.val * 256 + t.val = ((0 * 1 + 0) * 512 + k.val) * 256 + t.val; omega)

theorem left_half (h) : extractStridedSlice S512x256 ![0, 0] v h (ix2 k t) = v (ix2 k (⟨t.val, by omega⟩ : Fin 512)) :=
  extractStridedSlice_apply _ _ _ _ (ix2 k (⟨t.val, by omega⟩ : Fin 512)) (fun a => match a with | ⟨0, _⟩ => (Nat.zero_add _).symm | ⟨1, _⟩ => (Nat.zero_add _).symm)

theorem right_half (h) : extractStridedSlice S512x256 ![0, 256] v h (ix2 k t) = v (ix2 k (⟨256 + t.val, by omega⟩ : Fin 512)) :=
  extractStridedSlice_apply _ _ _ _ (ix2 k (⟨256 + t.val, by omega⟩ : Fin 512)) (fun a => match a with | ⟨0, _⟩ => (Nat.zero_add _).symm | ⟨1, _⟩ => rfl)

theorem turn (r : Fin 512) : transpose S512x512 [1, 0] v transposes_S512x512_p1_0_S512x512 (ix2 k r) = v (ix2 r k) :=
  transpose_apply _ _ _ _ (ix2 r k) (fun a => match a with | ⟨0, _⟩ => rfl | ⟨1, _⟩ => rfl)

theorem pay40_apply : k0_pay40 (F := Ideal) v (ix4 (0 : Fin 1) (0 : Fin 1) k t) = v (ix2 (⟨t.val, by omega⟩ : Fin 512) k) * Ideal.ofBits .f32 0x3FB8AA3B#32 := by
  unfold k0_pay40 k0_pay38
  refine (cast4 k t _).trans ?_
  rw [truncf_apply, left_half, turn]
  rfl

theorem pay42_apply : k0_pay1 (F := Ideal) (k0_pay42 v) (ix4 (0 : Fin 1) (0 : Fin 1) k t) = v (ix2 (⟨256 + t.val, by omega⟩ : Fin 512) k) * Ideal.ofBits .f32 0x3FB8AA3B#32 := by
  unfold k0_pay1 k0_pay42 k0_pay38
  refine (cast4 k t _).trans ?_
  rw [truncf_apply, right_half, turn]
  rfl

variable (v25 : FVec Ideal S512x1024 .bf16) (w : Vec Ideal S1024x512 .bf16)

theorem pay41_apply : k0_pay41 (F := Ideal) v25 w (ix4 (0 : Fin 1) (0 : Fin 1) k t) = k0_pay35 (F := Ideal) v25 w (ix2 (⟨t.val, by omega⟩ : Fin 512) k) := by
  unfold k0_pay41 k0_pay39
  refine (cast4 k t _).trans ?_
  rw [truncf_apply, left_half, turn]

theorem pay2_apply : k0_pay2 (F := Ideal) (k0_pay39 v25 w) (ix4 (0 : Fin 1) (0 : Fin 1) k t) = k0_pay35 (F := Ideal) v25 w (ix2 (⟨256 + t.val, by omega⟩ : Fin 512) k) := by
  unfold k0_pay2 k0_pay39
  refine (cast4 k t _).trans ?_
  rw [truncf_apply, right_half, turn]

/-- A matrix seen as a stack of one. -/
theorem cast3 (r : Fin 512) : shapeCast S1x512x512 v shapeCasts_S512x512_S1x512x512 (ix3 (0 : Fin 1) r k) = v (ix2 r k) :=
  shapeCast_apply _ _ _ _ (by
    rw [Shape.rowMajor_val_two, Shape.rowMajor_val_three]; show r.val * 512 + k.val = (0 * 512 + r.val) * 512 + k.val; omega)

theorem pay3_eq (u : Vec Ideal S1x512x512 .f32) (r : Fin 512) : k0_pay3 (F := Ideal) u (ix3 (0 : Fin 1) r k) = u (ix3 (0 : Fin 1) r k) := by
  unfold k0_pay3
  refine (cast3 _ k r).trans (shapeCast_apply _ _ _ _ (by
    rw [Shape.rowMajor_val_two, Shape.rowMajor_val_three]; show (0 * 512 + r.val) * 512 + k.val = r.val * 512 + k.val; omega))

theorem pay4_eq (u : Vec Ideal S1x512x512 .f32) (r : Fin 512) : k0_pay4 (F := Ideal) u (ix3 (0 : Fin 1) r k) = u (ix3 (0 : Fin 1) r k) := pay3_eq k u r

end halves

end Cert.Kernel4Ideal.Gen

end
-- ==== Proof.Proj.Host.lean ====
/- What the projection kernel's operands hold in terms of the arguments: the weights, the gains as rows, the matrix of head means. -/
module

public import proofs.«01_k».proof.Proof.Proj.Block
public import proofs.«01_k».proof.Proof.Tail.Host
public import proofs.«01_k».proof.Proof.Gen.Kernel4Ideal.Frame.Runs
public import Idealize.ShloMosaic.Lib.StableHlo.ReadAt
public import Idealize.ShloMosaic.Lib.Claim

@[expose] public section

set_option maxRecDepth 16384

noncomputable section

namespace Cert.Kernel4Ideal.Gen

open Idealize.ShloMosaic hiding ix1 ix2 ix3 ix4 ix5
open Idealize.ShloMosaic.ValueIdx Idealize.ShloMosaic.TcCoe Cert.Kernel4Ideal Cert.Tail Cert.Proj
open Cert.Kernel2Ideal.Gen (headWord zero_bits select_dec)

variable (m : (ℓ : Loc nD τ sig) → Buf (Elt Ideal) ℓ) (c : Dev nD)

theorem V_win (k : Fin 1024) (f : Fin 3328) : V (F := Ideal) m c main_v0 (ix2 k f) = m ((c : Thread nD τ).loc main_arg16) (ix2 k f) := by
  unfold V
  after_reads_at
  rfl

theorem V_gmix (k : Fin 1024) : V (F := Ideal) m c main_v18 (ix2 (0 : Fin 1) k) = m ((c : Thread nD τ).loc main_arg4) (ix1 k) := by
  unfold V
  after_reads_at
  rfl

theorem headWord_eq8 : ∀ j : Fin 512, headWord j.val = BitVec.ofNat 32 (j.val / 64) := by decide +kernel

theorem V_ones8 (j k : Fin 512) : V (F := Ideal) m c main_v9 (ix2 j k) = ones8 j k := by
  unfold V
  after_reads_at
  show Scalar.select (BitVec.ofBool (headWord j.val == headWord k.val)) (Ideal.ofBits .f32 0x3C800000#32) (Ideal.ofBits .f32 0x00000000#32) = _
  rw [headWord_eq8, headWord_eq8, word64th, zero_bits]
  have e : (BitVec.ofNat 32 (j.val / 64) == BitVec.ofNat 32 (k.val / 64)) = decide (j.val / 64 = k.val / 64) := by
    have hj := j.isLt
    have hk := k.isLt
    rw [Bool.eq_iff_iff, beq_iff_eq, decide_eq_true_iff]
    constructor
    · intro h
      have := congrArg BitVec.toNat h
      simp only [BitVec.toNat_ofNat] at this
      omega
    · intro h; rw [h]
  rw [e, select_dec]
  rfl

theorem V_qgain (k : Fin 512) : V (F := Ideal) m c main_v13 (ix2 (0 : Fin 1) k) = m ((c : Thread nD τ).loc main_arg14) (ix1 (⟨k.val % 64, by omega⟩ : Fin 64)) := by
  unfold V
  after_reads_at
  rfl

theorem V_kgain (k : Fin 512) : V (F := Ideal) m c main_v17 (ix2 (0 : Fin 1) k) = m ((c : Thread nD τ).loc main_arg15) (ix1 (⟨k.val % 64, by omega⟩ : Fin 64)) := by
  unfold V
  after_reads_at
  rfl

end Cert.Kernel4Ideal.Gen

end
-- ==== Proof.Proj.Ref.lean ====
/- The projection reference's results, element by element. -/
module

public import proofs.«01_k».proof.Proof.Proj.Row
public import proofs.«01_k».proof.Proof.Tail.Ref
public import proofs.«01_k».proof.Proof.Gen.Reference4Ideal.Read

@[expose] public section

set_option maxRecDepth 16384
set_option backward.proofsInPublic true

noncomputable section

namespace Cert.Reference4Ideal.Gen

open Idealize.ShloMosaic Idealize.ShloMosaic.ValueIdx Cert.Reference4Ideal Cert.Tail Cert.Proj Cert.Reference4Ideal.Read
open Cert.Reference2Ideal.Gen (eq_ix1 eq_ix2 eq_ix3 eq_ix4 word_zero)

variable (x0 : Mat 16384 1024) (x2 x3 : (⟨3, ![2, 16384, 512]⟩ : Shape).Idx → EReal) (x4 : (⟨1, ![1024]⟩ : Shape).Idx → EReal)
  (x14 x15 : (⟨1, ![64]⟩ : Shape).Idx → EReal) (x16 : Mat 1024 3328) (n : Fin 16384)

theorem v12_at (c : Fin 1024) : val_main_v12 (F := Ideal) x0 x4 (ix2 n c) = rms (fun c => x0 (ix2 n c)) (fun c => x4 (ix1 c)) c := by
  rw [val_main_v12_apply, val_main_v9_apply, val_main_v8_apply, val_main_v7_apply, val_main_v6_apply, val_main_v4_apply, val_main_v2_apply, val_main_v1_apply,
    val_main_v3_apply, val_main_v5_apply, val_main_v11_apply, val_main_v10_apply, eq_ix1 (idx_main_v10 _) c rfl]
  have hs : (val_main_cst (F := Ideal)) (Shape.Idx.first h_S_) + ∑ k : Fin 1024, val_main_v0 (F := Ideal) x0 (idx_main_v1 (idx_main_v2 (idx_main_v8 (ix2 n c))) k)
      = ∑ k, @HMul.hMul EReal EReal EReal _ (x0 (ix2 n k)) (x0 (ix2 n k)) := by
    refine ((congrArg (· + _) word_zero).trans (zero_add _)).trans (Finset.sum_congr rfl fun k _ => ?_)
    rw [val_main_v0_apply, eq_ix2 (idx_main_v1 _ k) n k rfl rfl]
    rfl
  rw [hs]
  rfl

theorem v13_at (c : Fin 3328) : val_main_v13 (F := Ideal) x0 x4 x16 (ix2 n c)
    = ∑ k : Fin 1024, rms (fun c => x0 (ix2 n c)) (fun c => x4 (ix1 c)) k * x16 (ix2 k c) := by
  rw [val_main_v13_apply]
  refine Finset.sum_congr rfl fun k _ => ?_
  rw [eq_ix2 (lidx_main_v13 _ k) n k rfl rfl, eq_ix2 (ridx_main_v13 _ k) k c rfl rfl, v12_at]

/-- Columns of a row's product with the weights, from column `o` on. -/
abbrev prt (o m : ℕ) (h : o + m ≤ 3328) : Fin m → EReal := part (fun c => x0 (ix2 n c)) (fun c => x4 (ix1 c)) (fun k c => x16 (ix2 k c)) o m h

theorem v14_at (c : Fin 1024) : val_main_v14 (F := Ideal) x0 x4 x16 (ix2 n c) = prt x0 x4 x16 n 0 1024 (by decide) c := by
  rw [val_main_v14_apply, eq_ix2 (idx_main_v14 _) n ⟨0 + c.val, by omega⟩ rfl (Nat.zero_add _).symm, v13_at]
  rfl

theorem v15_at (c : Fin 768) : val_main_v15 (F := Ideal) x0 x4 x16 (ix2 n c) = prt x0 x4 x16 n 1024 768 (by decide) c := by
  rw [val_main_v15_apply, eq_ix2 (idx_main_v15 _) n ⟨1024 + c.val, by omega⟩ rfl rfl, v13_at]
  rfl

theorem v16_at (c : Fin 1536) : val_main_v16 (F := Ideal) x0 x4 x16 (ix2 n c) = prt x0 x4 x16 n 1792 1536 (by decide) c := by
  rw [val_main_v16_apply, eq_ix2 (idx_main_v16 _) n ⟨1792 + c.val, by omega⟩ rfl rfl, v13_at]
  rfl

theorem v17_at (c : Fin 512) : val_main_v17 (F := Ideal) x0 x4 x16 (ix2 n c) = prt x0 x4 x16 n 1792 512 (by decide) c := by
  rw [val_main_v17_apply, eq_ix2 (idx_main_v17 _) n ⟨c.val, by omega⟩ rfl rfl, v16_at]
  rfl

theorem shift (o : ℕ) (c : Fin 512) (h : 1792 + o + 512 ≤ 3328) :
    prt x0 x4 x16 n 1792 1536 (by decide) ⟨o + c.val, by omega⟩ = prt x0 x4 x16 n (1792 + o) 512 h c :=
  Finset.sum_congr rfl fun k _ => congrArg (_ * ·) (congrArg x16 (congrArg (ix2 k) (Fin.ext (Nat.add_assoc 1792 o c.val).symm)))

theorem v18_at (c : Fin 512) : val_main_v18 (F := Ideal) x0 x4 x16 (ix2 n c) = prt x0 x4 x16 n 2304 512 (by decide) c := by
  rw [val_main_v18_apply, eq_ix2 (idx_main_v18 _) n ⟨512 + c.val, by omega⟩ rfl rfl, v16_at]
  exact shift x0 x4 x16 n 512 c (by decide)

theorem v19_at (c : Fin 512) : val_main_v19 (F := Ideal) x0 x4 x16 (ix2 n c) = prt x0 x4 x16 n 2816 512 (by decide) c := by
  rw [val_main_v19_apply, eq_ix2 (idx_main_v19 _) n ⟨1024 + c.val, by omega⟩ rfl rfl, v16_at]
  exact shift x0 x4 x16 n 1024 c (by decide)

/-! ### Queries and keys, head by head -/

section heads
variable (k : Fin 512)

/-- The head of a column. -/
abbrev hd8 (k : Fin 512) : Fin 8 := ⟨k.val / 64, by omega⟩

/-- A column's gain. -/
abbrev gain (g : (⟨1, ![64]⟩ : Shape).Idx → EReal) (k : Fin 512) : EReal := g (ix1 (⟨k.val % 64, by omega⟩ : Fin 64))

theorem lane8_self (k : Fin 512) : lane8 k (⟨k.val % 64, by omega⟩ : Fin 64) = k := Fin.ext (by show k.val / 64 * 64 + k.val % 64 = k.val; omega)

theorem v20_at (e : Fin 64) : val_main_v20 (F := Ideal) x0 x4 x16 (ix3 n (hd8 k) e) = prt x0 x4 x16 n 1792 512 (by decide) (lane8 k e) := by
  rw [val_main_v20_apply, eq_ix2 (idx_main_v20 _) n (lane8 k e) (by show ((n.val * 8 + k.val / 64) * 64 + e.val) / 512 = n.val; omega)
    (by show ((n.val * 8 + k.val / 64) * 64 + e.val) % 512 = k.val / 64 * 64 + e.val; omega), v17_at]

theorem v25_at (i : S16384x8x1.Idx) (h0 : (i 0).val = n.val) (h1 : (i 1).val = k.val / 64) : val_main_v25 (F := Ideal) x0 x4 x16 i
    = headMean8 (fun j => prt x0 x4 x16 n 1792 512 (by decide) j * prt x0 x4 x16 n 1792 512 (by decide) j) k := by
  rw [val_main_v25_apply, val_main_v23_apply, val_main_v22_apply, val_main_v24_apply]
  refine congrArg (Ideal.div · (Ideal.ofBits .f32 0x42800000#32)) (((congrArg (· + _) word_zero).trans (zero_add _)).trans ?_)
  refine Finset.sum_congr rfl fun e _ => (congrArg (val_main_v21 (F := Ideal) x0 x4 x16) (eq_ix3 _ n (hd8 k) e h0 h1 rfl)).trans ?_
  rw [val_main_v21_apply, v20_at]
  rfl

theorem v33_at : val_main_v33 (F := Ideal) x0 x4 x14 x16 (ix3 n (hd8 k) (⟨k.val % 64, by omega⟩ : Fin 64))
    = headRms (prt x0 x4 x16 n 1792 512 (by decide)) (gain x14) k := by
  rw [val_main_v33_apply, val_main_v30_apply, v20_at, val_main_v29_apply, val_main_v28_apply, val_main_v27_apply, v25_at x0 x4 x16 n k _ rfl rfl, val_main_v26_apply,
    val_main_v32_apply, val_main_v31_apply, eq_ix1 (idx_main_v31 _) (⟨k.val % 64, by omega⟩ : Fin 64) rfl, lane8_self]
  rfl

theorem v36_at (e : Fin 64) : val_main_v36 (F := Ideal) x0 x4 x16 (ix3 n (hd8 k) e) = prt x0 x4 x16 n 2304 512 (by decide) (lane8 k e) := by
  rw [val_main_v36_apply, eq_ix2 (idx_main_v36 _) n (lane8 k e) (by show ((n.val * 8 + k.val / 64) * 64 + e.val) / 512 = n.val; omega)
    (by show ((n.val * 8 + k.val / 64) * 64 + e.val) % 512 = k.val / 64 * 64 + e.val; omega), v18_at]

theorem v41_at (i : S16384x8x1.Idx) (h0 : (i 0).val = n.val) (h1 : (i 1).val = k.val / 64) : val_main_v41 (F := Ideal) x0 x4 x16 i
    = headMean8 (fun j => prt x0 x4 x16 n 2304 512 (by decide) j * prt x0 x4 x16 n 2304 512 (by decide) j) k := by
  rw [val_main_v41_apply, val_main_v39_apply, val_main_v38_apply, val_main_v40_apply]
  refine congrArg (Ideal.div · (Ideal.ofBits .f32 0x42800000#32)) (((congrArg (· + _) word_zero).trans (zero_add _)).trans ?_)
  refine Finset.sum_congr rfl fun e _ => (congrArg (val_main_v37 (F := Ideal) x0 x4 x16) (eq_ix3 _ n (hd8 k) e h0 h1 rfl)).trans ?_
  rw [val_main_v37_apply, v36_at]
  rfl

theorem v49_at : val_main_v49 (F := Ideal) x0 x4 x15 x16 (ix3 n (hd8 k) (⟨k.val % 64, by omega⟩ : Fin 64))
    = headRms (prt x0 x4 x16 n 2304 512 (by decide)) (gain x15) k := by
  rw [val_main_v49_apply, val_main_v46_apply, v36_at, val_main_v45_apply, val_main_v44_apply, val_main_v43_apply, v41_at x0 x4 x16 n k _ rfl rfl, val_main_v42_apply,
    val_main_v48_apply, val_main_v47_apply, eq_ix1 (idx_main_v47 _) (⟨k.val % 64, by omega⟩ : Fin 64) rfl, lane8_self]
  rfl

theorem flat (i : S16384x8x64.Idx) (h0 : (i 0).val = (n.val * 512 + k.val) / 512) (h1 : (i 1).val = (n.val * 512 + k.val) / 64 % 8) (h2 : (i 2).val = (n.val * 512 + k.val) % 64) :
    i = ix3 n (hd8 k) (⟨k.val % 64, by omega⟩ : Fin 64) :=
  eq_ix3 i n (hd8 k) _ (h0.trans (by omega)) (h1.trans (by show _ = k.val / 64; omega)) (h2.trans (by show _ = k.val % 64; omega))

/-- The keys. -/
theorem v50_at : val_main_v50 (F := Ideal) x0 x4 x15 x16 (ix2 n k) = headRms (prt x0 x4 x16 n 2304 512 (by decide)) (gain x15) k := by
  rw [val_main_v50_apply, flat n k (idx_main_v50 (ix2 n k)) rfl rfl rfl, v49_at]

/-- The queries, scaled. -/
theorem v63_at : val_main_v63 (F := Ideal) x0 x4 x14 x16 (ix2 n k)
    = headRms (prt x0 x4 x16 n 1792 512 (by decide)) (gain x14) k * Ideal.ofBits .f32 0x3E000000#32 * Ideal.ofBits .f32 0x3FB8AA3B#32 := by
  rw [val_main_v63_apply, val_main_v61_apply, flat n k (idx_main_v61 (ix2 n k)) rfl rfl rfl, val_main_v35_apply, v33_at, val_main_v34_apply, val_main_v62_apply]
  rfl

theorem v67_at : val_main_v67 (F := Ideal) x0 x4 x15 x16 (ix2 n k) = headRms (prt x0 x4 x16 n 2304 512 (by decide)) (gain x15) k := v50_at x0 x4 x15 x16 n k

end heads

/-! ### The layouts -/

section layouts
variable (b : Fin 4) (q : Fin 16) (k : Fin 512) (t : Fin 256)

/-- The row of a sequence's block. -/
abbrev rowOf (b : Fin 4) (q : Fin 16) (t : Fin 256) : Fin 16384 := ⟨(b.val * 16 + q.val) * 256 + t.val, by omega⟩

theorem v66_at : val_main_v66 (F := Ideal) x0 x4 x14 x16 (ix4 b q k t)
    = headRms (prt x0 x4 x16 (rowOf b q t) 1792 512 (by decide)) (gain x14) k * Ideal.ofBits .f32 0x3E000000#32 * Ideal.ofBits .f32 0x3FB8AA3B#32 := by
  show val_main_v65 (F := Ideal) x0 x4 x14 x16 (ix4 b q k t) = _
  rw [val_main_v65_apply, eq_ix4 (idx_main_v65 _) b q t k rfl rfl rfl rfl, val_main_v64_apply, eq_ix2 (idx_main_v64 _) (rowOf b q t) k
    (by show (((b.val * 16 + q.val) * 256 + t.val) * 512 + k.val) / 512 = (b.val * 16 + q.val) * 256 + t.val; omega)
    (by show (((b.val * 16 + q.val) * 256 + t.val) * 512 + k.val) % 512 = k.val; omega), v63_at]

theorem v70_at : val_main_v70 (F := Ideal) x0 x4 x16 (ix4 b q k t) = prt x0 x4 x16 (rowOf b q t) 2816 512 (by decide) k := by
  show val_main_v69 (F := Ideal) x0 x4 x16 (ix4 b q k t) = _
  rw [val_main_v69_apply, eq_ix4 (idx_main_v69 _) b q t k rfl rfl rfl rfl, val_main_v68_apply, eq_ix2 (idx_main_v68 _) (rowOf b q t) k
    (by show (((b.val * 16 + q.val) * 256 + t.val) * 512 + k.val) / 512 = (b.val * 16 + q.val) * 256 + t.val; omega)
    (by show (((b.val * 16 + q.val) * 256 + t.val) * 512 + k.val) % 512 = k.val; omega), v19_at]

/-- The keys kept from the layer before. -/
theorem v55_first : val_main_v55 (F := Ideal) x0 x2 x4 x15 x16 (ix3 (0 : Fin 2) n k) = x2 (ix3 (0 : Fin 2) n k) := by
  unfold val_main_v55
  refine (concatenate_pair_apply_left (t := S2x16384x512) (s₁ := S1x16384x512) (s₂ := S1x16384x512) 0 _ _ _ _ rfl (ix3 (0 : Fin 1) n k)
    (fun a => match a with | ⟨0, _⟩ => rfl | ⟨1, _⟩ => rfl | ⟨2, _⟩ => rfl)).trans ?_
  rw [val_main_v53_apply, val_main_v52_apply, val_main_v51_apply]
  exact congrArg x2 (eq_ix3 _ (0 : Fin 2) n k rfl (by show (n.val * 512 + k.val) / 512 % 16384 = n.val; omega) (by show (n.val * 512 + k.val) % 512 = k.val; omega))

/-- The keys of this layer. -/
theorem v55_second : val_main_v55 (F := Ideal) x0 x2 x4 x15 x16 (ix3 (1 : Fin 2) n k) = headRms (prt x0 x4 x16 n 2304 512 (by decide)) (gain x15) k := by
  unfold val_main_v55
  refine (concatenate_pair_apply_right (t := S2x16384x512) (s₁ := S1x16384x512) (s₂ := S1x16384x512) 0 _ _ _ _ rfl rfl (ix3 (0 : Fin 1) n k)
    (fun a => match a with | ⟨0, _⟩ => fun e => absurd rfl e | ⟨1, _⟩ => fun _ => rfl | ⟨2, _⟩ => fun _ => rfl) rfl).trans ?_
  rw [val_main_v54_apply, eq_ix2 (idx_main_v54 _) n k rfl rfl, v50_at]

theorem v60_first : val_main_v60 (F := Ideal) x0 x3 x4 x16 (ix3 (0 : Fin 2) n k) = x3 (ix3 (0 : Fin 2) n k) := by
  unfold val_main_v60
  refine (concatenate_pair_apply_left (t := S2x16384x512) (s₁ := S1x16384x512) (s₂ := S1x16384x512) 0 _ _ _ _ rfl (ix3 (0 : Fin 1) n k)
    (fun a => match a with | ⟨0, _⟩ => rfl | ⟨1, _⟩ => rfl | ⟨2, _⟩ => rfl)).trans ?_
  rw [val_main_v58_apply, val_main_v57_apply, val_main_v56_apply]
  exact congrArg x3 (eq_ix3 _ (0 : Fin 2) n k rfl (by show (n.val * 512 + k.val) / 512 % 16384 = n.val; omega) (by show (n.val * 512 + k.val) % 512 = k.val; omega))

theorem v60_second : val_main_v60 (F := Ideal) x0 x3 x4 x16 (ix3 (1 : Fin 2) n k) = prt x0 x4 x16 n 2816 512 (by decide) k := by
  unfold val_main_v60
  refine (concatenate_pair_apply_right (t := S2x16384x512) (s₁ := S1x16384x512) (s₂ := S1x16384x512) 0 _ _ _ _ rfl rfl (ix3 (0 : Fin 1) n k)
    (fun a => match a with | ⟨0, _⟩ => fun e => absurd rfl e | ⟨1, _⟩ => fun _ => rfl | ⟨2, _⟩ => fun _ => rfl) rfl).trans ?_
  rw [val_main_v59_apply, eq_ix2 (idx_main_v59 _) n k rfl rfl, v19_at]

end layouts

end Cert.Reference4Ideal.Gen

end
-- ==== Proof.Proj.Final.lean ====
/- The projection's results over the whole arrays: every block is read from the arguments, and the blocks cover the results. -/
module

public import proofs.«01_k».proof.Proof.Proj.Pieces
public import proofs.«01_k».proof.Proof.Proj.Host
public import proofs.«01_k».proof.Proof.Proj.Ref
public import proofs.«01_k».proof.Proof.Tail.Final
public import Idealize.ShloMosaic.Lib.WholeRead

@[expose] public section

set_option maxRecDepth 16384

noncomputable section

namespace Cert.Kernel4Ideal.Gen

open Idealize.ShloMosaic hiding ix1 ix2 ix3 ix4 ix5
open Idealize.ShloMosaic.ValueIdx Idealize.ShloMosaic.TcCoe Cert.Kernel4Ideal Cert.Tail Cert.Proj
open Cert.Kernel2Ideal.Gen (at2 at3 at512 ld2 mm)
open Cert.Reference4Ideal.Gen (prt gain rowOf)
open Cert.Reference2Ideal.Gen (eq_ix2 eq_ix3 eq_ix4)

/-- Where each window's block lies at a grid point. -/
theorem idx_rows : ∀ t : Fin cfg0.N, win0_0.index t = ![(grid0.coords t 0).val, 0] ∧ win0_18.index t = ![(grid0.coords t 0).val, 0] ∧ win0_19.index t = ![(grid0.coords t 0).val, 0]
      ∧ win0_31.index t = ![(grid0.coords t 0).val, 0] :=
  (by decide +kernel : ∀ t : Fin grid0.N, _)

theorem idx_pair : ∀ t : Fin cfg0.N, win0_16.index t = ![0, (grid0.coords t 0).val, 0] ∧ win0_17.index t = ![0, (grid0.coords t 0).val, 0]
      ∧ win0_20.index t = ![0, (grid0.coords t 0).val, 0] ∧ win0_21.index t = ![0, (grid0.coords t 0).val, 0] :=
  (by decide +kernel : ∀ t : Fin grid0.N, _)

theorem idx_turned : ∀ t : Fin cfg0.N, win0_30.index t = ![(grid0.coords t 0).val / 8, (grid0.coords t 0).val % 8, 0, 0]
      ∧ win0_32.index t = ![(grid0.coords t 0).val / 8, (grid0.coords t 0).val % 8, 0, 0] :=
  (by decide +kernel : ∀ t : Fin grid0.N, _)

theorem idx_whole : ∀ t : Fin cfg0.N, win0_1.index t = ![0, 0] ∧ win0_2.index t = ![0, 0] ∧ win0_3.index t = ![0, 0] ∧ win0_4.index t = ![0, 0] ∧ win0_5.index t = ![0, 0] :=
  (by decide +kernel : ∀ t : Fin grid0.N, _)

variable (m : (ℓ : Loc nD τ sig) → Buf (Elt Ideal) ℓ) (c : Dev nD) (t : Fin cfg0.N)

/-- The grid point as a number. -/
abbrev pt (t : Fin cfg0.N) : Fin 32 := ⟨(grid0.coords t 0).val, (grid0.coords t 0).isLt⟩

/-- A row's product with the weights, from the arguments. -/
abbrev prtV (n : Fin 16384) (o p : ℕ) (h : o + p ≤ 3328) : Fin p → EReal :=
  prt (m ((c : Thread nD τ).loc main_arg0)) (m ((c : Thread nD τ).loc main_arg4)) (m ((c : Thread nD τ).loc main_arg16)) n o p h

/-! The reference's results of these arguments. -/

abbrev r18 : (⟨2, ![16384, 1024]⟩ : Shape).Idx → EReal := Cert.Reference4Ideal.Read.val_main_v14 (F := Ideal) (m ((c : Thread nD τ).loc main_arg0)) (m ((c : Thread nD τ).loc main_arg4)) (m ((c : Thread nD τ).loc main_arg16))
abbrev r19 : (⟨2, ![16384, 768]⟩ : Shape).Idx → EReal := Cert.Reference4Ideal.Read.val_main_v15 (F := Ideal) (m ((c : Thread nD τ).loc main_arg0)) (m ((c : Thread nD τ).loc main_arg4)) (m ((c : Thread nD τ).loc main_arg16))
abbrev r20 : (⟨3, ![2, 16384, 512]⟩ : Shape).Idx → EReal := Cert.Reference4Ideal.Read.val_main_v55 (F := Ideal) (m ((c : Thread nD τ).loc main_arg0)) (m ((c : Thread nD τ).loc main_arg2)) (m ((c : Thread nD τ).loc main_arg4)) (m ((c : Thread nD τ).loc main_arg15)) (m ((c : Thread nD τ).loc main_arg16))
abbrev r21 : (⟨3, ![2, 16384, 512]⟩ : Shape).Idx → EReal := Cert.Reference4Ideal.Read.val_main_v60 (F := Ideal) (m ((c : Thread nD τ).loc main_arg0)) (m ((c : Thread nD τ).loc main_arg3)) (m ((c : Thread nD τ).loc main_arg4)) (m ((c : Thread nD τ).loc main_arg16))
abbrev r30 : (⟨4, ![4, 16, 512, 256]⟩ : Shape).Idx → EReal := Cert.Reference4Ideal.Read.val_main_v66 (F := Ideal) (m ((c : Thread nD τ).loc main_arg0)) (m ((c : Thread nD τ).loc main_arg4)) (m ((c : Thread nD τ).loc main_arg14)) (m ((c : Thread nD τ).loc main_arg16))
abbrev r31 : (⟨2, ![16384, 512]⟩ : Shape).Idx → EReal := Cert.Reference4Ideal.Read.val_main_v67 (F := Ideal) (m ((c : Thread nD τ).loc main_arg0)) (m ((c : Thread nD τ).loc main_arg4)) (m ((c : Thread nD τ).loc main_arg15)) (m ((c : Thread nD τ).loc main_arg16))
abbrev r32 : (⟨4, ![4, 16, 512, 256]⟩ : Shape).Idx → EReal := Cert.Reference4Ideal.Read.val_main_v70 (F := Ideal) (m ((c : Thread nD τ).loc main_arg0)) (m ((c : Thread nD τ).loc main_arg4)) (m ((c : Thread nD τ).loc main_arg16))

/-! ### What the body reads -/

theorem bX_at (r : Fin 512) (k : Fin 1024) : bX m c t (ix2 r k) = m ((c : Thread nD τ).loc main_arg0) (ix2 (at512 (pt t) r) k) := by
  have e : iblk m c 0 t (ix2 r k) = m ((c : Thread nD τ).loc main_arg0) (ix2 (at512 (pt t) r) k) :=
    (congrArg (V m c main_arg0) (at2 _ (idx_rows t).1 _ r k rfl rfl (at512 (pt t) r) k rfl (by omega))).trans (congrFun (V_main_arg0 m c) _)
  have u : bX m c t (ix2 r k) = iblk m c 0 t (ix2 r k) := by
    unfold bX
    exact (Memref.IsWhole.readAt_unread _ _ _ _).trans (congrArg (iblk m c 0 t) (funext fun d => Fin.ext (by
      match d with
      | ⟨0, _⟩ => show 0 + 1 * r.val = r.val; omega
      | ⟨1, _⟩ => show 0 + 1 * k.val = k.val; omega)))
  exact u.trans e

set_option maxHeartbeats 2000000 in
theorem bG_at (k : Fin 1024) : bG m c t (ix2 (0 : Fin 1) k) = m ((c : Thread nD τ).loc main_arg4) (ix1 k) := by
  have e : iblk m c 1 t (ix2 (0 : Fin 1) k) = V m c main_v18 (ix2 (0 : Fin 1) k) :=
    congrArg (V m c main_v18) (at2 _ (idx_whole t).1 _ (0 : Fin 1) k rfl rfl (0 : Fin 1) k rfl (by omega))
  have u : bG m c t (ix2 (0 : Fin 1) k) = iblk m c 1 t (ix2 (0 : Fin 1) k) := by
    unfold bG
    exact (Memref.IsWhole.readAt_unread _ _ _ _).trans (congrArg (iblk m c 1 t) (funext fun d => Fin.ext (by
      match d with
      | ⟨0, _⟩ => rfl
      | ⟨1, _⟩ => show 0 + 1 * k.val = k.val; omega)))
  exact u.trans (e.trans (V_gmix m c k))

set_option maxHeartbeats 2000000 in
theorem bE_at (r k : Fin 512) : bE m c t (ix2 r k) = ones8 r k := by
  have e : iblk m c 3 t (ix2 r k) = V m c main_v9 (ix2 r k) :=
    congrArg (V m c main_v9) (at2 _ (idx_whole t).2.2.1 _ r k rfl rfl r k (by omega) (by omega))
  have u : bE m c t (ix2 r k) = iblk m c 3 t (ix2 r k) := by
    unfold bE
    exact (Memref.IsWhole.readAt_unread _ _ _ _).trans (congrArg (iblk m c 3 t) (funext fun d => Fin.ext (by
      match d with
      | ⟨0, _⟩ => show 0 + 1 * r.val = r.val; omega
      | ⟨1, _⟩ => show 0 + 1 * k.val = k.val; omega)))
  exact u.trans (e.trans (V_ones8 m c r k))

set_option maxHeartbeats 2000000 in
theorem bQ_at (k : Fin 512) : bQ m c t (ix2 (0 : Fin 1) k) = gain (m ((c : Thread nD τ).loc main_arg14)) k := by
  have e : iblk m c 4 t (ix2 (0 : Fin 1) k) = V m c main_v13 (ix2 (0 : Fin 1) k) :=
    congrArg (V m c main_v13) (at2 _ (idx_whole t).2.2.2.1 _ (0 : Fin 1) k rfl rfl (0 : Fin 1) k rfl (by omega))
  have u : bQ m c t (ix2 (0 : Fin 1) k) = iblk m c 4 t (ix2 (0 : Fin 1) k) := by
    unfold bQ
    exact (Memref.IsWhole.readAt_unread _ _ _ _).trans (congrArg (iblk m c 4 t) (funext fun d => Fin.ext (by
      match d with
      | ⟨0, _⟩ => rfl
      | ⟨1, _⟩ => show 0 + 1 * k.val = k.val; omega)))
  exact u.trans (e.trans (V_qgain m c k))

set_option maxHeartbeats 2000000 in
theorem bK_at (k : Fin 512) : bK m c t (ix2 (0 : Fin 1) k) = gain (m ((c : Thread nD τ).loc main_arg15)) k := by
  have e : iblk m c 5 t (ix2 (0 : Fin 1) k) = V m c main_v17 (ix2 (0 : Fin 1) k) :=
    congrArg (V m c main_v17) (at2 _ (idx_whole t).2.2.2.2 _ (0 : Fin 1) k rfl rfl (0 : Fin 1) k rfl (by omega))
  have u : bK m c t (ix2 (0 : Fin 1) k) = iblk m c 5 t (ix2 (0 : Fin 1) k) := by
    unfold bK
    exact (Memref.IsWhole.readAt_unread _ _ _ _).trans (congrArg (iblk m c 5 t) (funext fun d => Fin.ext (by
      match d with
      | ⟨0, _⟩ => rfl
      | ⟨1, _⟩ => show 0 + 1 * k.val = k.val; omega)))
  exact u.trans (e.trans (V_kgain m c k))

theorem weights_at (k : Fin 1024) (f : Fin 3328) : iblk m c 2 t (ix2 k f) = m ((c : Thread nD τ).loc main_arg16) (ix2 k f) :=
  (congrArg (V m c main_v0) (at2 _ (idx_whole t).2.1 _ k f rfl rfl k f (by omega) (by omega))).trans (V_win m c k _)

/-- Columns of the weights from `o` on. -/
theorem cols_at (o p : ℕ) (h : o + p ≤ 3328) (inb) (k : Fin 1024) (f : Fin p) :
    View.readAt (Elt Ideal) (ms0_2 t).view (Rect.unit (s := S1024x3328) ![0, o] (⟨2, ![1024, p]⟩ : Shape).size inb).toLoadRect ((hs0_2 t).unread (iblk m c 2 t)) (ix2 k f)
      = m ((c : Thread nD τ).loc main_arg16) (ix2 k (⟨o + f.val, by omega⟩ : Fin 3328)) :=
  (((hs0_2 t).readAt_unread _ _ _).trans (congrArg (iblk m c 2 t) (funext fun d => Fin.ext (by
    match d with
    | ⟨0, _⟩ => show 0 + 1 * k.val = k.val; omega
    | ⟨1, _⟩ => show o + 1 * f.val = o + f.val; omega)))).trans (weights_at m c t k _)

/-- A block's row times columns of the weights. -/
theorem prt_at (o p : ℕ) (h : o + p ≤ 3328) (W : (⟨2, ![1024, p]⟩ : Shape).Idx → EReal) (hW : ∀ (k : Fin 1024) (f : Fin p), W (ix2 k f) = m ((c : Thread nD τ).loc main_arg16) (ix2 k (⟨o + f.val, by omega⟩ : Fin 3328)))
    (r : Fin 512) (f : Fin p) :
    ∑ k : Fin 1024, rms (fun a => bX m c t (ix2 r a)) (fun a => bG m c t (ix2 (0 : Fin 1) a)) k * W (ix2 k f) = prtV m c (at512 (pt t) r) o p h f := by
  rw [show (fun a => bX m c t (ix2 r a)) = _ from funext fun a => bX_at m c t r a, show (fun a => bG m c t (ix2 (0 : Fin 1) a)) = _ from funext fun a => bG_at m c t a]
  exact Finset.sum_congr rfl fun k _ => congrArg (_ * ·) (hW k f)

theorem keys_at (r k : Fin 512) : k0_pay29 (F := Ideal) (bH m c t) (bWk m c t) (ix2 r k) = prtV m c (at512 (pt t) r) 2304 512 (by decide) k :=
  (pay29_apply _ _ _ r k).trans (prt_at m c t 2304 512 (by decide) _ (cols_at m c t 2304 512 (by decide) _) r k)

theorem values_at (r k : Fin 512) : k0_pay35 (F := Ideal) (bH m c t) (bWv m c t) (ix2 r k) = prtV m c (at512 (pt t) r) 2816 512 (by decide) k :=
  (pay35_apply _ _ _ r k).trans (prt_at m c t 2816 512 (by decide) _ (cols_at m c t 2816 512 (by decide) _) r k)

theorem queries_at (r k : Fin 512) : k0_pay29 (F := Ideal) (bH m c t) (bWq m c t) (ix2 r k) = prtV m c (at512 (pt t) r) 1792 512 (by decide) k :=
  (pay29_apply _ _ _ r k).trans (prt_at m c t 1792 512 (by decide) _ (cols_at m c t 1792 512 (by decide) _) r k)

/-- The normalised keys of a block. -/
theorem k_at (r k : Fin 512) : headV (k0_pay29 (F := Ideal) (bH m c t) (bWk m c t)) (bK m c t) (bE m c t) (ix2 r k)
    = headRms (prtV m c (at512 (pt t) r) 2304 512 (by decide)) (gain (m ((c : Thread nD τ).loc main_arg15))) k := by
  rw [headV_apply _ _ _ (bE_at m c t)]
  exact congrArg₂ (fun a b => headRms a b k) (funext fun j => keys_at m c t r j) (funext fun j => bK_at m c t j)

/-- The normalised queries of a block. -/
theorem q_at (r k : Fin 512) : bq m c t (ix2 r k)
    = headRms (prtV m c (at512 (pt t) r) 1792 512 (by decide)) (gain (m ((c : Thread nD τ).loc main_arg14))) k * Ideal.ofBits .f32 0x3E000000#32 := by
  unfold bq
  rw [pay28_eq, mulf_apply, headV_apply _ _ _ (bE_at m c t)]
  exact congrArg (· * _) (congrArg₂ (fun a b => headRms a b k) (funext fun j => queries_at m c t r j) (funext fun j => bQ_at m c t j))

/-- A read of the layer before. -/
theorem rd3 (M : Memref sig .tc .vmem S2x512x512 .f32) (hM : M.IsWhole) (X : S2x512x512.Idx → Elt Ideal .f32) (r k : Fin 512) (inb) :
    View.readAt (Elt Ideal) M.view (Rect.unit (s := S2x512x512) ![0, 0, 0] S1x512x512.size inb).toLoadRect (hM.unread X) (ix3 (0 : Fin 1) r k) = X (ix3 (0 : Fin 2) r k) :=
  (hM.readAt_unread X _ _).trans (congrArg X (funext fun d => Fin.ext (by
    match d with
    | ⟨0, _⟩ => rfl
    | ⟨1, _⟩ => show 0 + 1 * r.val = r.val; omega
    | ⟨2, _⟩ => show 0 + 1 * k.val = k.val; omega)))

theorem bKp_at (r k : Fin 512) : bKp m c t (ix3 (0 : Fin 1) r k) = m ((c : Thread nD τ).loc main_arg2) (ix3 (0 : Fin 2) (at512 (pt t) r) k) :=
  (rd3 (ms0_16 t) (hs0_16 t) (iblk m c 16 t) r k _).trans
    ((congrArg (V m c main_arg2) (at3 _ (idx_pair t).1 _ (0 : Fin 2) r k rfl rfl rfl (0 : Fin 2) (at512 (pt t) r) k rfl rfl (by omega))).trans (congrFun (V_main_arg2 m c) _))

theorem bVp_at (r k : Fin 512) : bVp m c t (ix3 (0 : Fin 1) r k) = m ((c : Thread nD τ).loc main_arg3) (ix3 (0 : Fin 2) (at512 (pt t) r) k) :=
  (rd3 (ms0_17 t) (hs0_17 t) (iblk m c 17 t) r k _).trans
    ((congrArg (V m c main_arg3) (at3 _ (idx_pair t).2.1 _ (0 : Fin 2) r k rfl rfl rfl (0 : Fin 2) (at512 (pt t) r) k rfl rfl (by omega))).trans (congrFun (V_main_arg3 m c) _))

/-! ### What a grid point leaves, and the arrays after the run -/

theorem block18 (r : Fin 512) (k : Fin 1024) : (dats m 0 c).after 18 t (ix2 r k) = r18 m c (ix2 (at512 (pt t) r) k) := by
  rw [left18]
  refine (View.read_writes_cons_hit_of_coords _ _ _ _ _ (ix2 r k) _ (fun a => by
    match a with
    | ⟨0, _⟩ => show r.val = 0 + 1 * r.val; omega
    | ⟨1, _⟩ => show k.val = 0 + 1 * k.val; omega)).trans ?_
  refine Eq.trans ?_ (Cert.Reference4Ideal.Gen.v14_at _ _ _ _ k).symm
  exact (pay6_apply _ _ _ r k).trans (prt_at m c t 0 1024 (by decide) _ (cols_at m c t 0 1024 (by decide) _) r k)

theorem arr18 : (dats m 0 c).arrAt 18 cfg0.N = r18 m c :=
  (dats m 0 c).arrAt_eq_of_covers 18 _ (by decide +kernel) fun t _ y => by
    have hy : ∃ (r : Fin 512) (k : Fin 1024), y = ix2 r k := ⟨y 0, y 1, funext fun a => by match a with | ⟨0, _⟩ => rfl | ⟨1, _⟩ => rfl⟩
    obtain ⟨r, k, rfl⟩ := hy
    refine (block18 m c t r k).trans (congrArg (r18 m c) ?_)
    exact (at2 _ (idx_rows t).2.1 _ r k rfl rfl (at512 (pt t) r) k rfl (by omega) :
      (((cfg0.win 18).blk t).view.emb (ix2 r k) : (⟨2, ![16384, 1024]⟩ : Shape).Idx) = ix2 (at512 (pt t) r) k).symm

theorem block19 (r : Fin 512) (k : Fin 768) : (dats m 0 c).after 19 t (ix2 r k) = r19 m c (ix2 (at512 (pt t) r) k) := by
  rw [left19]
  refine (View.read_writes_cons_hit_of_coords _ _ _ _ _ (ix2 r k) _ (fun a => by
    match a with
    | ⟨0, _⟩ => show r.val = 0 + 1 * r.val; omega
    | ⟨1, _⟩ => show k.val = 0 + 1 * k.val; omega)).trans ?_
  refine Eq.trans ?_ (Cert.Reference4Ideal.Gen.v15_at _ _ _ _ k).symm
  exact (pay27_apply _ _ _ r k).trans (prt_at m c t 1024 768 (by decide) _ (cols_at m c t 1024 768 (by decide) _) r k)

theorem arr19 : (dats m 0 c).arrAt 19 cfg0.N = r19 m c :=
  (dats m 0 c).arrAt_eq_of_covers 19 _ (by decide +kernel) fun t _ y => by
    have hy : ∃ (r : Fin 512) (k : Fin 768), y = ix2 r k := ⟨y 0, y 1, funext fun a => by match a with | ⟨0, _⟩ => rfl | ⟨1, _⟩ => rfl⟩
    obtain ⟨r, k, rfl⟩ := hy
    refine (block19 m c t r k).trans (congrArg (r19 m c) ?_)
    exact (at2 _ (idx_rows t).2.2.1 _ r k rfl rfl (at512 (pt t) r) k rfl (by omega) :
      (((cfg0.win 19).blk t).view.emb (ix2 r k) : (⟨2, ![16384, 768]⟩ : Shape).Idx) = ix2 (at512 (pt t) r) k).symm

theorem block31 (r : Fin 512) (k : Fin 512) : (dats m 0 c).after 31 t (ix2 r k) = r31 m c (ix2 (at512 (pt t) r) k) := by
  rw [left31]
  refine (View.read_writes_cons_hit_of_coords _ _ _ _ _ (ix2 r k) _ (fun a => by
    match a with
    | ⟨0, _⟩ => show r.val = 0 + 1 * r.val; omega
    | ⟨1, _⟩ => show k.val = 0 + 1 * k.val; omega)).trans ?_
  refine Eq.trans ?_ (Cert.Reference4Ideal.Gen.v67_at _ _ _ _ _ k).symm
  exact (congrFun (pay33_eq (bH m c t) (bWk m c t) (bK m c t) (bE m c t)) (ix2 r k)).trans (k_at m c t r k)

theorem arr31 : (dats m 0 c).arrAt 31 cfg0.N = r31 m c :=
  (dats m 0 c).arrAt_eq_of_covers 31 _ (by decide +kernel) fun t _ y => by
    have hy : ∃ (r : Fin 512) (k : Fin 512), y = ix2 r k := ⟨y 0, y 1, funext fun a => by match a with | ⟨0, _⟩ => rfl | ⟨1, _⟩ => rfl⟩
    obtain ⟨r, k, rfl⟩ := hy
    refine (block31 m c t r k).trans (congrArg (r31 m c) ?_)
    exact (at2 _ (idx_rows t).2.2.2 _ r k rfl rfl (at512 (pt t) r) k rfl (by omega) :
      (((cfg0.win 31).blk t).view.emb (ix2 r k) : (⟨2, ![16384, 512]⟩ : Shape).Idx) = ix2 (at512 (pt t) r) k).symm

theorem block20_first (r k : Fin 512) : (dats m 0 c).after 20 t (ix3 (0 : Fin 2) r k) = r20 m c (ix3 (0 : Fin 2) (at512 (pt t) r) k) := by
  rw [left20]
  refine (View.read_writes_cons_miss_of_axis _ _ _ _ _ (0 : Fin 3) 1 1 rfl rfl rfl (Or.inl (show 0 < 1 by omega))).trans ?_
  refine (View.read_writes_cons_hit_of_coords _ _ _ _ _ (ix3 (0 : Fin 1) r k) _ (fun a => by
    match a with
    | ⟨0, _⟩ => rfl
    | ⟨1, _⟩ => show r.val = 0 + 1 * r.val; omega
    | ⟨2, _⟩ => show k.val = 0 + 1 * k.val; omega)).trans ?_
  exact Eq.trans ((pay3_eq k (bKp m c t) r).trans (bKp_at m c t r k)) (Cert.Reference4Ideal.Gen.v55_first _ _ _ _ _ _ k).symm

theorem block20_second (r k : Fin 512) : (dats m 0 c).after 20 t (ix3 (1 : Fin 2) r k) = r20 m c (ix3 (1 : Fin 2) (at512 (pt t) r) k) := by
  rw [left20]
  refine (View.read_writes_cons_hit_of_coords _ _ _ _ _ (ix3 (0 : Fin 1) r k) _ (fun a => by
    match a with
    | ⟨0, _⟩ => rfl
    | ⟨1, _⟩ => show r.val = 0 + 1 * r.val; omega
    | ⟨2, _⟩ => show k.val = 0 + 1 * k.val; omega)).trans ?_
  exact Eq.trans ((cast3 _ k r).trans ((congrFun (pay33_eq (bH m c t) (bWk m c t) (bK m c t) (bE m c t)) (ix2 r k)).trans (k_at m c t r k))) (Cert.Reference4Ideal.Gen.v55_second _ _ _ _ _ _ k).symm

theorem arr20 : (dats m 0 c).arrAt 20 cfg0.N = r20 m c :=
  (dats m 0 c).arrAt_eq_of_covers 20 _ (by decide +kernel) fun t _ y => by
    have hy : ∃ (h : Fin 2) (r k : Fin 512), y = ix3 h r k := ⟨y 0, y 1, y 2, funext fun a => by match a with | ⟨0, _⟩ => rfl | ⟨1, _⟩ => rfl | ⟨2, _⟩ => rfl⟩
    obtain ⟨h, r, k, rfl⟩ := hy
    have hb : (dats m 0 c).after 20 t (ix3 h r k) = r20 m c (ix3 h (at512 (pt t) r) k) := by
      match h with
      | ⟨0, _⟩ => exact block20_first m c t r k
      | ⟨1, _⟩ => exact block20_second m c t r k
    refine hb.trans (congrArg (r20 m c) ?_)
    exact (at3 _ (idx_pair t).2.2.1 _ h r k rfl rfl rfl h (at512 (pt t) r) k (by omega) rfl (by omega) :
      (((cfg0.win 20).blk t).view.emb (ix3 h r k) : (⟨3, ![2, 16384, 512]⟩ : Shape).Idx) = ix3 h (at512 (pt t) r) k).symm

theorem block21_first (r k : Fin 512) : (dats m 0 c).after 21 t (ix3 (0 : Fin 2) r k) = r21 m c (ix3 (0 : Fin 2) (at512 (pt t) r) k) := by
  rw [left21]
  refine (View.read_writes_cons_miss_of_axis _ _ _ _ _ (0 : Fin 3) 1 1 rfl rfl rfl (Or.inl (show 0 < 1 by omega))).trans ?_
  refine (View.read_writes_cons_hit_of_coords _ _ _ _ _ (ix3 (0 : Fin 1) r k) _ (fun a => by
    match a with
    | ⟨0, _⟩ => rfl
    | ⟨1, _⟩ => show r.val = 0 + 1 * r.val; omega
    | ⟨2, _⟩ => show k.val = 0 + 1 * k.val; omega)).trans ?_
  exact Eq.trans ((pay4_eq k (bVp m c t) r).trans (bVp_at m c t r k)) (Cert.Reference4Ideal.Gen.v60_first _ _ _ _ _ k).symm

theorem block21_second (r k : Fin 512) : (dats m 0 c).after 21 t (ix3 (1 : Fin 2) r k) = r21 m c (ix3 (1 : Fin 2) (at512 (pt t) r) k) := by
  rw [left21]
  refine (View.read_writes_cons_hit_of_coords _ _ _ _ _ (ix3 (0 : Fin 1) r k) _ (fun a => by
    match a with
    | ⟨0, _⟩ => rfl
    | ⟨1, _⟩ => show r.val = 0 + 1 * r.val; omega
    | ⟨2, _⟩ => show k.val = 0 + 1 * k.val; omega)).trans ?_
  exact Eq.trans ((cast3 _ k r).trans (values_at m c t r k)) (Cert.Reference4Ideal.Gen.v60_second _ _ _ _ _ k).symm

theorem arr21 : (dats m 0 c).arrAt 21 cfg0.N = r21 m c :=
  (dats m 0 c).arrAt_eq_of_covers 21 _ (by decide +kernel) fun t _ y => by
    have hy : ∃ (h : Fin 2) (r k : Fin 512), y = ix3 h r k := ⟨y 0, y 1, y 2, funext fun a => by match a with | ⟨0, _⟩ => rfl | ⟨1, _⟩ => rfl | ⟨2, _⟩ => rfl⟩
    obtain ⟨h, r, k, rfl⟩ := hy
    have hb : (dats m 0 c).after 21 t (ix3 h r k) = r21 m c (ix3 h (at512 (pt t) r) k) := by
      match h with
      | ⟨0, _⟩ => exact block21_first m c t r k
      | ⟨1, _⟩ => exact block21_second m c t r k
    refine hb.trans (congrArg (r21 m c) ?_)
    exact (at3 _ (idx_pair t).2.2.2 _ h r k rfl rfl rfl h (at512 (pt t) r) k (by omega) rfl (by omega) :
      (((cfg0.win 21).blk t).view.emb (ix3 h r k) : (⟨3, ![2, 16384, 512]⟩ : Shape).Idx) = ix3 h (at512 (pt t) r) k).symm

/-- A half of a block of columns: its sequence and its place there. -/
abbrev half (i : Fin 32) (h : Fin 2) : Fin 16 := ⟨i.val % 8 * 2 + h.val, by omega⟩
/-- The sequence of a block. -/
abbrev sq4 (i : Fin 32) : Fin 4 := ⟨i.val / 8, by omega⟩

theorem rowOf_eq (i : Fin 32) (h : Fin 2) (d : Fin 256) (r : Fin 512) (hr : r.val = h.val * 256 + d.val) : rowOf (sq4 i) (half i h) d = at512 i r :=
  Fin.ext (by show (i.val / 8 * 16 + (i.val % 8 * 2 + h.val)) * 256 + d.val = i.val * 512 + r.val; omega)

theorem block30_first (k : Fin 512) (d : Fin 256) : (dats m 0 c).after 30 t (ix4 (0 : Fin 1) (0 : Fin 2) k d)
    = r30 m c (ix4 (sq4 (pt t)) (half (pt t) (0 : Fin 2)) k d) := by
  rw [left30]
  refine (View.read_writes_cons_miss_of_axis _ _ _ _ _ (1 : Fin 4) 1 1 rfl rfl rfl (Or.inl (show 0 < 1 by omega))).trans ?_
  refine (View.read_writes_cons_hit_of_coords _ _ _ _ _ (ix4 (0 : Fin 1) (0 : Fin 1) k d) _ (fun a => by
    match a with
    | ⟨0, _⟩ => rfl
    | ⟨1, _⟩ => rfl
    | ⟨2, _⟩ => show k.val = 0 + 1 * k.val; omega
    | ⟨3, _⟩ => show d.val = 0 + 1 * d.val; omega)).trans ?_
  refine Eq.trans ?_ (Cert.Reference4Ideal.Gen.v66_at _ _ _ _ _ _ k d).symm
  rw [rowOf_eq (pt t) (0 : Fin 2) d (⟨d.val, by omega⟩ : Fin 512) (by show d.val = 0 * 256 + d.val; omega)]
  exact (pay40_apply _ k d).trans (congrArg (· * Ideal.ofBits .f32 0x3FB8AA3B#32) (q_at m c t (⟨d.val, by omega⟩ : Fin 512) k))

theorem block30_second (k : Fin 512) (d : Fin 256) : (dats m 0 c).after 30 t (ix4 (0 : Fin 1) (1 : Fin 2) k d)
    = r30 m c (ix4 (sq4 (pt t)) (half (pt t) (1 : Fin 2)) k d) := by
  rw [left30]
  refine (View.read_writes_cons_hit_of_coords _ _ _ _ _ (ix4 (0 : Fin 1) (0 : Fin 1) k d) _ (fun a => by
    match a with
    | ⟨0, _⟩ => rfl
    | ⟨1, _⟩ => rfl
    | ⟨2, _⟩ => show k.val = 0 + 1 * k.val; omega
    | ⟨3, _⟩ => show d.val = 0 + 1 * d.val; omega)).trans ?_
  refine Eq.trans ?_ (Cert.Reference4Ideal.Gen.v66_at _ _ _ _ _ _ k d).symm
  rw [rowOf_eq (pt t) (1 : Fin 2) d (⟨256 + d.val, by omega⟩ : Fin 512) (by show 256 + d.val = 1 * 256 + d.val; omega)]
  exact (pay42_apply _ k d).trans (congrArg (· * Ideal.ofBits .f32 0x3FB8AA3B#32) (q_at m c t (⟨256 + d.val, by omega⟩ : Fin 512) k))

theorem arr30 : (dats m 0 c).arrAt 30 cfg0.N = r30 m c :=
  (dats m 0 c).arrAt_eq_of_covers 30 _ (by decide +kernel) fun t _ y => by
    have hy : ∃ (h : Fin 2) (k : Fin 512) (d : Fin 256), y = ix4 (0 : Fin 1) h k d := ⟨y 1, y 2, y 3, funext fun a => by
      match a with | ⟨0, _⟩ => exact Fin.ext (by have := (y 0).isLt; exact Nat.lt_one_iff.mp this) | ⟨1, _⟩ => rfl | ⟨2, _⟩ => rfl | ⟨3, _⟩ => rfl⟩
    obtain ⟨h, k, d, rfl⟩ := hy
    have hb : (dats m 0 c).after 30 t (ix4 (0 : Fin 1) h k d) = r30 m c (ix4 (sq4 (pt t)) (half (pt t) h) k d) := by
      match h with
      | ⟨0, _⟩ => exact block30_first m c t k d
      | ⟨1, _⟩ => exact block30_second m c t k d
    refine hb.trans (congrArg (r30 m c) ?_)
    have e := (idx_turned t).1
    refine (eq_ix4 (((cfg0.win 30).blk t).view.emb (ix4 (0 : Fin 1) h k d) : (⟨4, ![4, 16, 512, 256]⟩ : Shape).Idx) (sq4 (pt t)) (half (pt t) h) k d ?_ ?_ ?_ ?_).symm
    · exact (congrArg (· * 1 + 1 * 0) (congrFun e 0)).trans (by show (grid0.coords t 0).val / 8 * 1 + 1 * 0 = (grid0.coords t 0).val / 8; omega)
    · exact (congrArg (· * 2 + 1 * h.val) (congrFun e 1)).trans (by show (grid0.coords t 0).val % 8 * 2 + 1 * h.val = (grid0.coords t 0).val % 8 * 2 + h.val; omega)
    · exact (congrArg (· * 512 + 1 * k.val) (congrFun e 2)).trans (by show 0 * 512 + 1 * k.val = k.val; omega)
    · exact (congrArg (· * 256 + 1 * d.val) (congrFun e 3)).trans (by show 0 * 256 + 1 * d.val = d.val; omega)

theorem block32_first (k : Fin 512) (d : Fin 256) : (dats m 0 c).after 32 t (ix4 (0 : Fin 1) (0 : Fin 2) k d)
    = r32 m c (ix4 (sq4 (pt t)) (half (pt t) (0 : Fin 2)) k d) := by
  rw [left32]
  refine (View.read_writes_cons_miss_of_axis _ _ _ _ _ (1 : Fin 4) 1 1 rfl rfl rfl (Or.inl (show 0 < 1 by omega))).trans ?_
  refine (View.read_writes_cons_hit_of_coords _ _ _ _ _ (ix4 (0 : Fin 1) (0 : Fin 1) k d) _ (fun a => by
    match a with
    | ⟨0, _⟩ => rfl
    | ⟨1, _⟩ => rfl
    | ⟨2, _⟩ => show k.val = 0 + 1 * k.val; omega
    | ⟨3, _⟩ => show d.val = 0 + 1 * d.val; omega)).trans ?_
  refine Eq.trans ?_ (Cert.Reference4Ideal.Gen.v70_at _ _ _ _ _ k d).symm
  rw [rowOf_eq (pt t) (0 : Fin 2) d (⟨d.val, by omega⟩ : Fin 512) (by show d.val = 0 * 256 + d.val; omega)]
  exact (pay41_apply k d _ _).trans (values_at m c t (⟨d.val, by omega⟩ : Fin 512) k)

theorem block32_second (k : Fin 512) (d : Fin 256) : (dats m 0 c).after 32 t (ix4 (0 : Fin 1) (1 : Fin 2) k d)
    = r32 m c (ix4 (sq4 (pt t)) (half (pt t) (1 : Fin 2)) k d) := by
  rw [left32]
  refine (View.read_writes_cons_hit_of_coords _ _ _ _ _ (ix4 (0 : Fin 1) (0 : Fin 1) k d) _ (fun a => by
    match a with
    | ⟨0, _⟩ => rfl
    | ⟨1, _⟩ => rfl
    | ⟨2, _⟩ => show k.val = 0 + 1 * k.val; omega
    | ⟨3, _⟩ => show d.val = 0 + 1 * d.val; omega)).trans ?_
  refine Eq.trans ?_ (Cert.Reference4Ideal.Gen.v70_at _ _ _ _ _ k d).symm
  rw [rowOf_eq (pt t) (1 : Fin 2) d (⟨256 + d.val, by omega⟩ : Fin 512) (by show 256 + d.val = 1 * 256 + d.val; omega)]
  exact (pay2_apply k d _ _).trans (values_at m c t (⟨256 + d.val, by omega⟩ : Fin 512) k)

theorem arr32 : (dats m 0 c).arrAt 32 cfg0.N = r32 m c :=
  (dats m 0 c).arrAt_eq_of_covers 32 _ (by decide +kernel) fun t _ y => by
    have hy : ∃ (h : Fin 2) (k : Fin 512) (d : Fin 256), y = ix4 (0 : Fin 1) h k d := ⟨y 1, y 2, y 3, funext fun a => by
      match a with | ⟨0, _⟩ => exact Fin.ext (by have := (y 0).isLt; exact Nat.lt_one_iff.mp this) | ⟨1, _⟩ => rfl | ⟨2, _⟩ => rfl | ⟨3, _⟩ => rfl⟩
    obtain ⟨h, k, d, rfl⟩ := hy
    have hb : (dats m 0 c).after 32 t (ix4 (0 : Fin 1) h k d) = r32 m c (ix4 (sq4 (pt t)) (half (pt t) h) k d) := by
      match h with
      | ⟨0, _⟩ => exact block32_first m c t k d
      | ⟨1, _⟩ => exact block32_second m c t k d
    refine hb.trans (congrArg (r32 m c) ?_)
    have e := (idx_turned t).2
    refine (eq_ix4 (((cfg0.win 32).blk t).view.emb (ix4 (0 : Fin 1) h k d) : (⟨4, ![4, 16, 512, 256]⟩ : Shape).Idx) (sq4 (pt t)) (half (pt t) h) k d ?_ ?_ ?_ ?_).symm
    · exact (congrArg (· * 1 + 1 * 0) (congrFun e 0)).trans (by show (grid0.coords t 0).val / 8 * 1 + 1 * 0 = (grid0.coords t 0).val / 8; omega)
    · exact (congrArg (· * 2 + 1 * h.val) (congrFun e 1)).trans (by show (grid0.coords t 0).val % 8 * 2 + 1 * h.val = (grid0.coords t 0).val % 8 * 2 + h.val; omega)
    · exact (congrArg (· * 512 + 1 * k.val) (congrFun e 2)).trans (by show 0 * 512 + 1 * k.val = k.val; omega)
    · exact (congrArg (· * 256 + 1 * d.val) (congrFun e 3)).trans (by show 0 * 256 + 1 * d.val = d.val; omega)

end Cert.Kernel4Ideal.Gen

end
-- ==== Proof.Proj.End.lean ====
/- The claims about the projection: every run's end, and its results equal to the reference's. -/
module

public import proofs.«01_k».proof.Defs
public import proofs.«01_k».proof.Proof.Proj.Same
public import proofs.«01_k».proof.Proof.Proj.Final
public import proofs.«01_k».proof.Proof.Gen.Reference4Ideal.Run

@[expose] public section

set_option maxRecDepth 16384

noncomputable section

namespace Cert.Kernel4Ideal.Gen

open Idealize.ShloMosaic Idealize.ShloMosaic.TcCoe Idealize.SL.Sem Cert.Kernel4Ideal

variable {F : FTy → Type} [FloatOps F] (m : (ℓ : Loc nD τ sig) → Buf (Elt F) ℓ) (ρ : Dev nD → PrngReg)

set_option maxHeartbeats 1000000 in
/-- What a run leaves: the results the grid points wrote, and the arguments as they were. -/
theorem run_arrays : θ_run defs (onTc (τ := τ) (main (F := F))) ⟨m, fun _ => 0, ρ⟩ fun r => ∀ c : Dev nD,
      r.2.mem ((c : Thread nD τ).loc main_v46_0) = (dats m 0 c).arrAt 18 cfg0.N
      ∧ r.2.mem ((c : Thread nD τ).loc main_v46_1) = (dats m 0 c).arrAt 19 cfg0.N
      ∧ r.2.mem ((c : Thread nD τ).loc main_v46_2) = (dats m 0 c).arrAt 20 cfg0.N
      ∧ r.2.mem ((c : Thread nD τ).loc main_v46_3) = (dats m 0 c).arrAt 21 cfg0.N
      ∧ r.2.mem ((c : Thread nD τ).loc main_v46_12) = (dats m 0 c).arrAt 30 cfg0.N
      ∧ r.2.mem ((c : Thread nD τ).loc main_v46_13) = (dats m 0 c).arrAt 31 cfg0.N
      ∧ r.2.mem ((c : Thread nD τ).loc main_v46_14) = (dats m 0 c).arrAt 32 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1 18, (h c).1 19, (h c).1 20, (h c).1 21, (h c).1 30, (h c).1 31, (h c).1 32,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 16).trans (((dats m 0 c).arrAt_in 16 rfl _).trans ((A_eq m c 16).trans (V_main_arg2 m c))),
      ((h c).1 17).trans (((dats m 0 c).arrAt_in 17 rfl _).trans ((A_eq m c 17).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c)⟩)
    (run_main m ρ)

end Cert.Kernel4Ideal.Gen

namespace Cert.Proj

open Idealize.ShloMosaic Idealize.ShloMosaic.TcCoe Idealize.SL.Sem Cert.Reference4Ideal.Read

attribute [local instance] Cert.Kernel4.Gen.facts Cert.Kernel4Ideal.Gen.facts Cert.Reference4Ideal.Gen.facts

/-- The printed program runs from every memory. -/
theorem kernel_runs : Cert.quiescent_Kernel4 := fun m g _ => (same.mp fun m g => Cert.Kernel4Ideal.Gen.frame m g) m g

/-- The idealized program runs from every memory. -/
theorem ideal_runs : Cert.quiescent_Kernel4Ideal := fun m g _ => Cert.Kernel4Ideal.Gen.frame m g

/-- The reference runs from every memory. -/
theorem reference_runs : Cert.quiescent_Reference4Ideal := fun m g _ =>
  (θ_run Cert.Reference4Ideal.defs _ _).mono (fun r h => ⟨fun c => (h c).2.2.2.2.2.2.2, sem_eq_zero_of_no_sems (by decide) r.2⟩)
    (Cert.Reference4Ideal.Value.run (F := Ideal) m g)

set_option maxHeartbeats 2000000 in
/-- The idealized kernel and the reference end with equal results. -/
theorem values : Cert.algebraic_Kernel4Ideal_Reference4Ideal := by
  intro m g m' g' _ hag
  have e18 (c : Dev Cert.Reference4Ideal.nD) : val_main_v14 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg16)) = Cert.Kernel4Ideal.Gen.r18 m c := by rw [(hag c).1, (hag c).2.2.2.2.1, (hag c).2.2.2.2.2.2.2.2.2.2.2.2.2.2.2.2]
  have e19 (c : Dev Cert.Reference4Ideal.nD) : val_main_v15 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg16)) = Cert.Kernel4Ideal.Gen.r19 m c := by rw [(hag c).1, (hag c).2.2.2.2.1, (hag c).2.2.2.2.2.2.2.2.2.2.2.2.2.2.2.2]
  have e20 (c : Dev Cert.Reference4Ideal.nD) : val_main_v55 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg15)) (m' ((c.tc : Thread Cert.Reference4Ideal.nD Cert.Reference4Ideal.τ).loc Cert.Reference4Ideal.main_arg16)) = Cert.Kernel4Ideal.Gen.r20 m c := by rw [(hag c).1, (hag c).2.2.1, (hag c).2.2.2.2.1, (hag c).2.2.2.2.2.2.2.2.2.2.2.2.2.2.2.1, (hag c).2.2.2.2.2.2.2.2.2.2.2.2.2.2.2.2]
  have e21 (c : Dev Cert.Reference4Ideal.nD) : val_main_v60 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg16)) = Cert.Kernel4Ideal.Gen.r21 m c := by rw [(hag c).1, (hag c).2.2.2.1, (hag c).2.2.2.2.1, (hag c).2.2.2.2.2.2.2.2.2.2.2.2.2.2.2.2]
  have e30 (c : Dev Cert.Reference4Ideal.nD) : val_main_v66 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg14)) (m' ((c.tc : Thread Cert.Reference4Ideal.nD Cert.Reference4Ideal.τ).loc Cert.Reference4Ideal.main_arg16)) = Cert.Kernel4Ideal.Gen.r30 m c := by rw [(hag c).1, (hag c).2.2.2.2.1, (hag c).2.2.2.2.2.2.2.2.2.2.2.2.2.2.1, (hag c).2.2.2.2.2.2.2.2.2.2.2.2.2.2.2.2]
  have e31 (c : Dev Cert.Reference4Ideal.nD) : val_main_v67 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg15)) (m' ((c.tc : Thread Cert.Reference4Ideal.nD Cert.Reference4Ideal.τ).loc Cert.Reference4Ideal.main_arg16)) = Cert.Kernel4Ideal.Gen.r31 m c := by rw [(hag c).1, (hag c).2.2.2.2.1, (hag c).2.2.2.2.2.2.2.2.2.2.2.2.2.2.2.1, (hag c).2.2.2.2.2.2.2.2.2.2.2.2.2.2.2.2]
  have e32 (c : Dev Cert.Reference4Ideal.nD) : val_main_v70 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg16)) = Cert.Kernel4Ideal.Gen.r32 m c := by rw [(hag c).1, (hag c).2.2.2.2.1, (hag c).2.2.2.2.2.2.2.2.2.2.2.2.2.2.2.2]
  refine ⟨fun c => Cert.Kernel4Ideal.Gen.r18 m c, fun c => Cert.Kernel4Ideal.Gen.r19 m c, fun c => Cert.Kernel4Ideal.Gen.r20 m c, fun c => Cert.Kernel4Ideal.Gen.r21 m c, fun c => Cert.Kernel4Ideal.Gen.r30 m c, fun c => Cert.Kernel4Ideal.Gen.r31 m c, fun c => Cert.Kernel4Ideal.Gen.r32 m c, ?_, ?_⟩
  · refine (θ_run Cert.Kernel4Ideal.defs _ _).mono (fun r h c => ?_) (Cert.Kernel4Ideal.Gen.run_arrays (F := Ideal) m g)
    obtain ⟨o18, o19, o20, o21, o30, o31, o32, kept⟩ := h c
    exact ⟨o18.trans (Cert.Kernel4Ideal.Gen.arr18 m c), o19.trans (Cert.Kernel4Ideal.Gen.arr19 m c), o20.trans (Cert.Kernel4Ideal.Gen.arr20 m c), o21.trans (Cert.Kernel4Ideal.Gen.arr21 m c), o30.trans (Cert.Kernel4Ideal.Gen.arr30 m c), o31.trans (Cert.Kernel4Ideal.Gen.arr31 m c), o32.trans (Cert.Kernel4Ideal.Gen.arr32 m c), kept⟩
  · exact (θ_run Cert.Reference4Ideal.defs _ _).mono (fun r h c => ⟨(h c).1.trans ((val_main_v14_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg16))).trans (e18 c)),
      (h c).2.1.trans ((val_main_v15_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg16))).trans (e19 c)),
      (h c).2.2.1.trans ((val_main_v55_eq m' c).trans (e20 c)),
      (h c).2.2.2.1.trans ((val_main_v60_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg16))).trans (e21 c)),
      (h c).2.2.2.2.1.trans ((val_main_v66_eq m' c).trans (e30 c)),
      (h c).2.2.2.2.2.1.trans ((val_main_v67_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg15)) (m' ((c.tc : Thread Cert.Reference4Ideal.nD Cert.Reference4Ideal.τ).loc Cert.Reference4Ideal.main_arg16))).trans (e31 c)),
      (h c).2.2.2.2.2.2.1.trans ((val_main_v70_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg16))).trans (e32 c)), (h c).2.2.2.2.2.2.2⟩)
      (Cert.Reference4Ideal.Value.run (F := Ideal) m' g')

end Cert.Proj

end
-- ==== Proof.lean ====
/- The attention over pages, a layer's projection and its last part, and the convolution's kept rows: each printed program runs, and each idealized one computes what its reference computes. -/
module

public import proofs.«01_k».proof.Defs
public import proofs.«01_k».proof.Proof.Stick.End
public import proofs.«01_k».proof.Proof.Tail.End
public import proofs.«01_k».proof.Proof.Conv.End
public import proofs.«01_k».proof.Proof.Proj.End
public import proofs.«01_k».proof.Proof.Gen.Kernel4
public import proofs.«01_k».proof.Proof.Gen.Kernel4Ideal
public import proofs.«01_k».proof.Proof.Gen.Reference4Ideal.Run
public import proofs.«01_k».proof.Proof.Gen.Reference4Ideal.Read
public import Idealize.ShloMosaic.Adequacy
public import Idealize.ShloMosaic.Init

@[expose] public section

noncomputable section

namespace Cert.Proof

/-- Every claim. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_pages_in_range.facts, Cert.Pre_states_finite.facts,
    Cert.Stick.kernel_runs, Cert.Stick.ideal_runs, Cert.Stick.reference_runs, fun m g _ => Cert.Stick.reference_runs m g trivial,
    Cert.Tail.kernel_runs, Cert.Tail.ideal_runs, fun m g _ => Cert.Tail.ideal_runs m g trivial, Cert.Tail.reference_runs, fun m g _ => Cert.Tail.reference_runs m g trivial,
    Cert.Conv.kernel_runs, Cert.Conv.ideal_runs, Cert.Conv.reference_runs,
    Cert.Proj.kernel_runs, Cert.Proj.ideal_runs, Cert.Proj.reference_runs,
    trivial, Cert.Stick.values, trivial, Cert.Tail.values, trivial, Cert.Conv.values, trivial, Cert.Proj.values⟩

end Cert.Proof

end
